-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S1024x32 : Shape := ⟨2, ![1024, 32]⟩
abbrev S128x8192 : Shape := ⟨2, ![128, 8192]⟩
abbrev S32x128 : Shape := ⟨2, ![32, 128]⟩
abbrev S3x32x128 : Shape := ⟨3, ![3, 32, 128]⟩
abbrev S8x32x128 : Shape := ⟨3, ![8, 32, 128]⟩
abbrev S2 : Shape := ⟨1, ![2]⟩
abbrev S3 : Shape := ⟨1, ![3]⟩
abbrev S7 : Shape := ⟨1, ![7]⟩
abbrev S_ : Shape := ⟨0, ![]⟩
abbrev S1 : Shape := ⟨1, ![1]⟩
abbrev S64x8192 : Shape := ⟨2, ![64, 8192]⟩
abbrev S64x256 : Shape := ⟨2, ![64, 256]⟩
abbrev S64x128 : Shape := ⟨2, ![64, 128]⟩
abbrev S64x64 : Shape := ⟨2, ![64, 64]⟩
abbrev S64x32 : Shape := ⟨2, ![64, 32]⟩
abbrev S64x16 : Shape := ⟨2, ![64, 16]⟩
abbrev S64x512 : Shape := ⟨2, ![64, 512]⟩
abbrev S512x64 : Shape := ⟨2, ![512, 64]⟩
abbrev S16x64 : Shape := ⟨2, ![16, 64]⟩
abbrev S8x64 : Shape := ⟨2, ![8, 64]⟩
abbrev S4x64 : Shape := ⟨2, ![4, 64]⟩
abbrev S2x64 : Shape := ⟨2, ![2, 64]⟩
abbrev S1x64 : Shape := ⟨2, ![1, 64]⟩
abbrev S1x128 : Shape := ⟨2, ![1, 128]⟩
abbrev S1x32x128 : Shape := ⟨3, ![1, 32, 128]⟩
abbrev S32x1024 : Shape := ⟨2, ![32, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S128x8192, .f32⟩
  | .local _ .vmem, ⟨2, _⟩ => ⟨S32x128, .f32⟩
  | .local _ .vmem, ⟨3, _⟩ => ⟨S3x32x128, .f32⟩
  | .local _ .vmem, ⟨4, _⟩ => ⟨S8x32x128, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 2 23 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v263 : BitVec 32 := Scalar.muli v2 c16_i32_132
  let v264 : BitVec 32 := Scalar.addi c0_i32_133 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v265 : BitVec 32 := Scalar.muli v5 c4_i32_134
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v12 : BitVec 32 := Scalar.addi v8 c1_i32_2
  let c4_i32_3 : BitVec 32 := 4#32
  let c0_i32_4 : BitVec 32 := 0#32
  let v13 : BitVec 1 := Scalar.cmpi .eq c4_i32_3 c0_i32_4
  let c1_i32_5 : BitVec 32 := 1#32
  let v14 : BitVec 32 := Scalar.select v13 c1_i32_5 c4_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_135 : BitVec 32 := 1#32
  let v267 : BitVec 32 := Scalar.muli v22 c1_i32_135
  let v268 : BitVec 32 := Scalar.addi v266 v267
  v268.toNat
def k0_dev2 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v269 : BitVec 32 := Scalar.muli v2 c16_i32_137
  let v270 : BitVec 32 := Scalar.addi c0_i32_138 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v271 : BitVec 32 := Scalar.muli v5 c4_i32_139
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v23 : BitVec 32 := Scalar.addi v8 c2_i32_9
  let c4_i32_10 : BitVec 32 := 4#32
  let c0_i32_11 : BitVec 32 := 0#32
  let v24 : BitVec 1 := Scalar.cmpi .eq c4_i32_10 c0_i32_11
  let c1_i32_12 : BitVec 32 := 1#32
  let v25 : BitVec 32 := Scalar.select v24 c1_i32_12 c4_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c1_i32_140 : BitVec 32 := 1#32
  let v273 : BitVec 32 := Scalar.muli v33 c1_i32_140
  let v274 : BitVec 32 := Scalar.addi v272 v273
  v274.toNat
def k0_dev3 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v275 : BitVec 32 := Scalar.muli v2 c16_i32_142
  let v276 : BitVec 32 := Scalar.addi c0_i32_143 v275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_144 : BitVec 32 := 4#32
  let v277 : BitVec 32 := Scalar.muli v5 c4_i32_144
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v34 : BitVec 32 := Scalar.addi v8 c3_i32
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_145 : BitVec 32 := 1#32
  let v279 : BitVec 32 := Scalar.muli v44 c1_i32_145
  let v280 : BitVec 32 := Scalar.addi v278 v279
  v280.toNat
def k0_dev4 (d0 : Dev nD) : Nat :=
  let c0_i32_148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_22 : BitVec 32 := 1#32
  let v45 : BitVec 32 := Scalar.addi v11 c1_i32_22
  let c8_i32 : BitVec 32 := 8#32
  let c0_i32_23 : BitVec 32 := 0#32
  let v46 : BitVec 1 := Scalar.cmpi .eq c8_i32 c0_i32_23
  let c1_i32_24 : BitVec 32 := 1#32
  let v47 : BitVec 32 := Scalar.select v46 c1_i32_24 c8_i32
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c0_i32_29 : BitVec 32 := 0#32
  let v57 : BitVec 1 := Scalar.cmpi .sgt v55 c0_i32_29
  let v58 : BitVec 32 := Scalar.extui v57
  let c0_i32_30 : BitVec 32 := 0#32
  let v59 : BitVec 1 := Scalar.cmpi .slt v55 c0_i32_30
  let v60 : BitVec 32 := Scalar.extui v59
  let v61 : BitVec 32 := Scalar.subi v58 v60
  let c4_i32_28 : BitVec 32 := 4#32
  let c0_i32_31 : BitVec 32 := 0#32
  let v62 : BitVec 1 := Scalar.cmpi .sgt c4_i32_28 c0_i32_31
  let v63 : BitVec 32 := Scalar.extui v62
  let c0_i32_32 : BitVec 32 := 0#32
  let v64 : BitVec 1 := Scalar.cmpi .slt c4_i32_28 c0_i32_32
  let v65 : BitVec 32 := Scalar.extui v64
  let v66 : BitVec 32 := Scalar.subi v63 v65
  let v67 : BitVec 1 := Scalar.cmpi .ne v61 v66
  let v68 : BitVec 32 := Scalar.remsi v55 c4_i32_28
  let c0_i32_33 : BitVec 32 := 0#32
  let v69 : BitVec 1 := Scalar.cmpi .ne v68 c0_i32_33
  let v70 : BitVec 1 := Scalar.andi v67 v69
  let v56 : BitVec 32 := Scalar.divsi v55 c4_i32_28
  let c1_i32_34 : BitVec 32 := 1#32
  let v71 : BitVec 32 := Scalar.subi v56 c1_i32_34
  let v72 : BitVec 32 := Scalar.select v70 v71 v56
  let c16_i32_147 : BitVec 32 := 16#32
  let v281 : BitVec 32 := Scalar.muli v72 c16_i32_147
  let v282 : BitVec 32 := Scalar.addi c0_i32_148 v281
  let c0_i32_35 : BitVec 32 := 0#32
  let v73 : BitVec 1 := Scalar.cmpi .eq v72 c0_i32_35
  let c7_i32_36 : BitVec 32 := 7#32
  let v74 : BitVec 32 := Scalar.subi c7_i32_36 v55
  let v75 : BitVec 32 := Scalar.select v73 v55 v74
  let c4_i32_149 : BitVec 32 := 4#32
  let v283 : BitVec 32 := Scalar.muli v75 c4_i32_149
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v285 : BitVec 32 := Scalar.muli v8 c1_i32_150
  let v286 : BitVec 32 := Scalar.addi v284 v285
  v286.toNat
def k0_dev5 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c2_i32_37 : BitVec 32 := 2#32
  let v76 : BitVec 32 := Scalar.addi v11 c2_i32_37
  let c8_i32_38 : BitVec 32 := 8#32
  let c0_i32_39 : BitVec 32 := 0#32
  let v77 : BitVec 1 := Scalar.cmpi .eq c8_i32_38 c0_i32_39
  let c1_i32_40 : BitVec 32 := 1#32
  let v78 : BitVec 32 := Scalar.select v77 c1_i32_40 c8_i32_38
  let v79 : BitVec 32 := Scalar.remsi v76 v78
  let c0_i32_42 : BitVec 32 := 0#32
  let v81 : BitVec 1 := Scalar.cmpi .slt v79 c0_i32_42
  let c0_i32_43 : BitVec 32 := 0#32
  let v82 : BitVec 1 := Scalar.cmpi .slt v78 c0_i32_43
  let v83 : BitVec 1 := Scalar.xori v81 v82
  let c0_i32_41 : BitVec 32 := 0#32
  let v80 : BitVec 1 := Scalar.cmpi .ne v79 c0_i32_41
  let v84 : BitVec 1 := Scalar.andi v83 v80
  let v85 : BitVec 32 := Scalar.addi v79 v78
  let v86 : BitVec 32 := Scalar.select v84 v85 v79
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c4_i32_44 : BitVec 32 := 4#32
  let c0_i32_47 : BitVec 32 := 0#32
  let v93 : BitVec 1 := Scalar.cmpi .sgt c4_i32_44 c0_i32_47
  let v94 : BitVec 32 := Scalar.extui v93
  let c0_i32_48 : BitVec 32 := 0#32
  let v95 : BitVec 1 := Scalar.cmpi .slt c4_i32_44 c0_i32_48
  let v96 : BitVec 32 := Scalar.extui v95
  let v97 : BitVec 32 := Scalar.subi v94 v96
  let v98 : BitVec 1 := Scalar.cmpi .ne v92 v97
  let v99 : BitVec 32 := Scalar.remsi v86 c4_i32_44
  let c0_i32_49 : BitVec 32 := 0#32
  let v100 : BitVec 1 := Scalar.cmpi .ne v99 c0_i32_49
  let v101 : BitVec 1 := Scalar.andi v98 v100
  let v87 : BitVec 32 := Scalar.divsi v86 c4_i32_44
  let c1_i32_50 : BitVec 32 := 1#32
  let v102 : BitVec 32 := Scalar.subi v87 c1_i32_50
  let v103 : BitVec 32 := Scalar.select v101 v102 v87
  let c16_i32_152 : BitVec 32 := 16#32
  let v287 : BitVec 32 := Scalar.muli v103 c16_i32_152
  let v288 : BitVec 32 := Scalar.addi c0_i32_153 v287
  let c0_i32_51 : BitVec 32 := 0#32
  let v104 : BitVec 1 := Scalar.cmpi .eq v103 c0_i32_51
  let c7_i32_52 : BitVec 32 := 7#32
  let v105 : BitVec 32 := Scalar.subi c7_i32_52 v86
  let v106 : BitVec 32 := Scalar.select v104 v86 v105
  let c4_i32_154 : BitVec 32 := 4#32
  let v289 : BitVec 32 := Scalar.muli v106 c4_i32_154
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v291 : BitVec 32 := Scalar.muli v8 c1_i32_155
  let v292 : BitVec 32 := Scalar.addi v290 v291
  v292.toNat
def k0_dev6 (d0 : Dev nD) : Nat :=
  let c0_i32_158 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c3_i32_53 : BitVec 32 := 3#32
  let v107 : BitVec 32 := Scalar.addi v11 c3_i32_53
  let c8_i32_54 : BitVec 32 := 8#32
  let c0_i32_55 : BitVec 32 := 0#32
  let v108 : BitVec 1 := Scalar.cmpi .eq c8_i32_54 c0_i32_55
  let c1_i32_56 : BitVec 32 := 1#32
  let v109 : BitVec 32 := Scalar.select v108 c1_i32_56 c8_i32_54
  let v110 : BitVec 32 := Scalar.remsi v107 v109
  let c0_i32_58 : BitVec 32 := 0#32
  let v112 : BitVec 1 := Scalar.cmpi .slt v110 c0_i32_58
  let c0_i32_59 : BitVec 32 := 0#32
  let v113 : BitVec 1 := Scalar.cmpi .slt v109 c0_i32_59
  let v114 : BitVec 1 := Scalar.xori v112 v113
  let c0_i32_57 : BitVec 32 := 0#32
  let v111 : BitVec 1 := Scalar.cmpi .ne v110 c0_i32_57
  let v115 : BitVec 1 := Scalar.andi v114 v111
  let v116 : BitVec 32 := Scalar.addi v110 v109
  let v117 : BitVec 32 := Scalar.select v115 v116 v110
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c4_i32_60 : BitVec 32 := 4#32
  let c0_i32_63 : BitVec 32 := 0#32
  let v124 : BitVec 1 := Scalar.cmpi .sgt c4_i32_60 c0_i32_63
  let v125 : BitVec 32 := Scalar.extui v124
  let c0_i32_64 : BitVec 32 := 0#32
  let v126 : BitVec 1 := Scalar.cmpi .slt c4_i32_60 c0_i32_64
  let v127 : BitVec 32 := Scalar.extui v126
  let v128 : BitVec 32 := Scalar.subi v125 v127
  let v129 : BitVec 1 := Scalar.cmpi .ne v123 v128
  let v130 : BitVec 32 := Scalar.remsi v117 c4_i32_60
  let c0_i32_65 : BitVec 32 := 0#32
  let v131 : BitVec 1 := Scalar.cmpi .ne v130 c0_i32_65
  let v132 : BitVec 1 := Scalar.andi v129 v131
  let v118 : BitVec 32 := Scalar.divsi v117 c4_i32_60
  let c1_i32_66 : BitVec 32 := 1#32
  let v133 : BitVec 32 := Scalar.subi v118 c1_i32_66
  let v134 : BitVec 32 := Scalar.select v132 v133 v118
  let c16_i32_157 : BitVec 32 := 16#32
  let v293 : BitVec 32 := Scalar.muli v134 c16_i32_157
  let v294 : BitVec 32 := Scalar.addi c0_i32_158 v293
  let c0_i32_67 : BitVec 32 := 0#32
  let v135 : BitVec 1 := Scalar.cmpi .eq v134 c0_i32_67
  let c7_i32_68 : BitVec 32 := 7#32
  let v136 : BitVec 32 := Scalar.subi c7_i32_68 v117
  let v137 : BitVec 32 := Scalar.select v135 v117 v136
  let c4_i32_159 : BitVec 32 := 4#32
  let v295 : BitVec 32 := Scalar.muli v137 c4_i32_159
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v297 : BitVec 32 := Scalar.muli v8 c1_i32_160
  let v298 : BitVec 32 := Scalar.addi v296 v297
  v298.toNat
def k0_dev7 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c4_i32_69 : BitVec 32 := 4#32
  let v138 : BitVec 32 := Scalar.addi v11 c4_i32_69
  let c8_i32_70 : BitVec 32 := 8#32
  let c0_i32_71 : BitVec 32 := 0#32
  let v139 : BitVec 1 := Scalar.cmpi .eq c8_i32_70 c0_i32_71
  let c1_i32_72 : BitVec 32 := 1#32
  let v140 : BitVec 32 := Scalar.select v139 c1_i32_72 c8_i32_70
  let v141 : BitVec 32 := Scalar.remsi v138 v140
  let c0_i32_74 : BitVec 32 := 0#32
  let v143 : BitVec 1 := Scalar.cmpi .slt v141 c0_i32_74
  let c0_i32_75 : BitVec 32 := 0#32
  let v144 : BitVec 1 := Scalar.cmpi .slt v140 c0_i32_75
  let v145 : BitVec 1 := Scalar.xori v143 v144
  let c0_i32_73 : BitVec 32 := 0#32
  let v142 : BitVec 1 := Scalar.cmpi .ne v141 c0_i32_73
  let v146 : BitVec 1 := Scalar.andi v145 v142
  let v147 : BitVec 32 := Scalar.addi v141 v140
  let v148 : BitVec 32 := Scalar.select v146 v147 v141
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c4_i32_76 : BitVec 32 := 4#32
  let c0_i32_79 : BitVec 32 := 0#32
  let v155 : BitVec 1 := Scalar.cmpi .sgt c4_i32_76 c0_i32_79
  let v156 : BitVec 32 := Scalar.extui v155
  let c0_i32_80 : BitVec 32 := 0#32
  let v157 : BitVec 1 := Scalar.cmpi .slt c4_i32_76 c0_i32_80
  let v158 : BitVec 32 := Scalar.extui v157
  let v159 : BitVec 32 := Scalar.subi v156 v158
  let v160 : BitVec 1 := Scalar.cmpi .ne v154 v159
  let v161 : BitVec 32 := Scalar.remsi v148 c4_i32_76
  let c0_i32_81 : BitVec 32 := 0#32
  let v162 : BitVec 1 := Scalar.cmpi .ne v161 c0_i32_81
  let v163 : BitVec 1 := Scalar.andi v160 v162
  let v149 : BitVec 32 := Scalar.divsi v148 c4_i32_76
  let c1_i32_82 : BitVec 32 := 1#32
  let v164 : BitVec 32 := Scalar.subi v149 c1_i32_82
  let v165 : BitVec 32 := Scalar.select v163 v164 v149
  let c16_i32_162 : BitVec 32 := 16#32
  let v299 : BitVec 32 := Scalar.muli v165 c16_i32_162
  let v300 : BitVec 32 := Scalar.addi c0_i32_163 v299
  let c0_i32_83 : BitVec 32 := 0#32
  let v166 : BitVec 1 := Scalar.cmpi .eq v165 c0_i32_83
  let c7_i32_84 : BitVec 32 := 7#32
  let v167 : BitVec 32 := Scalar.subi c7_i32_84 v148
  let v168 : BitVec 32 := Scalar.select v166 v148 v167
  let c4_i32_164 : BitVec 32 := 4#32
  let v301 : BitVec 32 := Scalar.muli v168 c4_i32_164
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v303 : BitVec 32 := Scalar.muli v8 c1_i32_165
  let v304 : BitVec 32 := Scalar.addi v302 v303
  v304.toNat
def k0_dev8 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c5_i32 : BitVec 32 := 5#32
  let v169 : BitVec 32 := Scalar.addi v11 c5_i32
  let c8_i32_85 : BitVec 32 := 8#32
  let c0_i32_86 : BitVec 32 := 0#32
  let v170 : BitVec 1 := Scalar.cmpi .eq c8_i32_85 c0_i32_86
  let c1_i32_87 : BitVec 32 := 1#32
  let v171 : BitVec 32 := Scalar.select v170 c1_i32_87 c8_i32_85
  let v172 : BitVec 32 := Scalar.remsi v169 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_92 : BitVec 32 := 0#32
  let v181 : BitVec 1 := Scalar.cmpi .sgt v179 c0_i32_92
  let v182 : BitVec 32 := Scalar.extui v181
  let c0_i32_93 : BitVec 32 := 0#32
  let v183 : BitVec 1 := Scalar.cmpi .slt v179 c0_i32_93
  let v184 : BitVec 32 := Scalar.extui v183
  let v185 : BitVec 32 := Scalar.subi v182 v184
  let c4_i32_91 : BitVec 32 := 4#32
  let c0_i32_94 : BitVec 32 := 0#32
  let v186 : BitVec 1 := Scalar.cmpi .sgt c4_i32_91 c0_i32_94
  let v187 : BitVec 32 := Scalar.extui v186
  let c0_i32_95 : BitVec 32 := 0#32
  let v188 : BitVec 1 := Scalar.cmpi .slt c4_i32_91 c0_i32_95
  let v189 : BitVec 32 := Scalar.extui v188
  let v190 : BitVec 32 := Scalar.subi v187 v189
  let v191 : BitVec 1 := Scalar.cmpi .ne v185 v190
  let v192 : BitVec 32 := Scalar.remsi v179 c4_i32_91
  let c0_i32_96 : BitVec 32 := 0#32
  let v193 : BitVec 1 := Scalar.cmpi .ne v192 c0_i32_96
  let v194 : BitVec 1 := Scalar.andi v191 v193
  let v180 : BitVec 32 := Scalar.divsi v179 c4_i32_91
  let c1_i32_97 : BitVec 32 := 1#32
  let v195 : BitVec 32 := Scalar.subi v180 c1_i32_97
  let v196 : BitVec 32 := Scalar.select v194 v195 v180
  let c16_i32_167 : BitVec 32 := 16#32
  let v305 : BitVec 32 := Scalar.muli v196 c16_i32_167
  let v306 : BitVec 32 := Scalar.addi c0_i32_168 v305
  let c0_i32_98 : BitVec 32 := 0#32
  let v197 : BitVec 1 := Scalar.cmpi .eq v196 c0_i32_98
  let c7_i32_99 : BitVec 32 := 7#32
  let v198 : BitVec 32 := Scalar.subi c7_i32_99 v179
  let v199 : BitVec 32 := Scalar.select v197 v179 v198
  let c4_i32_169 : BitVec 32 := 4#32
  let v307 : BitVec 32 := Scalar.muli v199 c4_i32_169
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v309 : BitVec 32 := Scalar.muli v8 c1_i32_170
  let v310 : BitVec 32 := Scalar.addi v308 v309
  v310.toNat
def k0_dev9 (d0 : Dev nD) : Nat :=
  let c0_i32_173 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c6_i32 : BitVec 32 := 6#32
  let v200 : BitVec 32 := Scalar.addi v11 c6_i32
  let c8_i32_100 : BitVec 32 := 8#32
  let c0_i32_101 : BitVec 32 := 0#32
  let v201 : BitVec 1 := Scalar.cmpi .eq c8_i32_100 c0_i32_101
  let c1_i32_102 : BitVec 32 := 1#32
  let v202 : BitVec 32 := Scalar.select v201 c1_i32_102 c8_i32_100
  let v203 : BitVec 32 := Scalar.remsi v200 v202
  let c0_i32_104 : BitVec 32 := 0#32
  let v205 : BitVec 1 := Scalar.cmpi .slt v203 c0_i32_104
  let c0_i32_105 : BitVec 32 := 0#32
  let v206 : BitVec 1 := Scalar.cmpi .slt v202 c0_i32_105
  let v207 : BitVec 1 := Scalar.xori v205 v206
  let c0_i32_103 : BitVec 32 := 0#32
  let v204 : BitVec 1 := Scalar.cmpi .ne v203 c0_i32_103
  let v208 : BitVec 1 := Scalar.andi v207 v204
  let v209 : BitVec 32 := Scalar.addi v203 v202
  let v210 : BitVec 32 := Scalar.select v208 v209 v203
  let c0_i32_107 : BitVec 32 := 0#32
  let v212 : BitVec 1 := Scalar.cmpi .sgt v210 c0_i32_107
  let v213 : BitVec 32 := Scalar.extui v212
  let c0_i32_108 : BitVec 32 := 0#32
  let v214 : BitVec 1 := Scalar.cmpi .slt v210 c0_i32_108
  let v215 : BitVec 32 := Scalar.extui v214
  let v216 : BitVec 32 := Scalar.subi v213 v215
  let c4_i32_106 : BitVec 32 := 4#32
  let c0_i32_109 : BitVec 32 := 0#32
  let v217 : BitVec 1 := Scalar.cmpi .sgt c4_i32_106 c0_i32_109
  let v218 : BitVec 32 := Scalar.extui v217
  let c0_i32_110 : BitVec 32 := 0#32
  let v219 : BitVec 1 := Scalar.cmpi .slt c4_i32_106 c0_i32_110
  let v220 : BitVec 32 := Scalar.extui v219
  let v221 : BitVec 32 := Scalar.subi v218 v220
  let v222 : BitVec 1 := Scalar.cmpi .ne v216 v221
  let v223 : BitVec 32 := Scalar.remsi v210 c4_i32_106
  let c0_i32_111 : BitVec 32 := 0#32
  let v224 : BitVec 1 := Scalar.cmpi .ne v223 c0_i32_111
  let v225 : BitVec 1 := Scalar.andi v222 v224
  let v211 : BitVec 32 := Scalar.divsi v210 c4_i32_106
  let c1_i32_112 : BitVec 32 := 1#32
  let v226 : BitVec 32 := Scalar.subi v211 c1_i32_112
  let v227 : BitVec 32 := Scalar.select v225 v226 v211
  let c16_i32_172 : BitVec 32 := 16#32
  let v311 : BitVec 32 := Scalar.muli v227 c16_i32_172
  let v312 : BitVec 32 := Scalar.addi c0_i32_173 v311
  let c0_i32_113 : BitVec 32 := 0#32
  let v228 : BitVec 1 := Scalar.cmpi .eq v227 c0_i32_113
  let c7_i32_114 : BitVec 32 := 7#32
  let v229 : BitVec 32 := Scalar.subi c7_i32_114 v210
  let v230 : BitVec 32 := Scalar.select v228 v210 v229
  let c4_i32_174 : BitVec 32 := 4#32
  let v313 : BitVec 32 := Scalar.muli v230 c4_i32_174
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v315 : BitVec 32 := Scalar.muli v8 c1_i32_175
  let v316 : BitVec 32 := Scalar.addi v314 v315
  v316.toNat
def k0_dev10 (d0 : Dev nD) : Nat :=
  let c0_i32_178 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_115 : BitVec 32 := 7#32
  let v231 : BitVec 32 := Scalar.addi v11 c7_i32_115
  let c8_i32_116 : BitVec 32 := 8#32
  let c0_i32_117 : BitVec 32 := 0#32
  let v232 : BitVec 1 := Scalar.cmpi .eq c8_i32_116 c0_i32_117
  let c1_i32_118 : BitVec 32 := 1#32
  let v233 : BitVec 32 := Scalar.select v232 c1_i32_118 c8_i32_116
  let v234 : BitVec 32 := Scalar.remsi v231 v233
  let c0_i32_120 : BitVec 32 := 0#32
  let v236 : BitVec 1 := Scalar.cmpi .slt v234 c0_i32_120
  let c0_i32_121 : BitVec 32 := 0#32
  let v237 : BitVec 1 := Scalar.cmpi .slt v233 c0_i32_121
  let v238 : BitVec 1 := Scalar.xori v236 v237
  let c0_i32_119 : BitVec 32 := 0#32
  let v235 : BitVec 1 := Scalar.cmpi .ne v234 c0_i32_119
  let v239 : BitVec 1 := Scalar.andi v238 v235
  let v240 : BitVec 32 := Scalar.addi v234 v233
  let v241 : BitVec 32 := Scalar.select v239 v240 v234
  let c0_i32_123 : BitVec 32 := 0#32
  let v243 : BitVec 1 := Scalar.cmpi .sgt v241 c0_i32_123
  let v244 : BitVec 32 := Scalar.extui v243
  let c0_i32_124 : BitVec 32 := 0#32
  let v245 : BitVec 1 := Scalar.cmpi .slt v241 c0_i32_124
  let v246 : BitVec 32 := Scalar.extui v245
  let v247 : BitVec 32 := Scalar.subi v244 v246
  let c4_i32_122 : BitVec 32 := 4#32
  let c0_i32_125 : BitVec 32 := 0#32
  let v248 : BitVec 1 := Scalar.cmpi .sgt c4_i32_122 c0_i32_125
  let v249 : BitVec 32 := Scalar.extui v248
  let c0_i32_126 : BitVec 32 := 0#32
  let v250 : BitVec 1 := Scalar.cmpi .slt c4_i32_122 c0_i32_126
  let v251 : BitVec 32 := Scalar.extui v250
  let v252 : BitVec 32 := Scalar.subi v249 v251
  let v253 : BitVec 1 := Scalar.cmpi .ne v247 v252
  let v254 : BitVec 32 := Scalar.remsi v241 c4_i32_122
  let c0_i32_127 : BitVec 32 := 0#32
  let v255 : BitVec 1 := Scalar.cmpi .ne v254 c0_i32_127
  let v256 : BitVec 1 := Scalar.andi v253 v255
  let v242 : BitVec 32 := Scalar.divsi v241 c4_i32_122
  let c1_i32_128 : BitVec 32 := 1#32
  let v257 : BitVec 32 := Scalar.subi v242 c1_i32_128
  let v258 : BitVec 32 := Scalar.select v256 v257 v242
  let c16_i32_177 : BitVec 32 := 16#32
  let v317 : BitVec 32 := Scalar.muli v258 c16_i32_177
  let v318 : BitVec 32 := Scalar.addi c0_i32_178 v317
  let c0_i32_129 : BitVec 32 := 0#32
  let v259 : BitVec 1 := Scalar.cmpi .eq v258 c0_i32_129
  let c7_i32_130 : BitVec 32 := 7#32
  let v260 : BitVec 32 := Scalar.subi c7_i32_130 v241
  let v261 : BitVec 32 := Scalar.select v259 v241 v260
  let c4_i32_179 : BitVec 32 := 4#32
  let v319 : BitVec 32 := Scalar.muli v261 c4_i32_179
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v321 : BitVec 32 := Scalar.muli v8 c1_i32_180
  let v322 : BitVec 32 := Scalar.addi v320 v321
  v322.toNat
def k0_off1 (d0 : Dev nD) (c0_i32_181 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v323 : BitVec 32 := Scalar.muli v11 c128_i32
  let v324 : BitVec 32 := Scalar.addi v323 c0_i32_181
  let c0_i32_185 : BitVec 32 := 0#32
  ![v324.toNat, 0]
def k0_dev11 (d0 : Dev nD) : Nat :=
  let c0_i32_214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_213 : BitVec 32 := 16#32
  let v5384 : BitVec 32 := Scalar.muli v2 c16_i32_213
  let v5385 : BitVec 32 := Scalar.addi c0_i32_214 v5384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_215 : BitVec 32 := 4#32
  let v5386 : BitVec 32 := Scalar.muli v5 c4_i32_215
  let v5387 : BitVec 32 := Scalar.addi v5385 v5386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v5373 : BitVec 32 := Scalar.addi v8 c1_i32_203
  let c4_i32_204 : BitVec 32 := 4#32
  let c0_i32_205 : BitVec 32 := 0#32
  let v5374 : BitVec 1 := Scalar.cmpi .eq c4_i32_204 c0_i32_205
  let c1_i32_206 : BitVec 32 := 1#32
  let v5375 : BitVec 32 := Scalar.select v5374 c1_i32_206 c4_i32_204
  let v5376 : BitVec 32 := Scalar.remsi v5373 v5375
  let c0_i32_208 : BitVec 32 := 0#32
  let v5378 : BitVec 1 := Scalar.cmpi .slt v5376 c0_i32_208
  let c0_i32_209 : BitVec 32 := 0#32
  let v5379 : BitVec 1 := Scalar.cmpi .slt v5375 c0_i32_209
  let v5380 : BitVec 1 := Scalar.xori v5378 v5379
  let c0_i32_207 : BitVec 32 := 0#32
  let v5377 : BitVec 1 := Scalar.cmpi .ne v5376 c0_i32_207
  let v5381 : BitVec 1 := Scalar.andi v5380 v5377
  let v5382 : BitVec 32 := Scalar.addi v5376 v5375
  let v5383 : BitVec 32 := Scalar.select v5381 v5382 v5376
  let c1_i32_216 : BitVec 32 := 1#32
  let v5388 : BitVec 32 := Scalar.muli v5383 c1_i32_216
  let v5389 : BitVec 32 := Scalar.addi v5387 v5388
  v5389.toNat
def k0_dev12 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v5407 : BitVec 32 := Scalar.muli v2 c16_i32_229
  let v5408 : BitVec 32 := Scalar.addi c0_i32_230 v5407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v5409 : BitVec 32 := Scalar.muli v5 c4_i32_231
  let v5410 : BitVec 32 := Scalar.addi v5408 v5409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_219 : BitVec 32 := 2#32
  let v5396 : BitVec 32 := Scalar.addi v8 c2_i32_219
  let c4_i32_220 : BitVec 32 := 4#32
  let c0_i32_221 : BitVec 32 := 0#32
  let v5397 : BitVec 1 := Scalar.cmpi .eq c4_i32_220 c0_i32_221
  let c1_i32_222 : BitVec 32 := 1#32
  let v5398 : BitVec 32 := Scalar.select v5397 c1_i32_222 c4_i32_220
  let v5399 : BitVec 32 := Scalar.remsi v5396 v5398
  let c0_i32_224 : BitVec 32 := 0#32
  let v5401 : BitVec 1 := Scalar.cmpi .slt v5399 c0_i32_224
  let c0_i32_225 : BitVec 32 := 0#32
  let v5402 : BitVec 1 := Scalar.cmpi .slt v5398 c0_i32_225
  let v5403 : BitVec 1 := Scalar.xori v5401 v5402
  let c0_i32_223 : BitVec 32 := 0#32
  let v5400 : BitVec 1 := Scalar.cmpi .ne v5399 c0_i32_223
  let v5404 : BitVec 1 := Scalar.andi v5403 v5400
  let v5405 : BitVec 32 := Scalar.addi v5399 v5398
  let v5406 : BitVec 32 := Scalar.select v5404 v5405 v5399
  let c1_i32_232 : BitVec 32 := 1#32
  let v5411 : BitVec 32 := Scalar.muli v5406 c1_i32_232
  let v5412 : BitVec 32 := Scalar.addi v5410 v5411
  v5412.toNat
def k0_dev13 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v5430 : BitVec 32 := Scalar.muli v2 c16_i32_245
  let v5431 : BitVec 32 := Scalar.addi c0_i32_246 v5430
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_247 : BitVec 32 := 4#32
  let v5432 : BitVec 32 := Scalar.muli v5 c4_i32_247
  let v5433 : BitVec 32 := Scalar.addi v5431 v5432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_235 : BitVec 32 := 3#32
  let v5419 : BitVec 32 := Scalar.addi v8 c3_i32_235
  let c4_i32_236 : BitVec 32 := 4#32
  let c0_i32_237 : BitVec 32 := 0#32
  let v5420 : BitVec 1 := Scalar.cmpi .eq c4_i32_236 c0_i32_237
  let c1_i32_238 : BitVec 32 := 1#32
  let v5421 : BitVec 32 := Scalar.select v5420 c1_i32_238 c4_i32_236
  let v5422 : BitVec 32 := Scalar.remsi v5419 v5421
  let c0_i32_240 : BitVec 32 := 0#32
  let v5424 : BitVec 1 := Scalar.cmpi .slt v5422 c0_i32_240
  let c0_i32_241 : BitVec 32 := 0#32
  let v5425 : BitVec 1 := Scalar.cmpi .slt v5421 c0_i32_241
  let v5426 : BitVec 1 := Scalar.xori v5424 v5425
  let c0_i32_239 : BitVec 32 := 0#32
  let v5423 : BitVec 1 := Scalar.cmpi .ne v5422 c0_i32_239
  let v5427 : BitVec 1 := Scalar.andi v5426 v5423
  let v5428 : BitVec 32 := Scalar.addi v5422 v5421
  let v5429 : BitVec 32 := Scalar.select v5427 v5428 v5422
  let c1_i32_248 : BitVec 32 := 1#32
  let v5434 : BitVec 32 := Scalar.muli v5429 c1_i32_248
  let v5435 : BitVec 32 := Scalar.addi v5433 v5434
  v5435.toNat
def k0_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v6152 : Index := Scalar.indexCast v11
  let c0_285 : Index := 0#32
  let c0_286 : Index := 0#32
  ![v6152.toNat, 0, 0]
def k0_off3 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c0_i32_309 : BitVec 32 := 0#32
  let c0_i32_310 : BitVec 32 := 0#32
  ![v11.toNat, 0, 0]
def k0_dev14 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_287 : BitVec 32 := 1#32
  let v6156 : BitVec 32 := Scalar.addi v11 c1_i32_287
  let c8_i32_288 : BitVec 32 := 8#32
  let c0_i32_289 : BitVec 32 := 0#32
  let v6157 : BitVec 1 := Scalar.cmpi .eq c8_i32_288 c0_i32_289
  let c1_i32_290 : BitVec 32 := 1#32
  let v6158 : BitVec 32 := Scalar.select v6157 c1_i32_290 c8_i32_288
  let v6159 : BitVec 32 := Scalar.remsi v6156 v6158
  let c0_i32_292 : BitVec 32 := 0#32
  let v6161 : BitVec 1 := Scalar.cmpi .slt v6159 c0_i32_292
  let c0_i32_293 : BitVec 32 := 0#32
  let v6162 : BitVec 1 := Scalar.cmpi .slt v6158 c0_i32_293
  let v6163 : BitVec 1 := Scalar.xori v6161 v6162
  let c0_i32_291 : BitVec 32 := 0#32
  let v6160 : BitVec 1 := Scalar.cmpi .ne v6159 c0_i32_291
  let v6164 : BitVec 1 := Scalar.andi v6163 v6160
  let v6165 : BitVec 32 := Scalar.addi v6159 v6158
  let v6166 : BitVec 32 := Scalar.select v6164 v6165 v6159
  let c0_i32_295 : BitVec 32 := 0#32
  let v6168 : BitVec 1 := Scalar.cmpi .sgt v6166 c0_i32_295
  let v6169 : BitVec 32 := Scalar.extui v6168
  let c0_i32_296 : BitVec 32 := 0#32
  let v6170 : BitVec 1 := Scalar.cmpi .slt v6166 c0_i32_296
  let v6171 : BitVec 32 := Scalar.extui v6170
  let v6172 : BitVec 32 := Scalar.subi v6169 v6171
  let c4_i32_294 : BitVec 32 := 4#32
  let c0_i32_297 : BitVec 32 := 0#32
  let v6173 : BitVec 1 := Scalar.cmpi .sgt c4_i32_294 c0_i32_297
  let v6174 : BitVec 32 := Scalar.extui v6173
  let c0_i32_298 : BitVec 32 := 0#32
  let v6175 : BitVec 1 := Scalar.cmpi .slt c4_i32_294 c0_i32_298
  let v6176 : BitVec 32 := Scalar.extui v6175
  let v6177 : BitVec 32 := Scalar.subi v6174 v6176
  let v6178 : BitVec 1 := Scalar.cmpi .ne v6172 v6177
  let v6179 : BitVec 32 := Scalar.remsi v6166 c4_i32_294
  let c0_i32_299 : BitVec 32 := 0#32
  let v6180 : BitVec 1 := Scalar.cmpi .ne v6179 c0_i32_299
  let v6181 : BitVec 1 := Scalar.andi v6178 v6180
  let v6167 : BitVec 32 := Scalar.divsi v6166 c4_i32_294
  let c1_i32_300 : BitVec 32 := 1#32
  let v6182 : BitVec 32 := Scalar.subi v6167 c1_i32_300
  let v6183 : BitVec 32 := Scalar.select v6181 v6182 v6167
  let c16_i32_305 : BitVec 32 := 16#32
  let v6187 : BitVec 32 := Scalar.muli v6183 c16_i32_305
  let v6188 : BitVec 32 := Scalar.addi c0_i32_306 v6187
  let c0_i32_301 : BitVec 32 := 0#32
  let v6184 : BitVec 1 := Scalar.cmpi .eq v6183 c0_i32_301
  let c7_i32_302 : BitVec 32 := 7#32
  let v6185 : BitVec 32 := Scalar.subi c7_i32_302 v6166
  let v6186 : BitVec 32 := Scalar.select v6184 v6166 v6185
  let c4_i32_307 : BitVec 32 := 4#32
  let v6189 : BitVec 32 := Scalar.muli v6186 c4_i32_307
  let v6190 : BitVec 32 := Scalar.addi v6188 v6189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v6191 : BitVec 32 := Scalar.muli v8 c1_i32_308
  let v6192 : BitVec 32 := Scalar.addi v6190 v6191
  v6192.toNat
def k0_dev15 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c2_i32_313 : BitVec 32 := 2#32
  let v6201 : BitVec 32 := Scalar.addi v11 c2_i32_313
  let c8_i32_314 : BitVec 32 := 8#32
  let c0_i32_315 : BitVec 32 := 0#32
  let v6202 : BitVec 1 := Scalar.cmpi .eq c8_i32_314 c0_i32_315
  let c1_i32_316 : BitVec 32 := 1#32
  let v6203 : BitVec 32 := Scalar.select v6202 c1_i32_316 c8_i32_314
  let v6204 : BitVec 32 := Scalar.remsi v6201 v6203
  let c0_i32_318 : BitVec 32 := 0#32
  let v6206 : BitVec 1 := Scalar.cmpi .slt v6204 c0_i32_318
  let c0_i32_319 : BitVec 32 := 0#32
  let v6207 : BitVec 1 := Scalar.cmpi .slt v6203 c0_i32_319
  let v6208 : BitVec 1 := Scalar.xori v6206 v6207
  let c0_i32_317 : BitVec 32 := 0#32
  let v6205 : BitVec 1 := Scalar.cmpi .ne v6204 c0_i32_317
  let v6209 : BitVec 1 := Scalar.andi v6208 v6205
  let v6210 : BitVec 32 := Scalar.addi v6204 v6203
  let v6211 : BitVec 32 := Scalar.select v6209 v6210 v6204
  let c0_i32_321 : BitVec 32 := 0#32
  let v6213 : BitVec 1 := Scalar.cmpi .sgt v6211 c0_i32_321
  let v6214 : BitVec 32 := Scalar.extui v6213
  let c0_i32_322 : BitVec 32 := 0#32
  let v6215 : BitVec 1 := Scalar.cmpi .slt v6211 c0_i32_322
  let v6216 : BitVec 32 := Scalar.extui v6215
  let v6217 : BitVec 32 := Scalar.subi v6214 v6216
  let c4_i32_320 : BitVec 32 := 4#32
  let c0_i32_323 : BitVec 32 := 0#32
  let v6218 : BitVec 1 := Scalar.cmpi .sgt c4_i32_320 c0_i32_323
  let v6219 : BitVec 32 := Scalar.extui v6218
  let c0_i32_324 : BitVec 32 := 0#32
  let v6220 : BitVec 1 := Scalar.cmpi .slt c4_i32_320 c0_i32_324
  let v6221 : BitVec 32 := Scalar.extui v6220
  let v6222 : BitVec 32 := Scalar.subi v6219 v6221
  let v6223 : BitVec 1 := Scalar.cmpi .ne v6217 v6222
  let v6224 : BitVec 32 := Scalar.remsi v6211 c4_i32_320
  let c0_i32_325 : BitVec 32 := 0#32
  let v6225 : BitVec 1 := Scalar.cmpi .ne v6224 c0_i32_325
  let v6226 : BitVec 1 := Scalar.andi v6223 v6225
  let v6212 : BitVec 32 := Scalar.divsi v6211 c4_i32_320
  let c1_i32_326 : BitVec 32 := 1#32
  let v6227 : BitVec 32 := Scalar.subi v6212 c1_i32_326
  let v6228 : BitVec 32 := Scalar.select v6226 v6227 v6212
  let c16_i32_331 : BitVec 32 := 16#32
  let v6232 : BitVec 32 := Scalar.muli v6228 c16_i32_331
  let v6233 : BitVec 32 := Scalar.addi c0_i32_332 v6232
  let c0_i32_327 : BitVec 32 := 0#32
  let v6229 : BitVec 1 := Scalar.cmpi .eq v6228 c0_i32_327
  let c7_i32_328 : BitVec 32 := 7#32
  let v6230 : BitVec 32 := Scalar.subi c7_i32_328 v6211
  let v6231 : BitVec 32 := Scalar.select v6229 v6211 v6230
  let c4_i32_333 : BitVec 32 := 4#32
  let v6234 : BitVec 32 := Scalar.muli v6231 c4_i32_333
  let v6235 : BitVec 32 := Scalar.addi v6233 v6234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v6236 : BitVec 32 := Scalar.muli v8 c1_i32_334
  let v6237 : BitVec 32 := Scalar.addi v6235 v6236
  v6237.toNat
def k0_dev16 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c3_i32_339 : BitVec 32 := 3#32
  let v6246 : BitVec 32 := Scalar.addi v11 c3_i32_339
  let c8_i32_340 : BitVec 32 := 8#32
  let c0_i32_341 : BitVec 32 := 0#32
  let v6247 : BitVec 1 := Scalar.cmpi .eq c8_i32_340 c0_i32_341
  let c1_i32_342 : BitVec 32 := 1#32
  let v6248 : BitVec 32 := Scalar.select v6247 c1_i32_342 c8_i32_340
  let v6249 : BitVec 32 := Scalar.remsi v6246 v6248
  let c0_i32_344 : BitVec 32 := 0#32
  let v6251 : BitVec 1 := Scalar.cmpi .slt v6249 c0_i32_344
  let c0_i32_345 : BitVec 32 := 0#32
  let v6252 : BitVec 1 := Scalar.cmpi .slt v6248 c0_i32_345
  let v6253 : BitVec 1 := Scalar.xori v6251 v6252
  let c0_i32_343 : BitVec 32 := 0#32
  let v6250 : BitVec 1 := Scalar.cmpi .ne v6249 c0_i32_343
  let v6254 : BitVec 1 := Scalar.andi v6253 v6250
  let v6255 : BitVec 32 := Scalar.addi v6249 v6248
  let v6256 : BitVec 32 := Scalar.select v6254 v6255 v6249
  let c0_i32_347 : BitVec 32 := 0#32
  let v6258 : BitVec 1 := Scalar.cmpi .sgt v6256 c0_i32_347
  let v6259 : BitVec 32 := Scalar.extui v6258
  let c0_i32_348 : BitVec 32 := 0#32
  let v6260 : BitVec 1 := Scalar.cmpi .slt v6256 c0_i32_348
  let v6261 : BitVec 32 := Scalar.extui v6260
  let v6262 : BitVec 32 := Scalar.subi v6259 v6261
  let c4_i32_346 : BitVec 32 := 4#32
  let c0_i32_349 : BitVec 32 := 0#32
  let v6263 : BitVec 1 := Scalar.cmpi .sgt c4_i32_346 c0_i32_349
  let v6264 : BitVec 32 := Scalar.extui v6263
  let c0_i32_350 : BitVec 32 := 0#32
  let v6265 : BitVec 1 := Scalar.cmpi .slt c4_i32_346 c0_i32_350
  let v6266 : BitVec 32 := Scalar.extui v6265
  let v6267 : BitVec 32 := Scalar.subi v6264 v6266
  let v6268 : BitVec 1 := Scalar.cmpi .ne v6262 v6267
  let v6269 : BitVec 32 := Scalar.remsi v6256 c4_i32_346
  let c0_i32_351 : BitVec 32 := 0#32
  let v6270 : BitVec 1 := Scalar.cmpi .ne v6269 c0_i32_351
  let v6271 : BitVec 1 := Scalar.andi v6268 v6270
  let v6257 : BitVec 32 := Scalar.divsi v6256 c4_i32_346
  let c1_i32_352 : BitVec 32 := 1#32
  let v6272 : BitVec 32 := Scalar.subi v6257 c1_i32_352
  let v6273 : BitVec 32 := Scalar.select v6271 v6272 v6257
  let c16_i32_357 : BitVec 32 := 16#32
  let v6277 : BitVec 32 := Scalar.muli v6273 c16_i32_357
  let v6278 : BitVec 32 := Scalar.addi c0_i32_358 v6277
  let c0_i32_353 : BitVec 32 := 0#32
  let v6274 : BitVec 1 := Scalar.cmpi .eq v6273 c0_i32_353
  let c7_i32_354 : BitVec 32 := 7#32
  let v6275 : BitVec 32 := Scalar.subi c7_i32_354 v6256
  let v6276 : BitVec 32 := Scalar.select v6274 v6256 v6275
  let c4_i32_359 : BitVec 32 := 4#32
  let v6279 : BitVec 32 := Scalar.muli v6276 c4_i32_359
  let v6280 : BitVec 32 := Scalar.addi v6278 v6279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_360 : BitVec 32 := 1#32
  let v6281 : BitVec 32 := Scalar.muli v8 c1_i32_360
  let v6282 : BitVec 32 := Scalar.addi v6280 v6281
  v6282.toNat
def k0_dev17 (d0 : Dev nD) : Nat :=
  let c0_i32_384 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c4_i32_365 : BitVec 32 := 4#32
  let v6291 : BitVec 32 := Scalar.addi v11 c4_i32_365
  let c8_i32_366 : BitVec 32 := 8#32
  let c0_i32_367 : BitVec 32 := 0#32
  let v6292 : BitVec 1 := Scalar.cmpi .eq c8_i32_366 c0_i32_367
  let c1_i32_368 : BitVec 32 := 1#32
  let v6293 : BitVec 32 := Scalar.select v6292 c1_i32_368 c8_i32_366
  let v6294 : BitVec 32 := Scalar.remsi v6291 v6293
  let c0_i32_370 : BitVec 32 := 0#32
  let v6296 : BitVec 1 := Scalar.cmpi .slt v6294 c0_i32_370
  let c0_i32_371 : BitVec 32 := 0#32
  let v6297 : BitVec 1 := Scalar.cmpi .slt v6293 c0_i32_371
  let v6298 : BitVec 1 := Scalar.xori v6296 v6297
  let c0_i32_369 : BitVec 32 := 0#32
  let v6295 : BitVec 1 := Scalar.cmpi .ne v6294 c0_i32_369
  let v6299 : BitVec 1 := Scalar.andi v6298 v6295
  let v6300 : BitVec 32 := Scalar.addi v6294 v6293
  let v6301 : BitVec 32 := Scalar.select v6299 v6300 v6294
  let c0_i32_373 : BitVec 32 := 0#32
  let v6303 : BitVec 1 := Scalar.cmpi .sgt v6301 c0_i32_373
  let v6304 : BitVec 32 := Scalar.extui v6303
  let c0_i32_374 : BitVec 32 := 0#32
  let v6305 : BitVec 1 := Scalar.cmpi .slt v6301 c0_i32_374
  let v6306 : BitVec 32 := Scalar.extui v6305
  let v6307 : BitVec 32 := Scalar.subi v6304 v6306
  let c4_i32_372 : BitVec 32 := 4#32
  let c0_i32_375 : BitVec 32 := 0#32
  let v6308 : BitVec 1 := Scalar.cmpi .sgt c4_i32_372 c0_i32_375
  let v6309 : BitVec 32 := Scalar.extui v6308
  let c0_i32_376 : BitVec 32 := 0#32
  let v6310 : BitVec 1 := Scalar.cmpi .slt c4_i32_372 c0_i32_376
  let v6311 : BitVec 32 := Scalar.extui v6310
  let v6312 : BitVec 32 := Scalar.subi v6309 v6311
  let v6313 : BitVec 1 := Scalar.cmpi .ne v6307 v6312
  let v6314 : BitVec 32 := Scalar.remsi v6301 c4_i32_372
  let c0_i32_377 : BitVec 32 := 0#32
  let v6315 : BitVec 1 := Scalar.cmpi .ne v6314 c0_i32_377
  let v6316 : BitVec 1 := Scalar.andi v6313 v6315
  let v6302 : BitVec 32 := Scalar.divsi v6301 c4_i32_372
  let c1_i32_378 : BitVec 32 := 1#32
  let v6317 : BitVec 32 := Scalar.subi v6302 c1_i32_378
  let v6318 : BitVec 32 := Scalar.select v6316 v6317 v6302
  let c16_i32_383 : BitVec 32 := 16#32
  let v6322 : BitVec 32 := Scalar.muli v6318 c16_i32_383
  let v6323 : BitVec 32 := Scalar.addi c0_i32_384 v6322
  let c0_i32_379 : BitVec 32 := 0#32
  let v6319 : BitVec 1 := Scalar.cmpi .eq v6318 c0_i32_379
  let c7_i32_380 : BitVec 32 := 7#32
  let v6320 : BitVec 32 := Scalar.subi c7_i32_380 v6301
  let v6321 : BitVec 32 := Scalar.select v6319 v6301 v6320
  let c4_i32_385 : BitVec 32 := 4#32
  let v6324 : BitVec 32 := Scalar.muli v6321 c4_i32_385
  let v6325 : BitVec 32 := Scalar.addi v6323 v6324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v6326 : BitVec 32 := Scalar.muli v8 c1_i32_386
  let v6327 : BitVec 32 := Scalar.addi v6325 v6326
  v6327.toNat
def k0_dev18 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c5_i32_391 : BitVec 32 := 5#32
  let v6336 : BitVec 32 := Scalar.addi v11 c5_i32_391
  let c8_i32_392 : BitVec 32 := 8#32
  let c0_i32_393 : BitVec 32 := 0#32
  let v6337 : BitVec 1 := Scalar.cmpi .eq c8_i32_392 c0_i32_393
  let c1_i32_394 : BitVec 32 := 1#32
  let v6338 : BitVec 32 := Scalar.select v6337 c1_i32_394 c8_i32_392
  let v6339 : BitVec 32 := Scalar.remsi v6336 v6338
  let c0_i32_396 : BitVec 32 := 0#32
  let v6341 : BitVec 1 := Scalar.cmpi .slt v6339 c0_i32_396
  let c0_i32_397 : BitVec 32 := 0#32
  let v6342 : BitVec 1 := Scalar.cmpi .slt v6338 c0_i32_397
  let v6343 : BitVec 1 := Scalar.xori v6341 v6342
  let c0_i32_395 : BitVec 32 := 0#32
  let v6340 : BitVec 1 := Scalar.cmpi .ne v6339 c0_i32_395
  let v6344 : BitVec 1 := Scalar.andi v6343 v6340
  let v6345 : BitVec 32 := Scalar.addi v6339 v6338
  let v6346 : BitVec 32 := Scalar.select v6344 v6345 v6339
  let c0_i32_399 : BitVec 32 := 0#32
  let v6348 : BitVec 1 := Scalar.cmpi .sgt v6346 c0_i32_399
  let v6349 : BitVec 32 := Scalar.extui v6348
  let c0_i32_400 : BitVec 32 := 0#32
  let v6350 : BitVec 1 := Scalar.cmpi .slt v6346 c0_i32_400
  let v6351 : BitVec 32 := Scalar.extui v6350
  let v6352 : BitVec 32 := Scalar.subi v6349 v6351
  let c4_i32_398 : BitVec 32 := 4#32
  let c0_i32_401 : BitVec 32 := 0#32
  let v6353 : BitVec 1 := Scalar.cmpi .sgt c4_i32_398 c0_i32_401
  let v6354 : BitVec 32 := Scalar.extui v6353
  let c0_i32_402 : BitVec 32 := 0#32
  let v6355 : BitVec 1 := Scalar.cmpi .slt c4_i32_398 c0_i32_402
  let v6356 : BitVec 32 := Scalar.extui v6355
  let v6357 : BitVec 32 := Scalar.subi v6354 v6356
  let v6358 : BitVec 1 := Scalar.cmpi .ne v6352 v6357
  let v6359 : BitVec 32 := Scalar.remsi v6346 c4_i32_398
  let c0_i32_403 : BitVec 32 := 0#32
  let v6360 : BitVec 1 := Scalar.cmpi .ne v6359 c0_i32_403
  let v6361 : BitVec 1 := Scalar.andi v6358 v6360
  let v6347 : BitVec 32 := Scalar.divsi v6346 c4_i32_398
  let c1_i32_404 : BitVec 32 := 1#32
  let v6362 : BitVec 32 := Scalar.subi v6347 c1_i32_404
  let v6363 : BitVec 32 := Scalar.select v6361 v6362 v6347
  let c16_i32_409 : BitVec 32 := 16#32
  let v6367 : BitVec 32 := Scalar.muli v6363 c16_i32_409
  let v6368 : BitVec 32 := Scalar.addi c0_i32_410 v6367
  let c0_i32_405 : BitVec 32 := 0#32
  let v6364 : BitVec 1 := Scalar.cmpi .eq v6363 c0_i32_405
  let c7_i32_406 : BitVec 32 := 7#32
  let v6365 : BitVec 32 := Scalar.subi c7_i32_406 v6346
  let v6366 : BitVec 32 := Scalar.select v6364 v6346 v6365
  let c4_i32_411 : BitVec 32 := 4#32
  let v6369 : BitVec 32 := Scalar.muli v6366 c4_i32_411
  let v6370 : BitVec 32 := Scalar.addi v6368 v6369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v6371 : BitVec 32 := Scalar.muli v8 c1_i32_412
  let v6372 : BitVec 32 := Scalar.addi v6370 v6371
  v6372.toNat
def k0_dev19 (d0 : Dev nD) : Nat :=
  let c0_i32_436 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c6_i32_417 : BitVec 32 := 6#32
  let v6381 : BitVec 32 := Scalar.addi v11 c6_i32_417
  let c8_i32_418 : BitVec 32 := 8#32
  let c0_i32_419 : BitVec 32 := 0#32
  let v6382 : BitVec 1 := Scalar.cmpi .eq c8_i32_418 c0_i32_419
  let c1_i32_420 : BitVec 32 := 1#32
  let v6383 : BitVec 32 := Scalar.select v6382 c1_i32_420 c8_i32_418
  let v6384 : BitVec 32 := Scalar.remsi v6381 v6383
  let c0_i32_422 : BitVec 32 := 0#32
  let v6386 : BitVec 1 := Scalar.cmpi .slt v6384 c0_i32_422
  let c0_i32_423 : BitVec 32 := 0#32
  let v6387 : BitVec 1 := Scalar.cmpi .slt v6383 c0_i32_423
  let v6388 : BitVec 1 := Scalar.xori v6386 v6387
  let c0_i32_421 : BitVec 32 := 0#32
  let v6385 : BitVec 1 := Scalar.cmpi .ne v6384 c0_i32_421
  let v6389 : BitVec 1 := Scalar.andi v6388 v6385
  let v6390 : BitVec 32 := Scalar.addi v6384 v6383
  let v6391 : BitVec 32 := Scalar.select v6389 v6390 v6384
  let c0_i32_425 : BitVec 32 := 0#32
  let v6393 : BitVec 1 := Scalar.cmpi .sgt v6391 c0_i32_425
  let v6394 : BitVec 32 := Scalar.extui v6393
  let c0_i32_426 : BitVec 32 := 0#32
  let v6395 : BitVec 1 := Scalar.cmpi .slt v6391 c0_i32_426
  let v6396 : BitVec 32 := Scalar.extui v6395
  let v6397 : BitVec 32 := Scalar.subi v6394 v6396
  let c4_i32_424 : BitVec 32 := 4#32
  let c0_i32_427 : BitVec 32 := 0#32
  let v6398 : BitVec 1 := Scalar.cmpi .sgt c4_i32_424 c0_i32_427
  let v6399 : BitVec 32 := Scalar.extui v6398
  let c0_i32_428 : BitVec 32 := 0#32
  let v6400 : BitVec 1 := Scalar.cmpi .slt c4_i32_424 c0_i32_428
  let v6401 : BitVec 32 := Scalar.extui v6400
  let v6402 : BitVec 32 := Scalar.subi v6399 v6401
  let v6403 : BitVec 1 := Scalar.cmpi .ne v6397 v6402
  let v6404 : BitVec 32 := Scalar.remsi v6391 c4_i32_424
  let c0_i32_429 : BitVec 32 := 0#32
  let v6405 : BitVec 1 := Scalar.cmpi .ne v6404 c0_i32_429
  let v6406 : BitVec 1 := Scalar.andi v6403 v6405
  let v6392 : BitVec 32 := Scalar.divsi v6391 c4_i32_424
  let c1_i32_430 : BitVec 32 := 1#32
  let v6407 : BitVec 32 := Scalar.subi v6392 c1_i32_430
  let v6408 : BitVec 32 := Scalar.select v6406 v6407 v6392
  let c16_i32_435 : BitVec 32 := 16#32
  let v6412 : BitVec 32 := Scalar.muli v6408 c16_i32_435
  let v6413 : BitVec 32 := Scalar.addi c0_i32_436 v6412
  let c0_i32_431 : BitVec 32 := 0#32
  let v6409 : BitVec 1 := Scalar.cmpi .eq v6408 c0_i32_431
  let c7_i32_432 : BitVec 32 := 7#32
  let v6410 : BitVec 32 := Scalar.subi c7_i32_432 v6391
  let v6411 : BitVec 32 := Scalar.select v6409 v6391 v6410
  let c4_i32_437 : BitVec 32 := 4#32
  let v6414 : BitVec 32 := Scalar.muli v6411 c4_i32_437
  let v6415 : BitVec 32 := Scalar.addi v6413 v6414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v6416 : BitVec 32 := Scalar.muli v8 c1_i32_438
  let v6417 : BitVec 32 := Scalar.addi v6415 v6416
  v6417.toNat
def k0_dev20 (d0 : Dev nD) : Nat :=
  let c0_i32_462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_443 : BitVec 32 := 7#32
  let v6426 : BitVec 32 := Scalar.addi v11 c7_i32_443
  let c8_i32_444 : BitVec 32 := 8#32
  let c0_i32_445 : BitVec 32 := 0#32
  let v6427 : BitVec 1 := Scalar.cmpi .eq c8_i32_444 c0_i32_445
  let c1_i32_446 : BitVec 32 := 1#32
  let v6428 : BitVec 32 := Scalar.select v6427 c1_i32_446 c8_i32_444
  let v6429 : BitVec 32 := Scalar.remsi v6426 v6428
  let c0_i32_448 : BitVec 32 := 0#32
  let v6431 : BitVec 1 := Scalar.cmpi .slt v6429 c0_i32_448
  let c0_i32_449 : BitVec 32 := 0#32
  let v6432 : BitVec 1 := Scalar.cmpi .slt v6428 c0_i32_449
  let v6433 : BitVec 1 := Scalar.xori v6431 v6432
  let c0_i32_447 : BitVec 32 := 0#32
  let v6430 : BitVec 1 := Scalar.cmpi .ne v6429 c0_i32_447
  let v6434 : BitVec 1 := Scalar.andi v6433 v6430
  let v6435 : BitVec 32 := Scalar.addi v6429 v6428
  let v6436 : BitVec 32 := Scalar.select v6434 v6435 v6429
  let c0_i32_451 : BitVec 32 := 0#32
  let v6438 : BitVec 1 := Scalar.cmpi .sgt v6436 c0_i32_451
  let v6439 : BitVec 32 := Scalar.extui v6438
  let c0_i32_452 : BitVec 32 := 0#32
  let v6440 : BitVec 1 := Scalar.cmpi .slt v6436 c0_i32_452
  let v6441 : BitVec 32 := Scalar.extui v6440
  let v6442 : BitVec 32 := Scalar.subi v6439 v6441
  let c4_i32_450 : BitVec 32 := 4#32
  let c0_i32_453 : BitVec 32 := 0#32
  let v6443 : BitVec 1 := Scalar.cmpi .sgt c4_i32_450 c0_i32_453
  let v6444 : BitVec 32 := Scalar.extui v6443
  let c0_i32_454 : BitVec 32 := 0#32
  let v6445 : BitVec 1 := Scalar.cmpi .slt c4_i32_450 c0_i32_454
  let v6446 : BitVec 32 := Scalar.extui v6445
  let v6447 : BitVec 32 := Scalar.subi v6444 v6446
  let v6448 : BitVec 1 := Scalar.cmpi .ne v6442 v6447
  let v6449 : BitVec 32 := Scalar.remsi v6436 c4_i32_450
  let c0_i32_455 : BitVec 32 := 0#32
  let v6450 : BitVec 1 := Scalar.cmpi .ne v6449 c0_i32_455
  let v6451 : BitVec 1 := Scalar.andi v6448 v6450
  let v6437 : BitVec 32 := Scalar.divsi v6436 c4_i32_450
  let c1_i32_456 : BitVec 32 := 1#32
  let v6452 : BitVec 32 := Scalar.subi v6437 c1_i32_456
  let v6453 : BitVec 32 := Scalar.select v6451 v6452 v6437
  let c16_i32_461 : BitVec 32 := 16#32
  let v6457 : BitVec 32 := Scalar.muli v6453 c16_i32_461
  let v6458 : BitVec 32 := Scalar.addi c0_i32_462 v6457
  let c0_i32_457 : BitVec 32 := 0#32
  let v6454 : BitVec 1 := Scalar.cmpi .eq v6453 c0_i32_457
  let c7_i32_458 : BitVec 32 := 7#32
  let v6455 : BitVec 32 := Scalar.subi c7_i32_458 v6436
  let v6456 : BitVec 32 := Scalar.select v6454 v6436 v6455
  let c4_i32_463 : BitVec 32 := 4#32
  let v6459 : BitVec 32 := Scalar.muli v6456 c4_i32_463
  let v6460 : BitVec 32 := Scalar.addi v6458 v6459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v6461 : BitVec 32 := Scalar.muli v8 c1_i32_464
  let v6462 : BitVec 32 := Scalar.addi v6460 v6461
  v6462.toNat
def k0_dev21 (d0 : Dev nD) : Nat :=
  let c0_i32_629_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_628_r0 : BitVec 32 := 16#32
  let v6629_r0 : BitVec 32 := Scalar.muli v2 c16_i32_628_r0
  let v6630_r0 : BitVec 32 := Scalar.addi c0_i32_629_r0 v6629_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_630_r0 : BitVec 32 := 4#32
  let v6631_r0 : BitVec 32 := Scalar.muli v5 c4_i32_630_r0
  let v6632_r0 : BitVec 32 := Scalar.addi v6630_r0 v6631_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v12 : BitVec 32 := Scalar.addi v8 c1_i32_2
  let c4_i32_3 : BitVec 32 := 4#32
  let c0_i32_4 : BitVec 32 := 0#32
  let v13 : BitVec 1 := Scalar.cmpi .eq c4_i32_3 c0_i32_4
  let c1_i32_5 : BitVec 32 := 1#32
  let v14 : BitVec 32 := Scalar.select v13 c1_i32_5 c4_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_631_r0 : BitVec 32 := 1#32
  let v6633_r0 : BitVec 32 := Scalar.muli v22 c1_i32_631_r0
  let v6634_r0 : BitVec 32 := Scalar.addi v6632_r0 v6633_r0
  v6634_r0.toNat
def k0_dev22 (d0 : Dev nD) : Nat :=
  let c0_i32_634_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_633_r0 : BitVec 32 := 16#32
  let v6635_r0 : BitVec 32 := Scalar.muli v2 c16_i32_633_r0
  let v6636_r0 : BitVec 32 := Scalar.addi c0_i32_634_r0 v6635_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_635_r0 : BitVec 32 := 4#32
  let v6637_r0 : BitVec 32 := Scalar.muli v5 c4_i32_635_r0
  let v6638_r0 : BitVec 32 := Scalar.addi v6636_r0 v6637_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v23 : BitVec 32 := Scalar.addi v8 c2_i32_9
  let c4_i32_10 : BitVec 32 := 4#32
  let c0_i32_11 : BitVec 32 := 0#32
  let v24 : BitVec 1 := Scalar.cmpi .eq c4_i32_10 c0_i32_11
  let c1_i32_12 : BitVec 32 := 1#32
  let v25 : BitVec 32 := Scalar.select v24 c1_i32_12 c4_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c1_i32_636_r0 : BitVec 32 := 1#32
  let v6639_r0 : BitVec 32 := Scalar.muli v33 c1_i32_636_r0
  let v6640_r0 : BitVec 32 := Scalar.addi v6638_r0 v6639_r0
  v6640_r0.toNat
def k0_dev23 (d0 : Dev nD) : Nat :=
  let c0_i32_639_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_638_r0 : BitVec 32 := 16#32
  let v6641_r0 : BitVec 32 := Scalar.muli v2 c16_i32_638_r0
  let v6642_r0 : BitVec 32 := Scalar.addi c0_i32_639_r0 v6641_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_640_r0 : BitVec 32 := 4#32
  let v6643_r0 : BitVec 32 := Scalar.muli v5 c4_i32_640_r0
  let v6644_r0 : BitVec 32 := Scalar.addi v6642_r0 v6643_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v34 : BitVec 32 := Scalar.addi v8 c3_i32
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_641_r0 : BitVec 32 := 1#32
  let v6645_r0 : BitVec 32 := Scalar.muli v44 c1_i32_641_r0
  let v6646_r0 : BitVec 32 := Scalar.addi v6644_r0 v6645_r0
  v6646_r0.toNat
def k0_dev24 (d0 : Dev nD) : Nat :=
  let c0_i32_644_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_22 : BitVec 32 := 1#32
  let v45 : BitVec 32 := Scalar.addi v11 c1_i32_22
  let c8_i32 : BitVec 32 := 8#32
  let c0_i32_23 : BitVec 32 := 0#32
  let v46 : BitVec 1 := Scalar.cmpi .eq c8_i32 c0_i32_23
  let c1_i32_24 : BitVec 32 := 1#32
  let v47 : BitVec 32 := Scalar.select v46 c1_i32_24 c8_i32
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c0_i32_29 : BitVec 32 := 0#32
  let v57 : BitVec 1 := Scalar.cmpi .sgt v55 c0_i32_29
  let v58 : BitVec 32 := Scalar.extui v57
  let c0_i32_30 : BitVec 32 := 0#32
  let v59 : BitVec 1 := Scalar.cmpi .slt v55 c0_i32_30
  let v60 : BitVec 32 := Scalar.extui v59
  let v61 : BitVec 32 := Scalar.subi v58 v60
  let c4_i32_28 : BitVec 32 := 4#32
  let c0_i32_31 : BitVec 32 := 0#32
  let v62 : BitVec 1 := Scalar.cmpi .sgt c4_i32_28 c0_i32_31
  let v63 : BitVec 32 := Scalar.extui v62
  let c0_i32_32 : BitVec 32 := 0#32
  let v64 : BitVec 1 := Scalar.cmpi .slt c4_i32_28 c0_i32_32
  let v65 : BitVec 32 := Scalar.extui v64
  let v66 : BitVec 32 := Scalar.subi v63 v65
  let v67 : BitVec 1 := Scalar.cmpi .ne v61 v66
  let v68 : BitVec 32 := Scalar.remsi v55 c4_i32_28
  let c0_i32_33 : BitVec 32 := 0#32
  let v69 : BitVec 1 := Scalar.cmpi .ne v68 c0_i32_33
  let v70 : BitVec 1 := Scalar.andi v67 v69
  let v56 : BitVec 32 := Scalar.divsi v55 c4_i32_28
  let c1_i32_34 : BitVec 32 := 1#32
  let v71 : BitVec 32 := Scalar.subi v56 c1_i32_34
  let v72 : BitVec 32 := Scalar.select v70 v71 v56
  let c16_i32_643_r0 : BitVec 32 := 16#32
  let v6647_r0 : BitVec 32 := Scalar.muli v72 c16_i32_643_r0
  let v6648_r0 : BitVec 32 := Scalar.addi c0_i32_644_r0 v6647_r0
  let c0_i32_35 : BitVec 32 := 0#32
  let v73 : BitVec 1 := Scalar.cmpi .eq v72 c0_i32_35
  let c7_i32_36 : BitVec 32 := 7#32
  let v74 : BitVec 32 := Scalar.subi c7_i32_36 v55
  let v75 : BitVec 32 := Scalar.select v73 v55 v74
  let c4_i32_645_r0 : BitVec 32 := 4#32
  let v6649_r0 : BitVec 32 := Scalar.muli v75 c4_i32_645_r0
  let v6650_r0 : BitVec 32 := Scalar.addi v6648_r0 v6649_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_646_r0 : BitVec 32 := 1#32
  let v6651_r0 : BitVec 32 := Scalar.muli v8 c1_i32_646_r0
  let v6652_r0 : BitVec 32 := Scalar.addi v6650_r0 v6651_r0
  v6652_r0.toNat
def k0_dev25 (d0 : Dev nD) : Nat :=
  let c0_i32_649_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c2_i32_37 : BitVec 32 := 2#32
  let v76 : BitVec 32 := Scalar.addi v11 c2_i32_37
  let c8_i32_38 : BitVec 32 := 8#32
  let c0_i32_39 : BitVec 32 := 0#32
  let v77 : BitVec 1 := Scalar.cmpi .eq c8_i32_38 c0_i32_39
  let c1_i32_40 : BitVec 32 := 1#32
  let v78 : BitVec 32 := Scalar.select v77 c1_i32_40 c8_i32_38
  let v79 : BitVec 32 := Scalar.remsi v76 v78
  let c0_i32_42 : BitVec 32 := 0#32
  let v81 : BitVec 1 := Scalar.cmpi .slt v79 c0_i32_42
  let c0_i32_43 : BitVec 32 := 0#32
  let v82 : BitVec 1 := Scalar.cmpi .slt v78 c0_i32_43
  let v83 : BitVec 1 := Scalar.xori v81 v82
  let c0_i32_41 : BitVec 32 := 0#32
  let v80 : BitVec 1 := Scalar.cmpi .ne v79 c0_i32_41
  let v84 : BitVec 1 := Scalar.andi v83 v80
  let v85 : BitVec 32 := Scalar.addi v79 v78
  let v86 : BitVec 32 := Scalar.select v84 v85 v79
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c4_i32_44 : BitVec 32 := 4#32
  let c0_i32_47 : BitVec 32 := 0#32
  let v93 : BitVec 1 := Scalar.cmpi .sgt c4_i32_44 c0_i32_47
  let v94 : BitVec 32 := Scalar.extui v93
  let c0_i32_48 : BitVec 32 := 0#32
  let v95 : BitVec 1 := Scalar.cmpi .slt c4_i32_44 c0_i32_48
  let v96 : BitVec 32 := Scalar.extui v95
  let v97 : BitVec 32 := Scalar.subi v94 v96
  let v98 : BitVec 1 := Scalar.cmpi .ne v92 v97
  let v99 : BitVec 32 := Scalar.remsi v86 c4_i32_44
  let c0_i32_49 : BitVec 32 := 0#32
  let v100 : BitVec 1 := Scalar.cmpi .ne v99 c0_i32_49
  let v101 : BitVec 1 := Scalar.andi v98 v100
  let v87 : BitVec 32 := Scalar.divsi v86 c4_i32_44
  let c1_i32_50 : BitVec 32 := 1#32
  let v102 : BitVec 32 := Scalar.subi v87 c1_i32_50
  let v103 : BitVec 32 := Scalar.select v101 v102 v87
  let c16_i32_648_r0 : BitVec 32 := 16#32
  let v6653_r0 : BitVec 32 := Scalar.muli v103 c16_i32_648_r0
  let v6654_r0 : BitVec 32 := Scalar.addi c0_i32_649_r0 v6653_r0
  let c0_i32_51 : BitVec 32 := 0#32
  let v104 : BitVec 1 := Scalar.cmpi .eq v103 c0_i32_51
  let c7_i32_52 : BitVec 32 := 7#32
  let v105 : BitVec 32 := Scalar.subi c7_i32_52 v86
  let v106 : BitVec 32 := Scalar.select v104 v86 v105
  let c4_i32_650_r0 : BitVec 32 := 4#32
  let v6655_r0 : BitVec 32 := Scalar.muli v106 c4_i32_650_r0
  let v6656_r0 : BitVec 32 := Scalar.addi v6654_r0 v6655_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651_r0 : BitVec 32 := 1#32
  let v6657_r0 : BitVec 32 := Scalar.muli v8 c1_i32_651_r0
  let v6658_r0 : BitVec 32 := Scalar.addi v6656_r0 v6657_r0
  v6658_r0.toNat
def k0_dev26 (d0 : Dev nD) : Nat :=
  let c0_i32_654_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c3_i32_53 : BitVec 32 := 3#32
  let v107 : BitVec 32 := Scalar.addi v11 c3_i32_53
  let c8_i32_54 : BitVec 32 := 8#32
  let c0_i32_55 : BitVec 32 := 0#32
  let v108 : BitVec 1 := Scalar.cmpi .eq c8_i32_54 c0_i32_55
  let c1_i32_56 : BitVec 32 := 1#32
  let v109 : BitVec 32 := Scalar.select v108 c1_i32_56 c8_i32_54
  let v110 : BitVec 32 := Scalar.remsi v107 v109
  let c0_i32_58 : BitVec 32 := 0#32
  let v112 : BitVec 1 := Scalar.cmpi .slt v110 c0_i32_58
  let c0_i32_59 : BitVec 32 := 0#32
  let v113 : BitVec 1 := Scalar.cmpi .slt v109 c0_i32_59
  let v114 : BitVec 1 := Scalar.xori v112 v113
  let c0_i32_57 : BitVec 32 := 0#32
  let v111 : BitVec 1 := Scalar.cmpi .ne v110 c0_i32_57
  let v115 : BitVec 1 := Scalar.andi v114 v111
  let v116 : BitVec 32 := Scalar.addi v110 v109
  let v117 : BitVec 32 := Scalar.select v115 v116 v110
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c4_i32_60 : BitVec 32 := 4#32
  let c0_i32_63 : BitVec 32 := 0#32
  let v124 : BitVec 1 := Scalar.cmpi .sgt c4_i32_60 c0_i32_63
  let v125 : BitVec 32 := Scalar.extui v124
  let c0_i32_64 : BitVec 32 := 0#32
  let v126 : BitVec 1 := Scalar.cmpi .slt c4_i32_60 c0_i32_64
  let v127 : BitVec 32 := Scalar.extui v126
  let v128 : BitVec 32 := Scalar.subi v125 v127
  let v129 : BitVec 1 := Scalar.cmpi .ne v123 v128
  let v130 : BitVec 32 := Scalar.remsi v117 c4_i32_60
  let c0_i32_65 : BitVec 32 := 0#32
  let v131 : BitVec 1 := Scalar.cmpi .ne v130 c0_i32_65
  let v132 : BitVec 1 := Scalar.andi v129 v131
  let v118 : BitVec 32 := Scalar.divsi v117 c4_i32_60
  let c1_i32_66 : BitVec 32 := 1#32
  let v133 : BitVec 32 := Scalar.subi v118 c1_i32_66
  let v134 : BitVec 32 := Scalar.select v132 v133 v118
  let c16_i32_653_r0 : BitVec 32 := 16#32
  let v6659_r0 : BitVec 32 := Scalar.muli v134 c16_i32_653_r0
  let v6660_r0 : BitVec 32 := Scalar.addi c0_i32_654_r0 v6659_r0
  let c0_i32_67 : BitVec 32 := 0#32
  let v135 : BitVec 1 := Scalar.cmpi .eq v134 c0_i32_67
  let c7_i32_68 : BitVec 32 := 7#32
  let v136 : BitVec 32 := Scalar.subi c7_i32_68 v117
  let v137 : BitVec 32 := Scalar.select v135 v117 v136
  let c4_i32_655_r0 : BitVec 32 := 4#32
  let v6661_r0 : BitVec 32 := Scalar.muli v137 c4_i32_655_r0
  let v6662_r0 : BitVec 32 := Scalar.addi v6660_r0 v6661_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_656_r0 : BitVec 32 := 1#32
  let v6663_r0 : BitVec 32 := Scalar.muli v8 c1_i32_656_r0
  let v6664_r0 : BitVec 32 := Scalar.addi v6662_r0 v6663_r0
  v6664_r0.toNat
def k0_dev27 (d0 : Dev nD) : Nat :=
  let c0_i32_659_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c4_i32_69 : BitVec 32 := 4#32
  let v138 : BitVec 32 := Scalar.addi v11 c4_i32_69
  let c8_i32_70 : BitVec 32 := 8#32
  let c0_i32_71 : BitVec 32 := 0#32
  let v139 : BitVec 1 := Scalar.cmpi .eq c8_i32_70 c0_i32_71
  let c1_i32_72 : BitVec 32 := 1#32
  let v140 : BitVec 32 := Scalar.select v139 c1_i32_72 c8_i32_70
  let v141 : BitVec 32 := Scalar.remsi v138 v140
  let c0_i32_74 : BitVec 32 := 0#32
  let v143 : BitVec 1 := Scalar.cmpi .slt v141 c0_i32_74
  let c0_i32_75 : BitVec 32 := 0#32
  let v144 : BitVec 1 := Scalar.cmpi .slt v140 c0_i32_75
  let v145 : BitVec 1 := Scalar.xori v143 v144
  let c0_i32_73 : BitVec 32 := 0#32
  let v142 : BitVec 1 := Scalar.cmpi .ne v141 c0_i32_73
  let v146 : BitVec 1 := Scalar.andi v145 v142
  let v147 : BitVec 32 := Scalar.addi v141 v140
  let v148 : BitVec 32 := Scalar.select v146 v147 v141
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c4_i32_76 : BitVec 32 := 4#32
  let c0_i32_79 : BitVec 32 := 0#32
  let v155 : BitVec 1 := Scalar.cmpi .sgt c4_i32_76 c0_i32_79
  let v156 : BitVec 32 := Scalar.extui v155
  let c0_i32_80 : BitVec 32 := 0#32
  let v157 : BitVec 1 := Scalar.cmpi .slt c4_i32_76 c0_i32_80
  let v158 : BitVec 32 := Scalar.extui v157
  let v159 : BitVec 32 := Scalar.subi v156 v158
  let v160 : BitVec 1 := Scalar.cmpi .ne v154 v159
  let v161 : BitVec 32 := Scalar.remsi v148 c4_i32_76
  let c0_i32_81 : BitVec 32 := 0#32
  let v162 : BitVec 1 := Scalar.cmpi .ne v161 c0_i32_81
  let v163 : BitVec 1 := Scalar.andi v160 v162
  let v149 : BitVec 32 := Scalar.divsi v148 c4_i32_76
  let c1_i32_82 : BitVec 32 := 1#32
  let v164 : BitVec 32 := Scalar.subi v149 c1_i32_82
  let v165 : BitVec 32 := Scalar.select v163 v164 v149
  let c16_i32_658_r0 : BitVec 32 := 16#32
  let v6665_r0 : BitVec 32 := Scalar.muli v165 c16_i32_658_r0
  let v6666_r0 : BitVec 32 := Scalar.addi c0_i32_659_r0 v6665_r0
  let c0_i32_83 : BitVec 32 := 0#32
  let v166 : BitVec 1 := Scalar.cmpi .eq v165 c0_i32_83
  let c7_i32_84 : BitVec 32 := 7#32
  let v167 : BitVec 32 := Scalar.subi c7_i32_84 v148
  let v168 : BitVec 32 := Scalar.select v166 v148 v167
  let c4_i32_660_r0 : BitVec 32 := 4#32
  let v6667_r0 : BitVec 32 := Scalar.muli v168 c4_i32_660_r0
  let v6668_r0 : BitVec 32 := Scalar.addi v6666_r0 v6667_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_661_r0 : BitVec 32 := 1#32
  let v6669_r0 : BitVec 32 := Scalar.muli v8 c1_i32_661_r0
  let v6670_r0 : BitVec 32 := Scalar.addi v6668_r0 v6669_r0
  v6670_r0.toNat
def k0_dev28 (d0 : Dev nD) : Nat :=
  let c0_i32_664_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c5_i32 : BitVec 32 := 5#32
  let v169 : BitVec 32 := Scalar.addi v11 c5_i32
  let c8_i32_85 : BitVec 32 := 8#32
  let c0_i32_86 : BitVec 32 := 0#32
  let v170 : BitVec 1 := Scalar.cmpi .eq c8_i32_85 c0_i32_86
  let c1_i32_87 : BitVec 32 := 1#32
  let v171 : BitVec 32 := Scalar.select v170 c1_i32_87 c8_i32_85
  let v172 : BitVec 32 := Scalar.remsi v169 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_92 : BitVec 32 := 0#32
  let v181 : BitVec 1 := Scalar.cmpi .sgt v179 c0_i32_92
  let v182 : BitVec 32 := Scalar.extui v181
  let c0_i32_93 : BitVec 32 := 0#32
  let v183 : BitVec 1 := Scalar.cmpi .slt v179 c0_i32_93
  let v184 : BitVec 32 := Scalar.extui v183
  let v185 : BitVec 32 := Scalar.subi v182 v184
  let c4_i32_91 : BitVec 32 := 4#32
  let c0_i32_94 : BitVec 32 := 0#32
  let v186 : BitVec 1 := Scalar.cmpi .sgt c4_i32_91 c0_i32_94
  let v187 : BitVec 32 := Scalar.extui v186
  let c0_i32_95 : BitVec 32 := 0#32
  let v188 : BitVec 1 := Scalar.cmpi .slt c4_i32_91 c0_i32_95
  let v189 : BitVec 32 := Scalar.extui v188
  let v190 : BitVec 32 := Scalar.subi v187 v189
  let v191 : BitVec 1 := Scalar.cmpi .ne v185 v190
  let v192 : BitVec 32 := Scalar.remsi v179 c4_i32_91
  let c0_i32_96 : BitVec 32 := 0#32
  let v193 : BitVec 1 := Scalar.cmpi .ne v192 c0_i32_96
  let v194 : BitVec 1 := Scalar.andi v191 v193
  let v180 : BitVec 32 := Scalar.divsi v179 c4_i32_91
  let c1_i32_97 : BitVec 32 := 1#32
  let v195 : BitVec 32 := Scalar.subi v180 c1_i32_97
  let v196 : BitVec 32 := Scalar.select v194 v195 v180
  let c16_i32_663_r0 : BitVec 32 := 16#32
  let v6671_r0 : BitVec 32 := Scalar.muli v196 c16_i32_663_r0
  let v6672_r0 : BitVec 32 := Scalar.addi c0_i32_664_r0 v6671_r0
  let c0_i32_98 : BitVec 32 := 0#32
  let v197 : BitVec 1 := Scalar.cmpi .eq v196 c0_i32_98
  let c7_i32_99 : BitVec 32 := 7#32
  let v198 : BitVec 32 := Scalar.subi c7_i32_99 v179
  let v199 : BitVec 32 := Scalar.select v197 v179 v198
  let c4_i32_665_r0 : BitVec 32 := 4#32
  let v6673_r0 : BitVec 32 := Scalar.muli v199 c4_i32_665_r0
  let v6674_r0 : BitVec 32 := Scalar.addi v6672_r0 v6673_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_666_r0 : BitVec 32 := 1#32
  let v6675_r0 : BitVec 32 := Scalar.muli v8 c1_i32_666_r0
  let v6676_r0 : BitVec 32 := Scalar.addi v6674_r0 v6675_r0
  v6676_r0.toNat
def k0_dev29 (d0 : Dev nD) : Nat :=
  let c0_i32_669_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c6_i32 : BitVec 32 := 6#32
  let v200 : BitVec 32 := Scalar.addi v11 c6_i32
  let c8_i32_100 : BitVec 32 := 8#32
  let c0_i32_101 : BitVec 32 := 0#32
  let v201 : BitVec 1 := Scalar.cmpi .eq c8_i32_100 c0_i32_101
  let c1_i32_102 : BitVec 32 := 1#32
  let v202 : BitVec 32 := Scalar.select v201 c1_i32_102 c8_i32_100
  let v203 : BitVec 32 := Scalar.remsi v200 v202
  let c0_i32_104 : BitVec 32 := 0#32
  let v205 : BitVec 1 := Scalar.cmpi .slt v203 c0_i32_104
  let c0_i32_105 : BitVec 32 := 0#32
  let v206 : BitVec 1 := Scalar.cmpi .slt v202 c0_i32_105
  let v207 : BitVec 1 := Scalar.xori v205 v206
  let c0_i32_103 : BitVec 32 := 0#32
  let v204 : BitVec 1 := Scalar.cmpi .ne v203 c0_i32_103
  let v208 : BitVec 1 := Scalar.andi v207 v204
  let v209 : BitVec 32 := Scalar.addi v203 v202
  let v210 : BitVec 32 := Scalar.select v208 v209 v203
  let c0_i32_107 : BitVec 32 := 0#32
  let v212 : BitVec 1 := Scalar.cmpi .sgt v210 c0_i32_107
  let v213 : BitVec 32 := Scalar.extui v212
  let c0_i32_108 : BitVec 32 := 0#32
  let v214 : BitVec 1 := Scalar.cmpi .slt v210 c0_i32_108
  let v215 : BitVec 32 := Scalar.extui v214
  let v216 : BitVec 32 := Scalar.subi v213 v215
  let c4_i32_106 : BitVec 32 := 4#32
  let c0_i32_109 : BitVec 32 := 0#32
  let v217 : BitVec 1 := Scalar.cmpi .sgt c4_i32_106 c0_i32_109
  let v218 : BitVec 32 := Scalar.extui v217
  let c0_i32_110 : BitVec 32 := 0#32
  let v219 : BitVec 1 := Scalar.cmpi .slt c4_i32_106 c0_i32_110
  let v220 : BitVec 32 := Scalar.extui v219
  let v221 : BitVec 32 := Scalar.subi v218 v220
  let v222 : BitVec 1 := Scalar.cmpi .ne v216 v221
  let v223 : BitVec 32 := Scalar.remsi v210 c4_i32_106
  let c0_i32_111 : BitVec 32 := 0#32
  let v224 : BitVec 1 := Scalar.cmpi .ne v223 c0_i32_111
  let v225 : BitVec 1 := Scalar.andi v222 v224
  let v211 : BitVec 32 := Scalar.divsi v210 c4_i32_106
  let c1_i32_112 : BitVec 32 := 1#32
  let v226 : BitVec 32 := Scalar.subi v211 c1_i32_112
  let v227 : BitVec 32 := Scalar.select v225 v226 v211
  let c16_i32_668_r0 : BitVec 32 := 16#32
  let v6677_r0 : BitVec 32 := Scalar.muli v227 c16_i32_668_r0
  let v6678_r0 : BitVec 32 := Scalar.addi c0_i32_669_r0 v6677_r0
  let c0_i32_113 : BitVec 32 := 0#32
  let v228 : BitVec 1 := Scalar.cmpi .eq v227 c0_i32_113
  let c7_i32_114 : BitVec 32 := 7#32
  let v229 : BitVec 32 := Scalar.subi c7_i32_114 v210
  let v230 : BitVec 32 := Scalar.select v228 v210 v229
  let c4_i32_670_r0 : BitVec 32 := 4#32
  let v6679_r0 : BitVec 32 := Scalar.muli v230 c4_i32_670_r0
  let v6680_r0 : BitVec 32 := Scalar.addi v6678_r0 v6679_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_671_r0 : BitVec 32 := 1#32
  let v6681_r0 : BitVec 32 := Scalar.muli v8 c1_i32_671_r0
  let v6682_r0 : BitVec 32 := Scalar.addi v6680_r0 v6681_r0
  v6682_r0.toNat
def k0_dev30 (d0 : Dev nD) : Nat :=
  let c0_i32_674_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_115 : BitVec 32 := 7#32
  let v231 : BitVec 32 := Scalar.addi v11 c7_i32_115
  let c8_i32_116 : BitVec 32 := 8#32
  let c0_i32_117 : BitVec 32 := 0#32
  let v232 : BitVec 1 := Scalar.cmpi .eq c8_i32_116 c0_i32_117
  let c1_i32_118 : BitVec 32 := 1#32
  let v233 : BitVec 32 := Scalar.select v232 c1_i32_118 c8_i32_116
  let v234 : BitVec 32 := Scalar.remsi v231 v233
  let c0_i32_120 : BitVec 32 := 0#32
  let v236 : BitVec 1 := Scalar.cmpi .slt v234 c0_i32_120
  let c0_i32_121 : BitVec 32 := 0#32
  let v237 : BitVec 1 := Scalar.cmpi .slt v233 c0_i32_121
  let v238 : BitVec 1 := Scalar.xori v236 v237
  let c0_i32_119 : BitVec 32 := 0#32
  let v235 : BitVec 1 := Scalar.cmpi .ne v234 c0_i32_119
  let v239 : BitVec 1 := Scalar.andi v238 v235
  let v240 : BitVec 32 := Scalar.addi v234 v233
  let v241 : BitVec 32 := Scalar.select v239 v240 v234
  let c0_i32_123 : BitVec 32 := 0#32
  let v243 : BitVec 1 := Scalar.cmpi .sgt v241 c0_i32_123
  let v244 : BitVec 32 := Scalar.extui v243
  let c0_i32_124 : BitVec 32 := 0#32
  let v245 : BitVec 1 := Scalar.cmpi .slt v241 c0_i32_124
  let v246 : BitVec 32 := Scalar.extui v245
  let v247 : BitVec 32 := Scalar.subi v244 v246
  let c4_i32_122 : BitVec 32 := 4#32
  let c0_i32_125 : BitVec 32 := 0#32
  let v248 : BitVec 1 := Scalar.cmpi .sgt c4_i32_122 c0_i32_125
  let v249 : BitVec 32 := Scalar.extui v248
  let c0_i32_126 : BitVec 32 := 0#32
  let v250 : BitVec 1 := Scalar.cmpi .slt c4_i32_122 c0_i32_126
  let v251 : BitVec 32 := Scalar.extui v250
  let v252 : BitVec 32 := Scalar.subi v249 v251
  let v253 : BitVec 1 := Scalar.cmpi .ne v247 v252
  let v254 : BitVec 32 := Scalar.remsi v241 c4_i32_122
  let c0_i32_127 : BitVec 32 := 0#32
  let v255 : BitVec 1 := Scalar.cmpi .ne v254 c0_i32_127
  let v256 : BitVec 1 := Scalar.andi v253 v255
  let v242 : BitVec 32 := Scalar.divsi v241 c4_i32_122
  let c1_i32_128 : BitVec 32 := 1#32
  let v257 : BitVec 32 := Scalar.subi v242 c1_i32_128
  let v258 : BitVec 32 := Scalar.select v256 v257 v242
  let c16_i32_673_r0 : BitVec 32 := 16#32
  let v6683_r0 : BitVec 32 := Scalar.muli v258 c16_i32_673_r0
  let v6684_r0 : BitVec 32 := Scalar.addi c0_i32_674_r0 v6683_r0
  let c0_i32_129 : BitVec 32 := 0#32
  let v259 : BitVec 1 := Scalar.cmpi .eq v258 c0_i32_129
  let c7_i32_130 : BitVec 32 := 7#32
  let v260 : BitVec 32 := Scalar.subi c7_i32_130 v241
  let v261 : BitVec 32 := Scalar.select v259 v241 v260
  let c4_i32_675_r0 : BitVec 32 := 4#32
  let v6685_r0 : BitVec 32 := Scalar.muli v261 c4_i32_675_r0
  let v6686_r0 : BitVec 32 := Scalar.addi v6684_r0 v6685_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_676_r0 : BitVec 32 := 1#32
  let v6687_r0 : BitVec 32 := Scalar.muli v8 c1_i32_676_r0
  let v6688_r0 : BitVec 32 := Scalar.addi v6686_r0 v6687_r0
  v6688_r0.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x32768 : Shape := ⟨2, ![1024, 32768]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024x32768, .f32⟩
  | .hbm, ⟨2, _⟩ => ⟨S1024x32768, .i32⟩
  | .hbm, ⟨3, _⟩ => ⟨S1024x32768, .f32⟩
  | .hbm, ⟨4, _⟩ => ⟨S1024x32768, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Net.lean ====
module

public import Idealize.ShloMosaic.PureOps

@[expose] public section

/-!
# Comparator networks over thirty-two wires

The kernel keeps thirty-two lists of a matrix's entries and only ever applies two networks of comparators to
them: Batcher's odd-even merge sort of thirty-two wires, and the last five stages of a bitonic merge. A comparator
puts the larger of two wires on the first and the smaller on the second. This module says what it is to run a
network, over any carrier with a "larger" and a "smaller", and writes the two networks down.
-/

namespace Cert.TopK

/-- Wires: a value per wire number. The networks here touch the wires 0 to 31. -/
abbrev Wires (α : Type) := ℕ → α

/-- One comparator on the wires `p.1` and `p.2`: the larger value goes to `p.1`, the smaller to `p.2`. -/
def cx {α : Type} (mx mn : α → α → α) (p : ℕ × ℕ) (Y : Wires α) : Wires α := fun k =>
  if k = p.1 then mx (Y p.1) (Y p.2) else if k = p.2 then mn (Y p.1) (Y p.2) else Y k

/-- What one comparator leaves on the wire `k`. -/
theorem cx_at {α : Type} (mx mn : α → α → α) (i j : ℕ) (Y : Wires α) (k : ℕ) :
    cx mx mn (i, j) Y k = if k = i then mx (Y i) (Y j) else if k = j then mn (Y i) (Y j) else Y k := rfl

/-- The wires after the first `n` comparators of the list. -/
def run {α : Type} (mx mn : α → α → α) : List (ℕ × ℕ) → ℕ → Wires α → Wires α
  | _, 0, Y => Y
  | [], _ + 1, Y => Y
  | p :: ps, n + 1, Y => run mx mn ps n (cx mx mn p Y)

/-- Running `m + k` comparators is running `m`, and then `k` of those that follow. -/
theorem run_add {α : Type} (mx mn : α → α → α) (ps : List (ℕ × ℕ)) (m k : ℕ) (Y : Wires α) :
    run mx mn ps (m + k) Y = run mx mn (ps.drop m) k (run mx mn ps m Y) := by
  induction m generalizing ps Y with
  | zero => simp [run]
  | succ m ih =>
    cases ps with
    | nil => cases k <;> simp [run, Nat.succ_add]
    | cons p ps => rw [Nat.succ_add]; exact ih ps _

/-- Batcher's odd-even merge sort of thirty-two wires: its 191 comparators in order. -/
def sortNet : List (ℕ × ℕ) :=
  [
    (0, 1), (2, 3), (0, 2), (1, 3), (1, 2), (4, 5), (6, 7), (4, 6), (5, 7), (5, 6), (0, 4), (2, 6), (2, 4),
    (1, 5), (3, 7), (3, 5), (1, 2), (3, 4), (5, 6), (8, 9), (10, 11), (8, 10), (9, 11), (9, 10), (12, 13),
    (14, 15), (12, 14), (13, 15), (13, 14), (8, 12), (10, 14), (10, 12), (9, 13), (11, 15), (11, 13),
    (9, 10), (11, 12), (13, 14), (0, 8), (4, 12), (4, 8), (2, 10), (6, 14), (6, 10), (2, 4), (6, 8),
    (10, 12), (1, 9), (5, 13), (5, 9), (3, 11), (7, 15), (7, 11), (3, 5), (7, 9), (11, 13), (1, 2), (3, 4),
    (5, 6), (7, 8), (9, 10), (11, 12), (13, 14), (16, 17), (18, 19), (16, 18), (17, 19), (17, 18), (20, 21),
    (22, 23), (20, 22), (21, 23), (21, 22), (16, 20), (18, 22), (18, 20), (17, 21), (19, 23), (19, 21),
    (17, 18), (19, 20), (21, 22), (24, 25), (26, 27), (24, 26), (25, 27), (25, 26), (28, 29), (30, 31),
    (28, 30), (29, 31), (29, 30), (24, 28), (26, 30), (26, 28), (25, 29), (27, 31), (27, 29), (25, 26),
    (27, 28), (29, 30), (16, 24), (20, 28), (20, 24), (18, 26), (22, 30), (22, 26), (18, 20), (22, 24),
    (26, 28), (17, 25), (21, 29), (21, 25), (19, 27), (23, 31), (23, 27), (19, 21), (23, 25), (27, 29),
    (17, 18), (19, 20), (21, 22), (23, 24), (25, 26), (27, 28), (29, 30), (0, 16), (8, 24), (8, 16), (4, 20),
    (12, 28), (12, 20), (4, 8), (12, 16), (20, 24), (2, 18), (10, 26), (10, 18), (6, 22), (14, 30), (14, 22),
    (6, 10), (14, 18), (22, 26), (2, 4), (6, 8), (10, 12), (14, 16), (18, 20), (22, 24), (26, 28), (1, 17),
    (9, 25), (9, 17), (5, 21), (13, 29), (13, 21), (5, 9), (13, 17), (21, 25), (3, 19), (11, 27), (11, 19),
    (7, 23), (15, 31), (15, 23), (7, 11), (15, 19), (23, 27), (3, 5), (7, 9), (11, 13), (15, 17), (19, 21),
    (23, 25), (27, 29), (1, 2), (3, 4), (5, 6), (7, 8), (9, 10), (11, 12), (13, 14), (15, 16), (17, 18),
    (19, 20), (21, 22), (23, 24), (25, 26), (27, 28), (29, 30)]

/-- The five half-cleaner stages (distances 16, 8, 4, 2, 1) that sort a bitonic sequence on thirty-two wires. -/
def bitonicNet : List (ℕ × ℕ) :=
  [
    (0, 16), (1, 17), (2, 18), (3, 19), (4, 20), (5, 21), (6, 22), (7, 23), (8, 24), (9, 25), (10, 26),
    (11, 27), (12, 28), (13, 29), (14, 30), (15, 31), (0, 8), (1, 9), (2, 10), (3, 11), (4, 12), (5, 13),
    (6, 14), (7, 15), (16, 24), (17, 25), (18, 26), (19, 27), (20, 28), (21, 29), (22, 30), (23, 31), (0, 4),
    (1, 5), (2, 6), (3, 7), (8, 12), (9, 13), (10, 14), (11, 15), (16, 20), (17, 21), (18, 22), (19, 23),
    (24, 28), (25, 29), (26, 30), (27, 31), (0, 2), (1, 3), (4, 6), (5, 7), (8, 10), (9, 11), (12, 14),
    (13, 15), (16, 18), (17, 19), (20, 22), (21, 23), (24, 26), (25, 27), (28, 30), (29, 31), (0, 1), (2, 3),
    (4, 5), (6, 7), (8, 9), (10, 11), (12, 13), (14, 15), (16, 17), (18, 19), (20, 21), (22, 23), (24, 25),
    (26, 27), (28, 29), (30, 31)]

end Cert.TopK
-- ==== Proof.Lists.lean ====
module

public import proofs.«01_k».proof.Proof.Net
public import proofs.«01_k».proof.Proof.Gen.KernelIdeal

@[expose] public section

noncomputable section

/-!
# The lists the kernel computes, as functions of what it reads

For a block `x` of 64 rows: cut it in thirty-two lists of 256 columns, sort the lists against each other, fold
each list eight times (its halves met in reverse, and merged), turning the block half way. Then the two blocks of a
device side by side, and the merge of the lists of four devices.
-/

namespace Cert.TopK

open Idealize.ShloMosaic Cert.KernelIdeal

variable {F : FTy → Type} [FloatOps F]

/-- One function on every wire. -/
def each {α β : Type} (f : α → β) (Y : Wires α) : Wires β := fun j => f (Y j)

/-- What `each` leaves on a wire. -/
theorem each_at {α β : Type} (f : α → β) (Y : Wires α) (j : ℕ) : each f Y j = f (Y j) := rfl

/-- `A` met with `B` in reverse: the larger of `A j` and `B (31 - j)`. -/
def meet {s : Shape} (A B : Wires (FVec F s .f32)) : Wires (FVec F s .f32) := fun j =>
  maximumf (A j) (B (31 - j))

/-- What `meet` leaves on a wire. -/
theorem meet_at {s : Shape} (A B : Wires (FVec F s .f32)) (j : ℕ) :
    meet A B j = maximumf (A j) (B (31 - j)) := rfl

/-- `n` comparators of the bitonic merge of the lists `A` and `B`, after `A` met `B` in reverse. -/
def merge {s : Shape} (n : ℕ) (A B : Wires (FVec F s .f32)) : Wires (FVec F s .f32) :=
  run maximumf minimumf bitonicNet n (meet A B)

/-- The lists 0 to 31, each with its shape, in order. -/
def stack {α : Type} (s : Shape) (Y : Wires (s.Idx → α)) : List ((s : Shape) × (s.Idx → α)) :=
  (List.range 32).map fun j => ⟨s, Y j⟩

/-- Thirty-two vectors of one shape concatenate as thirty-two copies of that shape do. -/
theorem stack_cat {α : Type} (s t : Shape) (a : Fin t.rank) (Y : Wires (s.Idx → α))
    (h : Shape.Concatenates (List.replicate 32 s) t a) : Shape.Concatenates ((stack s Y).map (·.1)) t a := h

/-- The `j`-th list of 256 columns lies inside the block. -/
theorem cut_ok (j : ℕ) : S64x8192.Slices ![0, 256 * (j % 32)] S64x256 := by
  refine ⟨rfl, fun a => ?_⟩
  have := Nat.mod_lt j (show 0 < 32 by decide)
  fin_cases a <;> simp [Shape.size] <;> omega

/-- The `j`-th list of sixteen rows lies inside the turned block. -/
theorem rows_ok (j : ℕ) : S512x64.Slices ![16 * (j % 32), 0] S16x64 := by
  refine ⟨rfl, fun a => ?_⟩
  have := Nat.mod_lt j (show 0 < 32 by decide)
  fin_cases a <;> simp [Shape.size] <;> omega

/-- The `j`-th row lies inside a slab. -/
theorem rowl_ok (j : ℕ) : S32x128.Slices ![j % 32, 0] S1x128 := by
  refine ⟨rfl, fun a => ?_⟩
  have := Nat.mod_lt j (show 0 < 32 by decide)
  fin_cases a <;> simp [Shape.size] <;> omega

/-- Thirty-two vectors of one shape laid end to end. -/
def pack {α : Type} (s t : Shape) (a : Fin t.rank) (h : Shape.Concatenates (List.replicate 32 s) t a)
    (y0 y1 y2 y3 y4 y5 y6 y7 y8 y9 y10 y11 y12 y13 y14 y15
      y16 y17 y18 y19 y20 y21 y22 y23 y24 y25 y26 y27 y28 y29 y30 y31 : s.Idx → α) : t.Idx → α :=
  concatenate t a
      [⟨s, y0⟩, ⟨s, y1⟩, ⟨s, y2⟩, ⟨s, y3⟩, ⟨s, y4⟩, ⟨s, y5⟩, ⟨s, y6⟩, ⟨s, y7⟩,
       ⟨s, y8⟩, ⟨s, y9⟩, ⟨s, y10⟩, ⟨s, y11⟩, ⟨s, y12⟩, ⟨s, y13⟩, ⟨s, y14⟩, ⟨s, y15⟩,
       ⟨s, y16⟩, ⟨s, y17⟩, ⟨s, y18⟩, ⟨s, y19⟩, ⟨s, y20⟩, ⟨s, y21⟩, ⟨s, y22⟩, ⟨s, y23⟩,
       ⟨s, y24⟩, ⟨s, y25⟩, ⟨s, y26⟩, ⟨s, y27⟩, ⟨s, y28⟩, ⟨s, y29⟩, ⟨s, y30⟩, ⟨s, y31⟩] h

/-- The thirty-two wires laid end to end. -/
def packAll {α : Type} (s t : Shape) (a : Fin t.rank) (h : Shape.Concatenates (List.replicate 32 s) t a)
    (Y : Wires (s.Idx → α)) : t.Idx → α :=
      pack s t a h (Y 0) (Y 1) (Y 2) (Y 3) (Y 4) (Y 5) (Y 6) (Y 7) (Y 8) (Y 9)
        (Y 10) (Y 11) (Y 12) (Y 13) (Y 14) (Y 15) (Y 16) (Y 17) (Y 18) (Y 19) (Y 20)
        (Y 21) (Y 22) (Y 23) (Y 24) (Y 25) (Y 26) (Y 27) (Y 28) (Y 29) (Y 30) (Y 31)

/-- The thirty-two wires laid end to end are their stack concatenated. -/
theorem packAll_eq {α : Type} (s t : Shape) (a : Fin t.rank) (h : Shape.Concatenates (List.replicate 32 s) t a)
    (Y : Wires (s.Idx → α)) :
    packAll s t a h Y = concatenate t a (stack s Y) (stack_cat s t a Y h) := rfl

/-- The block cut in thirty-two lists of 256 columns. -/
def cut (x : Vec F S64x8192 .f32) : Wires (FVec F S64x256 .f32) := fun j =>
  extractStridedSlice S64x256 ![0, 256 * (j % 32)] x (cut_ok j)

/-- The lists after `n` comparators of the sort. -/
def l0 (x : Vec F S64x8192 .f32) (n : ℕ) : Wires (FVec F S64x256 .f32) :=
  run maximumf minimumf sortNet n (cut x)

/-- The first half of a list's columns (fold 1). -/
def lo1 (y : FVec F S64x256 .f32) : FVec F S64x128 .f32 := extractStridedSlice S64x128 ![0, 0] y (by decide)

/-- The second half of a list's columns (fold 1). -/
def hi1 (y : FVec F S64x256 .f32) : FVec F S64x128 .f32 := extractStridedSlice S64x128 ![0, 128] y (by decide)

/-- Fold 1: the first halves met with the second halves in reverse, then `n` comparators of the bitonic merge. -/
def l1 (x : Vec F S64x8192 .f32) (n : ℕ) : Wires (FVec F S64x128 .f32) :=
  merge n (each lo1 (l0 x 191)) (each hi1 (l0 x 191))

/-- The first half of a list's columns (fold 2). -/
def lo2 (y : FVec F S64x128 .f32) : FVec F S64x64 .f32 := extractStridedSlice S64x64 ![0, 0] y (by decide)

/-- The second half of a list's columns (fold 2). -/
def hi2 (y : FVec F S64x128 .f32) : FVec F S64x64 .f32 := extractStridedSlice S64x64 ![0, 64] y (by decide)

/-- Fold 2: the first halves met with the second halves in reverse, then `n` comparators of the bitonic merge. -/
def l2 (x : Vec F S64x8192 .f32) (n : ℕ) : Wires (FVec F S64x64 .f32) :=
  merge n (each lo2 (l1 x 80)) (each hi2 (l1 x 80))

/-- The first half of a list's columns (fold 3). -/
def lo3 (y : FVec F S64x64 .f32) : FVec F S64x32 .f32 := extractStridedSlice S64x32 ![0, 0] y (by decide)

/-- The second half of a list's columns (fold 3). -/
def hi3 (y : FVec F S64x64 .f32) : FVec F S64x32 .f32 := extractStridedSlice S64x32 ![0, 32] y (by decide)

/-- Fold 3: the first halves met with the second halves in reverse, then `n` comparators of the bitonic merge. -/
def l3 (x : Vec F S64x8192 .f32) (n : ℕ) : Wires (FVec F S64x32 .f32) :=
  merge n (each lo3 (l2 x 80)) (each hi3 (l2 x 80))

/-- The first half of a list's columns (fold 4). -/
def lo4 (y : FVec F S64x32 .f32) : FVec F S64x16 .f32 := extractStridedSlice S64x16 ![0, 0] y (by decide)

/-- The second half of a list's columns (fold 4). -/
def hi4 (y : FVec F S64x32 .f32) : FVec F S64x16 .f32 := extractStridedSlice S64x16 ![0, 16] y (by decide)

/-- Fold 4: the first halves met with the second halves in reverse, then `n` comparators of the bitonic merge. -/
def l4 (x : Vec F S64x8192 .f32) (n : ℕ) : Wires (FVec F S64x16 .f32) :=
  merge n (each lo4 (l3 x 80)) (each hi4 (l3 x 80))

/-- The thirty-two lists of sixteen columns laid side by side. -/
def cat16 (x : Vec F S64x8192 .f32) : FVec F S64x512 .f32 :=
  packAll S64x16 S64x512 1 (by decide) (l4 x 80)

/-- `cat16` turned: a matrix's row becomes a column. -/
def turn (x : Vec F S64x8192 .f32) : FVec F S512x64 .f32 :=
  transpose S512x64 [1, 0] (cat16 x) (by decide)

/-- The thirty-two lists after the turn: sixteen rows each. -/
def rows (x : Vec F S64x8192 .f32) : Wires (FVec F S16x64 .f32) := fun j =>
  extractStridedSlice S16x64 ![16 * (j % 32), 0] (turn x) (rows_ok j)

/-- One of the lists after the turn. -/
theorem rows_at (x : Vec F S64x8192 .f32) (j : ℕ) :
    rows x j = extractStridedSlice S16x64 ![16 * (j % 32), 0] (turn x) (rows_ok j) := rfl

/-- The first half of a list's rows (fold 5). -/
def lo5 (y : FVec F S16x64 .f32) : FVec F S8x64 .f32 := extractStridedSlice S8x64 ![0, 0] y (by decide)

/-- The second half of a list's rows (fold 5). -/
def hi5 (y : FVec F S16x64 .f32) : FVec F S8x64 .f32 := extractStridedSlice S8x64 ![8, 0] y (by decide)

/-- Fold 5: the first halves met with the second halves in reverse, then `n` comparators of the bitonic merge. -/
def l5 (x : Vec F S64x8192 .f32) (n : ℕ) : Wires (FVec F S8x64 .f32) :=
  merge n (each lo5 (rows x)) (each hi5 (rows x))

/-- The first half of a list's rows (fold 6). -/
def lo6 (y : FVec F S8x64 .f32) : FVec F S4x64 .f32 := extractStridedSlice S4x64 ![0, 0] y (by decide)

/-- The second half of a list's rows (fold 6). -/
def hi6 (y : FVec F S8x64 .f32) : FVec F S4x64 .f32 := extractStridedSlice S4x64 ![4, 0] y (by decide)

/-- Fold 6: the first halves met with the second halves in reverse, then `n` comparators of the bitonic merge. -/
def l6 (x : Vec F S64x8192 .f32) (n : ℕ) : Wires (FVec F S4x64 .f32) :=
  merge n (each lo6 (l5 x 80)) (each hi6 (l5 x 80))

/-- The first half of a list's rows (fold 7). -/
def lo7 (y : FVec F S4x64 .f32) : FVec F S2x64 .f32 := extractStridedSlice S2x64 ![0, 0] y (by decide)

/-- The second half of a list's rows (fold 7). -/
def hi7 (y : FVec F S4x64 .f32) : FVec F S2x64 .f32 := extractStridedSlice S2x64 ![2, 0] y (by decide)

/-- Fold 7: the first halves met with the second halves in reverse, then `n` comparators of the bitonic merge. -/
def l7 (x : Vec F S64x8192 .f32) (n : ℕ) : Wires (FVec F S2x64 .f32) :=
  merge n (each lo7 (l6 x 80)) (each hi7 (l6 x 80))

/-- The first half of a list's rows (fold 8). -/
def lo8 (y : FVec F S2x64 .f32) : FVec F S1x64 .f32 := extractStridedSlice S1x64 ![0, 0] y (by decide)

/-- The second half of a list's rows (fold 8). -/
def hi8 (y : FVec F S2x64 .f32) : FVec F S1x64 .f32 := extractStridedSlice S1x64 ![1, 0] y (by decide)

/-- Fold 8: the first halves met with the second halves in reverse, then `n` comparators of the bitonic merge. -/
def l8 (x : Vec F S64x8192 .f32) (n : ℕ) : Wires (FVec F S1x64 .f32) :=
  merge n (each lo8 (l7 x 80)) (each hi8 (l7 x 80))

/-- Two lists of 64 side by side. -/
def join (a b : FVec F S1x64 .f32) : FVec F S1x128 .f32 :=
  concatenate S1x128 1 [⟨S1x64, a⟩, ⟨S1x64, b⟩] (show Shape.Concatenates [S1x64, S1x64] S1x128 1 by decide)

/-- The two blocks of a device side by side: list `j` over its 128 rows. -/
def mine (x y : Vec F S64x8192 .f32) : Wires (FVec F S1x128 .f32) := fun j =>
  join (l8 x 80 j) (l8 y 80 j)

/-- One of the device's lists. -/
theorem mine_at (x y : Vec F S64x8192 .f32) (j : ℕ) : mine x y j = join (l8 x 80 j) (l8 y 80 j) := rfl

/-- The device's own lists, as it stores and sends them. -/
def loc (x y : Vec F S64x8192 .f32) : FVec F S32x128 .f32 :=
  packAll S1x128 S32x128 0 (by decide) (mine x y)

/-- A received slab without its leading axis. -/
def slab (u : Vec F S1x32x128 .f32) : FVec F S32x128 .f32 := shapeCast S32x128 u (by decide)

/-- The lists in a slab: list `j` is its row `j`. -/
def rowl (A : FVec F S32x128 .f32) : Wires (FVec F S1x128 .f32) := fun j =>
  extractStridedSlice S1x128 ![j % 32, 0] A (rowl_ok j)

/-- The device's own lists merged with the first it receives. -/
def m01 (x y : Vec F S64x8192 .f32) (u : Vec F S1x32x128 .f32) (n : ℕ) : Wires (FVec F S1x128 .f32) :=
  merge n (mine x y) (rowl (slab u))

/-- The second and the third lists it receives merged. -/
def m23 (v w : Vec F S1x32x128 .f32) (n : ℕ) : Wires (FVec F S1x128 .f32) :=
  merge n (rowl (slab v)) (rowl (slab w))

/-- All four merged. -/
def mm (x y : Vec F S64x8192 .f32) (u v w : Vec F S1x32x128 .f32) (n : ℕ) : Wires (FVec F S1x128 .f32) :=
  merge n (m01 x y u 80) (m23 v w 80)

/-- The merged lists as one slab. -/
def mcat (x y : Vec F S64x8192 .f32) (u v w : Vec F S1x32x128 .f32) : FVec F S32x128 .f32 :=
  packAll S1x128 S32x128 0 (by decide) (mm x y u v w 80)

/-- The merged slab with a leading axis, as it is stored and sent. -/
def merged (x y : Vec F S64x8192 .f32) (u v w : Vec F S1x32x128 .f32) : FVec F S1x32x128 .f32 :=
  shapeCast S1x32x128 (mcat x y u v w) (by decide)

/-- `k` more comparators of the sort, from the `m`-th on. -/
def onSort {s : Shape} (m k : ℕ) (Y : Wires (FVec F s .f32)) : Wires (FVec F s .f32) :=
  run maximumf minimumf (sortNet.drop m) k Y

/-- `k` more comparators of the bitonic merge, from the `m`-th on. -/
def onMerge {s : Shape} (m k : ℕ) (Y : Wires (FVec F s .f32)) : Wires (FVec F s .f32) :=
  run maximumf minimumf (bitonicNet.drop m) k Y

/-- The sort run to `m + k` comparators is the sort run to `m`, and `k` more. -/
theorem sort_add (x : Vec F S64x8192 .f32) (m k : ℕ) : l0 x (m + k) = onSort m k (l0 x m) := run_add ..

/-- The merge run to `m + k` comparators is the merge run to `m`, and `k` more. -/
theorem merge_add {s : Shape} (A B : Wires (FVec F s .f32)) (m k : ℕ) :
    merge (m + k) A B = onMerge m k (merge m A B) := run_add ..

end Cert.TopK
-- ==== Proof.Body.lean ====
module

public import proofs.«01_k».proof.Proof.Lists

@[expose] public section

noncomputable section

/-!
# The kernel's body as the steps it takes

The body written by its memory operations, semaphore operations and transfers alone, in the order it takes them,
over any arguments. Each numbered family of steps (the greetings, the sends, the waits) is one definition over the
step's number.
-/

namespace Cert.TopK

open Idealize.ShloMosaic Idealize.SL.Sem Cert.KernelIdeal Cert.KernelIdeal.Facts₀ Cert.KernelIdeal.Facts

/-- A program of the body. -/
abbrev Bd (F : FTy → Type) (α : Type) : Type 1 := Prog (TpuEff nD τ sig (Elt F) Λ₀ .tc) α

/-- The steps of a list, one after another. -/
def inOrder {F : FTy → Type} [FloatOps F] {ι : Type} (f : ι → Bd F PUnit) :
    List ι → Bd F PUnit
  | [] => pure ⟨⟩
  | i :: is => f i >>= fun _ => inOrder f is

/-- Whom the body greets at step `k`. -/
def helloTo : Fin 10 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩
  | 7, c => ⟨k0_dev8 c, k0_dev8_lt c⟩
  | 8, c => ⟨k0_dev9 c, k0_dev9_lt c⟩
  | 9, c => ⟨k0_dev10 c, k0_dev10_lt c⟩

/-- To whom the body sends its own list at step `j`. -/
def locTo : Fin 3 → Dev nD → Dev nD
  | 0, c => ⟨k0_dev11 c, k0_dev11_lt c⟩
  | 1, c => ⟨k0_dev12 c, k0_dev12_lt c⟩
  | 2, c => ⟨k0_dev13 c, k0_dev13_lt c⟩

/-- To whom the body sends its merged list at step `j`. -/
def rowTo : Fin 7 → Dev nD → Dev nD
  | 0, c => ⟨k0_dev14 c, k0_dev14_lt c⟩
  | 1, c => ⟨k0_dev15 c, k0_dev15_lt c⟩
  | 2, c => ⟨k0_dev16 c, k0_dev16_lt c⟩
  | 3, c => ⟨k0_dev17 c, k0_dev17_lt c⟩
  | 4, c => ⟨k0_dev18 c, k0_dev18_lt c⟩
  | 5, c => ⟨k0_dev19 c, k0_dev19_lt c⟩
  | 6, c => ⟨k0_dev20 c, k0_dev20_lt c⟩

/-- To whom the body says it is done at step `k`. -/
def byeTo : Fin 10 → Dev nD → Dev nD
  | 0, c => ⟨k0_dev21 c, k0_dev21_lt c⟩
  | 1, c => ⟨k0_dev22 c, k0_dev22_lt c⟩
  | 2, c => ⟨k0_dev23 c, k0_dev23_lt c⟩
  | 3, c => ⟨k0_dev24 c, k0_dev24_lt c⟩
  | 4, c => ⟨k0_dev25 c, k0_dev25_lt c⟩
  | 5, c => ⟨k0_dev26 c, k0_dev26_lt c⟩
  | 6, c => ⟨k0_dev27 c, k0_dev27_lt c⟩
  | 7, c => ⟨k0_dev28 c, k0_dev28_lt c⟩
  | 8, c => ⟨k0_dev29 c, k0_dev29_lt c⟩
  | 9, c => ⟨k0_dev30 c, k0_dev30_lt c⟩

/-- Each of two semaphores lies in its array. -/
theorem two_in : (j : Fin 2) → ∀ a, (![j.val] : Fin 1 → ℕ) a + S1.size a ≤ S2.size a
  | 0 => inb_S2_S1_0
  | 1 => inb_S2_S1_1

/-- Each of three semaphores lies in its array. -/
theorem three_in : (j : Fin 3) → ∀ a, (![j.val] : Fin 1 → ℕ) a + S1.size a ≤ S3.size a
  | 0 => inb_S3_S1_0
  | 1 => inb_S3_S1_1
  | 2 => inb_S3_S1_2

/-- Each of seven semaphores lies in its array. -/
theorem seven_in : (j : Fin 7) → ∀ a, (![j.val] : Fin 1 → ℕ) a + S1.size a ≤ S7.size a
  | 0 => inb_S7_S1_0
  | 1 => inb_S7_S1_1
  | 2 => inb_S7_S1_2
  | 3 => inb_S7_S1_3
  | 4 => inb_S7_S1_4
  | 5 => inb_S7_S1_5
  | 6 => inb_S7_S1_6

/-- Each landing slab lies in its buffer. -/
theorem slab_in : (j : Fin 3) → ∀ a, (![j.val, 0, 0] : Fin 3 → ℕ) a + S1x32x128.size a ≤ S3x32x128.size a
  | 0 => inb_S3x32x128_S1x32x128_0_0_0
  | 1 => inb_S3x32x128_S1x32x128_1_0_0
  | 2 => inb_S3x32x128_S1x32x128_2_0_0

/-- Each slot of the table lies in it. -/
theorem slot_in : (j : Fin 8) → ∀ a, (![j.val, 0, 0] : Fin 3 → ℕ) a + S1x32x128.size a ≤ S8x32x128.size a
  | 0 => inb_S8x32x128_S1x32x128_0_0_0
  | 1 => inb_S8x32x128_S1x32x128_1_0_0
  | 2 => inb_S8x32x128_S1x32x128_2_0_0
  | 3 => inb_S8x32x128_S1x32x128_3_0_0
  | 4 => inb_S8x32x128_S1x32x128_4_0_0
  | 5 => inb_S8x32x128_S1x32x128_5_0_0
  | 6 => inb_S8x32x128_S1x32x128_6_0_0
  | 7 => inb_S8x32x128_S1x32x128_7_0_0

section Steps

variable {F : FTy → Type} [FloatOps F]

/-- One semaphore of two. -/
def of2 (a : DmaSems sig S2) (j : Fin 2) : DmaSem sig :=
  ((a.slice (Rect.unit (s := S2) ![j.val] S1.size (two_in j))).squeeze S_ squeezes_S1_S_).sem

/-- One semaphore of three. -/
def of3 (a : DmaSems sig S3) (j : Fin 3) : DmaSem sig :=
  ((a.slice (Rect.unit (s := S3) ![j.val] S1.size (three_in j))).squeeze S_ squeezes_S1_S_).sem

/-- One semaphore of seven. -/
def of7 (a : DmaSems sig S7) (j : Fin 7) : DmaSem sig :=
  ((a.slice (Rect.unit (s := S7) ![j.val] S1.size (seven_in j))).squeeze S_ squeezes_S1_S_).sem

/-- A landing slab, as a matrix. -/
def slabOf (arg4 : Memref sig .tc .vmem S3x32x128 .f32) (j : Fin 3) : Memref sig .tc .vmem S32x128 .f32 :=
  (arg4.slice (Rect.unit (s := S3x32x128) ![j.val, 0, 0] S1x32x128.size (slab_in j)) (fun _ => rfl)).squeeze S32x128
    squeezes_S1x32x128_S32x128

/-- A slot of the table at an offset, as a matrix. -/
def slotAt (arg5 : Memref sig .tc .vmem S8x32x128 .f32) (o : Fin 3 → ℕ)
    (h : ∀ a, o a + S1x32x128.size a ≤ S8x32x128.size a) : Memref sig .tc .vmem S32x128 .f32 :=
  (arg5.slice (Rect.unit (s := S8x32x128) o S1x32x128.size h) (fun _ => rfl)).squeeze S32x128
    squeezes_S1x32x128_S32x128

/-- A half of a device's rows of the argument. -/
def rowsOf (arg0 : Memref sig .tc .hbm S1024x8192 .f32) (c : Dev nD) (h : Fin 2) : Memref sig .tc .hbm S64x8192 .f32 :=
  arg0.slice (Rect.unit (s := S1024x8192) (k0_off1 c (BitVec.ofNat 32 (64 * h.val))) S64x8192.size (k0_off1_inb c h))
    (fun _ => rfl)

/-- Each half lies in its buffer. -/
theorem half_in : (h : Fin 2) → ∀ a, (![64 * h.val, 0] : Fin 2 → ℕ) a + S64x8192.size a ≤ S128x8192.size a
  | 0 => inb_S128x8192_S64x8192_0_0
  | 1 => inb_S128x8192_S64x8192_64_0

/-- A half of the buffer that the rows are copied into. -/
def halfOf (arg2 : Memref sig .tc .vmem S128x8192 .f32) (h : Fin 2) : Memref sig .tc .vmem S64x8192 .f32 :=
  arg2.slice (Rect.unit (s := S128x8192) ![64 * h.val, 0] S64x8192.size (half_in h)) (fun _ => rfl)

/-- A greeting. -/
def hello (c : Dev nD) (k : Fin 10) : Bd F PUnit :=
  semSignalWord (helloTo k c) (SemArray.scalar (sig.barrier 0 rfl) : Sems sig S_).sem 1#32

/-- A word that the device is done. -/
def bye (v6628_r0 : Sems sig S_) (c : Dev nD) (k : Fin 10) : Bd F PUnit :=
  semSignalWord (byeTo k c) v6628_r0.sem 1#32

/-- The copy of a half of the rows begins. -/
def fetch (arg0 : Memref sig .tc .hbm S1024x8192 .f32) (arg2 : Memref sig .tc .vmem S128x8192 .f32)
    (arg6 : DmaSems sig S2) (c : Dev nD) (h : Fin 2) : Bd F PUnit :=
  Prog.lift (.enqueueDma (rowsOf arg0 c h) (.here (halfOf arg2 h)) (.dma (of2 arg6 h))
    (View.wordExact_bits rfl) (View.wordExact_bits rfl) ⟨Or.inl rfl, trivial⟩)

/-- The wait for a half of the rows. -/
def fetched (arg0 : Memref sig .tc .hbm S1024x8192 .f32) (arg2 : Memref sig .tc .vmem S128x8192 .f32)
    (arg6 : DmaSems sig S2) (c : Dev nD) (h : Fin 2) : Bd F PUnit :=
  Prog.lift (.waitDma2 (of2 arg6 h) (rowsOf arg0 c h) (halfOf arg2 h)
    (View.wordExact_bits rfl) (View.wordExact_bits rfl))

/-- The half of the rows, read. -/
def readHalf (arg2 : Memref sig .tc .vmem S128x8192 .f32) (h : Fin 2) : Bd F (Vec F S64x8192 .f32) :=
  Prog.lift (.load arg2 (Rect.unit (s := S128x8192) ![64 * h.val, 0] S64x8192.size (half_in h)).toLoadRect
    (View.loadsAt_vmem h_S64x8192))

/-- The own list is stored (the body reads the buffer first and drops what it read). -/
def keepLoc (arg3 : Memref sig .tc .vmem S32x128 .f32) (v : FVec F S32x128 .f32) : Bd F PUnit :=
  Prog.lift (.load arg3 (Rect.unit (s := S32x128) ![0, 0] S32x128.size inb_S32x128_S32x128_0_0).toLoadRect
      (View.loadsAt_vmem h_S32x128)) >>= fun (_ : Vec F S32x128 .f32) =>
  Prog.lift (.store arg3 (Rect.unit (s := S32x128) ![0, 0] S32x128.size inb_S32x128_S32x128_0_0)
      (shapeCast S32x128 v shapeCasts_S32x128_S32x128) Finset.univ (View.stores_vmem_bits_univ h_S32x128 rfl) (.inl rfl))

/-- The own list is sent. -/
def sendLoc (arg3 : Memref sig .tc .vmem S32x128 .f32) (harg3 : arg3.IsWhole)
    (arg4 : Memref sig .tc .vmem S3x32x128 .f32) (arg7 arg8 : DmaSems sig S3) (c : Dev nD) (j : Fin 3) : Bd F PUnit :=
  Prog.lift (.enqueueDma arg3 (.remote (Dev.tc (locTo j c)) (slabOf arg4 j) (.dma (of3 arg7 j))) (.dma (of3 arg8 j))
    harg3.wordExact ((View.wordExact_bits rfl).reshape _ _) ⟨⟨rfl, Or.inl rfl⟩, trivial⟩)

/-- The wait for a list that lands. -/
def gotLoc (arg3 : Memref sig .tc .vmem S32x128 .f32) (harg3 : arg3.IsWhole)
    (arg4 : Memref sig .tc .vmem S3x32x128 .f32) (arg8 : DmaSems sig S3) (j : Fin 3) : Bd F PUnit :=
  Prog.lift (.waitDma2 (of3 arg8 j) arg3 (slabOf arg4 j) harg3.wordExact ((View.wordExact_bits rfl).reshape _ _))

/-- The wait for the own list to have left. -/
def sentLoc (arg3 : Memref sig .tc .vmem S32x128 .f32) (harg3 : arg3.IsWhole)
    (arg4 : Memref sig .tc .vmem S3x32x128 .f32) (arg7 : DmaSems sig S3) (j : Fin 3) : Bd F PUnit :=
  Prog.lift (.waitDma2 (of3 arg7 j) (slabOf arg4 j) arg3 ((View.wordExact_bits rfl).reshape _ _) harg3.wordExact)

/-- A landed list, read. -/
def readSlab (arg4 : Memref sig .tc .vmem S3x32x128 .f32) (j : Fin 3) : Bd F (Vec F S1x32x128 .f32) :=
  Prog.lift (.load arg4 (Rect.unit (s := S3x32x128) ![j.val, 0, 0] S1x32x128.size (slab_in j)).toLoadRect
    (View.loadsAt_vmem h_S1x32x128))

/-- The merged list is stored in the own slot (the body reads the slot first and drops what it read). -/
def keepRow (arg5 : Memref sig .tc .vmem S8x32x128 .f32) (c : Dev nD) (v : FVec F S1x32x128 .f32) : Bd F PUnit :=
  Prog.lift (.load arg5 (Rect.unit (s := S8x32x128) (k0_off2 c) S1x32x128.size (k0_off2_inb c)).toLoadRect
      (View.loadsAt_vmem h_S1x32x128)) >>= fun (_ : Vec F S1x32x128 .f32) =>
  Prog.lift (.store arg5 (Rect.unit (s := S8x32x128) (k0_off2 c) S1x32x128.size (k0_off2_inb c))
      (shapeCast S1x32x128 v shapeCasts_S1x32x128_S1x32x128) Finset.univ (View.stores_vmem_bits_univ h_S1x32x128 rfl) (.inl rfl))

/-- The own slot. -/
def ownSlot (arg5 : Memref sig .tc .vmem S8x32x128 .f32) (c : Dev nD) : Memref sig .tc .vmem S32x128 .f32 :=
  slotAt arg5 (k0_off3 c) (k0_off3_inb c)

/-- The merged list is sent. -/
def sendRow (arg5 : Memref sig .tc .vmem S8x32x128 .f32) (arg9 arg10 : DmaSems sig S7) (c : Dev nD) (j : Fin 7) :
    Bd F PUnit :=
  Prog.lift (.enqueueDma (ownSlot arg5 c) (.remote (Dev.tc (rowTo j c)) (ownSlot arg5 c) (.dma (of7 arg9 j)))
    (.dma (of7 arg10 j)) ((View.wordExact_bits rfl).reshape _ _) ((View.wordExact_bits rfl).reshape _ _)
    ⟨⟨rfl, Or.inl rfl⟩, trivial⟩)

/-- A wait for one merged list, on a semaphore of either array of seven. -/
def gotRow (arg5 : Memref sig .tc .vmem S8x32x128 .f32) (a : DmaSems sig S7) (c : Dev nD) (j : Fin 7) : Bd F PUnit :=
  Prog.lift (.waitDma2 (of7 a j) (ownSlot arg5 c) (ownSlot arg5 c) ((View.wordExact_bits rfl).reshape _ _)
    ((View.wordExact_bits rfl).reshape _ _))

/-- A slot of the table, read. -/
def readSlot (arg5 : Memref sig .tc .vmem S8x32x128 .f32) (q : Fin 8) : Bd F (Vec F S1x32x128 .f32) :=
  Prog.lift (.load arg5 (Rect.unit (s := S8x32x128) ![q.val, 0, 0] S1x32x128.size (slot_in q)).toLoadRect
    (View.loadsAt_vmem h_S1x32x128))

/-- The result, from the eight slots of the table. -/
def outOf (t : Fin 8 → Vec F S1x32x128 .f32) : FVec F S1024x32 .f32 :=
  transpose S1024x32 [1, 0] (concatenate S32x1024 1 [⟨S32x128, shapeCast S32x128 (t 0) shapeCasts_S1x32x128_S32x128⟩,
    ⟨S32x128, shapeCast S32x128 (t 1) shapeCasts_S1x32x128_S32x128⟩,
    ⟨S32x128, shapeCast S32x128 (t 2) shapeCasts_S1x32x128_S32x128⟩,
    ⟨S32x128, shapeCast S32x128 (t 3) shapeCasts_S1x32x128_S32x128⟩,
    ⟨S32x128, shapeCast S32x128 (t 4) shapeCasts_S1x32x128_S32x128⟩,
    ⟨S32x128, shapeCast S32x128 (t 5) shapeCasts_S1x32x128_S32x128⟩,
    ⟨S32x128, shapeCast S32x128 (t 6) shapeCasts_S1x32x128_S32x128⟩,
    ⟨S32x128, shapeCast S32x128 (t 7) shapeCasts_S1x32x128_S32x128⟩]
    concatenates_S32x128_S32x128_S32x128_S32x128_S32x128_S32x128_S32x128_S32x128_S32x1024_d1) transposes_S32x1024_p1_0_S1024x32

/-- The result is stored (the body reads the buffer first and drops what it read). -/
def keepOut (arg1 : Memref sig .tc .vmem S1024x32 .f32) (v : FVec F S1024x32 .f32) : Bd F PUnit :=
  Prog.lift (.load arg1 (Rect.unit (s := S1024x32) ![0, 0] S1024x32.size inb_S1024x32_S1024x32_0_0).toLoadRect
      (View.loadsAt_vmem h_S1024x32)) >>= fun (_ : Vec F S1024x32 .f32) =>
  Prog.lift (.store arg1 (Rect.unit (s := S1024x32) ![0, 0] S1024x32.size inb_S1024x32_S1024x32_0_0)
      v Finset.univ (View.stores_vmem_bits_univ h_S1024x32 rfl) (.inl rfl))

/-- The body: greet; copy the rows in and make the own list; once greeted by all, send the list to the three devices
    of the line, merge the three that land; send the merged list to the seven devices of the ring; once theirs have
    landed, store the result; wait for what was sent to have left; say goodbye and wait for all. -/
def steps (arg0 : Memref sig .tc .hbm S1024x8192 .f32) (arg1 : Memref sig .tc .vmem S1024x32 .f32)
    (arg2 : Memref sig .tc .vmem S128x8192 .f32) (arg3 : Memref sig .tc .vmem S32x128 .f32) (harg3 : arg3.IsWhole)
    (arg4 : Memref sig .tc .vmem S3x32x128 .f32) (arg5 : Memref sig .tc .vmem S8x32x128 .f32)
    (arg6 : DmaSems sig S2) (arg7 arg8 : DmaSems sig S3) (arg9 arg10 : DmaSems sig S7) (v6628_r0 : Sems sig S_) :
    Bd F PUnit :=
  Prog.lift .deviceId >>= fun (c : Dev nD) =>
  inOrder (hello c) [0, 1, 2, 3, 4, 5, 6, 7, 8, 9] >>= fun _ =>
  inOrder (fetch arg0 arg2 arg6 c) [0, 1] >>= fun _ =>
  fetched arg0 arg2 arg6 c 0 >>= fun _ =>
  readHalf arg2 0 >>= fun x =>
  fetched arg0 arg2 arg6 c 1 >>= fun _ =>
  readHalf arg2 1 >>= fun y =>
  keepLoc arg3 (loc x y) >>= fun _ =>
  semWaitWord (SemArray.scalar (sig.barrier 0 rfl) : Sems sig S_).sem 10#32 >>= fun _ =>
  inOrder (sendLoc arg3 harg3 arg4 arg7 arg8 c) [0, 1, 2] >>= fun _ =>
  gotLoc arg3 harg3 arg4 arg8 0 >>= fun _ =>
  readSlab arg4 0 >>= fun u =>
  inOrder (gotLoc arg3 harg3 arg4 arg8) [1, 2] >>= fun _ =>
  readSlab arg4 1 >>= fun v =>
  readSlab arg4 2 >>= fun w =>
  keepRow arg5 c (merged x y u v w) >>= fun _ =>
  inOrder (sendRow arg5 arg9 arg10 c) [0, 1, 2, 3, 4, 5, 6] >>= fun _ =>
  inOrder (gotRow arg5 arg10 c) [0, 1, 2, 3, 4, 5, 6] >>= fun _ =>
  readSlot arg5 0 >>= fun t0 =>
  readSlot arg5 1 >>= fun t1 =>
  readSlot arg5 2 >>= fun t2 =>
  readSlot arg5 3 >>= fun t3 =>
  readSlot arg5 4 >>= fun t4 =>
  readSlot arg5 5 >>= fun t5 =>
  readSlot arg5 6 >>= fun t6 =>
  readSlot arg5 7 >>= fun t7 =>
  keepOut arg1 (outOf ![t0, t1, t2, t3, t4, t5, t6, t7]) >>= fun _ =>
  inOrder (sentLoc arg3 harg3 arg4 arg7) [0, 1, 2] >>= fun _ =>
  inOrder (gotRow arg5 arg9 c) [0, 1, 2, 3, 4, 5, 6] >>= fun _ =>
  inOrder (bye v6628_r0 c) [0, 1, 2, 3, 4, 5, 6, 7, 8, 9] >>= fun _ =>
  semWaitWord v6628_r0.sem 10#32

end Steps

end Cert.TopK
-- ==== Proof.Protocol.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Exec.Context
public import Idealize.ShloMosaic.Lib.Tactic

@[expose] public section

noncomputable section

/-!
# The protocol between the devices

A device stands in a line of four (the devices that hold the other columns of its rows) and in a ring of eight (the
devices with its columns and other rows). It has ten peers: three in the line, seven in the ring. Peer `k` receives
the device's send number `k`; `back k` is the number under which that peer counts the device.

Each device has one cell per semaphore of its own. A greeting hands the greeted device the room in which its send
will land. A send hands the receiver the list that lands, and, once it has left, hands the sender its share of the
source back. The goodbyes hand nothing.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where a device stands -/

/-- A device's place in its ring. -/
def ring (c : Dev nD) : Fin 8 :=
  if h : c.val / 16 = 0 then ⟨c.val / 4 % 4, by omega⟩ else ⟨7 - c.val / 4 % 4, by omega⟩

/-- The device at a place of `c`'s ring. -/
def at8 (q : Fin 8) (c : Dev nD) : Dev nD :=
  if h : q.val < 4 then ⟨q.val * 4 + c.val % 4, by show _ < 32; omega⟩
  else ⟨16 + (7 - q.val) * 4 + c.val % 4, by have := q.isLt; show _ < 32; omega⟩

/-- The device `d` further in `c`'s line. -/
def at4 (d : ℕ) (c : Dev nD) : Dev nD := ⟨c.val / 4 * 4 + (c.val + d) % 4, by have := c.isLt; show _ < 32; change _ < 32 at this; omega⟩

/-- Whom send `k` of `c` goes to: three devices of the line, then seven of the ring. -/
def peer (k : Fin 10) (c : Dev nD) : Dev nD :=
  if k.val < 3 then at4 (k.val + 1) c else at8 (ring c + ⟨k.val - 2, by omega⟩) c

/-- The number under which peer `k` counts the device. -/
def back (k : Fin 10) : Fin 10 := if h : k.val < 3 then ⟨2 - k.val, by omega⟩ else ⟨12 - k.val, by omega⟩

/-- A send to the line, as one of the ten. -/
def k3 (j : Fin 3) : Fin 10 := ⟨j.val, by omega⟩

/-- A send to the ring, as one of the ten. -/
def k7 (j : Fin 7) : Fin 10 := ⟨j.val + 3, by omega⟩

theorem back_back : ∀ k, back (back k) = k := by decide
theorem peer_back : ∀ k c, peer k (peer (back k) c) = c := by decide +kernel
theorem back_peer : ∀ k c, peer (back k) (peer k c) = c := by decide +kernel
theorem hello_to : ∀ k c, helloTo k c = peer k c := by decide +kernel
theorem bye_to : ∀ k c, byeTo k c = peer k c := by decide +kernel
theorem loc_to : ∀ j c, locTo j c = peer (k3 j) c := by decide +kernel
theorem row_to : ∀ j c, rowTo j c = peer (k7 j) c := by decide +kernel
theorem own_off : ∀ c, k0_off3 c = ![(ring c).val, 0, 0] := by decide +kernel
theorem own_off2 : ∀ c, k0_off2 c = ![(ring c).val, 0, 0] := by decide +kernel
theorem ring_back : ∀ (j : Fin 7) c, ring (peer (back (k7 j)) c) = ring c - j.succ := by decide +kernel
theorem ring_peer : ∀ (j : Fin 7) c, ring (peer (back (k7 j)) (peer (k7 j) c)) = ring c := by decide +kernel
theorem at8_ring : ∀ c, at8 (ring c) c = c := by decide +kernel
theorem at8_back : ∀ (j : Fin 7) c, at8 (ring c - j.succ) c = peer (back (k7 j)) c := by decide +kernel

/-- Send `k`, as a permutation of the devices. -/
def peerEquiv (k : Fin 10) : Dev nD ≃ Dev nD := ⟨peer k, peer (back k), back_peer k, peer_back k⟩

/-- The reversal of the ten numbers. -/
def backEquiv : Fin 10 ≃ Fin 10 := ⟨back, back, back_back, back_back⟩

/-! ## The resources -/

abbrev UB : Type := URounds (GSem nD τ sig) (Fin 10)
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Every type of element has one. -/
instance elt_nonempty (e : EltTy) : Nonempty (Elt F e) := by
  cases e <;> first | exact ⟨(0 : BitVec _)⟩ | exact ⟨FloatOps.ofBits _ 0⟩

variable (m : (ℓ : Loc nD τ sig) → Buf (Elt F) ℓ) (ρ : Dev nD → PrngReg)

/-- The memory at launch. -/
def s₀ : MemSt nD τ sig (Elt F) := ⟨m, fun _ => 0, ρ⟩

/-! ## The cells -/

/-- What a semaphore of a device is for. -/
inductive Role where
  /-- the copies of the rows -/
  | cp (h : Fin 2)
  /-- the own list has left -/
  | s1 (j : Fin 3)
  /-- a list of the line has landed -/
  | r1 (j : Fin 3)
  /-- the merged list has left -/
  | s2 (j : Fin 7)
  /-- a merged list of the ring has landed -/
  | r2 (j : Fin 7)
  /-- the goodbyes -/
  | fin
  /-- the greetings -/
  | bar
deriving DecidableEq

/-- The roles a scoped semaphore has. -/
def scopedRoles : List Role :=
  ([0, 1].map .cp ++ [0, 1, 2].map .s1 ++ [0, 1, 2].map .r1 ++ [0, 1, 2, 3, 4, 5, 6].map .s2
    ++ [0, 1, 2, 3, 4, 5, 6].map .r2) ++ [.fin]

/-- All roles. -/
def roles : List Role := scopedRoles ++ [.bar]

theorem mem_roles (k : Role) : k ∈ roles := by
  rcases k with h | j | j | j | j | _ | _
  · revert h; decide
  · revert j; decide
  · revert j; decide
  · revert j; decide
  · revert j; decide
  · decide
  · decide

instance : Fintype Role := ⟨roles.toFinset, fun k => List.mem_toFinset.mpr (mem_roles k)⟩

/-- The semaphore of a role. -/
def semOf : Role → SemLoc sig
  | .cp h => .dma (of2 cc0_scratch4 h)
  | .s1 j => .dma (of3 cc0_scratch5 j)
  | .r1 j => .dma (of3 cc0_scratch6 j)
  | .s2 j => .dma (of7 cc0_scratch7 j)
  | .r2 j => .dma (of7 cc0_scratch8 j)
  | .fin => .reg cc0_scoped0.sem
  | .bar => .reg (SemArray.scalar (sig.barrier 0 rfl) : Sems sig S_).sem

/-- The same by number. -/
def numOf : Role → SemLoc sig
  | .cp h => .dma ⟨1 + h.val, by show _ < 23; omega⟩
  | .s1 j => .dma ⟨3 + j.val, by show _ < 23; omega⟩
  | .r1 j => .dma ⟨6 + j.val, by show _ < 23; omega⟩
  | .s2 j => .dma ⟨9 + j.val, by show _ < 23; omega⟩
  | .r2 j => .dma ⟨16 + j.val, by show _ < 23; omega⟩
  | .fin => .reg ⟨1, by decide⟩
  | .bar => .reg ⟨0, by decide⟩

theorem semOf_eq (k : Role) : semOf k = numOf k := by
  rcases k with h | j | j | j | j | _ | _
  · revert h; decide
  · revert j; decide
  · revert j; decide
  · revert j; decide
  · revert j; decide
  · decide
  · decide

/-- The role of a semaphore (the staging semaphore has none). -/
def roleOf (s : SemLoc sig) : Option Role := roles.find? fun k => decide (numOf k = s)

theorem roleOf_numOf : ∀ k, roleOf (numOf k) = some k := by decide +kernel

theorem roleOf_semOf (k : Role) : roleOf (semOf k) = some k := by rw [semOf_eq]; exact roleOf_numOf k

theorem semOf_injective : Function.Injective semOf := fun a b h =>
  Option.some.inj ((roleOf_semOf a).symm.trans ((congrArg roleOf h).trans (roleOf_semOf b)))

/-- The cell of a role on a device. -/
abbrev cell (k : Role) (c : Dev nD) : GSem nD τ sig := ((c : Thread nD τ), semOf k)

/-! ## The buffers -/

abbrev argM : Memref sig .tc .hbm S1024x8192 .f32 := Memref.whole main_arg0
abbrev outM : Memref sig .tc .vmem S1024x32 .f32 := Memref.whole cc0_stg0_0
abbrev rowsM : Memref sig .tc .vmem S128x8192 .f32 := Memref.whole cc0_scratch0
abbrev locM : Memref sig .tc .vmem S32x128 .f32 := Memref.whole cc0_scratch1
abbrev slabsM : Memref sig .tc .vmem S3x32x128 .f32 := Memref.whole cc0_scratch2
abbrev tableM : Memref sig .tc .vmem S8x32x128 .f32 := Memref.whole cc0_scratch3
abbrev halfM (h : Fin 2) : Memref sig .tc .vmem S64x8192 .f32 := halfOf rowsM h
abbrev slabM (j : Fin 3) : Memref sig .tc .vmem S32x128 .f32 := slabOf slabsM j
abbrev slotM (q : Fin 8) : Memref sig .tc .vmem S32x128 .f32 := slotAt tableM ![q.val, 0, 0] (slot_in q)

/-- A device's memref held at a share, what it reads given. -/
def has (c : Dev nD) {sp : Space} {s : Shape} (M : Memref sig .tc sp s .f32) (q : PosShare TreeShare)
    (Z : Vec F s .f32) : sProp 𝕄 :=
  M.view.loc (c : Thread nD τ) ↦[M.view.set]{q} M.view.rep Z

/-- A device's memref held outright, whatever it reads. -/
def free (c : Dev nD) {sp : Space} {s : Shape} (M : Memref sig .tc sp s .f32) : sProp 𝕄 :=
  iprop(∃ f : Buf (Elt F) (M.view.loc (c : Thread nD τ)), M.view.loc (c : Thread nD τ) ↦[M.view.set]{fullShare} f)

instance has_storable (c : Dev nD) {sp : Space} {s : Shape} (M : Memref sig .tc sp s .f32) (q : PosShare TreeShare)
    (Z : Vec F s .f32) : BI.Storable (upEmb : UEmb _ 𝕄) (has c M q Z) := by unfold has; infer_instance

instance free_storable (c : Dev nD) {sp : Space} {s : Shape} (M : Memref sig .tc sp s .f32) :
    BI.Storable (upEmb : UEmb _ 𝕄) (free (F := F) c M) := by unfold free; infer_instance

/-- The entries of a list, as those of a slab. -/
def flatEquiv : S32x128.Idx ≃ S1x32x128.Idx := Shape.reshapeEquiv squeezes_S1x32x128_S32x128.numel_eq

/-- A slab read as a list, -/
def flat (v : Vec F S1x32x128 .f32) : Vec F S32x128 .f32 := fun i => v (flatEquiv i)

/-- and a list as a slab. -/
def raised (Z : Vec F S32x128 .f32) : Vec F S1x32x128 .f32 := fun i => Z (flatEquiv.symm i)

/-- A half of a device's rows of the argument. -/
def xs (c : Dev nD) (h : Fin 2) : Vec F S64x8192 .f32 :=
  (rowsOf argM c h).view.read (Elt F) (m ((c : Thread nD τ).loc main_arg0))

/-- A device's own list. -/
def ownList (c : Dev nD) : Vec F S32x128 .f32 :=
  shapeCast S32x128 (loc (xs m c 0) (xs m c 1)) shapeCasts_S32x128_S32x128

/-- The list that lands in slab `j`. -/
def heardList (c : Dev nD) (j : Fin 3) : Vec F S32x128 .f32 := ownList m (peer (back (k3 j)) c)

/-- A device's merged list. -/
def row (c : Dev nD) : Vec F S32x128 .f32 :=
  flat (shapeCast S1x32x128 (merged (xs m c 0) (xs m c 1) (raised (heardList m c 0)) (raised (heardList m c 1))
    (raised (heardList m c 2))) shapeCasts_S1x32x128_S1x32x128)

/-- The result. -/
def result (c : Dev nD) : Vec F S1024x32 .f32 :=
  outOf ![raised (row m (at8 0 c)), raised (row m (at8 1 c)), raised (row m (at8 2 c)), raised (row m (at8 3 c)),
    raised (row m (at8 4 c)), raised (row m (at8 5 c)), raised (row m (at8 6 c)), raised (row m (at8 7 c))]

/-! ## The schedule -/

/-- The share of the argument a copy holds. -/
def argShare (h : Fin 2) : PosShare TreeShare := Transfers.dealOf fullShare Finset.univ h

/-- The share of the own list a send holds. -/
def locShare (j : Fin 3) : PosShare TreeShare := Transfers.dealOf fullShare Finset.univ j

/-- The share of the own slot a send holds; the last is kept. -/
def rowShare (j : Fin 8) : PosShare TreeShare := Transfers.dealOf fullShare Finset.univ j

/-- The argument, as the buffer under a half of a device's rows. -/
def argBuf (c : Dev nD) (h : Fin 2) : Buf (Elt F) ((rowsOf argM c h).view.loc (c : Thread nD τ)) :=
  m ((c : Thread nD τ).loc main_arg0)

/-- A copy's share of the rows of the argument that it reads. -/
def argPart (c : Dev nD) (h : Fin 2) : sProp 𝕄 :=
  (rowsOf argM c h).view.loc (c : Thread nD τ) ↦[(rowsOf argM c h).view.set]{argShare h} argBuf m c h

instance argPart_storable (c : Dev nD) (h : Fin 2) : BI.Storable (upEmb : UEmb _ 𝕄) (argPart m c h) := by
  unfold argPart; infer_instance

/-- The room of a device in which the send numbered `k` of its peer lands. -/
def room (p : Dev nD) (k : Fin 10) : sProp 𝕄 :=
  if h : k.val < 3 then free (F := F) p (slabM ⟨k.val, h⟩) else free p (slotM (ring (peer (back k) p)))

/-- What a payment hands over. -/
def pay (c : Dev nD) : Role → Fin 10 → sProp 𝕄
  | .cp h, _ => iprop(has c (halfM h) fullShare (xs m c h)
      ∗ argPart m c h)
  | .s1 j, _ => has c locM (locShare j) (ownList m c)
  | .r1 j, _ => has c (slabM j) fullShare (heardList m c j)
  | .s2 j, _ => has c (slotM (ring c)) (rowShare j.castSucc) (row m c)
  | .r2 j, _ => has c (slotM (ring (peer (back (k7 j)) c))) fullShare (row m (peer (back (k7 j)) c))
  | .fin, _ => iprop(emp)
  | .bar, k => room (peer (back k) c) (back k)

/-- How much a payment is. -/
def amt : Role → ℕ
  | .cp h => (halfM h).view.dmaCredit
  | .s1 _ => (slabM 0).view.dmaCredit
  | .r1 _ => (slabM 0).view.dmaCredit
  | .s2 _ => (slabM 0).view.dmaCredit
  | .r2 _ => (slabM 0).view.dmaCredit
  | .fin => 1
  | .bar => 1

/-- Which payments there are. -/
def due10 : Role → Finset (Fin 10)
  | .fin => Finset.univ
  | .bar => Finset.univ
  | _ => {0}

theorem amt_pos (k : Role) : 0 < amt k := by
  rcases k with h | j | j | j | j | _ | _
  · exact View.dmaCredit_pos _ (by decide)
  · exact View.dmaCredit_pos _ (by decide)
  · exact View.dmaCredit_pos _ (by decide)
  · exact View.dmaCredit_pos _ (by decide)
  · exact View.dmaCredit_pos _ (by decide)
  · exact Nat.one_pos
  · exact Nat.one_pos

instance room_storable (p : Dev nD) (k : Fin 10) : BI.Storable (upEmb : UEmb _ 𝕄) (room (F := F) p k) := by
  unfold room; split <;> infer_instance

instance pay_storable (c : Dev nD) (k : Role) (d : Fin 10) : BI.Storable (upEmb : UEmb _ 𝕄) (pay m c k d) := by
  cases k <;> (dsimp only [pay]; infer_instance)

/-- The schedule: one round, in which each cell of a device gets the payments of its role. -/
def sched : Rounds.Schedule (GSem nD τ sig) (Fin 10) 𝕄 where
  duties g r := if r = 0 ∧ g.1.2 = .tc then (roleOf g.2).elim ∅ due10 else ∅
  unitless _ := False
  amount g _ _ := (roleOf g.2).elim 1 amt
  payload g _ d := (roleOf g.2).elim iprop(emp) fun k => pay m g.1.1 k d
  amount_pos g _ _ _ := by
    cases h : roleOf g.2 with
    | none => exact Nat.one_pos
    | some k => exact amt_pos k

instance sched_payload_storable (g : GSem nD τ sig) (r : ℕ) (d : Fin 10) :
    BI.Storable (upEmb : UEmb _ 𝕄) ((sched (F := F) m).payload g r d) := by
  show BI.Storable upEmb ((roleOf g.2).elim iprop(emp) fun k => pay m g.1.1 k d)
  cases roleOf g.2 <;> (dsimp only [Option.elim]; infer_instance)

section Sched

variable (c : Dev nD) (k : Role)

theorem sched_duties : (sched (F := F) m).duties (cell k c) 0 = due10 k := by
  dsimp only [sched]; rw [if_pos ⟨rfl, rfl⟩, roleOf_semOf]; rfl

theorem sched_amount (d : Fin 10) : (sched (F := F) m).amount (cell k c) 0 d = amt k := by
  dsimp only [sched]; rw [roleOf_semOf]; rfl

theorem sched_payload (d : Fin 10) : (sched (F := F) m).payload (cell k c) 0 d = pay m c k d := by
  dsimp only [sched]; rw [roleOf_semOf]; rfl

theorem sched_later (g : GSem nD τ sig) : ∀ r, 1 ≤ r → (sched (F := F) m).duties g r = ∅ :=
  fun r hr => by dsimp only [sched]; rw [if_neg fun h => by omega]

theorem sched_expect : (sched (F := F) m).expect (cell k c) 0 = (due10 k).card * amt k := by
  unfold Schedule.expect Schedule.amountOf
  rw [sched_duties, Finset.sum_congr rfl fun d _ => sched_amount m c k d, Finset.sum_const, smul_eq_mul]

/-- The payments of a cell that none has been taken from. -/
theorem sched_rest : bigSep ((sched (F := F) m).duties (cell k c) 0 \ ∅) (fun d => (sched (F := F) m).payload (cell k c) 0 d)
    = bigSep (due10 k) fun d => pay m c k d := by
  rw [Finset.sdiff_empty, sched_duties]
  exact congrArg _ (funext fun d => sched_payload m c k d)

end Sched

/-! ## What is owed, and the order of the waits -/

/-- The payments of a list, the first of the list the last summand, so that paying in order peels them. -/
def owing {ι : Type} (f : ι → CellTallies nD τ sig Unit) (O : CellTallies nD τ sig Unit) : List ι → CellTallies nD τ sig Unit
  | [] => O
  | i :: is => owing f O is + f i

/-- The ten numbers, -/
abbrev ten : List (Fin 10) := [0, 1, 2, 3, 4, 5, 6, 7, 8, 9]
/-- the seven, -/
abbrev seven : List (Fin 7) := [0, 1, 2, 3, 4, 5, 6]
/-- the three. -/
abbrev three : List (Fin 3) := [0, 1, 2]

def helloDue (c : Dev nD) (k : Fin 10) : CellTallies nD τ sig Unit := tallyAt (cell .bar (peer k c)) () 1
def locDue (c : Dev nD) (j : Fin 3) : CellTallies nD τ sig Unit := tallyAt (cell (.r1 j) (peer (k3 j) c)) () (amt (.r1 j))
def rowDue (c : Dev nD) (j : Fin 7) : CellTallies nD τ sig Unit := tallyAt (cell (.r2 j) (peer (k7 j) c)) () (amt (.r2 j))
def byeDue (c : Dev nD) (k : Fin 10) : CellTallies nD τ sig Unit := tallyAt (cell .fin (peer k c)) () 1

/-- What a device owes before its goodbyes, -/
def oweBye (c : Dev nD) : List (Fin 10) → CellTallies nD τ sig Unit := owing (byeDue c) 0
/-- before the sends of its merged list, -/
def oweRow (c : Dev nD) : List (Fin 7) → CellTallies nD τ sig Unit := owing (rowDue c) (oweBye c ten)
/-- before the sends of its own list, -/
def oweLoc (c : Dev nD) : List (Fin 3) → CellTallies nD τ sig Unit := owing (locDue c) (oweRow c seven)
/-- and at first. -/
def oweHello (c : Dev nD) : List (Fin 10) → CellTallies nD τ sig Unit := owing (helloDue c) (oweLoc c three)

/-- What a device owes at launch. -/
def O₀ (c : Dev nD) : CellTallies nD τ sig Unit := oweHello c ten

/-- A role's level: a wait is only on a cell below all that is owed. -/
def level : Role → ℕ
  | .bar => 1
  | .r1 _ => 2
  | .r2 _ => 3
  | .fin => 4
  | _ => 0

def L (g : GSem nD τ sig) : Finset Unit := if g.1.2 = .tc then {()} else ∅
def lv (g : GSem nD τ sig) (_ : Unit) : ℕ := (roleOf g.2).elim 0 level

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Role) (c : Dev nD) : lv (cell k c) () = level k := by unfold lv; rw [roleOf_semOf]; rfl

/-- All that is owed lies above a level. -/
def Above (n : ℕ) (O : CellTallies nD τ sig Unit) : Prop := ∀ g u, 0 < O g u → g.1.2 = .tc ∧ n < lv g u

theorem above_zero (n : ℕ) : Above n 0 := fun g u h => absurd h (Nat.lt_irrefl 0)

theorem above_add {n : ℕ} {O D : CellTallies nD τ sig Unit} (hO : Above n O) (hD : Above n D) : Above n (O + D) := fun g u h => by
  rw [Pi.add_apply, Finsupp.add_apply] at h
  rcases Nat.eq_zero_or_pos (O g u) with h0 | h0
  · exact hD g u (by omega)
  · exact hO g u h0

theorem above_tally {n : ℕ} (k : Role) (c : Dev nD) (a : ℕ) (h : n < level k) : Above n (tallyAt (cell k c) () a) := fun g u hg => by
  rw [tallyAt_apply] at hg
  by_cases hh : g = cell k c ∧ u = ()
  · rw [hh.1]; exact ⟨rfl, by rw [lv_cell]; exact h⟩
  · rw [if_neg hh] at hg; exact absurd hg (Nat.lt_irrefl 0)

theorem above_owing {ι : Type} {n : ℕ} {f : ι → CellTallies nD τ sig Unit} {O : CellTallies nD τ sig Unit} (hO : Above n O)
    (hf : ∀ i, Above n (f i)) : ∀ is, Above n (owing f O is)
  | [] => hO
  | i :: is => above_add (above_owing hO hf is) (hf i)

theorem above_bye {n : ℕ} (h : n < 4) (c : Dev nD) (is : List (Fin 10)) : Above n (oweBye c is) :=
  above_owing (above_zero n) (fun k => above_tally .fin _ _ h) is

theorem above_row {n : ℕ} (h : n < 3) (c : Dev nD) (is : List (Fin 7)) : Above n (oweRow c is) :=
  above_owing (above_bye (by omega) c _) (fun j => above_tally (.r2 j) _ _ h) is

theorem above_loc {n : ℕ} (h : n < 2) (c : Dev nD) (is : List (Fin 3)) : Above n (oweLoc c is) :=
  above_owing (above_row (by omega) c _) (fun j => above_tally (.r1 j) _ _ h) is

theorem above_hello {n : ℕ} (h : n < 1) (c : Dev nD) (is : List (Fin 10)) : Above n (oweHello c is) :=
  above_owing (above_loc (by omega) c _) (fun k => above_tally .bar _ _ h) is

/-- A device may wait on a semaphore below all that it owes. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.TopK

end
-- ==== Proof.Steps.lean ====
module

public import proofs.«01_k».proof.Proof.Protocol

@[expose] public section

noncomputable section

/-!
# The steps that signal, send and wait

For each such step of the body: what it needs, and what it leaves.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of the body, run on a device. -/
abbrev wpB (c : Dev nD) {α : Type} (e : Bd F α) (Kt : α → sProp 𝕄) : sProp 𝕄 :=
  wp frame (wpE (defs₀ (F := F)) 𝒱₀ (c : Thread nD τ) none) Set.univ e Kt

/-- From `P`, the step gives `v` and leaves `Q`. -/
def Does (c : Dev nD) {β : Type} (P : sProp 𝕄) (e : Bd F β) (v : β) (Q : sProp 𝕄) : Prop :=
  ∀ (k : β → Bd F PUnit) (Kt : PUnit → sProp 𝕄), P ⊢ iprop((Q -∗ wpB c (k v) Kt) -∗ wpB c (e >>= k) Kt)

/-- What a device owes, whatever it has waited for. -/
def due (c : Dev nD) (O : CellTallies nD τ sig Unit) : sProp 𝕄 := iprop(∃ W, owes (c : Thread nD τ) O W)

/-- Every cell's record, that every cell is in its first round, and the levels. -/
def facts (K : Dev nD × Role → ℕ) : sProp 𝕄 :=
  iprop((bigSep Finset.univ fun ck : Dev nD × Role => cellInv ER (sched m) (K ck) (cell ck.2 ck.1))
    ∗ (bigSep Finset.univ fun ck : Dev nD × Role => reached ER (cell ck.2 ck.1) 0) ∗ levAts L lv)

instance facts_persistent (K : Dev nD × Role → ℕ) : BI.Persistent (facts m K) := by unfold facts; infer_instance

variable (K : Dev nD × Role → ℕ)

theorem facts_inv (k : Role) (c : Dev nD) : facts m K ⊢ cellInv ER (sched m) (K (c, k)) (cell k c) := by
  unfold facts
  iintro ⟨H, -, -⟩
  istop
  exact (bigSep_elim (Φ := fun ck : Dev nD × Role => cellInv ER (sched m) (K ck) (cell ck.2 ck.1)) (Finset.mem_univ (c, k)))

theorem facts_reached (k : Role) (c : Dev nD) : facts m K ⊢ reached ER (cell k c) 0 := by
  unfold facts
  iintro ⟨-, H, -⟩
  istop
  exact (bigSep_elim (Φ := fun ck : Dev nD × Role => (reached ER (cell ck.2 ck.1) 0 : sProp 𝕄)) (Finset.mem_univ (c, k)))

theorem facts_mayWait (c : Dev nD) (k : Role) (O : CellTallies nD τ sig Unit) (hO : Above (level k) O) :
    facts m K ⊢ MayWait (c : Thread nD τ) (semOf k) () O := by
  have h : Above (lv (cell k c) ()) O := by rw [lv_cell]; exact hO
  have h2 := mayWait (F := F) c (semOf k) O h
  unfold facts
  iintro ⟨-, -, H⟩
  istop
  exact h2

/-! ## Lists of steps -/

/-- A list of resources, the empty one last. -/
def allOf {ι : Type} (Φ : ι → sProp 𝕄) : List ι → sProp 𝕄
  | [] => iprop(emp)
  | i :: is => iprop(Φ i ∗ allOf Φ is)

theorem allOf_eq {ι : Type} (Φ : ι → sProp 𝕄) : ∀ l, allOf Φ l = bigSepL l Φ
  | [] => rfl
  | i :: is => by rw [bigSepL_cons, ← allOf_eq Φ is]; rfl

/-- Steps that each turn their own resource into another, passing the rest along. -/
theorem does_inOrder {ι : Type} (c : Dev nD) (P : sProp 𝕄) [BI.Persistent P] (f : ι → Bd F PUnit) (pre post : ι → sProp 𝕄)
    (C : List ι → sProp 𝕄) (h : ∀ i is, Does c iprop(P ∗ pre i ∗ C (i :: is)) (f i) ⟨⟩ iprop(post i ∗ C is)) :
    ∀ l, Does c iprop(P ∗ allOf pre l ∗ C l) (inOrder f l) ⟨⟩ iprop(allOf post l ∗ C [])
  | [] => fun k Kt => by
    show _ ⊢ iprop(_ -∗ wpB c (k ⟨⟩) Kt)
    unfold allOf
    iintro ⟨-, -, H⟩ Hk
    iapply Hk
    isplitr; · iempintro
    iexact H
  | i :: is => fun k Kt => by
    show _ ⊢ iprop(_ -∗ wpB c ((f i >>= fun _ => inOrder f is) >>= k) Kt)
    rw [show ((f i >>= fun _ => inOrder f is) >>= k) = (f i >>= fun _ => inOrder f is >>= k) from Prog.bind_assoc _ _ _]
    unfold allOf
    iintro ⟨#HP, ⟨H1, H2⟩, HC⟩ Hk
    iapply (h i is (fun _ => inOrder f is >>= k) Kt) $$ [H1 HC]
    · isplitr; · iexact HP
      isplitl [H1] <;> iassumption
    iintro ⟨H1, HC⟩
    iapply (does_inOrder c P f pre post C h is k Kt) $$ [H2 HC]
    · isplitr; · iexact HP
      isplitl [H2] <;> iassumption
    iintro ⟨H2, HC⟩
    iapply Hk
    isplitl [H1 H2]
    · isplitl [H1] <;> iassumption
    iexact HC

/-! ## Signals -/

theorem does_hello (c : Dev nD) (k : Fin 10) (O : CellTallies nD τ sig Unit) :
    Does c iprop(facts m K ∗ (dutyTok ER (cell .bar (peer k c)) 0 k ∗ room c (back k)) ∗ due c (O + helloDue c k))
      (hello c k) ⟨⟩ (due c O) := fun kk Kt => by
  unfold hello due
  rw [hello_to]
  iintro ⟨#HF, ⟨Ht, Hr⟩, ⟨%W, HO⟩⟩ Hk
  iapply (Rounds.wp_signal 𝒱₀ ER (sched m) (c : Thread nD τ) none (dst := (peer k c : Thread nD τ)) (κ := K (peer k c, .bar))
      (sem := (SemArray.scalar (sig.barrier 0 rfl) : Sems sig S_).sem)
      (d := k) (r := 0) (by erw [sched_duties m (peer k c) .bar]; exact Finset.mem_univ _) ((sched_amount m (peer k c) .bar k).trans (by decide)) () O rfl)
    $$ [HO Ht Hr]
  · isplitr; · iapply (facts_inv m K .bar (peer k c)); iexact HF
    isplitl [HO]; · iexact HO
    isplitl [Ht]; · iexact Ht
    isplitl [Hr]
    · iapply (show (room c (back k) : sProp 𝕄) ⊢ (sched m).payload ((peer k c : Thread nD τ),
          .reg (SemArray.scalar (sig.barrier 0 rfl) : Sems sig S_).sem) 0 k from
        Entails.of_eq (((sched_payload m (peer k c) .bar k).trans (by dsimp only [pay]; rw [back_peer])).symm)); iexact Hr
    iapply (facts_reached m K .bar (peer k c)); iexact HF
  iintro HO
  iapply Hk
  iexists W; iexact HO

theorem does_bye (c : Dev nD) (k : Fin 10) (O : CellTallies nD τ sig Unit) :
    Does c iprop(facts m K ∗ dutyTok ER (cell .fin (peer k c)) 0 k ∗ due c (O + byeDue c k))
      (bye cc0_scoped0 c k) ⟨⟩ (due c O) := fun kk Kt => by
  unfold bye due
  rw [bye_to]
  iintro ⟨#HF, Ht, ⟨%W, HO⟩⟩ Hk
  iapply (Rounds.wp_signal 𝒱₀ ER (sched m) (c : Thread nD τ) none (dst := (peer k c : Thread nD τ)) (κ := K (peer k c, .fin))
      (sem := cc0_scoped0.sem)
      (d := k) (r := 0) (by erw [sched_duties m (peer k c) .fin]; exact Finset.mem_univ _) ((sched_amount m (peer k c) .fin k).trans (by decide)) () O rfl)
    $$ [HO Ht]
  · isplitr; · iapply (facts_inv m K .fin (peer k c)); iexact HF
    isplitl [HO]; · iexact HO
    isplitl [Ht]; · iexact Ht
    isplitr
    · iapply (show (iprop(emp) : sProp 𝕄) ⊢ (sched m).payload ((peer k c : Thread nD τ), .reg cc0_scoped0.sem) 0 k from
        Entails.of_eq (sched_payload m (peer k c) .fin k).symm); iempintro
    iapply (facts_reached m K .fin (peer k c)); iexact HF
  iintro HO
  iapply Hk
  iexists W; iexact HO

/-! ## Waits -/

/-- A wait for all the payments of a cell: they come with it, and the cell is closed. -/
theorem wait_op (c : Dev nD) (k : Role) {w : TpuEff nD τ sig (Elt F) Λ₀ .tc PUnit} {a : ℕ}
    (hw : ∀ Q : PUnit → sProp 𝕄, wpE (defs₀ (F := F)) 𝒱₀ (c : Thread nD τ) none Set.univ w Q = waitSpec (c : Thread nD τ) Set.univ (semOf k) a Q)
    (ha : a = (due10 k).card * amt k) (O : CellTallies nD τ sig Unit) (hO : Above (level k) O)
    (kk : PUnit → Bd F PUnit) (Kt : PUnit → sProp 𝕄) :
    iprop(facts m K ∗ cred (tallyAt (cell k c) () a) ∗ due c O ∗ atPos ER (cell k c) 0 ∅ 0)
      ⊢ iprop(((due c O ∗ semVal (cell k c) 0 ∗ bigSep (due10 k) fun d => pay m c k d) -∗ wpB c (kk ⟨⟩) Kt) -∗ wpB c (.op w kk) Kt) := by
  unfold due
  iintro ⟨#HF, Hc, ⟨%W, HO⟩, Ha⟩ Hk
  iapply (Rounds.wp_wait_rest_token 𝒱₀ ER (sched m) (c : Thread nD τ) none (κ := K (c, k))
      hw (Set.mem_univ _) () (O := O) (W := W) (R := 0) (m := 0) (T := ∅)
      (by rw [sched_expect, ha, Nat.zero_add])) $$ [Hc HO Ha]
  · isplitr; · iapply (facts_inv m K k c); iexact HF
    isplitl [Hc]; · iexact Hc
    isplitl [HO]; · iexact HO
    isplitr
    · iapply (facts_mayWait m K c k O hO); iexact HF
    iexact Ha
  iintro ⟨HO, Ha, -, Hp⟩
  imod (Rounds.cell_close ER (sched m) (Set.mem_univ (K (c, k))) (fun h => h) (R := 0 + 1) (sched_later m (cell k c))) $$ [Ha] with Hz
  · isplitr; · iapply (facts_inv m K k c); iexact HF
    iexact Ha
  iapply Hk
  isplitl [HO]; · iexists _; iexact HO
  isplitl [Hz]; · iexact Hz
  iapply (Entails.of_eq (sched_rest m c k)); iexact Hp

/-- The wait for the greetings. -/
theorem does_greeted (c : Dev nD) (O : CellTallies nD τ sig Unit) (hO : Above 1 O) :
    Does c iprop(facts m K ∗ cred (tallyAt (cell .bar c) () 10) ∗ due c O ∗ atPos ER (cell .bar c) 0 ∅ 0)
      (semWaitWord (SemArray.scalar (sig.barrier 0 rfl) : Sems sig S_).sem 10#32) ⟨⟩
      iprop(due c O ∗ semVal (cell .bar c) 0 ∗ bigSep Finset.univ fun d => pay m c .bar d) := fun kk Kt =>
  wait_op m K c .bar (wpE_semWait_eq 𝒱₀ (c : Thread nD τ) none Set.univ) rfl O hO kk Kt

/-- The wait for the goodbyes. -/
theorem does_left (c : Dev nD) (O : CellTallies nD τ sig Unit) (hO : Above 4 O) :
    Does c iprop(facts m K ∗ cred (tallyAt (cell .fin c) () 10) ∗ due c O ∗ atPos ER (cell .fin c) 0 ∅ 0)
      (semWaitWord cc0_scoped0.sem 10#32) ⟨⟩
      iprop(due c O ∗ semVal (cell .fin c) 0 ∗ bigSep Finset.univ fun d => pay m c .fin d) := fun kk Kt =>
  wait_op m K c .fin (wpE_semWait_eq 𝒱₀ (c : Thread nD τ) none Set.univ) rfl O hO kk Kt

/-- A wait for the one payment of a transfer's cell. -/
theorem does_dma (c : Dev nD) (k : Role) (hk : due10 k = {0}) {w : TpuEff nD τ sig (Elt F) Λ₀ .tc PUnit} {a : ℕ}
    (hw : ∀ Q : PUnit → sProp 𝕄, wpE (defs₀ (F := F)) 𝒱₀ (c : Thread nD τ) none Set.univ w Q = waitSpec (c : Thread nD τ) Set.univ (semOf k) a Q)
    (ha : a = amt k) (O : CellTallies nD τ sig Unit) (hO : Above (level k) O) :
    Does c iprop(facts m K ∗ (cred (tallyAt (cell k c) () (amt k)) ∗ atPos ER (cell k c) 0 ∅ 0) ∗ due c O)
      (Prog.lift w) ⟨⟩ iprop((semVal (cell k c) 0 ∗ pay m c k 0) ∗ due c O) := fun kk Kt => by
  subst ha
  iintro ⟨#HF, ⟨Hc, Ha⟩, HO⟩ Hk
  iapply (wait_op m K c k hw (by rw [hk, Finset.card_singleton, Nat.one_mul]) O hO kk Kt) $$ [Hc HO Ha]
  · isplitr; · iexact HF
    isplitl [Hc]; · iexact Hc
    isplitl [HO]; · iexact HO
    iexact Ha
  iintro ⟨HO, Hz, Hp⟩
  iapply Hk
  isplitl [Hz Hp]
  · isplitl [Hz]; · iexact Hz
    iapply (Entails.of_eq (show bigSep (due10 k) (fun d => pay m c k d) = pay m c k 0 by rw [hk, bigSep_singleton])); iexact Hp
  iexact HO

/-- The same, from the semaphore and the memrefs of the wait. -/
theorem does_wait (c : Dev nD) (k : Role) (hk : due10 k = {0}) {sp sp' : Space} {s s' : Shape} {e e' : EltTy} {sem : DmaSem sig}
    {src : Memref sig .tc sp' s' e'} {dst : Memref sig .tc sp s e} {h₁ : src.view.WordExact} {h₂ : dst.view.WordExact}
    (hs : semOf k = .dma sem) (ha : dst.view.dmaCredit = amt k) (O : CellTallies nD τ sig Unit) (hO : Above (level k) O) :
    Does c iprop(facts m K ∗ (cred (tallyAt (cell k c) () (amt k)) ∗ atPos ER (cell k c) 0 ∅ 0) ∗ due c O)
      (Prog.lift (.waitDma2 sem src dst h₁ h₂)) ⟨⟩ iprop((semVal (cell k c) 0 ∗ pay m c k 0) ∗ due c O) :=
  does_dma m K c k hk (a := dst.view.dmaCredit) (fun Q => by rw [hs]; exact wpE_waitDma2_eq 𝒱₀ (c : Thread nD τ) none Set.univ Q) ha O hO

theorem credit_slab (j : Fin 3) : (slabM j).view.dmaCredit = (slabM 0).view.dmaCredit := rfl

theorem credit_loc : locM.view.dmaCredit = (slabM 0).view.dmaCredit := by decide

theorem credit_slot (o : Fin 3 → ℕ) (ho : ∀ a, o a + S1x32x128.size a ≤ S8x32x128.size a) :
    (slotAt tableM o ho).view.dmaCredit = (slotM 0).view.dmaCredit := rfl

theorem credit_own (c : Dev nD) : (ownSlot tableM c).view.dmaCredit = (slabM 0).view.dmaCredit :=
  (credit_slot (k0_off3 c) (k0_off3_inb c)).trans (by decide)

theorem does_fetched (c : Dev nD) (h : Fin 2) (O : CellTallies nD τ sig Unit) (hO : Above 0 O) :
    Does c iprop(facts m K ∗ (cred (tallyAt (cell (.cp h) c) () (amt (.cp h))) ∗ atPos ER (cell (.cp h) c) 0 ∅ 0) ∗ due c O)
      (fetched argM rowsM cc0_scratch4 c h) ⟨⟩ iprop((semVal (cell (.cp h) c) 0 ∗ pay m c (.cp h) 0) ∗ due c O) := by
  unfold fetched
  exact does_wait m K c (.cp h) rfl rfl rfl O hO

theorem does_gotLoc (c : Dev nD) (j : Fin 3) (O : CellTallies nD τ sig Unit) (hO : Above 2 O) :
    Does c iprop(facts m K ∗ (cred (tallyAt (cell (.r1 j) c) () (amt (.r1 j))) ∗ atPos ER (cell (.r1 j) c) 0 ∅ 0) ∗ due c O)
      (gotLoc locM (Memref.isWhole_whole _) slabsM cc0_scratch6 j) ⟨⟩ iprop((semVal (cell (.r1 j) c) 0 ∗ pay m c (.r1 j) 0) ∗ due c O) := by
  unfold gotLoc
  exact does_wait m K c (.r1 j) rfl rfl (credit_slab j) O hO

theorem does_sentLoc (c : Dev nD) (j : Fin 3) (O : CellTallies nD τ sig Unit) (hO : Above 0 O) :
    Does c iprop(facts m K ∗ (cred (tallyAt (cell (.s1 j) c) () (amt (.s1 j))) ∗ atPos ER (cell (.s1 j) c) 0 ∅ 0) ∗ due c O)
      (sentLoc locM (Memref.isWhole_whole _) slabsM cc0_scratch5 j) ⟨⟩ iprop((semVal (cell (.s1 j) c) 0 ∗ pay m c (.s1 j) 0) ∗ due c O) := by
  unfold sentLoc
  exact does_wait m K c (.s1 j) rfl rfl credit_loc O hO

theorem does_gotRow (c : Dev nD) (j : Fin 7) (O : CellTallies nD τ sig Unit) (hO : Above 3 O) :
    Does c iprop(facts m K ∗ (cred (tallyAt (cell (.r2 j) c) () (amt (.r2 j))) ∗ atPos ER (cell (.r2 j) c) 0 ∅ 0) ∗ due c O)
      (gotRow tableM cc0_scratch8 c j) ⟨⟩ iprop((semVal (cell (.r2 j) c) 0 ∗ pay m c (.r2 j) 0) ∗ due c O) := by
  unfold gotRow
  exact does_wait m K c (.r2 j) rfl rfl (credit_own c) O hO

theorem does_sentRow (c : Dev nD) (j : Fin 7) (O : CellTallies nD τ sig Unit) (hO : Above 0 O) :
    Does c iprop(facts m K ∗ (cred (tallyAt (cell (.s2 j) c) () (amt (.s2 j))) ∗ atPos ER (cell (.s2 j) c) 0 ∅ 0) ∗ due c O)
      (gotRow tableM cc0_scratch7 c j) ⟨⟩ iprop((semVal (cell (.s2 j) c) 0 ∗ pay m c (.s2 j) 0) ∗ due c O) := by
  unfold gotRow
  exact does_wait m K c (.s2 j) rfl rfl (credit_own c) O hO

/-! ## Copies and sends -/

/-- A buffer written through a memref holds what was written. -/
theorem has_write (c : Dev nD) {sp : Space} {s : Shape} (M : Memref sig .tc sp s .f32)
    (f : Buf (Elt F) (M.view.loc (c : Thread nD τ))) (Z : Vec F s .f32) :
    (M.view.loc (c : Thread nD τ) ↦[M.view.set]{fullShare} M.view.write (Elt F) f Z Finset.univ : sProp 𝕄) = has c M fullShare Z := by
  unfold has
  refine pointsTo_congr fun i hi => ?_
  obtain ⟨x, -, rfl⟩ := Finset.mem_map.mp hi
  rw [View.rep_emb, View.write_emb_of_mem _ _ (Finset.mem_univ _)]

theorem does_fetch (c : Dev nD) (h : Fin 2) :
    Does c iprop(facts m K ∗ argPart m c h ∗ free c (halfM h) ∗ dutyTok ER (cell (.cp h) c) 0 0)
      (fetch argM rowsM cc0_scratch4 c h) ⟨⟩ (cred (tallyAt (cell (.cp h) c) () (amt (.cp h)))) := fun kk Kt => by
  unfold argPart free
  iintro ⟨#HF, Ha, ⟨%f, Hd⟩, Ht⟩ Hk
  iapply (Rounds.wp_copy_pointsTo 𝒱₀ ER (sched m) (c : Thread nD τ) none (κ := K (c, .cp h)) (r := 0) (d := 0)
      (src := rowsOf argM c h) (dst := halfM h) (sem := semOf (.cp h)) (q := argShare h) (fs := argBuf m c h) (fd := f)
      (by rw [sched_duties m c (.cp h)]; exact Finset.mem_singleton_self _) () (amt (.cp h)) rfl (sched_amount m c (.cp h) 0)
      (by
        rw [has_write, sched_payload m c (.cp h) 0]
        dsimp only [pay]; unfold argPart
        exact BI.Entails.refl _)) $$ [Ha Hd Ht]
  · isplitr; · iapply (facts_inv m K (.cp h) c); iexact HF
    isplitl [Ha]; · iexact Ha
    isplitl [Hd]; · iexact Hd
    isplitl [Ht]; · iexact Ht
    iapply (facts_reached m K (.cp h) c); iexact HF
  iintro Hc
  iapply Hk; iexact Hc

/-- The send of the device's own list, to a device given by its number. -/
theorem does_sendTo (c : Dev nD) (j : Fin 3) (O : CellTallies nD τ sig Unit) (n : Dev nD) (hn : n = peer (k3 j) c)
    {h₁ : locM.view.WordExact} {h₂ : (slabM j).view.WordExact}
    {hsc : (slabM j).view.ref.isScScratch = false}
    {h₃ : DmaTarget.Typed (nD := nD) .vmem (semOf (.r1 j)) (.remote (n : Thread nD τ) (slabM j) (semOf (.s1 j)) hsc)} :
    Does c iprop(facts m K ∗ (has c locM (locShare j) (ownList m c) ∗ free (peer (k3 j) c) (slabM j)
          ∗ dutyTok ER (cell (.s1 j) c) 0 0 ∗ dutyTok ER (cell (.r1 j) (peer (k3 j) c)) 0 0) ∗ due c (O + locDue c j))
      (Prog.lift (.enqueueDma locM (.remote (n : Thread nD τ) (slabM j) (semOf (.s1 j)) hsc) (semOf (.r1 j)) h₁ h₂ h₃)) ⟨⟩
      iprop(cred (tallyAt (cell (.s1 j) c) () (amt (.s1 j))) ∗ due c O) := fun kk Kt => by
  subst hn
  unfold due free has
  iintro ⟨#HF, ⟨Hs, ⟨%f, Hd⟩, Ht, Ht'⟩, ⟨%W, HO⟩⟩ Hk
  iapply (Rounds.wp_send_pointsTo 𝒱₀ ER (sched m) (c : Thread nD τ) none (κ₁ := K (c, .s1 j)) (κ₂ := K (peer (k3 j) c, .r1 j))
      (c' := (peer (k3 j) c : Thread nD τ)) (src := locM) (dst := slabM j) (sS := semOf (.s1 j)) (sem := semOf (.r1 j))
      (q := locShare j) (fs := locM.view.rep (ownList m c)) (fd := f)
      (r₁ := 0) (r₂ := 0) (d₁ := 0) (d₂ := 0)
      (by rw [sched_duties m c (.s1 j)]; exact Finset.mem_singleton_self _)
      (by rw [sched_duties m (peer (k3 j) c) (.r1 j)]; exact Finset.mem_singleton_self _)
      () () (amt (.r1 j)) rfl (sched_amount m c (.s1 j) 0) (sched_amount m (peer (k3 j) c) (.r1 j) 0) O rfl (W := W)
      (by rw [sched_payload m c (.s1 j) 0]; dsimp only [pay]; unfold has; exact BI.Entails.refl _)
      (by
        rw [View.read_rep]
        refine (Entails.of_eq (has_write (peer (k3 j) c) (slabM j) f (ownList m c))).trans ?_
        rw [sched_payload m (peer (k3 j) c) (.r1 j) 0]; dsimp only [pay]; unfold heardList
        rw [back_peer])) $$ [Hs Hd Ht Ht' HO]
  · isplitr; · iapply (facts_inv m K (.s1 j) c); iexact HF
    isplitr; · iapply (facts_inv m K (.r1 j) (peer (k3 j) c)); iexact HF
    isplitl [Hs]; · iexact Hs
    isplitl [Hd]; · iexact Hd
    isplitl [HO]; · iexact HO
    isplitl [Ht]; · iexact Ht
    isplitr; · iapply (facts_reached m K (.s1 j) c); iexact HF
    isplitl [Ht']; · iexact Ht'
    iapply (facts_reached m K (.r1 j) (peer (k3 j) c)); iexact HF
  iintro ⟨Hc, HO⟩
  iapply Hk
  isplitl [Hc]; · iexact Hc
  iexists W; iexact HO

theorem does_sendLoc (c : Dev nD) (j : Fin 3) (O : CellTallies nD τ sig Unit) :
    Does c iprop(facts m K ∗ (has c locM (locShare j) (ownList m c) ∗ free (peer (k3 j) c) (slabM j)
          ∗ dutyTok ER (cell (.s1 j) c) 0 0 ∗ dutyTok ER (cell (.r1 j) (peer (k3 j) c)) 0 0) ∗ due c (O + locDue c j))
      (sendLoc locM (Memref.isWhole_whole _) slabsM cc0_scratch5 cc0_scratch6 c j) ⟨⟩
      iprop(cred (tallyAt (cell (.s1 j) c) () (amt (.s1 j))) ∗ due c O) :=
  does_sendTo m K c j O (locTo j c) (loc_to j c)

/-- The send of the merged list, from a slot given by its offset. -/
theorem does_sendSlot (c : Dev nD) (j : Fin 7) (O : CellTallies nD τ sig Unit) (o : Fin 3 → ℕ)
    (ho : ∀ a, o a + S1x32x128.size a ≤ S8x32x128.size a) (e : o = ![(ring c).val, 0, 0])
    (n : Dev nD) (hn : n = peer (k7 j) c)
    {h₁ : (slotAt tableM o ho).view.WordExact} {h₂ : (slotAt tableM o ho).view.WordExact}
    {hsc : (slotAt tableM o ho).view.ref.isScScratch = false}
    {h₃ : DmaTarget.Typed (nD := nD) .vmem (semOf (.r2 j)) (.remote (n : Thread nD τ) (slotAt tableM o ho) (semOf (.s2 j)) hsc)} :
    Does c iprop(facts m K ∗ (has c (slotM (ring c)) (rowShare j.castSucc) (row m c) ∗ free (peer (k7 j) c) (slotM (ring c))
          ∗ dutyTok ER (cell (.s2 j) c) 0 0 ∗ dutyTok ER (cell (.r2 j) (peer (k7 j) c)) 0 0) ∗ due c (O + rowDue c j))
      (Prog.lift (.enqueueDma (slotAt tableM o ho) (.remote (n : Thread nD τ) (slotAt tableM o ho) (semOf (.s2 j)) hsc)
        (semOf (.r2 j)) h₁ h₂ h₃)) ⟨⟩
      iprop(cred (tallyAt (cell (.s2 j) c) () (amt (.s2 j))) ∗ due c O) := fun kk Kt => by
  subst e hn
  unfold due free has
  iintro ⟨#HF, ⟨Hs, ⟨%f, Hd⟩, Ht, Ht'⟩, ⟨%W, HO⟩⟩ Hk
  iapply (Rounds.wp_send_pointsTo 𝒱₀ ER (sched m) (c : Thread nD τ) none (κ₁ := K (c, .s2 j)) (κ₂ := K (peer (k7 j) c, .r2 j))
      (c' := (peer (k7 j) c : Thread nD τ)) (src := slotM (ring c)) (dst := slotM (ring c)) (sS := semOf (.s2 j)) (sem := semOf (.r2 j))
      (q := rowShare j.castSucc) (fs := (slotM (ring c)).view.rep (row m c)) (fd := f)
      (r₁ := 0) (r₂ := 0) (d₁ := 0) (d₂ := 0)
      (by rw [sched_duties m c (.s2 j)]; exact Finset.mem_singleton_self _)
      (by rw [sched_duties m (peer (k7 j) c) (.r2 j)]; exact Finset.mem_singleton_self _)
      () () (amt (.r2 j)) rfl (sched_amount m c (.s2 j) 0) (sched_amount m (peer (k7 j) c) (.r2 j) 0) O rfl (W := W)
      (by rw [sched_payload m c (.s2 j) 0]; dsimp only [pay]; unfold has; exact BI.Entails.refl _)
      (by
        rw [View.read_rep]
        refine (Entails.of_eq (has_write (peer (k7 j) c) (slotM (ring c)) f (row m c))).trans ?_
        rw [sched_payload m (peer (k7 j) c) (.r2 j) 0]; dsimp only [pay]
        rw [back_peer])) $$ [Hs Hd Ht Ht' HO]
  · isplitr; · iapply (facts_inv m K (.s2 j) c); iexact HF
    isplitr; · iapply (facts_inv m K (.r2 j) (peer (k7 j) c)); iexact HF
    isplitl [Hs]; · iexact Hs
    isplitl [Hd]; · iexact Hd
    isplitl [HO]; · iexact HO
    isplitl [Ht]; · iexact Ht
    isplitr; · iapply (facts_reached m K (.s2 j) c); iexact HF
    isplitl [Ht']; · iexact Ht'
    iapply (facts_reached m K (.r2 j) (peer (k7 j) c)); iexact HF
  iintro ⟨Hc, HO⟩
  iapply Hk
  isplitl [Hc]; · iexact Hc
  iexists W; iexact HO

theorem does_sendRow (c : Dev nD) (j : Fin 7) (O : CellTallies nD τ sig Unit) :
    Does c iprop(facts m K ∗ (has c (slotM (ring c)) (rowShare j.castSucc) (row m c) ∗ free (peer (k7 j) c) (slotM (ring c))
          ∗ dutyTok ER (cell (.s2 j) c) 0 0 ∗ dutyTok ER (cell (.r2 j) (peer (k7 j) c)) 0 0) ∗ due c (O + rowDue c j))
      (sendRow tableM cc0_scratch7 cc0_scratch8 c j) ⟨⟩
      iprop(cred (tallyAt (cell (.s2 j) c) () (amt (.s2 j))) ∗ due c O) :=
  does_sendSlot m K c j O (k0_off3 c) (k0_off3_inb c) (own_off c) (rowTo j c) (row_to j c)

end Cert.TopK

end
-- ==== Proof.StepsMem.lean ====
module

public import proofs.«01_k».proof.Proof.Steps

@[expose] public section

noncomputable section

/-!
# The steps that read and store

For each such step of the body: what it needs, and what it leaves.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Slicing a memref, holding its slice, and then reading it as another shape. -/
theorem has_squeeze (c : Dev nD) {sp : Space} {s t : Shape} (M : Memref sig .tc sp s .f32) (h : s.Squeezes t) (q : PosShare TreeShare)
    (Z : Vec F t .f32) :
    (has c (M.squeeze t h) q Z : sProp 𝕄) = has c M q (fun i => Z ((Shape.reshapeEquiv h.numel_eq).symm i)) := by
  unfold has
  have hs : (M.squeeze t h).view.set = M.view.set := View.set_reshape (v := M.view) h.numel_eq
  show (M.view.loc (c : Thread nD τ) ↦[(M.squeeze t h).view.set]{q} (M.squeeze t h).view.rep Z : sProp 𝕄) = _
  rw [hs]
  refine pointsTo_congr fun i hi => ?_
  obtain ⟨x, -, rfl⟩ := Finset.mem_map.mp hi
  rw [View.rep_emb]
  have e : M.view.emb x = (M.squeeze t h).view.emb ((Shape.reshapeEquiv h.numel_eq).symm x) := by
    show _ = (M.view.reshape t h.numel_eq).emb _; rw [View.emb_reshape]; simp
  rw [e]
  exact View.rep_emb _ _ _

theorem free_squeeze (c : Dev nD) {sp : Space} {s t : Shape} (M : Memref sig .tc sp s .f32) (h : s.Squeezes t) :
    (free c (M.squeeze t h) : sProp 𝕄) = free c M := by
  unfold free
  have hs : (M.squeeze t h).view.set = M.view.set := View.set_reshape (v := M.view) h.numel_eq
  show iprop(∃ f : Buf (Elt F) (M.view.loc (c : Thread nD τ)), M.view.loc (c : Thread nD τ) ↦[(M.squeeze t h).view.set]{fullShare} f) = _
  rw [hs]

/-- A memref held at given contents is held. -/
theorem free_of_has (c : Dev nD) {sp : Space} {s : Shape} (M : Memref sig .tc sp s .f32) (Z : Vec F s .f32) :
    (has c M fullShare Z : sProp 𝕄) ⊢ free c M := by
  unfold has free
  iintro H
  iexists _; iexact H

/-- A slice, read. -/
theorem does_read (c : Dev nD) {s : Shape} (M : Memref sig .tc .vmem s .f32) (r : Rect s) (hr : ∀ a, r.stride a = 1)
    {hl : M.view.LoadsAt r.toLoadRect} (q : PosShare TreeShare) (Z : Vec F r.shape .f32) :
    Does c (has c (M.slice r hr) q Z) (Prog.lift (.load M r.toLoadRect hl) : Bd F (Vec F r.shape .f32)) Z (has c (M.slice r hr) q Z) :=
  fun k Kt => by
  have h := wp_load_rect (defs := defs₀ (F := F)) (Γ := PendingWaitsCtx.empty) 𝒱₀ (c : Thread nD τ) none Set.univ (m := M) (r := r) (hl := hl) (k := k) (Q := Kt)
    (S := (M.slice r hr).view.set) (q := q) (f := (M.slice r hr).view.rep Z) (subset_refl _)
  have e : (M.access r).read (Elt F) ((M.slice r hr).view.rep Z) = Z := View.read_rep (M.slice r hr).view Z
  rw [e] at h
  exact h

/-- A slice, read first and then stored. -/
theorem does_keep (c : Dev nD) {s : Shape} (M : Memref sig .tc .vmem s .f32) (r : Rect s) (hr : ∀ a, r.stride a = 1)
    {hl : M.view.LoadsAt r.toLoadRect} (Z : Vec F r.shape .f32) {hx : (M.access r).Stores Finset.univ} {hm} :
    Does c (free c (M.slice r hr))
      (Prog.lift (.load M r.toLoadRect hl) >>= fun (_ : Vec F r.shape .f32) => Prog.lift (.store M r Z Finset.univ hx hm) : Bd F PUnit) ⟨⟩
      (has c (M.slice r hr) fullShare Z) := fun k Kt => by
  unfold free
  iintro ⟨%f, H⟩ Hk
  iapply (wp_load_rect (defs := defs₀ (F := F)) 𝒱₀ (c : Thread nD τ) none Set.univ (m := M) (r := r)
    (S := (M.slice r hr).view.set) (q := fullShare) (f := f) (subset_refl _)) $$ H
  iintro H
  iapply (wp_store (defs := defs₀ (F := F)) 𝒱₀ (c : Thread nD τ) none Set.univ (m := M) (r := r) (Mk := Finset.univ)
    (S := (M.slice r hr).view.set) (f := f) (by rw [View.setOn_univ])) $$ H
  iintro H
  iapply Hk
  iapply (Entails.of_eq (has_write c (M.slice r hr) f Z)); iexact H

theorem does_readHalf (c : Dev nD) (h : Fin 2) (q : PosShare TreeShare) (Z : Vec F S64x8192 .f32) :
    Does c (has c (halfM h) q Z) (readHalf rowsM h) Z (has c (halfM h) q Z) :=
  does_read c rowsM (Rect.unit (s := S128x8192) ![64 * h.val, 0] S64x8192.size (half_in h)) (fun _ => rfl) q Z

theorem does_readSlab (c : Dev nD) (j : Fin 3) (q : PosShare TreeShare) (Z : Vec F S32x128 .f32) :
    Does c (has c (slabM j) q Z) (readSlab slabsM j) (raised Z) (has c (slabM j) q Z) := by
  unfold slabM slabOf
  rw [has_squeeze]
  exact does_read c slabsM (Rect.unit (s := S3x32x128) ![j.val, 0, 0] S1x32x128.size (slab_in j)) (fun _ => rfl) q (raised Z)

theorem does_readSlot (c : Dev nD) (j : Fin 8) (q : PosShare TreeShare) (Z : Vec F S32x128 .f32) :
    Does c (has c (slotM j) q Z) (readSlot tableM j) (raised Z) (has c (slotM j) q Z) := by
  unfold slotM slotAt
  rw [has_squeeze]
  exact does_read c tableM (Rect.unit (s := S8x32x128) ![j.val, 0, 0] S1x32x128.size (slot_in j)) (fun _ => rfl) q (raised Z)

theorem raised_flat (v : Vec F S1x32x128 .f32) : raised (flat v) = v := by
  funext i; unfold raised flat; rw [Equiv.apply_symm_apply]

/-- The own slot, by its offset. -/
theorem does_keepSlot (c : Dev nD) (v : Vec F S1x32x128 .f32) (o : Fin 3 → ℕ) (ho : ∀ a, o a + S1x32x128.size a ≤ S8x32x128.size a)
    (e : o = ![(ring c).val, 0, 0])
    {hl : tableM.view.LoadsAt (Rect.unit (s := S8x32x128) o S1x32x128.size ho).toLoadRect}
    {hx : (tableM.access (Rect.unit (s := S8x32x128) o S1x32x128.size ho)).Stores Finset.univ} {hm} :
    Does c (free c (slotM (ring c)))
      (Prog.lift (.load tableM (Rect.unit (s := S8x32x128) o S1x32x128.size ho).toLoadRect hl) >>= fun (_ : Vec F S1x32x128 .f32) =>
        Prog.lift (.store tableM (Rect.unit (s := S8x32x128) o S1x32x128.size ho) v Finset.univ hx hm) : Bd F PUnit) ⟨⟩
      (has c (slotM (ring c)) fullShare (flat v)) := by
  subst e
  have e₁ : (has c (slotM (ring c)) fullShare (flat v) : sProp 𝕄)
      = has c (tableM.slice (Rect.unit (s := S8x32x128) ![(ring c).val, 0, 0] S1x32x128.size ho) (fun _ => rfl)) fullShare v :=
    (has_squeeze c _ squeezes_S1x32x128_S32x128 fullShare (flat v)).trans (congrArg (has c _ fullShare) (raised_flat v))
  have e₂ : (free c (slotM (ring c)) : sProp 𝕄)
      = free c (tableM.slice (Rect.unit (s := S8x32x128) ![(ring c).val, 0, 0] S1x32x128.size ho) (fun _ => rfl)) :=
    free_squeeze c _ squeezes_S1x32x128_S32x128
  rw [e₁, e₂]
  have h := does_keep c tableM (Rect.unit (s := S8x32x128) ![(ring c).val, 0, 0] S1x32x128.size ho) (fun _ => rfl) (hl := hl) (hx := hx) (hm := hm) v
  exact h

theorem does_keepRow (c : Dev nD) (v : FVec F S1x32x128 .f32) :
    Does c (free c (slotM (ring c))) (keepRow tableM c v) ⟨⟩
      (has c (slotM (ring c)) fullShare (flat (shapeCast S1x32x128 v shapeCasts_S1x32x128_S1x32x128))) :=
  does_keepSlot c _ (k0_off2 c) (k0_off2_inb c) (own_off2 c)

theorem does_keepLoc (c : Dev nD) (v : FVec F S32x128 .f32) :
    Does c (free c locM) (keepLoc locM v) ⟨⟩ (has c locM fullShare (shapeCast S32x128 v shapeCasts_S32x128_S32x128)) := fun k Kt => by
  unfold free keepLoc has
  generalize shapeCast S32x128 v shapeCasts_S32x128_S32x128 = w
  iintro ⟨%f, H⟩ Hk
  iapply (wp_load (defs := defs₀ (F := F)) 𝒱₀ (c : Thread nD τ) none Set.univ (m := locM)
    (S := locM.view.set) (q := fullShare) (f := f) (by rw [← View.setOn_univ]; exact Finset.map_subset_map.mpr (Finset.subset_univ _))) $$ H
  iintro H
  iapply (wp_store (defs := defs₀ (F := F)) 𝒱₀ (c : Thread nD τ) none Set.univ (m := locM) (r := (Rect.unit (s := S32x128) ![0, 0] S32x128.size inb_S32x128_S32x128_0_0)) (Mk := Finset.univ)
    (S := locM.view.set) (f := f) (by rw [View.setOn_univ]; exact View.set_slice_subset _ _)) $$ H
  iintro H
  iapply Hk
  have e : ∀ w : Vec F S32x128 .f32, (locM.access (Rect.unit (s := S32x128) ![0, 0] S32x128.size inb_S32x128_S32x128_0_0)).write
      (Elt F) f w Finset.univ = w := fun w =>
    Memref.write_access_unit_zero_univ (Elt F) cc0_scratch1 (off := ![0, 0]) (by decide) inb_S32x128_S32x128_0_0 f w
  rw [e]
  iapply (pointsTo_rep_entails (c : Thread nD τ) locM _ fullShare); iexact H

theorem does_keepOut (c : Dev nD) (v : FVec F S1024x32 .f32) :
    Does c (free c outM) (keepOut outM v) ⟨⟩ (has c outM fullShare v) := fun k Kt => by
  unfold free keepOut has
  iintro ⟨%f, H⟩ Hk
  iapply (wp_load (defs := defs₀ (F := F)) 𝒱₀ (c : Thread nD τ) none Set.univ (m := outM)
    (S := outM.view.set) (q := fullShare) (f := f) (by rw [← View.setOn_univ]; exact Finset.map_subset_map.mpr (Finset.subset_univ _))) $$ H
  iintro H
  iapply (wp_store (defs := defs₀ (F := F)) 𝒱₀ (c : Thread nD τ) none Set.univ (m := outM) (r := (Rect.unit (s := S1024x32) ![0, 0] S1024x32.size inb_S1024x32_S1024x32_0_0)) (Mk := Finset.univ)
    (S := outM.view.set) (f := f) (by rw [View.setOn_univ]; exact View.set_slice_subset _ _)) $$ H
  iintro H
  iapply Hk
  have e : (outM.access (Rect.unit (s := S1024x32) ![0, 0] S1024x32.size inb_S1024x32_S1024x32_0_0)).write (Elt F) f v Finset.univ = v :=
    Memref.write_access_unit_zero_univ (Elt F) cc0_stg0_0 (off := ![0, 0]) (by decide) inb_S1024x32_S1024x32_0_0 f v
  rw [e]
  iapply (pointsTo_rep_entails (c : Thread nD τ) outM _ fullShare); iexact H

end Cert.TopK

end
-- ==== Proof.Run.lean ====
module

public import proofs.«01_k».proof.Proof.StepsMem

@[expose] public section

noncomputable section

/-!
# The run of a device

What a device holds before its body and after, and that the body takes it from the one to the other.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- The two halves. -/
abbrev two : List (Fin 2) := [0, 1]

/-- The eight places of a ring. -/
abbrev eight : List (Fin 8) := [0, 1, 2, 3, 4, 5, 6, 7]

/-! ## Lists of resources -/

/-- A step may be given more, and leave less. -/
theorem Does.mono {β : Type} {P P' Q Q' : sProp 𝕄} {e : Bd F β} {v : β} (h : Does c P e v Q) (hP : P' ⊢ P) (hQ : Q ⊢ Q') :
    Does c P' e v Q' := fun k Kt => by
  iintro HP Hk
  ihave HP := hP $$ HP
  iapply (h k Kt) $$ HP
  iintro HQ
  iapply Hk
  iapply hQ
  iexact HQ

/-- Two lists of resources as one list of pairs, -/
theorem allOf_zip {ι : Type} (Φ Ψ : ι → sProp 𝕄) : ∀ l, iprop(allOf Φ l ∗ allOf Ψ l) ⊢ allOf (fun i => iprop(Φ i ∗ Ψ i)) l
  | [] => by unfold allOf; iintro ⟨H, -⟩; iexact H
  | i :: is => by
    unfold allOf
    iintro ⟨⟨H1, H2⟩, ⟨H3, H4⟩⟩
    isplitl [H1 H3]
    · isplitl [H1] <;> iassumption
    iapply (allOf_zip Φ Ψ is)
    isplitl [H2] <;> iassumption

/-- and back. -/
theorem allOf_unzip {ι : Type} (Φ Ψ : ι → sProp 𝕄) : ∀ l, allOf (fun i => iprop(Φ i ∗ Ψ i)) l ⊢ iprop(allOf Φ l ∗ allOf Ψ l)
  | [] => by unfold allOf; iintro H; isplitl [H]; (iexact H); iempintro
  | i :: is => by
    unfold allOf
    iintro ⟨⟨H1, H3⟩, H⟩
    ihave H := (allOf_unzip Φ Ψ is) $$ H
    icases H with ⟨H2, H4⟩
    isplitl [H1 H2]
    · isplitl [H1] <;> iassumption
    isplitl [H3] <;> iassumption

/-- Each of a list of resources turned into another. -/
theorem allOf_mono {ι : Type} {Φ Ψ : ι → sProp 𝕄} (h : ∀ i, Φ i ⊢ Ψ i) : ∀ l, allOf Φ l ⊢ allOf Ψ l
  | [] => by unfold allOf; iintro H; iexact H
  | i :: is => by
    unfold allOf
    iintro ⟨H1, H2⟩
    isplitl [H1]; · iapply (h i); iexact H1
    iapply (allOf_mono h is); iexact H2

/-- All the resources of a finite type, as a list. -/
theorem allOf_univ {ι : Type} [Fintype ι] [DecidableEq ι] (Φ : ι → sProp 𝕄) (l : List ι) (h : Finset.univ = l.toFinset) (hl : l.Nodup) :
    bigSep Finset.univ Φ = allOf Φ l := (bigSep_univ_eq_bigSepL l h hl Φ).trans (allOf_eq Φ l).symm

/-- A memref held outright, as its shares. -/
theorem has_deal {n : ℕ} [NeZero n] {sp : Space} {s : Shape} (M : Memref sig .tc sp s .f32) (Z : Vec F s .f32) :
    (has c M fullShare Z : sProp 𝕄)
      = bigSep (Finset.univ : Finset (Fin n)) fun j => has c M (Transfers.dealOf fullShare Finset.univ j) Z := by
  unfold has
  exact Transfers.pointsTo_deal Finset.univ Finset.univ_nonempty fullShare

/-! ## The room that the greetings give -/

theorem greeted_rooms : (bigSep Finset.univ fun d => pay m c .bar d)
    ⊢ iprop(allOf (fun j => free (F := F) (peer (k3 j) c) (slabM j)) three
        ∗ allOf (fun j => free (F := F) (peer (k7 j) c) (slotM (ring c))) seven) := by
  rw [bigSep_univ_equiv backEquiv, allOf_univ _ ten (by decide) (by decide)]
  have e3 : ∀ j : Fin 3, pay m c .bar (backEquiv (k3 j)) = free (F := F) (peer (k3 j) c) (slabM j) := fun j => by
    show room (peer (back (back (k3 j))) c) (back (back (k3 j))) = _
    rw [back_back]; unfold room; rw [dif_pos (show (k3 j).val < 3 from j.isLt)]; rfl
  have e7 : ∀ j : Fin 7, pay m c .bar (backEquiv (k7 j)) = free (F := F) (peer (k7 j) c) (slotM (ring c)) := fun j => by
    show room (peer (back (back (k7 j))) c) (back (back (k7 j))) = _
    rw [back_back]; unfold room; rw [dif_neg (show ¬ (k7 j).val < 3 from by show ¬ j.val + 3 < 3; omega), back_peer]
  have s3 : allOf (fun j => free (F := F) (peer (k3 j) c) (slabM j)) three = allOf (fun j => pay m c .bar (backEquiv (k3 j))) three :=
    congrArg (allOf · three) (funext fun j => (e3 j).symm)
  have s7 : allOf (fun j => free (F := F) (peer (k7 j) c) (slotM (ring c))) seven = allOf (fun j => pay m c .bar (backEquiv (k7 j))) seven :=
    congrArg (allOf · seven) (funext fun j => (e7 j).symm)
  rw [s3, s7]
  generalize pay m c .bar = Φ
  show allOf _ [k3 0, k3 1, k3 2, k7 0, k7 1, k7 2, k7 3, k7 4, k7 5, k7 6] ⊢ _
  simp only [allOf]
  iintro ⟨H0, H1, H2, H⟩
  isplitr [H]
  · isplitl [H0]; · iexact H0
    isplitl [H1]; · iexact H1
    isplitl [H2]; · iexact H2
    iempintro
  iexact H

/-! ## The loops -/

theorem loop_hello : Does c iprop(facts m K ∗ allOf (fun k => iprop(dutyTok ER (cell .bar (peer k c)) 0 k ∗ room (F := F) c (back k))) ten ∗ due c (O₀ c))
    (inOrder (hello c) ten) ⟨⟩ (due c (oweLoc c three)) :=
  Does.mono c (does_inOrder c (facts m K) (hello c) (fun k => iprop(dutyTok ER (cell .bar (peer k c)) 0 k ∗ room (F := F) c (back k)))
      (fun _ => iprop(emp)) (fun is => due c (oweHello c is))
      (fun k is => (does_hello m K c k (oweHello c is)).mono c (Entails.refl _) (by iintro H; isplitr; (iempintro); iexact H)) ten)
    (Entails.refl _) (by iintro ⟨-, H⟩; iexact H)

theorem loop_bye : Does c iprop(facts m K ∗ allOf (fun k => dutyTok ER (cell .fin (peer k c)) 0 k) ten ∗ due c (oweBye c ten))
    (inOrder (bye cc0_scoped0 c) ten) ⟨⟩ (due c 0) :=
  Does.mono c (does_inOrder c (facts m K) (bye cc0_scoped0 c) (fun k => dutyTok ER (cell .fin (peer k c)) 0 k)
      (fun _ => iprop(emp)) (fun is => due c (oweBye c is))
      (fun k is => (does_bye m K c k (oweBye c is)).mono c (Entails.refl _) (by iintro H; isplitr; (iempintro); iexact H)) ten)
    (Entails.refl _) (by iintro ⟨-, H⟩; iexact H)

theorem loop_fetch : Does c iprop(facts m K ∗ allOf (fun h => iprop(argPart m c h ∗ free c (halfM h) ∗ dutyTok ER (cell (.cp h) c) 0 0)) two)
    (inOrder (fetch argM rowsM cc0_scratch4 c) two) ⟨⟩ (allOf (fun h => cred (tallyAt (cell (.cp h) c) () (amt (.cp h)))) two) :=
  Does.mono c (does_inOrder c (facts m K) (fetch argM rowsM cc0_scratch4 c)
      (fun h => iprop(argPart m c h ∗ free c (halfM h) ∗ dutyTok ER (cell (.cp h) c) 0 0))
      (fun h => cred (tallyAt (cell (.cp h) c) () (amt (.cp h)))) (fun _ => iprop(emp))
      (fun h is => (does_fetch m K c h).mono c (by iintro ⟨#HF, H, -⟩; isplitr; (iexact HF); iexact H)
        (by iintro H; isplitl [H]; (iexact H); iempintro)) two)
    (by iintro ⟨#HF, H⟩; isplitr; (iexact HF); isplitl [H]; (iexact H); iempintro) (by iintro ⟨H, -⟩; iexact H)

theorem loop_sendLoc : Does c iprop(facts m K ∗ allOf (fun j => iprop(has c locM (locShare j) (ownList m c) ∗ free (peer (k3 j) c) (slabM j)
      ∗ dutyTok ER (cell (.s1 j) c) 0 0 ∗ dutyTok ER (cell (.r1 j) (peer (k3 j) c)) 0 0)) three ∗ due c (oweLoc c three))
    (inOrder (sendLoc locM (Memref.isWhole_whole _) slabsM cc0_scratch5 cc0_scratch6 c) three) ⟨⟩
    iprop(allOf (fun j => cred (tallyAt (cell (.s1 j) c) () (amt (.s1 j)))) three ∗ due c (oweRow c seven)) :=
  does_inOrder c (facts m K) _ _ (fun j => cred (tallyAt (cell (.s1 j) c) () (amt (.s1 j)))) (fun is => due c (oweLoc c is))
      (fun j is => does_sendLoc m K c j (oweLoc c is)) three

theorem loop_sendRow : Does c iprop(facts m K ∗ allOf (fun j => iprop(has c (slotM (ring c)) (rowShare j.castSucc) (row m c) ∗ free (peer (k7 j) c) (slotM (ring c))
      ∗ dutyTok ER (cell (.s2 j) c) 0 0 ∗ dutyTok ER (cell (.r2 j) (peer (k7 j) c)) 0 0)) seven ∗ due c (oweRow c seven))
    (inOrder (sendRow tableM cc0_scratch7 cc0_scratch8 c) seven) ⟨⟩
    iprop(allOf (fun j => cred (tallyAt (cell (.s2 j) c) () (amt (.s2 j)))) seven ∗ due c (oweBye c ten)) :=
  does_inOrder c (facts m K) _ _ (fun j => cred (tallyAt (cell (.s2 j) c) () (amt (.s2 j)))) (fun is => due c (oweRow c is))
      (fun j is => does_sendRow m K c j (oweRow c is)) seven

/-- The credit and the place that a wait on a role needs. -/
abbrev ready (k : Role) : sProp 𝕄 := iprop(cred (tallyAt (cell k c) () (amt k)) ∗ atPos ER (cell k c) 0 ∅ 0)

/-- A role's semaphore back at nothing, and what it has handed over. -/
abbrev given (k : Role) : sProp 𝕄 := iprop(semVal (cell k c) 0 ∗ pay m c k 0)

theorem loop_gotLoc (l : List (Fin 3)) : Does c iprop(facts m K ∗ allOf (fun j => ready c (.r1 j)) l ∗ due c (oweRow c seven))
    (inOrder (gotLoc locM (Memref.isWhole_whole _) slabsM cc0_scratch6) l) ⟨⟩
    iprop(allOf (fun j => given m c (.r1 j)) l ∗ due c (oweRow c seven)) :=
  does_inOrder c (facts m K) _ _ _ (fun _ => due c (oweRow c seven)) (fun j is => does_gotLoc m K c j _ (above_row (by decide) c _)) l

theorem loop_sentLoc (l : List (Fin 3)) : Does c iprop(facts m K ∗ allOf (fun j => ready c (.s1 j)) l ∗ due c (oweBye c ten))
    (inOrder (sentLoc locM (Memref.isWhole_whole _) slabsM cc0_scratch5) l) ⟨⟩
    iprop(allOf (fun j => given m c (.s1 j)) l ∗ due c (oweBye c ten)) :=
  does_inOrder c (facts m K) _ _ _ (fun _ => due c (oweBye c ten)) (fun j is => does_sentLoc m K c j _ (above_bye (by decide) c _)) l

theorem loop_gotRow (l : List (Fin 7)) : Does c iprop(facts m K ∗ allOf (fun j => ready c (.r2 j)) l ∗ due c (oweBye c ten))
    (inOrder (gotRow tableM cc0_scratch8 c) l) ⟨⟩
    iprop(allOf (fun j => given m c (.r2 j)) l ∗ due c (oweBye c ten)) :=
  does_inOrder c (facts m K) _ _ _ (fun _ => due c (oweBye c ten)) (fun j is => does_gotRow m K c j _ (above_bye (by decide) c _)) l

theorem loop_sentRow (l : List (Fin 7)) : Does c iprop(facts m K ∗ allOf (fun j => ready c (.s2 j)) l ∗ due c (oweBye c ten))
    (inOrder (gotRow tableM cc0_scratch7 c) l) ⟨⟩
    iprop(allOf (fun j => given m c (.s2 j)) l ∗ due c (oweBye c ten)) :=
  does_inOrder c (facts m K) _ _ _ (fun _ => due c (oweBye c ten)) (fun j is => does_sentRow m K c j _ (above_bye (by decide) c _)) l

/-! ## The table of the merged lists -/

/-- The share of a slot held while the table is read. -/
def slotShare (q : Fin 8) : PosShare TreeShare := if q = ring c then rowShare 7 else fullShare

/-- A slot of the table. -/
def slotHas (q : Fin 8) : sProp 𝕄 := has c (slotM q) (slotShare c q) (row m (at8 q c))

/-- A place, as how far it lies behind another, and back. -/
def behind (r : Fin 8) : Fin 8 ≃ Fin 8 :=
  ⟨fun i => r - i, fun i => r - i, by revert r; decide, by revert r; decide⟩

theorem behind_zero : ∀ r : Fin 8, r - 0 = r := by decide
theorem behind_succ : ∀ (r : Fin 8) (j : Fin 7), r - j.succ ≠ r := by decide

/-- The own slot and those received make up the table. -/
theorem table_eq : allOf (slotHas m c) eight
    = iprop(has c (slotM (ring c)) (rowShare 7) (row m c) ∗ allOf (fun j => pay m c (.r2 j) 0) seven) := by
  rw [← allOf_univ (slotHas m c) eight (by decide) (by decide), bigSep_univ_equiv (behind (ring c)),
    allOf_univ _ eight (by decide) (by decide)]
  have e0 : slotHas m c (behind (ring c) 0) = has c (slotM (ring c)) (rowShare 7) (row m c) := by
    rw [show behind (ring c) 0 = ring c from behind_zero _]
    unfold slotHas slotShare
    rw [if_pos rfl, at8_ring]
  have e7 : ∀ j : Fin 7, slotHas m c (behind (ring c) j.succ) = pay m c (.r2 j) 0 := fun j => by
    rw [show behind (ring c) j.succ = ring c - j.succ from rfl]
    unfold slotHas slotShare
    rw [if_neg (behind_succ (ring c) j), at8_back]
    dsimp only [pay]
    rw [ring_back]
  rw [← e0, show (fun j => pay m c (.r2 j) 0) = fun j => slotHas m c (behind (ring c) j.succ) from funext fun j => (e7 j).symm]
  generalize slotHas m c = Φ
  rfl

/-! ## The whole body -/

/-- The device's number. -/
theorem does_deviceId : Does c (iprop(emp) : sProp 𝕄) (Prog.lift .deviceId : Bd F (Dev nD)) c iprop(emp) := fun k Kt => by
  show _ ⊢ iprop(_ -∗ wpB c (Prog.op .deviceId k) Kt)
  unfold wpB
  rw [wp_deviceId]
  iintro - Hk
  iapply Hk
  iempintro

theorem does_keepOwn : Does c (free c locM) (keepLoc locM (loc (xs m c 0) (xs m c 1))) ⟨⟩ (has c locM fullShare (ownList m c)) :=
  does_keepLoc c _

theorem does_readTable (q : Fin 8) : Does c (slotHas m c q) (readSlot tableM q) (raised (row m (at8 q c))) (slotHas m c q) :=
  does_readSlot c q _ _

theorem does_keepMerged : Does c (free c (slotM (ring c))) (keepRow tableM c (merged (xs m c 0) (xs m c 1) (raised (heardList m c 0))
      (raised (heardList m c 1)) (raised (heardList m c 2)))) ⟨⟩ (has c (slotM (ring c)) fullShare (row m c)) :=
  does_keepRow c _

theorem does_keepResult : Does c (free c outM) (keepOut outM (outOf ![raised (row m (at8 0 c)), raised (row m (at8 1 c)), raised (row m (at8 2 c)),
      raised (row m (at8 3 c)), raised (row m (at8 4 c)), raised (row m (at8 5 c)), raised (row m (at8 6 c)), raised (row m (at8 7 c))])) ⟨⟩
    (has c outM fullShare (result m c)) :=
  does_keepOut c _

/-- What a device holds before its body, what it owes aside. -/
def before : sProp 𝕄 := iprop(
  allOf (fun k => iprop(dutyTok ER (cell .bar (peer k c)) 0 k ∗ room (F := F) c (back k))) ten
  ∗ allOf (fun h => iprop(argPart m c h ∗ free c (halfM h) ∗ dutyTok ER (cell (.cp h) c) 0 0)) two
  ∗ (free c locM ∗ free c (slotM (ring c)) ∗ free c outM)
  ∗ allOf (fun h => atPos ER (cell (.cp h) c) 0 ∅ 0) two
  ∗ (cred (tallyAt (cell .bar c) () 10) ∗ atPos ER (cell .bar c) 0 ∅ 0)
  ∗ (cred (tallyAt (cell .fin c) () 10) ∗ atPos ER (cell .fin c) 0 ∅ 0)
  ∗ allOf (fun j => iprop(dutyTok ER (cell (.s1 j) c) 0 0 ∗ dutyTok ER (cell (.r1 j) (peer (k3 j) c)) 0 0)) three
  ∗ allOf (fun j => iprop(dutyTok ER (cell (.s2 j) c) 0 0 ∗ dutyTok ER (cell (.r2 j) (peer (k7 j) c)) 0 0)) seven
  ∗ allOf (fun j => ready c (.r1 j)) three
  ∗ allOf (fun j => ready c (.r2 j)) seven
  ∗ allOf (fun j => atPos ER (cell (.s1 j) c) 0 ∅ 0) three
  ∗ allOf (fun j => atPos ER (cell (.s2 j) c) 0 ∅ 0) seven
  ∗ allOf (fun k => dutyTok ER (cell .fin (peer k c)) 0 k) ten)

/-- What it holds after, what it owes aside: the result, its buffers, and every semaphore back at nothing. -/
def after : sProp 𝕄 := iprop(
  has c outM fullShare (result m c)
  ∗ semVal (cell .bar c) 0 ∗ semVal (cell .fin c) 0
  ∗ allOf (fun h => given m c (.cp h)) two
  ∗ allOf (fun j => given m c (.s1 j)) three
  ∗ allOf (fun j => given m c (.r1 j)) three
  ∗ allOf (fun j => given m c (.s2 j)) seven
  ∗ allOf (fun j => given m c (.r2 j)) seven
  ∗ has c (slotM (ring c)) (rowShare 7) (row m c))

/-- The own list is dealt to the sends. -/
theorem loc_deal : has c locM fullShare (ownList m c) ⊢ allOf (fun j => has c locM (locShare j) (ownList m c)) three := by
  rw [has_deal (n := 3), allOf_univ _ three (by decide) (by decide)]
  exact Entails.refl _

/-- The own slot is dealt to the sends, the last share kept. -/
theorem row_deal : has c (slotM (ring c)) fullShare (row m c)
    ⊢ iprop(allOf (fun j : Fin 7 => has c (slotM (ring c)) (rowShare j.castSucc) (row m c)) seven ∗ has c (slotM (ring c)) (rowShare 7) (row m c)) := by
  rw [has_deal (n := 8), allOf_univ _ eight (by decide) (by decide)]
  generalize slotM (ring c) = M
  show allOf (fun j => has c M (rowShare j) (row m c)) eight ⊢ _
  simp only [allOf]
  iintro ⟨H0, H1, H2, H3, H4, H5, H6, H7, -⟩
  isplitr [H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iempintro
  iexact H7

theorem pay_cp (h : Fin 2) : pay m c (.cp h) 0 ⊢ iprop(has c (halfM h) fullShare (xs m c h) ∗ argPart m c h) := Entails.refl _

theorem pay_r1 (j : Fin 3) : pay m c (.r1 j) 0 ⊢ has c (slabM j) fullShare (heardList m c j) := Entails.refl _

theorem got_two : allOf (fun j => given m c (.r1 j)) [1, 2]
    ⊢ iprop((semVal (cell (.r1 1) c) 0 ∗ has c (slabM 1) fullShare (heardList m c 1))
      ∗ (semVal (cell (.r1 2) c) 0 ∗ has c (slabM 2) fullShare (heardList m c 2))) := by
  unfold allOf allOf allOf given
  iintro ⟨H1, H2, -⟩
  isplitl [H1]; · iexact H1
  iexact H2

theorem allOf_cons {ι : Type} (Φ : ι → sProp 𝕄) (i : ι) (l : List ι) : allOf Φ (i :: l) ⊢ iprop(Φ i ∗ allOf Φ l) := Entails.refl _

theorem allOf_two (Φ : Fin 2 → sProp 𝕄) : allOf Φ two ⊢ iprop(Φ 0 ∗ Φ 1 ∗ emp) := Entails.refl _

theorem allOf_eight (Φ : Fin 8 → sProp 𝕄) :
    allOf Φ eight ⊢ iprop(Φ 0 ∗ Φ 1 ∗ Φ 2 ∗ Φ 3 ∗ Φ 4 ∗ Φ 5 ∗ Φ 6 ∗ Φ 7 ∗ emp) := Entails.refl _

theorem allOf_table : iprop(slotHas m c 0 ∗ slotHas m c 1 ∗ slotHas m c 2 ∗ slotHas m c 3 ∗ slotHas m c 4 ∗ slotHas m c 5 ∗ slotHas m c 6 ∗ slotHas m c 7)
    ⊢ iprop(has c (slotM (ring c)) (rowShare 7) (row m c) ∗ allOf (fun j => pay m c (.r2 j) 0) seven) := by
  rw [← table_eq]
  generalize slotHas m c = Φ
  show _ ⊢ iprop(Φ 0 ∗ Φ 1 ∗ Φ 2 ∗ Φ 3 ∗ Φ 4 ∗ Φ 5 ∗ Φ 6 ∗ Φ 7 ∗ emp)
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

theorem given_two : iprop((semVal (cell (.cp 0) c) 0 ∗ has c (halfM 0) fullShare (xs m c 0) ∗ argPart m c 0)
      ∗ (semVal (cell (.cp 1) c) 0 ∗ has c (halfM 1) fullShare (xs m c 1) ∗ argPart m c 1))
    ⊢ allOf (fun h => given m c (.cp h)) two := by
  show _ ⊢ iprop((semVal (cell (.cp 0) c) 0 ∗ has c (halfM 0) fullShare (xs m c 0) ∗ argPart m c 0)
      ∗ (semVal (cell (.cp 1) c) 0 ∗ has c (halfM 1) fullShare (xs m c 1) ∗ argPart m c 1) ∗ emp)
  iintro ⟨H1, H2⟩
  isplitl [H1]; · iexact H1
  isplitl [H2]; · iexact H2
  iempintro

theorem given_three : iprop((semVal (cell (.r1 0) c) 0 ∗ has c (slabM 0) fullShare (heardList m c 0))
      ∗ (semVal (cell (.r1 1) c) 0 ∗ has c (slabM 1) fullShare (heardList m c 1))
      ∗ (semVal (cell (.r1 2) c) 0 ∗ has c (slabM 2) fullShare (heardList m c 2)))
    ⊢ allOf (fun j => given m c (.r1 j)) three := by
  show _ ⊢ iprop((semVal (cell (.r1 0) c) 0 ∗ has c (slabM 0) fullShare (heardList m c 0))
      ∗ (semVal (cell (.r1 1) c) 0 ∗ has c (slabM 1) fullShare (heardList m c 1))
      ∗ (semVal (cell (.r1 2) c) 0 ∗ has c (slabM 2) fullShare (heardList m c 2)) ∗ emp)
  iintro ⟨H1, H2, H3⟩
  isplitl [H1]; · iexact H1
  isplitl [H2]; · iexact H2
  isplitl [H3]; · iexact H3
  iempintro

theorem ret_intro (Kt : PUnit → sProp 𝕄) : Kt ⟨⟩ ⊢ wpB c (Prog.ret ⟨⟩ : Bd F PUnit) Kt := by
  unfold wpB
  rw [wp_ret]
  exact fupd_intro

theorem sound (Kt : PUnit → sProp 𝕄) : iprop(facts m K ∗ due c (O₀ c) ∗ before m c)
    ⊢ iprop((iprop(due c 0 ∗ after m c) -∗ Kt ⟨⟩) -∗ wpB c (steps (F := F) argM outM rowsM locM (Memref.isWhole_whole _) slabsM tableM
        cc0_scratch4 cc0_scratch5 cc0_scratch6 cc0_scratch7 cc0_scratch8 cc0_scoped0) Kt) := by
  unfold before after steps
  iintro ⟨#HF, HO, HB1, HB2, ⟨Hl, Hs, Ho⟩, Hpc, Hbar, Hfin, HT1, HT2, HR1, HR2, HP1, HP2, HBT⟩ Hk
  iapply (does_deviceId (F := F) c _ Kt) $$ []
  · iempintro
  iintro -
  iapply (loop_hello m K c _ Kt) $$ [HB1 HO]
  · isplitr; · iexact HF
    isplitl [HB1]; · iexact HB1
    iexact HO
  iintro HO
  iapply (loop_fetch m K c _ Kt) $$ [HB2]
  · isplitr; · iexact HF
    iexact HB2
  iintro HC
  ihave HC := (allOf_zip (F := F) _ _ two) $$ [HC Hpc]
  · isplitl [HC]; · iexact HC
    iexact Hpc
  ihave HC := (allOf_two (F := F) _) $$ HC
  icases HC with ⟨HC0, HC1, -⟩
  iapply (does_fetched m K c 0 (oweLoc c three) (above_loc (by decide) c _) _ Kt) $$ [HC0 HO]
  · isplitr; · iexact HF
    isplitl [HC0]; · iexact HC0
    iexact HO
  iintro ⟨⟨Hz0, Hx⟩, HO⟩
  ihave Hx := (pay_cp m c 0) $$ Hx
  icases Hx with ⟨Hx, Ha0⟩
  iapply (does_readHalf c 0 fullShare (xs m c 0) _ Kt) $$ Hx
  iintro Hx
  iapply (does_fetched m K c 1 (oweLoc c three) (above_loc (by decide) c _) _ Kt) $$ [HC1 HO]
  · isplitr; · iexact HF
    isplitl [HC1]; · iexact HC1
    iexact HO
  iintro ⟨⟨Hz1, Hy⟩, HO⟩
  ihave Hy := (pay_cp m c 1) $$ Hy
  icases Hy with ⟨Hy, Ha1⟩
  iapply (does_readHalf c 1 fullShare (xs m c 1) _ Kt) $$ Hy
  iintro Hy
  iapply (does_keepOwn m c _ Kt) $$ Hl
  iintro Hl
  icases Hbar with ⟨Hbc, Hba⟩
  iapply (does_greeted m K c (oweLoc c three) (above_loc (by decide) c _) _ Kt) $$ [HO Hbc Hba]
  · isplitr; · iexact HF
    isplitl [Hbc]; · iexact Hbc
    isplitl [HO]; · iexact HO
    iexact Hba
  iintro ⟨HO, Hzb, Hroom⟩
  ihave Hroom := (greeted_rooms (F := F) m c) $$ Hroom
  icases Hroom with ⟨Hr3, Hr7⟩
  ihave Hl := (loc_deal m c) $$ Hl
  iapply (loop_sendLoc m K c _ Kt) $$ [HO Hl Hr3 HT1]
  · isplitr; · iexact HF
    isplitr [HO]
    · iapply (allOf_zip (F := F) _ _ three)
      isplitl [Hl]; · iexact Hl
      iapply (allOf_zip (F := F) _ _ three)
      isplitl [Hr3]; · iexact Hr3
      iexact HT1
    iexact HO
  iintro ⟨HC1, HO⟩
  ihave HP1 := (allOf_zip (F := F) _ _ three) $$ [HC1 HP1]
  · isplitl [HC1]; · iexact HC1
    iexact HP1
  ihave HR1 := (allOf_cons (F := F) _ _ _) $$ HR1
  icases HR1 with ⟨Hr, HR1⟩
  iapply (does_gotLoc m K c 0 (oweRow c seven) (above_row (by decide) c _) _ Kt) $$ [Hr HO]
  · isplitr; · iexact HF
    isplitl [Hr]; · iexact Hr
    iexact HO
  iintro ⟨⟨Hzu, Hu⟩, HO⟩
  ihave Hu := (pay_r1 m c 0) $$ Hu
  iapply (does_readSlab c 0 fullShare (heardList m c 0) _ Kt) $$ Hu
  iintro Hu
  iapply (loop_gotLoc m K c [1, 2] _ Kt) $$ [HR1 HO]
  · isplitr; · iexact HF
    isplitl [HR1]; · iexact HR1
    iexact HO
  iintro ⟨HR1, HO⟩
  ihave HR1 := (got_two m c) $$ HR1
  icases HR1 with ⟨⟨Hzv, Hv⟩, Hzw, Hw⟩
  iapply (does_readSlab c 1 fullShare (heardList m c 1) _ Kt) $$ Hv
  iintro Hv
  iapply (does_readSlab c 2 fullShare (heardList m c 2) _ Kt) $$ Hw
  iintro Hw
  iapply (does_keepMerged m c _ Kt) $$ Hs
  iintro Hs
  ihave Hs := (row_deal m c) $$ Hs
  icases Hs with ⟨Hs, Hs8⟩
  iapply (loop_sendRow m K c _ Kt) $$ [HO Hs Hr7 HT2]
  · isplitr; · iexact HF
    isplitr [HO]
    · iapply (allOf_zip (F := F) _ _ seven)
      isplitl [Hs]; · iexact Hs
      iapply (allOf_zip (F := F) _ _ seven)
      isplitl [Hr7]; · iexact Hr7
      iexact HT2
    iexact HO
  iintro ⟨HC2, HO⟩
  ihave HP2 := (allOf_zip (F := F) _ _ seven) $$ [HC2 HP2]
  · isplitl [HC2]; · iexact HC2
    iexact HP2
  iapply (loop_gotRow m K c seven _ Kt) $$ [HR2 HO]
  · isplitr; · iexact HF
    isplitl [HR2]; · iexact HR2
    iexact HO
  iintro ⟨HR2, HO⟩
  ihave HR2 := (allOf_unzip (F := F) (fun j => semVal (cell (.r2 j) c) 0) (fun j => pay m c (.r2 j) 0) seven) $$ HR2
  icases HR2 with ⟨Hz7, HR2⟩
  ihave HT := (Entails.of_eq (table_eq m c).symm) $$ [Hs8 HR2]
  · isplitl [Hs8]; · iexact Hs8
    iexact HR2
  ihave HT := (allOf_eight (F := F) _) $$ HT
  icases HT with ⟨H0, H1, H2, H3, H4, H5, H6, H7, -⟩
  iapply (does_readTable m c 0 _ Kt) $$ H0
  iintro H0
  iapply (does_readTable m c 1 _ Kt) $$ H1
  iintro H1
  iapply (does_readTable m c 2 _ Kt) $$ H2
  iintro H2
  iapply (does_readTable m c 3 _ Kt) $$ H3
  iintro H3
  iapply (does_readTable m c 4 _ Kt) $$ H4
  iintro H4
  iapply (does_readTable m c 5 _ Kt) $$ H5
  iintro H5
  iapply (does_readTable m c 6 _ Kt) $$ H6
  iintro H6
  iapply (does_readTable m c 7 _ Kt) $$ H7
  iintro H7
  iapply (does_keepResult m c _ Kt) $$ Ho
  iintro Ho
  iapply (loop_sentLoc m K c three _ Kt) $$ [HP1 HO]
  · isplitr; · iexact HF
    isplitl [HP1]; · iexact HP1
    iexact HO
  iintro ⟨HP1, HO⟩
  iapply (loop_sentRow m K c seven _ Kt) $$ [HP2 HO]
  · isplitr; · iexact HF
    isplitl [HP2]; · iexact HP2
    iexact HO
  iintro ⟨HP2, HO⟩
  iapply (loop_bye m K c _ Kt) $$ [HBT HO]
  · isplitr; · iexact HF
    isplitl [HBT]; · iexact HBT
    iexact HO
  iintro HO
  icases Hfin with ⟨Hfc, Hfa⟩
  iapply (does_left m K c 0 (above_zero 4) Prog.ret Kt) $$ [HO Hfc Hfa]
  · isplitr; · iexact HF
    isplitl [Hfc]; · iexact Hfc
    isplitl [HO]; · iexact HO
    iexact Hfa
  iintro ⟨HO, Hzf, -⟩
  iapply (ret_intro (F := F) c Kt)
  iapply Hk
  isplitl [HO]; · iexact HO
  ihave HT := (allOf_table m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  icases HT with ⟨Hs8, HR2⟩
  isplitl [Ho]; · iexact Ho
  isplitl [Hzb]; · iexact Hzb
  isplitl [Hzf]; · iexact Hzf
  isplitl [Hz0 Hx Ha0 Hz1 Hy Ha1]
  · iapply (given_two m c)
    isplitl [Hz0 Hx Ha0]
    · isplitl [Hz0]; · iexact Hz0
      isplitl [Hx] <;> iassumption
    isplitl [Hz1]; · iexact Hz1
    isplitl [Hy] <;> iassumption
  isplitl [HP1]; · iexact HP1
  isplitl [Hzu Hu Hzv Hv Hzw Hw]
  · iapply (given_three m c)
    isplitl [Hzu Hu]
    · isplitl [Hzu] <;> iassumption
    isplitl [Hzv Hv]
    · isplitl [Hzv] <;> iassumption
    isplitl [Hzw] <;> iassumption
  isplitl [HP2]; · iexact HP2
  isplitl [Hz7 HR2]
  · iapply (allOf_zip (F := F) (fun j => semVal (cell (.r2 j) c) 0) (fun j => pay m c (.r2 j) 0) seven)
    isplitl [Hz7] <;> iassumption
  iexact Hs8

end Cert.TopK

end
-- ==== Proof.Rooms.lean ====
module

public import proofs.«01_k».proof.Proof.Run
public import proofs.«01_k».proof.Proof.Gen.KernelIdeal.Launch
public import Idealize.ShloMosaic.Lib.Ring

@[expose] public section

noncomputable section

/-!
# The buffers of a device, whole and in pieces

The launch hands over whole buffers, the body holds halves, slabs and slots of them: each way between the two.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists lead_disjoint lead_cover)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- A buffer held whole, whatever it holds. -/
def whole (b : Ref sig .tc) : sProp 𝕄 :=
  iprop(∃ f : Buf (Elt F) ((c : Thread nD τ).loc b), ((c : Thread nD τ).loc b) ↦{fullShare} f)

/-- Pieces of a buffer that share nothing and leave nothing out: the buffer gives them, -/
theorem whole_split {ℓ : Loc nD τ sig} {n : ℕ} (I : Fin n → Finset (Idx ℓ)) (hd : ∀ b b', b ≠ b' → Disjoint (I b) (I b'))
    (hc : Finset.univ.biUnion I = Finset.univ) :
    (iprop(∃ f : Buf (Elt F) ℓ, ℓ ↦{fullShare} f) : sProp 𝕄)
      ⊢ bigSep Finset.univ fun b => iprop(∃ f : Buf (Elt F) ℓ, ℓ ↦[I b]{fullShare} f) := by
  have h : ∀ f : Buf (Elt F) ℓ, (ℓ ↦{fullShare} f : sProp 𝕄) ⊢ bigSep Finset.univ fun b => iprop(∃ f : Buf (Elt F) ℓ, ℓ ↦[I b]{fullShare} f) := fun f => by
    rw [pointsTo_blocks I hd hc f]
    exact bigSep_mono fun b _ => show (ℓ ↦[I b]{fullShare} f : sProp 𝕄) ⊢ iprop(∃ f : Buf (Elt F) ℓ, ℓ ↦[I b]{fullShare} f) by
      iintro H; iexists f; iexact H
  iintro ⟨%f, H⟩
  iapply (h f)
  iexact H

/-- and is made of them. -/
theorem whole_join (b : Ref sig .tc) {n : ℕ} (I : Fin n → Finset (Idx ((c : Thread nD τ).loc b))) (hd : ∀ b b', b ≠ b' → Disjoint (I b) (I b'))
    (hc : Finset.univ.biUnion I = Finset.univ) :
    (bigSep Finset.univ fun q => iprop(∃ f : Buf (Elt F) ((c : Thread nD τ).loc b), ((c : Thread nD τ).loc b) ↦[I q]{fullShare} f) : sProp 𝕄)
      ⊢ whole c b :=
  pointsTo_blocks_join_exists I hd hc (fun _ => Classical.choice (elt_nonempty (F := F) _))

theorem half_set (h : Fin 2) : (halfM h).view.set = (Rect.unit (s := S128x8192) ![64 * h.val, 0] S64x8192.size (half_in h)).set :=
  View.set_slice_whole _ _

theorem slab_set (j : Fin 3) : (slabM j).view.set = (Rect.unit (s := S3x32x128) ![j.val, 0, 0] S1x32x128.size (slab_in j)).set :=
  (View.set_reshape _ _).trans (View.set_slice_whole _ _)

theorem slot_set (q : Fin 8) : (slotM q).view.set = (Rect.unit (s := S8x32x128) ![q.val, 0, 0] S1x32x128.size (slot_in q)).set :=
  (View.set_reshape _ _).trans (View.set_slice_whole _ _)

theorem half_disjoint (h h' : Fin 2) (e : h ≠ h') : Disjoint (halfM h).view.set (halfM h').view.set := by
  rw [half_set, half_set]
  exact lead_disjoint (s := S128x8192) (0 : Fin 2) 64 (fun h : Fin 2 => ![64 * h.val, 0]) S64x8192.size half_in (fun _ => rfl) rfl h h' e

theorem half_cover : (Finset.univ.biUnion (fun h => (halfM h).view.set) : Finset (halfM 0).view.ty.Idx) = Finset.univ := by
  rw [show (fun h => (halfM h).view.set) = _ from funext half_set]
  exact lead_cover (s := S128x8192) (0 : Fin 2) 64 (fun h : Fin 2 => ![64 * h.val, 0]) S64x8192.size half_in (fun _ => rfl) (by decide) rfl (by decide) (by decide)

theorem slab_disjoint (j j' : Fin 3) (e : j ≠ j') : Disjoint (slabM j).view.set (slabM j').view.set := by
  rw [slab_set, slab_set]
  exact lead_disjoint (s := S3x32x128) (0 : Fin 3) 1 (fun j : Fin 3 => ![j.val, 0, 0]) S1x32x128.size slab_in (by decide) rfl j j' e

theorem slab_cover : (Finset.univ.biUnion (fun j => (slabM j).view.set) : Finset (slabM 0).view.ty.Idx) = Finset.univ := by
  rw [show (fun j => (slabM j).view.set) = _ from funext slab_set]
  exact lead_cover (s := S3x32x128) (0 : Fin 3) 1 (fun j : Fin 3 => ![j.val, 0, 0]) S1x32x128.size slab_in (by decide) (by decide) rfl (by decide) (by decide)

theorem slot_disjoint (q q' : Fin 8) (e : q ≠ q') : Disjoint (slotM q).view.set (slotM q').view.set := by
  rw [slot_set, slot_set]
  exact lead_disjoint (s := S8x32x128) (0 : Fin 3) 1 (fun q : Fin 8 => ![q.val, 0, 0]) S1x32x128.size slot_in (by decide) rfl q q' e

theorem slot_cover : (Finset.univ.biUnion (fun q => (slotM q).view.set) : Finset (slotM 0).view.ty.Idx) = Finset.univ := by
  rw [show (fun q => (slotM q).view.set) = _ from funext slot_set]
  exact lead_cover (s := S8x32x128) (0 : Fin 3) 1 (fun q : Fin 8 => ![q.val, 0, 0]) S1x32x128.size slot_in (by decide) (by decide) rfl (by decide) (by decide)

theorem halves_of : whole c cc0_scratch0 ⊢ allOf (fun h => free (F := F) c (halfM h)) two := by
  rw [← allOf_univ _ two (by decide) (by decide)]
  exact whole_split (ℓ := (c : Thread nD τ).loc cc0_scratch0) (fun h => (halfM h).view.set) half_disjoint half_cover

theorem halves_to : allOf (fun h => free (F := F) c (halfM h)) two ⊢ whole c cc0_scratch0 := by
  rw [← allOf_univ _ two (by decide) (by decide)]
  exact whole_join c cc0_scratch0 (fun h => (halfM h).view.set) half_disjoint half_cover

theorem slabs_of : whole c cc0_scratch2 ⊢ allOf (fun j => free (F := F) c (slabM j)) three := by
  rw [← allOf_univ _ three (by decide) (by decide)]
  exact whole_split (ℓ := (c : Thread nD τ).loc cc0_scratch2) (fun j => (slabM j).view.set) slab_disjoint slab_cover

theorem slabs_to : allOf (fun j => free (F := F) c (slabM j)) three ⊢ whole c cc0_scratch2 := by
  rw [← allOf_univ _ three (by decide) (by decide)]
  exact whole_join c cc0_scratch2 (fun j => (slabM j).view.set) slab_disjoint slab_cover

/-- The eight places from one on. -/
theorem from_eq (Φ : Fin 8 → sProp 𝕄) (r : Fin 8) : bigSep Finset.univ Φ = iprop(Φ r ∗ allOf (fun j : Fin 7 => Φ (r - j.succ)) seven) := by
  rw [bigSep_univ_equiv (behind r), allOf_univ _ eight (by decide) (by decide)]
  have e0 : Φ (behind r 0) = Φ r := by rw [show behind r 0 = r from behind_zero _]
  rw [← e0]
  rfl

/-- The table, from the own slot on. -/
theorem slots_eq : (bigSep Finset.univ fun q => free (F := F) c (slotM q))
    = iprop(free (F := F) c (slotM (ring c)) ∗ allOf (fun j : Fin 7 => free (F := F) c (slotM (ring c - j.succ))) seven) :=
  from_eq (fun q => free (F := F) c (slotM q)) (ring c)

theorem slots_of : whole c cc0_scratch3
    ⊢ iprop(free (F := F) c (slotM (ring c)) ∗ allOf (fun j : Fin 7 => free (F := F) c (slotM (ring c - j.succ))) seven) := by
  rw [← slots_eq]
  exact whole_split (ℓ := (c : Thread nD τ).loc cc0_scratch3) (fun q => (slotM q).view.set) slot_disjoint slot_cover

theorem slots_to : iprop(free (F := F) c (slotM (ring c)) ∗ allOf (fun j : Fin 7 => free (F := F) c (slotM (ring c - j.succ))) seven)
    ⊢ whole c cc0_scratch3 := by
  rw [← slots_eq]
  exact whole_join c cc0_scratch3 (fun q => (slotM q).view.set) slot_disjoint slot_cover

theorem loc_of : whole c cc0_scratch1 ⊢ free (F := F) c locM := by
  unfold free
  rw [show locM.view.set = Finset.univ from View.set_whole _]
  exact Entails.refl _

theorem loc_whole : free (F := F) c locM ⊢ whole c cc0_scratch1 := by
  unfold free
  rw [show locM.view.set = Finset.univ from View.set_whole _]
  exact Entails.refl _

/-- The rooms that a device gives its peers are its slabs and the slots of the others. -/
theorem rooms_eq : allOf (fun k => room (F := F) c (back k)) ten
    = allOf (fun k => room (F := F) c k) ten := by
  rw [← allOf_univ _ ten (by decide) (by decide), ← allOf_univ _ ten (by decide) (by decide), bigSep_univ_equiv backEquiv]
  exact bigSep_congr fun k _ => by rw [show back (backEquiv k) = k from back_back k]

theorem rooms_of : iprop(allOf (fun j => free (F := F) c (slabM j)) three ∗ allOf (fun j : Fin 7 => free (F := F) c (slotM (ring c - j.succ))) seven)
    ⊢ allOf (fun k => room (F := F) c (back k)) ten := by
  rw [rooms_eq]
  have e3 : ∀ j : Fin 3, free (F := F) c (slabM j) = room c (k3 j) := fun j => by
    unfold room; rw [dif_pos (show (k3 j).val < 3 from j.isLt)]; rfl
  have e7 : ∀ j : Fin 7, free (F := F) c (slotM (ring c - j.succ)) = room c (k7 j) := fun j => by
    unfold room; rw [dif_neg (show ¬ (k7 j).val < 3 from by show ¬ j.val + 3 < 3; omega), ring_back]
  rw [show (fun j => free (F := F) c (slabM j)) = fun j => room c (k3 j) from funext e3,
    show (fun j : Fin 7 => free (F := F) c (slotM (ring c - j.succ))) = fun j => room c (k7 j) from funext e7]
  generalize room c = Φ
  show _ ⊢ allOf _ [k3 0, k3 1, k3 2, k7 0, k7 1, k7 2, k7 3, k7 4, k7 5, k7 6]
  simp only [allOf]
  iintro ⟨⟨H0, H1, H2, -⟩, H⟩
  isplitl [H0]; · iexact H0
  isplitl [H1]; · iexact H1
  isplitl [H2]; · iexact H2
  iexact H

/-! ## The argument -/

/-- What is left of the argument beside the rows that the copies read. -/
def argRest : sProp 𝕄 :=
  allOf (fun h => (rowsOf argM c h).view.loc (c : Thread nD τ) ↦[Finset.univ \ (rowsOf argM c h).view.set]{argShare h} argBuf m c h) two

theorem arg_eq : ((((c : Thread nD τ).loc main_arg0) ↦{fullShare} m ((c : Thread nD τ).loc main_arg0)) : sProp 𝕄)
    = iprop(allOf (fun h => argPart m c h) two ∗ argRest m c) := by
  rw [Transfers.pointsTo_deal (Finset.univ : Finset (Fin 2)) Finset.univ_nonempty fullShare, allOf_univ _ two (by decide) (by decide)]
  have e : ∀ h : Fin 2, ((((c : Thread nD τ).loc main_arg0) ↦{Transfers.dealOf fullShare Finset.univ h} m ((c : Thread nD τ).loc main_arg0)) : sProp 𝕄)
      = iprop(argPart m c h ∗ (rowsOf argM c h).view.loc (c : Thread nD τ) ↦[Finset.univ \ (rowsOf argM c h).view.set]{argShare h} argBuf m c h) := fun h =>
    Entails.antisymm (pointsTo_split_subset (Finset.subset_univ (rowsOf argM c h).view.set)).1
      (pointsTo_split_subset (Finset.subset_univ (rowsOf argM c h).view.set)).2
  rw [show (fun h : Fin 2 => ((((c : Thread nD τ).loc main_arg0) ↦{Transfers.dealOf fullShare Finset.univ h} m ((c : Thread nD τ).loc main_arg0)) : sProp 𝕄)) = _ from funext e]
  unfold argRest
  refine Entails.antisymm (allOf_unzip _ _ two) (allOf_zip _ _ two)

/-! ## What the body leaves -/

theorem free_of (M : sProp 𝕄) {sp : Space} {s : Shape} (N : Memref sig .tc sp s .f32) (Z : Vec F s .f32) : has c N fullShare Z ⊢ free c N := by
  unfold has free
  iintro H
  iexists _
  iexact H

theorem loc_back : allOf (fun j => has c locM (locShare j) (ownList m c)) three ⊢ whole c cc0_scratch1 := by
  refine BIBase.Entails.trans ?_ (loc_whole c)
  refine BIBase.Entails.trans ?_ (free_of c iprop(emp) locM (ownList m c))
  rw [has_deal (n := 3), allOf_univ _ three (by decide) (by decide)]
  exact Entails.refl _

theorem row_back : iprop(allOf (fun j : Fin 7 => has c (slotM (ring c)) (rowShare j.castSucc) (row m c)) seven ∗ has c (slotM (ring c)) (rowShare 7) (row m c))
    ⊢ free c (slotM (ring c)) := by
  refine BIBase.Entails.trans ?_ (free_of c iprop(emp) (slotM (ring c)) (row m c))
  rw [has_deal (n := 8), allOf_univ _ eight (by decide) (by decide)]
  generalize slotM (ring c) = M
  show _ ⊢ allOf (fun j => has c M (rowShare j) (row m c)) eight
  simp only [allOf]
  iintro ⟨⟨H0, H1, H2, H3, H4, H5, H6, -⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

theorem heard_back : allOf (fun j => pay m c (.r1 j) 0) three ⊢ whole c cc0_scratch2 :=
  BIBase.Entails.trans (allOf_mono (fun j => free_of c iprop(emp) (slabM j) (heardList m c j)) three) (slabs_to c)

theorem table_back : iprop(free (F := F) c (slotM (ring c)) ∗ allOf (fun j => pay m c (.r2 j) 0) seven) ⊢ whole c cc0_scratch3 := by
  refine BIBase.Entails.trans ?_ (slots_to c)
  iintro ⟨H1, H2⟩
  isplitl [H1]; · iexact H1
  iapply (allOf_mono (fun j => show pay m c (.r2 j) 0 ⊢ free c (slotM (ring c - j.succ)) from by
    rw [← ring_back]; exact free_of c iprop(emp) _ _) seven)
  iexact H2

end Cert.TopK

end
-- ==== Proof.Fund.lean ====
module

public import proofs.«01_k».proof.Proof.Rooms
public import Idealize.ShloMosaic.Lib.Pipeline.CollectiveSegs

@[expose] public section

noncomputable section

/-!
# What the launch provides

The cells' records, the places and the tokens are made at launch for all devices at once, the tokens then dealt to the
devices that pay with them; the credit that the launch gives is what the waits need.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Semaphores -/

/-- A kernel's own semaphores, by number. -/
def osem (i : Fin 23) : SemLoc sig := numOf (scopedRoles[i.val]'i.isLt)

theorem ownSemFacts : Pipeline.OwnSemFacts cfg0.spec osem := by decide +kernel

theorem allOf_append {ι : Type} (Φ : ι → sProp 𝕄) (l l' : List ι) : allOf Φ (l ++ l') = iprop(allOf Φ l ∗ allOf Φ l') := by
  rw [allOf_eq, allOf_eq, allOf_eq, bigSepL_append]

theorem allOf_map {ι κ : Type} (f : ι → κ) (Φ : κ → sProp 𝕄) : ∀ l, allOf Φ (l.map f) = allOf (fun i => Φ (f i)) l
  | [] => rfl
  | i :: is => by
    show iprop(Φ (f i) ∗ allOf Φ (is.map f)) = iprop(Φ (f i) ∗ allOf (fun i => Φ (f i)) is)
    rw [allOf_map f Φ is]

/-- A family over the scoped roles, kind by kind. -/
theorem allOf_scoped (Φ : Role → sProp 𝕄) : allOf Φ scopedRoles
    = iprop(((((allOf (fun h => Φ (.cp h)) two ∗ allOf (fun j => Φ (.s1 j)) three) ∗ allOf (fun j => Φ (.r1 j)) three)
      ∗ allOf (fun j => Φ (.s2 j)) seven) ∗ allOf (fun j => Φ (.r2 j)) seven) ∗ (Φ .fin ∗ emp)) := by
  unfold scopedRoles
  rw [allOf_append, allOf_append, allOf_append, allOf_append, allOf_append, allOf_map, allOf_map, allOf_map, allOf_map, allOf_map]
  rfl

/-- A family over all the roles. -/
theorem univ_roles (Φ : Role → sProp 𝕄) : bigSep Finset.univ Φ = iprop(allOf Φ scopedRoles ∗ (Φ .bar ∗ emp)) := by
  rw [allOf_univ Φ roles (by decide) (by decide)]
  unfold roles
  rw [allOf_append]
  rfl

theorem ownSems0_eq : (Pipeline.ownSems0 (Ix := Unit) (Name := ℕ) (U := UU) (Lvl := ℕ) (Val := Elt F) (τ := τ) osem c : sProp 𝕄)
    = allOf (fun k => semVal (cell k c) 0) scopedRoles := by
  rw [Pipeline.ownSems0_eq_of_list c osem [0, 1, 2, 3, 4, 5, 6, 7, 8, 9, 10, 11, 12, 13, 14, 15, 16, 17, 18, 19, 20, 21, 22] (by decide) (by decide),
    ← allOf_eq, show (fun k : Role => (semVal (cell k c) 0 : sProp 𝕄)) = fun k => semVal ((c : Thread nD τ), numOf k) 0 from
      funext fun k => by rw [← semOf_eq]]
  generalize hΨ : (fun s : SemLoc sig => (semVal ((c : Thread nD τ), s) 0 : sProp 𝕄)) = Ψ
  rw [show (fun k : Fin 23 => (semVal ((c : Thread nD τ), osem k) 0 : sProp 𝕄)) = fun k => Ψ (numOf (scopedRoles[k.val]'k.isLt)) from by
      rw [← hΨ]; rfl,
    show (fun k : Role => (semVal ((c : Thread nD τ), numOf k) 0 : sProp 𝕄)) = fun k => Ψ (numOf k) from by rw [← hΨ]]
  rfl

theorem unscopedSems0_eq : (unscopedSems0 c : sProp 𝕄) = semVal (cell .bar c) 0 := by
  unfold unscopedSems0; rw [bigSep_eq_bigSepL_of_eq [semOf .bar] (by decide) (by decide)]; rfl

theorem sems0_eq : iprop(Pipeline.ownSems0 (Ix := Unit) (Name := ℕ) (U := UU) (Lvl := ℕ) (Val := Elt F) (τ := τ) osem c ∗ unscopedSems0 c)
    ⊢ (bigSep Finset.univ fun k : Role => semVal (cell k c) 0 : sProp 𝕄) := by
  rw [ownSems0_eq, unscopedSems0_eq, univ_roles]
  iintro ⟨H1, H2⟩
  isplitl [H1]; · iexact H1
  isplitl [H2]; · iexact H2
  iempintro

/-! ## Records, places and tokens -/

/-- The device whose cell a payment of a device goes to. -/
def dest : Role → Fin 10 → Dev nD ≃ Dev nD
  | .r1 j, _ => peerEquiv (k3 j)
  | .r2 j, _ => peerEquiv (k7 j)
  | .fin, d => peerEquiv d
  | .bar, d => peerEquiv d
  | _, _ => Equiv.refl _

/-- The payers' devices, for all payments at once. -/
def destEquiv : Dev nD × Role × Fin 10 ≃ Dev nD × Role × Fin 10 where
  toFun x := (dest x.2.1 x.2.2 x.1, x.2)
  invFun x := ((dest x.2.1 x.2.2).symm x.1, x.2)
  left_inv x := by simp
  right_inv x := by simp

theorem kcell_injective : Function.Injective (fun ck : Dev nD × Role => cell ck.2 ck.1) := by
  rintro ⟨c, k⟩ ⟨c', k'⟩ h
  have h1 : c = c' := congrArg (fun g : GSem nD τ sig => g.1.1) h
  have h2 : k = k' := semOf_injective (congrArg Prod.snd h)
  rw [h1, h2]

def allCells : Finset (GSem nD τ sig) := Finset.univ.map ⟨_, kcell_injective⟩

theorem tok_injective : Function.Injective (fun x : Dev nD × Role × Fin 10 => ((cell x.2.1 x.1, 0, x.2.2) : GSem nD τ sig × ℕ × Fin 10)) := by
  rintro ⟨c, k, d⟩ ⟨c', k', d'⟩ h
  have h1 := kcell_injective (a₁ := (c, k)) (a₂ := (c', k')) (congrArg Prod.fst h)
  have h2 : d = d' := congrArg (fun x : GSem nD τ sig × ℕ × Fin 10 => x.2.2) h
  cases h1; cases h2; rfl

def allToks : Finset (GSem nD τ sig × ℕ × Fin 10) := Finset.univ.map ⟨_, tok_injective⟩

def u₀ : UU := (initOf (Pipeline.cells cfgs Gen.cellOf_inj) (Pipeline.launchToks cfgs Gen.cellOf_inj), initOf allCells allToks)

/-- The places of a device at its cells. -/
def posts : sProp 𝕄 := bigSep Finset.univ fun k : Role => atPos ER (cell k c) 0 ∅ 0

/-- The tokens of a device's own cells, -/
def toks : sProp 𝕄 := bigSep Finset.univ fun kd : Role × Fin 10 => dutyTok ER (cell kd.1 c) 0 kd.2

/-- and those it pays with. -/
def paid : sProp 𝕄 := bigSep Finset.univ fun kd : Role × Fin 10 => dutyTok ER (cell kd.1 (dest kd.1 kd.2 c)) 0 kd.2

/-- What the launch deals a device. -/
def G : sProp 𝕄 :=
  iprop((bigSep Finset.univ fun k : Role => roundState ER (sched m) (cell k c) 0)
    ∗ (bigSep Finset.univ fun k : Role => iprop(atPos ER (cell k c) 0 ∅ 0 ∗ reached ER (cell k c) 0)) ∗ toks c)

/-- The records of all the cells, and that all are in their first round. -/
def records (K : Dev nD × Role → ℕ) : sProp 𝕄 :=
  iprop((bigSep Finset.univ fun ck : Dev nD × Role => cellInv ER (sched m) (K ck) (cell ck.2 ck.1))
    ∗ (bigSep Finset.univ fun ck : Dev nD × Role => reached ER (cell ck.2 ck.1) 0))

instance records_persistent (K : Dev nD × Role → ℕ) : BI.Persistent (records m K) := by unfold records; infer_instance

/-- What is made of it. -/
def G' : sProp 𝕄 := iprop(∃ K, records m K ∗ posts c ∗ paid c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Role => Φ (cell k c) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell k c)))
          ∗ (bigSep Finset.univ fun k => iprop(atPos ER (cell k c) 0 ∅ 0 ∗ reached ER (cell k c) 0)) ∗ toks c) := by
  have hinv : iprop((bigSep Finset.univ fun k : Role => semVal (cell k c) 0) ∗ bigSep Finset.univ fun k : Role => roundState ER (sched m) (cell k c) 0)
      ⊢ (|={Set.univ}=> bigSep Finset.univ fun k => iprop(∃ κ : ℕ, cellInv ER (sched m) κ (cell k c)) : sProp 𝕄) := by
    rw [← bigSep_sep']
    exact (bigSep_mono fun k _ => (Rounds.body_intro ER (sched m) (cell k c)).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- The tokens, dealt to those who pay with them. -/
theorem toks_dealt : (bigSep Finset.univ fun c : Dev nD => (toks c : sProp 𝕄)) ⊢ bigSep Finset.univ fun c : Dev nD => paid c := by
  unfold toks paid
  rw [← bigSep_univ_prod (fun x : Dev nD × Role × Fin 10 => (dutyTok ER (cell x.2.1 x.1) 0 x.2.2 : sProp 𝕄)), bigSep_univ_equiv destEquiv,
    ← bigSep_univ_prod (fun x : Dev nD × Role × Fin 10 => (dutyTok ER (cell x.2.1 (dest x.2.1 x.2.2 x.1)) 0 x.2.2 : sProp 𝕄))]
  exact Entails.refl _

theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (cell k c)))
          ∗ (bigSep Finset.univ fun k => iprop(atPos ER (cell k c) 0 ∅ 0 ∗ reached ER (cell k c) 0)) ∗ toks c) : sProp 𝕄)
      ⊢ bigSep Finset.univ (G' m) := by
  rw [bigSep_sep', bigSep_sep', ← bigSep_univ_prod (fun ck : Dev nD × Role => iprop(∃ κ : ℕ, cellInv ER (sched m) κ (cell ck.2 ck.1))),
    bigSep_congr (s := Finset.univ) (fun (c : Dev nD) _ => bigSep_sep' Finset.univ (fun k : Role => (atPos ER (cell k c) 0 ∅ 0 : sProp 𝕄)) (fun k => reached ER (cell k c) 0)),
    bigSep_sep', ← bigSep_univ_prod (fun ck : Dev nD × Role => (reached ER (cell ck.2 ck.1) 0 : sProp 𝕄))]
  iintro ⟨HI, ⟨Hat, #HR⟩, Htok⟩
  ihave HK := (BI.bigSep_exists_pi Finset.univ (fun (ck : Dev nD × Role) (κ : ℕ) => (cellInv ER (sched m) κ (cell ck.2 ck.1) : sProp 𝕄))) $$ HI
  icases HK with ⟨%K, #HI⟩
  ihave Htk := (toks_dealt (F := F)) $$ Htok
  iapply (give_all (R := records m K) (Φ := fun c => iprop(posts c ∗ paid c)) (Ψ := G' m) fun c _ => show iprop(records m K ∗ posts c ∗ paid c) ⊢ G' m c by
    unfold G'; iintro H; iexists K; iexact H)
  isplitr
  · unfold records; isplitl; · iexact HI
    iexact HR
  · iapply (Entails.of_eq (bigSep_sep' Finset.univ (fun c : Dev nD => (posts c : sProp 𝕄)) paid).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

/-- The credit for one payment of every device to the device that its number names. -/
theorem cred_one (k : Role) (e : Dev nD ≃ Dev nD) (n : ℕ) :
    (Pipeline.launchCred (fun d => tallyAt (cell k (e d)) () n) c : sProp 𝕄) ⊢ cred (tallyAt (cell k c) () n) := by
  have h : tallyOn (cell k c) (launchCredit (Pipeline.owing fun d : Dev nD => (tallyAt (cell k (e d)) () n : CellTallies nD τ sig Unit)) 0 (cell k c))
      = (tallyAt (cell k c) () n : CellTallies nD τ sig Unit) := by
    unfold tallyAt
    refine congrArg _ (Finsupp.ext fun u => ?_)
    rw [Pipeline.launchCredit_owing, show u = () from rfl, Finsupp.single_eq_same]
    have hs : ∀ d : Dev nD, (tallyAt (cell k (e d)) () n : CellTallies nD τ sig Unit) (cell k c) () = if d = e.symm c then n else 0 := fun d => by
      rw [tallyAt_apply]
      by_cases hd : d = e.symm c
      · rw [if_pos hd, if_pos ⟨by rw [hd, Equiv.apply_symm_apply], rfl⟩]
      · rw [if_neg hd, if_neg fun hh => hd (by
          have h1 := congrArg (fun g : GSem nD τ sig => g.1.1) hh.1
          exact (Equiv.eq_symm_apply e).mpr h1.symm)]
    refine (Finset.sum_congr rfl fun d _ => hs d).trans ?_
    rw [ Finset.sum_ite_eq' Finset.univ (e.symm c) fun _ => n, if_pos (Finset.mem_univ _)]
  refine BIBase.Entails.trans (Pipeline.launchCred_elim _ c (semOf k)) ?_
  exact Entails.of_eq (congrArg cred h)

/-- The credit for a list of payments, one by one. -/
theorem cred_owing {ι : Type} (f : Dev nD → ι → CellTallies nD τ sig Unit) (O : Dev nD → CellTallies nD τ sig Unit) :
    ∀ l, (Pipeline.launchCred (fun d => owing (f d) (O d) l) c : sProp 𝕄)
      ⊢ iprop(Pipeline.launchCred O c ∗ allOf (fun i => Pipeline.launchCred (fun d => f d i) c) l)
  | [] => by
    show (Pipeline.launchCred O c : sProp 𝕄) ⊢ iprop(Pipeline.launchCred O c ∗ emp)
    iintro H; isplitl [H]; · iexact H
    iempintro
  | i :: is => by
    rw [show (fun d => owing (f d) (O d) (i :: is)) = fun d => owing (f d) (O d) is + f d i from rfl, Pipeline.launchCred_add]
    show iprop(_ ∗ _) ⊢ (iprop(Pipeline.launchCred O c ∗ Pipeline.launchCred (fun d => f d i) c ∗ allOf (fun i => Pipeline.launchCred (fun d => f d i) c) is) : sProp 𝕄)
    iintro ⟨H, H3⟩
    ihave H := (cred_owing f O is) $$ H
    icases H with ⟨H1, H2⟩
    isplitl [H1]; · iexact H1
    isplitl [H3]; · iexact H3
    iexact H2

/-- Units of credit add up. -/
theorem cred_units {ι : Type} (g : GSem nD τ sig) : ∀ l : List ι, (allOf (fun _ => cred (tallyAt g () 1)) l : sProp 𝕄) ⊢ cred (tallyAt g () l.length)
  | [] => by
    unfold allOf
    rw [List.length_nil, tallyAt_zero, cred_zero]
  | i :: is => by
    unfold allOf
    rw [List.length_cons, ← tallyAt_add]
    iintro ⟨H1, H2⟩
    ihave H2 := (cred_units g is) $$ H2
    iapply (cred_add _ _).2
    isplitl [H2] <;> iassumption

theorem creds : (Pipeline.launchCred O₀ c : sProp 𝕄)
    ⊢ iprop(cred (tallyAt (cell .bar c) () 10) ∗ cred (tallyAt (cell .fin c) () 10)
        ∗ allOf (fun j => cred (tallyAt (cell (.r1 j) c) () (amt (.r1 j)))) three
        ∗ allOf (fun j => cred (tallyAt (cell (.r2 j) c) () (amt (.r2 j)))) seven) := by
  have e1 : (Pipeline.launchCred O₀ c : sProp 𝕄) ⊢ _ := cred_owing c helloDue (fun d => oweLoc d three) ten
  have e2 : (Pipeline.launchCred (fun d => oweLoc d three) c : sProp 𝕄) ⊢ _ := cred_owing c locDue (fun d => oweRow d seven) three
  have e3 : (Pipeline.launchCred (fun d => oweRow d seven) c : sProp 𝕄) ⊢ _ := cred_owing c rowDue (fun d => oweBye d ten) seven
  have e4 : (Pipeline.launchCred (fun d => oweBye d ten) c : sProp 𝕄) ⊢ _ := cred_owing c byeDue (fun _ => 0) ten
  iintro H
  ihave H := e1 $$ H
  icases H with ⟨H, H1⟩
  ihave H := e2 $$ H
  icases H with ⟨H, H2⟩
  ihave H := e3 $$ H
  icases H with ⟨H, H3⟩
  ihave H := e4 $$ H
  icases H with ⟨-, H4⟩
  isplitl [H1]
  · iapply (cred_units (F := F) (cell .bar c) ten)
    iapply (allOf_mono (fun k => cred_one (F := F) c .bar (peerEquiv k) 1) ten)
    iexact H1
  isplitl [H4]
  · iapply (cred_units (F := F) (cell .fin c) ten)
    iapply (allOf_mono (fun k => cred_one (F := F) c .fin (peerEquiv k) 1) ten)
    iexact H4
  isplitl [H2]
  · iapply (allOf_mono (fun j => cred_one (F := F) c (.r1 j) (peerEquiv (k3 j)) (amt (.r1 j))) three)
    iexact H2
  iapply (allOf_mono (fun j => cred_one (F := F) c (.r2 j) (peerEquiv (k7 j)) (amt (.r2 j))) seven)
  iexact H3

/-! ## What a device pays with -/

/-- The tokens, kind by kind. -/
theorem paid_kinds : (paid c : sProp 𝕄)
    ⊢ iprop(allOf (fun k => dutyTok ER (cell .bar (peer k c)) 0 k) ten
      ∗ allOf (fun k => dutyTok ER (cell .fin (peer k c)) 0 k) ten
      ∗ allOf (fun h => dutyTok ER (cell (.cp h) c) 0 0) two
      ∗ allOf (fun j => iprop(dutyTok ER (cell (.s1 j) c) 0 0 ∗ dutyTok ER (cell (.r1 j) (peer (k3 j) c)) 0 0)) three
      ∗ allOf (fun j => iprop(dutyTok ER (cell (.s2 j) c) 0 0 ∗ dutyTok ER (cell (.r2 j) (peer (k7 j) c)) 0 0)) seven) := by
  unfold paid
  have hf : ∀ k : Role, (bigSep Finset.univ fun d : Fin 10 => (dutyTok ER (cell k (dest k d c)) 0 d : sProp 𝕄)) ⊢ dutyTok ER (cell k (dest k 0 c)) 0 0 := fun k =>
    bigSep_elim (Φ := fun d : Fin 10 => (dutyTok ER (cell k (dest k d c)) 0 d : sProp 𝕄)) (Finset.mem_univ 0)
  rw [bigSep_univ_prod, univ_roles, allOf_scoped]
  iintro ⟨⟨⟨⟨⟨⟨Hcp, Hs1⟩, Hr1⟩, Hs2⟩, Hr2⟩, ⟨Hfin, -⟩⟩, ⟨Hbar, -⟩⟩
  isplitl [Hbar]
  · iapply (Entails.of_eq (allOf_univ (fun k => (dutyTok ER (cell .bar (peer k c)) 0 k : sProp 𝕄)) ten (by decide) (by decide)))
    iexact Hbar
  isplitl [Hfin]
  · iapply (Entails.of_eq (allOf_univ (fun k => (dutyTok ER (cell .fin (peer k c)) 0 k : sProp 𝕄)) ten (by decide) (by decide)))
    iexact Hfin
  isplitl [Hcp]
  · iapply (allOf_mono (fun h => hf (.cp h)) two); iexact Hcp
  isplitl [Hs1 Hr1]
  · iapply (allOf_zip (F := F) _ _ three)
    isplitl [Hs1]
    · iapply (allOf_mono (fun j => hf (.s1 j)) three); iexact Hs1
    iapply (allOf_mono (fun j => hf (.r1 j)) three); iexact Hr1
  iapply (allOf_zip (F := F) _ _ seven)
  isplitl [Hs2]
  · iapply (allOf_mono (fun j => hf (.s2 j)) seven); iexact Hs2
  iapply (allOf_mono (fun j => hf (.r2 j)) seven); iexact Hr2

end Cert.TopK

end
-- ==== Proof.BodyMem.lean ====
module

public import proofs.«01_k».proof.Proof.Body

@[expose] public section

noncomputable section

/-!
# The stretches that touch memory

Each statement says which steps a stretch of the body takes, and which wires it then hands on.
-/

set_option pp.maxSteps 120

namespace Cert.TopK

open Idealize.ShloMosaic Idealize.SL.Sem Cert.KernelIdeal Cert.KernelIdeal.Facts₀ Cert.KernelIdeal.Facts

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- A program equal to steps and then a value: the value may be written otherwise. -/
theorem valued {V β : Type} {p : Bd F β} {m : Bd F V} {g g' : V → β} (h : p = m >>= fun v => pure (g v))
    (hg : ∀ v, g v = g' v) : p = m >>= fun v => pure (g' v) := by
  rw [h]; exact congrArg (fun k => m >>= k) (funext fun v => by rw [hg v])

/-- Stretch 7 of the body: its steps, and what it hands on. -/
theorem part7 (v2 : BitVec 32) (v5 : BitVec 32) (v22 : BitVec 32) (v231 : BitVec 32) (c8_i32_116 : BitVec 32) :
    ∃ s : BitVec 32 × BitVec 32 × BitVec 32,
    k0_part7 arg0 harg0 arg1 harg1 arg2 harg2 arg3 harg3 arg4 harg4 arg5 harg5 arg6 arg7 arg8 arg9 arg10
        v6628_r0 d v2 v5 v22 v231 c8_i32_116 =
      (hello d 0 : Bd F PUnit) >>= fun _ => pure ⟨s.1, s.2.1, (SemArray.scalar (sig.barrier 0 rfl) : Sems sig
          S_), s.2.2⟩ := ⟨(_, _, _), rfl⟩

/-- Stretch 8 of the body: its steps, and what it hands on. -/
theorem part8 (v2 : BitVec 32) (v5 : BitVec 32) (v8 : BitVec 32) (v33 : BitVec 32) (v44 : BitVec 32) (v72 :
    BitVec 32) (v75 : BitVec 32) (v103 : BitVec 32) (v106 : BitVec 32) (v134 : BitVec 32) (v137 : BitVec 32)
    (v165 : BitVec 32) (v269 : BitVec 32) : ∃ s,
    k0_part8 arg0 harg0 arg1 harg1 arg2 harg2 arg3 harg3 arg4 harg4 arg5 harg5 arg6 arg7 arg8 arg9 arg10
        v6628_r0 d v2 v5 v8 v33 v44 v72 v75 v103 v106 v134 v137 v165 (SemArray.scalar (sig.barrier 0 rfl) :
        Sems sig S_) v269 =
      (
        hello d 1 >>= fun _ =>
        hello d 2 >>= fun _ =>
        hello d 3 >>= fun _ =>
        hello d 4 >>= fun _ =>
        hello d 5 : Bd F PUnit) >>= fun _ => pure s := ⟨_, rfl⟩

/-- Stretch 9 of the body: its steps, and what it hands on. -/
theorem part9 (v8 : BitVec 32) (v11 : BitVec 32) (v168 : BitVec 32) (v196 : BitVec 32) (v199 : BitVec 32) (v227
    : BitVec 32) (v230 : BitVec 32) (v258 : BitVec 32) (v261 : BitVec 32) (v299 : BitVec 32) : ∃ s,
    k0_part9 arg0 harg0 arg1 harg1 arg2 harg2 arg3 harg3 arg4 harg4 arg5 harg5 arg6 arg7 arg8 arg9 arg10
        v6628_r0 d v8 v11 v168 v196 v199 v227 v230 v258 v261 (SemArray.scalar (sig.barrier 0 rfl) : Sems sig
        S_) v299 =
      (
        hello d 6 >>= fun _ =>
        hello d 7 >>= fun _ =>
        hello d 8 >>= fun _ =>
        hello d 9 >>= fun _ =>
        fetch arg0 arg2 arg6 d 0 : Bd F PUnit) >>= fun _ => pure s := ⟨_, rfl⟩

/-- Stretch 10 of the body: its steps, and what it hands on. -/
theorem part10 (v329 : BitVec 32) :
    k0_part10 arg0 harg0 arg1 harg1 arg2 harg2 arg3 harg3 arg4 harg4 arg5 harg5 arg6 arg7 arg8 arg9 arg10
        v6628_r0 d v329 =
      (
        fetch arg0 arg2 arg6 d 1 >>= fun _ =>
        fetched arg0 arg2 arg6 d 0 >>= fun _ =>
        readHalf arg2 0 : Bd F (Vec F S64x8192 .f32)) >>= fun x => pure ⟨l0 x 2 4, l0 x 2 5, l0 x 2 6, l0 x 2
            7, l0 x 2 8, l0 x 2 9, l0 x 2 10, l0 x 2 11, l0 x 2 12, l0 x 2 13, l0 x 2 14, l0 x 2 15, l0 x 2 16,
            l0 x 2 17, l0 x 2 18, l0 x 2 19, l0 x 2 20, l0 x 2 21, l0 x 2 22, l0 x 2 23, l0 x 2 24, l0 x 2 25,
            l0 x 2 26, l0 x 2 27, l0 x 2 28, l0 x 2 29, l0 x 2 30, l0 x 2 31, l0 x 2 0, l0 x 2 1, l0 x 2 2, l0
            x 2 3, l0 x 3 0⟩ := by
  refine valued rfl fun r => ?_
  simp only [l0, cut, sortNet, List.drop_succ_cons, List.drop_zero, run]
  simp only [cx_at, Nat.reduceEqDiff, ↓reduceIte]
  rfl

/-- Stretch 52 of the body: its steps, and what it hands on. -/
theorem part52 :
    k0_part52 arg0 harg0 arg1 harg1 arg2 harg2 arg3 harg3 arg4 harg4 arg5 harg5 arg6 arg7 arg8 arg9 arg10
        v6628_r0 d =
      (
        fetched arg0 arg2 arg6 d 1 >>= fun _ =>
        readHalf arg2 1 : Bd F (Vec F S64x8192 .f32)) >>= fun y => pure ⟨l0 y 8 8, l0 y 8 9, l0 y 8 10, l0 y 8
            11, l0 y 8 12, l0 y 8 13, l0 y 8 14, l0 y 8 15, l0 y 8 16, l0 y 8 17, l0 y 8 18, l0 y 8 19, l0 y 8
            20, l0 y 8 21, l0 y 8 22, l0 y 8 23, l0 y 8 24, l0 y 8 25, l0 y 8 26, l0 y 8 27, l0 y 8 28, l0 y 8
            29, l0 y 8 30, l0 y 8 31, l0 y 8 0, l0 y 8 3, l0 y 8 1, l0 y 8 2, l0 y 8 5, l0 y 8 7, l0 y 8 4, l0
            y 8 6, l0 y 9 5⟩ := by
  refine valued rfl fun r => ?_
  simp only [l0, cut, sortNet, List.drop_succ_cons, List.drop_zero, run]
  simp only [cx_at, Nat.reduceEqDiff, ↓reduceIte]
  rfl

/-- Stretch 94 of the body: its steps, and what it hands on. -/
theorem part94 (x y : Vec F S64x8192 .f32) (v2 : BitVec 32) (v5 : BitVec 32) (v8 : BitVec 32) : ∃ v5383 :
    BitVec 32,
    k0_part94 arg0 harg0 arg1 harg1 arg2 harg2 arg3 harg3 arg4 harg4 arg5 harg5 arg6 arg7 arg8 arg9 arg10
        v6628_r0 v2 v5 v8 (SemArray.scalar (sig.barrier 0 rfl) : Sems sig S_) (l8 x 80 13) (l8 x 80 14) (l8 x
        80 15) (l8 x 80 16) (l8 x 80 17) (l8 x 80 18) (l8 x 80 19) (l8 x 80 20) (l8 x 80 21) (l8 x 80 22) (l8 x
        80 23) (l8 x 80 24) (l8 x 80 25) (l8 x 80 26) (l8 x 80 27) (l8 x 80 28) (l8 x 80 29) (l8 x 80 30) (l8 x
        80 31) (l8 y 80 13) (l8 y 80 14) (l8 y 80 15) (l8 y 80 16) (l8 y 80 17) (l8 y 80 18) (l8 y 80 19) (l8 y
        80 20) (l8 y 80 21) (l8 y 80 22) (l8 y 80 23) (l8 y 80 24) (l8 y 80 25) (l8 y 80 26) (l8 y 80 27) (l8 y
        80 28) (l8 y 80 29) (l8 y 80 30) (l8 y 80 31) (mine x y 0) (mine x y 1) (mine x y 2) (mine x y 3) (mine
        x y 4) (mine x y 5) (mine x y 6) (mine x y 7) (mine x y 8) (mine x y 9) (mine x y 10) (mine x y 11)
        (mine x y 12) =
      (
        keepLoc arg3 (loc x y) >>= fun _ =>
        semWaitWord (SemArray.scalar (sig.barrier 0 rfl) : Sems sig S_).sem 10#32 : Bd F (PUnit)) >>= fun _ =>
            pure ⟨mine x y 13, mine x y 14, mine x y 15, mine x y 16, mine x y 17, mine x y 18, mine x y 19,
            mine x y 20, mine x y 21, mine x y 22, mine x y 23, mine x y 24, mine x y 25, mine x y 26, mine x y
            27, mine x y 28, mine x y 29, mine x y 30, mine x y 31, v5383⟩ := ⟨_, rfl⟩

/-- Stretch 95 of the body: its steps, and what it hands on. -/
theorem part95 (v2 : BitVec 32) (v5 : BitVec 32) (v8 : BitVec 32) : ∃ s,
    k0_part95 arg0 harg0 arg1 harg1 arg2 harg2 arg3 harg3 arg4 harg4 arg5 harg5 arg6 arg7 arg8 arg9 arg10
        v6628_r0 d v2 v5 v8 =
      (
        sendLoc arg3 harg3 arg4 arg7 arg8 d 0 >>= fun _ =>
        sendLoc arg3 harg3 arg4 arg7 arg8 d 1 : Bd F PUnit) >>= fun _ => pure s := ⟨_, rfl⟩

/-- Stretch 96 of the body: its steps, and what it hands on. -/
theorem part96 (v2 : BitVec 32) (v5 : BitVec 32) (v5383 : BitVec 32) (v5421 : BitVec 32) (v5422 : BitVec 32)
    (v5423 : BitVec 1) (c0_i32_240 : BitVec 32) : ∃ v5429 : BitVec 32,
    k0_part96 arg0 harg0 arg1 harg1 arg2 harg2 arg3 harg3 arg4 harg4 arg5 harg5 arg6 arg7 arg8 arg9 arg10
        v6628_r0 d v2 v5 v5383 v5421 v5422 v5423 c0_i32_240 =
      (
        sendLoc arg3 harg3 arg4 arg7 arg8 d 2 >>= fun _ =>
        gotLoc arg3 harg3 arg4 arg8 0 >>= fun _ =>
        readSlab arg4 0 : Bd F (Vec F S1x32x128 .f32)) >>= fun u => pure ⟨v5429, slab u, rowl (slab u) 0, rowl
            (slab u) 1, rowl (slab u) 2, rowl (slab u) 3, rowl (slab u) 4, rowl (slab u) 5⟩ := ⟨_, rfl⟩

/-- Stretch 100 of the body: its steps, and what it hands on. -/
theorem part100 (x y : Vec F S64x8192 .f32) (u : Vec F S1x32x128 .f32) (v2 : BitVec 32) (v5 : BitVec 32) (v5406
    : BitVec 32) :
    k0_part100 arg0 harg0 arg1 harg1 arg2 harg2 arg3 harg3 arg4 harg4 arg5 harg5 arg6 arg7 arg8 arg9 arg10
        v6628_r0 v2 v5 v5406 (m01 x y u 61 28) (m01 x y u 61 25) (m01 x y u 61 29) (m01 x y u 61 30) (m01 x y u
        61 27) (m01 x y u 61 31) (m01 x y u 61 0) (m01 x y u 61 2) (m01 x y u 61 1) (m01 x y u 61 3) (m01 x y u
        61 4) (m01 x y u 61 6) (m01 x y u 61 5) (m01 x y u 61 7) (m01 x y u 61 8) (m01 x y u 61 10) (m01 x y u
        61 9) (m01 x y u 61 11) (m01 x y u 61 12) (m01 x y u 61 14) (m01 x y u 61 13) (m01 x y u 61 15) (m01 x
        y u 61 16) (m01 x y u 61 18) (m01 x y u 61 17) (m01 x y u 61 19) (m01 x y u 61 20) (m01 x y u 61 22)
        (m01 x y u 61 21) (m01 x y u 61 23) (m01 x y u 61 24) (m01 x y u 61 26) =
      (
        gotLoc arg3 harg3 arg4 arg8 1 : Bd F (PUnit)) >>= fun _ => pure ⟨m01 x y u 80 0, m01 x y u 80 1, m01 x
            y u 80 2, m01 x y u 80 3, m01 x y u 80 4, m01 x y u 80 5, m01 x y u 80 6, m01 x y u 80 7, m01 x y u
            80 8, m01 x y u 80 9, m01 x y u 80 10, m01 x y u 80 11, m01 x y u 80 12, m01 x y u 80 13, m01 x y u
            80 14, m01 x y u 80 15, m01 x y u 80 16, m01 x y u 80 17, m01 x y u 80 18, m01 x y u 80 19, m01 x y
            u 80 20, m01 x y u 80 21, m01 x y u 80 22, m01 x y u 80 23, m01 x y u 80 24, m01 x y u 80 25, m01 x
            y u 80 26, m01 x y u 80 27, m01 x y u 80 28, m01 x y u 80 29, m01 x y u 80 30, m01 x y u 80 31⟩ :=
            by
  refine valued (g' := fun _ => _) rfl fun r => ?_
  rw [show m01 x y u 80 = onMerge 61 19 (m01 x y u 61) from merge_add _ _ 61 19]
  generalize m01 x y u 61 = Y
  simp only [bitonicNet, onMerge, List.drop_succ_cons, List.drop_zero, run]
  simp only [cx_at, Nat.reduceEqDiff, ↓reduceIte]

/-- Stretch 101 of the body: its steps, and what it hands on. -/
theorem part101 (v2 : BitVec 32) (v5 : BitVec 32) (v5429 : BitVec 32) :
    k0_part101 arg0 harg0 arg1 harg1 arg2 harg2 arg3 harg3 arg4 harg4 arg5 harg5 arg6 arg7 arg8 arg9 arg10
        v6628_r0 v2 v5 v5429 =
      (
        gotLoc arg3 harg3 arg4 arg8 2 >>= fun _ =>
        readSlab arg4 1 >>= fun v =>
        readSlab arg4 2 >>= fun w =>
        pure (v, w) : Bd F (Vec F S1x32x128 .f32 × Vec F S1x32x128 .f32)) >>= fun r => pure ⟨rowl (slab r.1) 0,
            rowl (slab r.1) 1, rowl (slab r.1) 2, rowl (slab r.1) 3, rowl (slab r.1) 4, rowl (slab r.1) 5, rowl
            (slab r.1) 6, rowl (slab r.1) 7, rowl (slab r.1) 8, rowl (slab r.1) 9, rowl (slab r.1) 10, rowl
            (slab r.1) 11, rowl (slab r.1) 12, rowl (slab r.1) 13, rowl (slab r.1) 14, rowl (slab r.1) 15, rowl
            (slab r.1) 16, rowl (slab r.1) 17, rowl (slab r.1) 18, rowl (slab r.1) 19, rowl (slab r.1) 20, rowl
            (slab r.1) 21, rowl (slab r.1) 22, rowl (slab r.1) 23, rowl (slab r.1) 24, rowl (slab r.1) 25, rowl
            (slab r.1) 26, rowl (slab r.1) 27, rowl (slab r.1) 28, rowl (slab r.1) 29, rowl (slab r.1) 30, rowl
            (slab r.1) 31, slab r.2⟩ := rfl

/-- Stretch 109 of the body: its steps, and what it hands on. -/
theorem part109 (V : FVec F S1x32x128 .f32) (v11 : BitVec 32) : ∃ s,
    k0_part109 arg0 harg0 arg1 harg1 arg2 harg2 arg3 harg3 arg4 harg4 arg5 harg5 arg6 arg7 arg8 arg9 arg10
        v6628_r0 d v11 V =
      (
        keepRow arg5 d V : Bd F PUnit) >>= fun _ => pure s := ⟨_, rfl⟩

/-- Stretch 110 of the body: its steps, and what it hands on. -/
theorem part110 (v8 : BitVec 32) (v11 : BitVec 32) (v6188 : BitVec 32) (v6189 : BitVec 32) : ∃ s,
    k0_part110 arg0 harg0 arg1 harg1 arg2 harg2 arg3 harg3 arg4 harg4 arg5 harg5 arg6 arg7 arg8 arg9 arg10
        v6628_r0 d v8 v11 v6188 v6189 =
      (
        sendRow arg5 arg9 arg10 d 0 : Bd F PUnit) >>= fun _ => pure s := ⟨_, rfl⟩

/-- Stretch 111 of the body: its steps, and what it hands on. -/
theorem part111 (v8 : BitVec 32) (v11 : BitVec 32) (v6211 : BitVec 32) (v6228 : BitVec 32) (c0_i32_327 : BitVec
    32) : ∃ s,
    k0_part111 arg0 harg0 arg1 harg1 arg2 harg2 arg3 harg3 arg4 harg4 arg5 harg5 arg6 arg7 arg8 arg9 arg10
        v6628_r0 d v8 v11 v6211 v6228 c0_i32_327 =
      (
        sendRow arg5 arg9 arg10 d 1 : Bd F PUnit) >>= fun _ => pure s := ⟨_, rfl⟩

/-- Stretch 112 of the body: its steps, and what it hands on. -/
theorem part112 (v8 : BitVec 32) (v11 : BitVec 32) (v6256 : BitVec 32) (c4_i32_346 : BitVec 32) (v6257 : BitVec
    32) (v6262 : BitVec 32) (v6264 : BitVec 32) (c0_i32_350 : BitVec 32) : ∃ s,
    k0_part112 arg0 harg0 arg1 harg1 arg2 harg2 arg3 harg3 arg4 harg4 arg5 harg5 arg6 arg7 arg8 arg9 arg10
        v6628_r0 d v8 v11 v6256 c4_i32_346 v6257 v6262 v6264 c0_i32_350 =
      (
        sendRow arg5 arg9 arg10 d 2 : Bd F PUnit) >>= fun _ => pure s := ⟨_, rfl⟩

/-- Stretch 113 of the body: its steps, and what it hands on. -/
theorem part113 (v8 : BitVec 32) (v11 : BitVec 32) (v6301 : BitVec 32) (c4_i32_372 : BitVec 32) : ∃ s,
    k0_part113 arg0 harg0 arg1 harg1 arg2 harg2 arg3 harg3 arg4 harg4 arg5 harg5 arg6 arg7 arg8 arg9 arg10
        v6628_r0 d v8 v11 v6301 c4_i32_372 =
      (
        sendRow arg5 arg9 arg10 d 3 : Bd F PUnit) >>= fun _ => pure s := ⟨_, rfl⟩

/-- Stretch 115 of the body: its steps, and what it hands on. -/
theorem part115 (v11 : BitVec 32) : ∃ s,
    k0_part115 arg0 harg0 arg1 harg1 arg2 harg2 arg3 harg3 arg4 harg4 arg5 harg5 arg6 arg7 arg8 arg9 arg10
        v6628_r0 d v11 =
      (
        sendRow arg5 arg9 arg10 d 4 : Bd F PUnit) >>= fun _ => pure s := ⟨_, rfl⟩

/-- Stretch 116 of the body: its steps, and what it hands on. -/
theorem part116 (v8 : BitVec 32) (v11 : BitVec 32) (v6413 : BitVec 32) (v6414 : BitVec 32) : ∃ s,
    k0_part116 arg0 harg0 arg1 harg1 arg2 harg2 arg3 harg3 arg4 harg4 arg5 harg5 arg6 arg7 arg8 arg9 arg10
        v6628_r0 d v8 v11 v6413 v6414 =
      (
        sendRow arg5 arg9 arg10 d 5 : Bd F PUnit) >>= fun _ => pure s := ⟨_, rfl⟩

/-- Stretch 117 of the body: its steps, and what it hands on. -/
theorem part117 (v8 : BitVec 32) (v6183 : BitVec 32) (v6186 : BitVec 32) (v6228 : BitVec 32) (v6231 : BitVec
    32) (v6436 : BitVec 32) (v6453 : BitVec 32) (c0_i32_457 : BitVec 32) : ∃ s,
    k0_part117 arg0 harg0 arg1 harg1 arg2 harg2 arg3 harg3 arg4 harg4 arg5 harg5 arg6 arg7 arg8 arg9 arg10
        v6628_r0 d v8 v6183 v6186 v6228 v6231 v6436 v6453 c0_i32_457 =
      (
        sendRow arg5 arg9 arg10 d 6 >>= fun _ =>
        gotRow arg5 arg10 d 0 : Bd F PUnit) >>= fun _ => pure s := ⟨_, rfl⟩

/-- Stretch 118 of the body: its steps, and what it hands on. -/
theorem part118 (v8 : BitVec 32) (v6273 : BitVec 32) (v6276 : BitVec 32) (v6318 : BitVec 32) (v6321 : BitVec
    32) (v6484 : BitVec 32) (v6485 : BitVec 32) :
    k0_part118 arg0 harg0 arg1 harg1 arg2 harg2 arg3 harg3 arg4 harg4 arg5 harg5 arg6 arg7 arg8 arg9 arg10
        v6628_r0 d v8 v6273 v6276 v6318 v6321 v6484 v6485 =
      (
        gotRow arg5 arg10 d 1 >>= fun _ =>
        gotRow arg5 arg10 d 2 : Bd F PUnit) >>= fun _ => pure ⟨⟩ := rfl

/-- Stretch 119 of the body: its steps, and what it hands on. -/
theorem part119 (v8 : BitVec 32) (v6363 : BitVec 32) (v6366 : BitVec 32) (v6408 : BitVec 32) (v6411 : BitVec
    32) (v6453 : BitVec 32) (v6456 : BitVec 32) :
    k0_part119 arg0 harg0 arg1 harg1 arg2 harg2 arg3 harg3 arg4 harg4 arg5 harg5 arg6 arg7 arg8 arg9 arg10
        v6628_r0 d v8 v6363 v6366 v6408 v6411 v6453 v6456 =
      (
        gotRow arg5 arg10 d 3 >>= fun _ =>
        gotRow arg5 arg10 d 4 >>= fun _ =>
        gotRow arg5 arg10 d 5 : Bd F PUnit) >>= fun _ => pure ⟨⟩ := rfl

/-- Stretch 120 of the body: its steps, and what it hands on. -/
theorem part120 :
    k0_part120 arg0 harg0 arg1 harg1 arg2 harg2 arg3 harg3 arg4 harg4 arg5 harg5 arg6 arg7 arg8 arg9 arg10
        v6628_r0 d =
      (
        gotRow arg5 arg10 d 6 >>= fun _ =>
        readSlot arg5 0 >>= fun t0 =>
        readSlot arg5 1 >>= fun t1 =>
        readSlot arg5 2 >>= fun t2 =>
        readSlot arg5 3 >>= fun t3 =>
        readSlot arg5 4 >>= fun t4 =>
        readSlot arg5 5 >>= fun t5 =>
        readSlot arg5 6 >>= fun t6 =>
        readSlot arg5 7 >>= fun t7 =>
        keepOut arg1 (outOf ![t0, t1, t2, t3, t4, t5, t6, t7]) : Bd F PUnit) >>= fun _ => pure ⟨⟩ := rfl

/-- Stretch 121 of the body: its steps, and what it hands on. -/
theorem part121 :
    k0_part121 arg0 harg0 arg1 harg1 arg2 harg2 arg3 harg3 arg4 harg4 arg5 harg5 arg6 arg7 arg8 arg9 arg10
        v6628_r0 d =
      (
        sentLoc arg3 harg3 arg4 arg7 0 >>= fun _ =>
        sentLoc arg3 harg3 arg4 arg7 1 >>= fun _ =>
        sentLoc arg3 harg3 arg4 arg7 2 >>= fun _ =>
        gotRow arg5 arg9 d 0 >>= fun _ =>
        gotRow arg5 arg9 d 1 : Bd F PUnit) >>= fun _ => pure ⟨⟩ := rfl

/-- Stretch 122 of the body: its steps, and what it hands on. -/
theorem part122 :
    k0_part122 arg0 harg0 arg1 harg1 arg2 harg2 arg3 harg3 arg4 harg4 arg5 harg5 arg6 arg7 arg8 arg9 arg10
        v6628_r0 d =
      (
        gotRow arg5 arg9 d 2 >>= fun _ =>
        gotRow arg5 arg9 d 3 >>= fun _ =>
        gotRow arg5 arg9 d 4 >>= fun _ =>
        gotRow arg5 arg9 d 5 : Bd F PUnit) >>= fun _ => pure ⟨⟩ := rfl

/-- Stretch 123 of the body: its steps, and what it hands on. -/
theorem part123 (v2 : BitVec 32) (v5 : BitVec 32) (v8 : BitVec 32) (v22 : BitVec 32) (v33 : BitVec 32) (v44 :
    BitVec 32) (v72 : BitVec 32) (v75 : BitVec 32) (v103 : BitVec 32) : ∃ s,
    k0_part123 arg0 harg0 arg1 harg1 arg2 harg2 arg3 harg3 arg4 harg4 arg5 harg5 arg6 arg7 arg8 arg9 arg10
        v6628_r0 d v2 v5 v8 v22 v33 v44 v72 v75 v103 =
      (
        gotRow arg5 arg9 d 6 >>= fun _ =>
        bye v6628_r0 d 0 >>= fun _ =>
        bye v6628_r0 d 1 >>= fun _ =>
        bye v6628_r0 d 2 >>= fun _ =>
        bye v6628_r0 d 3 : Bd F PUnit) >>= fun _ => pure s := ⟨_, rfl⟩

/-- Stretch 124 of the body: its steps, and what it hands on. -/
theorem part124 (v8 : BitVec 32) (v106 : BitVec 32) (v134 : BitVec 32) (v137 : BitVec 32) (v165 : BitVec 32)
    (v168 : BitVec 32) (v196 : BitVec 32) (v199 : BitVec 32) (v227 : BitVec 32) (v230 : BitVec 32) (v258 :
    BitVec 32) (v6654_r0 : BitVec 32) : ∃ s,
    k0_part124 arg0 harg0 arg1 harg1 arg2 harg2 arg3 harg3 arg4 harg4 arg5 harg5 arg6 arg7 arg8 arg9 arg10
        v6628_r0 d v8 v106 v134 v137 v165 v168 v196 v199 v227 v230 v258 v6654_r0 =
      (
        bye v6628_r0 d 4 >>= fun _ =>
        bye v6628_r0 d 5 >>= fun _ =>
        bye v6628_r0 d 6 >>= fun _ =>
        bye v6628_r0 d 7 >>= fun _ =>
        bye v6628_r0 d 8 : Bd F PUnit) >>= fun _ => pure s := ⟨_, rfl⟩

end Cert.TopK
-- ==== Proof.BodySeq.lean ====
module

public import proofs.«01_k».proof.Proof.Body

@[expose] public section

noncomputable section

/-!
# The steps, stretch by stretch

The steps grouped as the printed stretches group them, and the two groupings agree.
-/

set_option pp.maxSteps 120

namespace Cert.TopK

open Idealize.ShloMosaic Idealize.SL.Sem Cert.KernelIdeal Cert.KernelIdeal.Facts₀ Cert.KernelIdeal.Facts

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- One step off both sides. -/
theorem peel {V γ : Type} {a : Bd F V} {f g : V → Bd F γ} (h : ∀ v, f v = g v) : a >>= f = a >>= g :=
  congrArg (fun k => a >>= k) (funext h)

/-- One step off both sides, the left one's out of a group. -/
theorem assocPeel {V W γ : Type} {a : Bd F V} {b : V → Bd F W} {f : W → Bd F γ} {g : V → Bd F γ}
    (h : ∀ v, b v >>= f = g v) : a >>= b >>= f = a >>= g := by
  rw [Prog.bind_assoc]; exact peel h

/-- A group on the left that ends by returning. -/
theorem retL {V γ : Type} {a : V} {f : V → Bd F γ} {q : Bd F γ} (h : f a = q) : (pure a : Bd F V) >>= f = q := h

/-- The first step of a list on the right. -/
theorem consR {ι γ : Type} {f : ι → Bd F PUnit} {i : ι} {is : List ι} {p : Bd F γ} {g : PUnit → Bd F γ}
    (h : p = f i >>= fun _ => inOrder f is >>= g) : p = inOrder f (i :: is) >>= g := by
  rw [h, inOrder, Prog.bind_assoc]

/-- The end of a list on the right. -/
theorem nilR {ι γ : Type} {f : ι → Bd F PUnit} {p : Bd F γ} {g : PUnit → Bd F γ} (h : p = g ⟨⟩) :
    p = inOrder f [] >>= g := h

/-- The steps, stretch by stretch. -/
def chained (L : Vec F S64x8192 .f32 → Vec F S64x8192 .f32 → FVec F S32x128 .f32) (M : Vec F S64x8192 .f32 →
    Vec F S64x8192 .f32 → Vec F S1x32x128 .f32 → Vec F S1x32x128 .f32 → Vec F S1x32x128 .f32 → FVec F S1x32x128
    .f32) (O : (Fin 8 → Vec F S1x32x128 .f32) → FVec F S1024x32 .f32) : Bd F PUnit :=
  Prog.lift .deviceId >>= fun (d : Dev nD) =>
  (hello d 0 : Bd F (PUnit)) >>= fun _ =>
  (hello d 1 >>= fun _ => hello d 2 >>= fun _ => hello d 3 >>= fun _ => hello d 4 >>= fun _ => hello d 5 : Bd F
      (PUnit)) >>= fun _ =>
  (hello d 6 >>= fun _ => hello d 7 >>= fun _ => hello d 8 >>= fun _ => hello d 9 >>= fun _ => fetch arg0 arg2
      arg6 d 0 : Bd F (PUnit)) >>= fun _ =>
  (fetch arg0 arg2 arg6 d 1 >>= fun _ => fetched arg0 arg2 arg6 d 0 >>= fun _ => readHalf arg2 0 : Bd F (Vec F
      S64x8192 .f32)) >>= fun x =>
  (fetched arg0 arg2 arg6 d 1 >>= fun _ => readHalf arg2 1 : Bd F (Vec F S64x8192 .f32)) >>= fun y =>
  (keepLoc arg3 (L x y) >>= fun _ => semWaitWord (SemArray.scalar (sig.barrier 0 rfl) : Sems sig S_).sem 10#32
      : Bd F (PUnit)) >>= fun _ =>
  (sendLoc arg3 harg3 arg4 arg7 arg8 d 0 >>= fun _ => sendLoc arg3 harg3 arg4 arg7 arg8 d 1 : Bd F (PUnit)) >>=
      fun _ =>
  (sendLoc arg3 harg3 arg4 arg7 arg8 d 2 >>= fun _ => gotLoc arg3 harg3 arg4 arg8 0 >>= fun _ => readSlab arg4
      0 : Bd F (Vec F S1x32x128 .f32)) >>= fun u =>
  (gotLoc arg3 harg3 arg4 arg8 1 : Bd F (PUnit)) >>= fun _ =>
  (gotLoc arg3 harg3 arg4 arg8 2 >>= fun _ => readSlab arg4 1 >>= fun v => readSlab arg4 2 >>= fun w => pure
      (v, w) : Bd F (Vec F S1x32x128 .f32 × Vec F S1x32x128 .f32)) >>= fun r =>
  (keepRow arg5 d (M x y u r.1 r.2) : Bd F (PUnit)) >>= fun _ =>
  (sendRow arg5 arg9 arg10 d 0 : Bd F (PUnit)) >>= fun _ =>
  (sendRow arg5 arg9 arg10 d 1 : Bd F (PUnit)) >>= fun _ =>
  (sendRow arg5 arg9 arg10 d 2 : Bd F (PUnit)) >>= fun _ =>
  (sendRow arg5 arg9 arg10 d 3 : Bd F (PUnit)) >>= fun _ =>
  (sendRow arg5 arg9 arg10 d 4 : Bd F (PUnit)) >>= fun _ =>
  (sendRow arg5 arg9 arg10 d 5 : Bd F (PUnit)) >>= fun _ =>
  (sendRow arg5 arg9 arg10 d 6 >>= fun _ => gotRow arg5 arg10 d 0 : Bd F (PUnit)) >>= fun _ =>
  (gotRow arg5 arg10 d 1 >>= fun _ => gotRow arg5 arg10 d 2 : Bd F (PUnit)) >>= fun _ =>
  (gotRow arg5 arg10 d 3 >>= fun _ => gotRow arg5 arg10 d 4 >>= fun _ => gotRow arg5 arg10 d 5 : Bd F (PUnit))
      >>= fun _ =>
  (gotRow arg5 arg10 d 6 >>= fun _ => readSlot arg5 0 >>= fun t0 => readSlot arg5 1 >>= fun t1 => readSlot arg5
      2 >>= fun t2 => readSlot arg5 3 >>= fun t3 => readSlot arg5 4 >>= fun t4 => readSlot arg5 5 >>= fun t5 =>
      readSlot arg5 6 >>= fun t6 => readSlot arg5 7 >>= fun t7 => keepOut arg1 (O ![t0, t1, t2, t3, t4, t5, t6,
      t7]) : Bd F (PUnit)) >>= fun _ =>
  (sentLoc arg3 harg3 arg4 arg7 0 >>= fun _ => sentLoc arg3 harg3 arg4 arg7 1 >>= fun _ => sentLoc arg3 harg3
      arg4 arg7 2 >>= fun _ => gotRow arg5 arg9 d 0 >>= fun _ => gotRow arg5 arg9 d 1 : Bd F (PUnit)) >>= fun _
      =>
  (gotRow arg5 arg9 d 2 >>= fun _ => gotRow arg5 arg9 d 3 >>= fun _ => gotRow arg5 arg9 d 4 >>= fun _ => gotRow
      arg5 arg9 d 5 : Bd F (PUnit)) >>= fun _ =>
  (gotRow arg5 arg9 d 6 >>= fun _ => bye v6628_r0 d 0 >>= fun _ => bye v6628_r0 d 1 >>= fun _ => bye v6628_r0 d
      2 >>= fun _ => bye v6628_r0 d 3 : Bd F (PUnit)) >>= fun _ =>
  (bye v6628_r0 d 4 >>= fun _ => bye v6628_r0 d 5 >>= fun _ => bye v6628_r0 d 6 >>= fun _ => bye v6628_r0 d 7
      >>= fun _ => bye v6628_r0 d 8 : Bd F (PUnit)) >>= fun _ =>
  bye v6628_r0 d 9 >>= fun _ =>
  semWaitWord v6628_r0.sem 10#32

/-- The stretches, regrouped. -/
theorem regrouped (L : Vec F S64x8192 .f32 → Vec F S64x8192 .f32 → FVec F S32x128 .f32) (M : Vec F S64x8192
    .f32 → Vec F S64x8192 .f32 → Vec F S1x32x128 .f32 → Vec F S1x32x128 .f32 → Vec F S1x32x128 .f32 → FVec F
    S1x32x128 .f32) (O : (Fin 8 → Vec F S1x32x128 .f32) → FVec F S1024x32 .f32) :
    chained arg0 arg1 arg2 arg3 harg3 arg4 arg5 arg6 arg7 arg8 arg9 arg10 v6628_r0 L M O = (
  Prog.lift .deviceId >>= fun (c : Dev nD) =>
  inOrder (hello c) [0, 1, 2, 3, 4, 5, 6, 7, 8, 9] >>= fun _ =>
  inOrder (fetch arg0 arg2 arg6 c) [0, 1] >>= fun _ =>
  fetched arg0 arg2 arg6 c 0 >>= fun _ =>
  readHalf arg2 0 >>= fun x =>
  fetched arg0 arg2 arg6 c 1 >>= fun _ =>
  readHalf arg2 1 >>= fun y =>
  keepLoc arg3 (L x y) >>= fun _ =>
  semWaitWord (SemArray.scalar (sig.barrier 0 rfl) : Sems sig S_).sem 10#32 >>= fun _ =>
  inOrder (sendLoc arg3 harg3 arg4 arg7 arg8 c) [0, 1, 2] >>= fun _ =>
  gotLoc arg3 harg3 arg4 arg8 0 >>= fun _ =>
  readSlab arg4 0 >>= fun u =>
  inOrder (gotLoc arg3 harg3 arg4 arg8) [1, 2] >>= fun _ =>
  readSlab arg4 1 >>= fun v =>
  readSlab arg4 2 >>= fun w =>
  keepRow arg5 c (M x y u v w) >>= fun _ =>
  inOrder (sendRow arg5 arg9 arg10 c) [0, 1, 2, 3, 4, 5, 6] >>= fun _ =>
  inOrder (gotRow arg5 arg10 c) [0, 1, 2, 3, 4, 5, 6] >>= fun _ =>
  readSlot arg5 0 >>= fun t0 =>
  readSlot arg5 1 >>= fun t1 =>
  readSlot arg5 2 >>= fun t2 =>
  readSlot arg5 3 >>= fun t3 =>
  readSlot arg5 4 >>= fun t4 =>
  readSlot arg5 5 >>= fun t5 =>
  readSlot arg5 6 >>= fun t6 =>
  readSlot arg5 7 >>= fun t7 =>
  keepOut arg1 (O ![t0, t1, t2, t3, t4, t5, t6, t7]) >>= fun _ =>
  inOrder (sentLoc arg3 harg3 arg4 arg7) [0, 1, 2] >>= fun _ =>
  inOrder (gotRow arg5 arg9 c) [0, 1, 2, 3, 4, 5, 6] >>= fun _ =>
  inOrder (bye v6628_r0 c) [0, 1, 2, 3, 4, 5, 6, 7, 8, 9] >>= fun _ =>
  semWaitWord v6628_r0.sem 10#32) := by
  unfold chained
  refine peel fun v => ?_
  refine consR ?_
  refine peel fun v => ?_
  refine consR ?_
  refine assocPeel fun v => ?_
  refine consR ?_
  refine assocPeel fun v => ?_
  refine consR ?_
  refine assocPeel fun v => ?_
  refine consR ?_
  refine assocPeel fun v => ?_
  refine consR ?_
  refine peel fun v => ?_
  refine consR ?_
  refine assocPeel fun v => ?_
  refine consR ?_
  refine assocPeel fun v => ?_
  refine consR ?_
  refine assocPeel fun v => ?_
  refine consR ?_
  refine assocPeel fun v => ?_
  refine nilR ?_
  refine consR ?_
  refine peel fun v => ?_
  refine consR ?_
  refine assocPeel fun v => ?_
  refine nilR ?_
  refine assocPeel fun v => ?_
  refine peel fun v => ?_
  refine assocPeel fun v => ?_
  refine peel fun v => ?_
  refine assocPeel fun v => ?_
  refine peel fun v => ?_
  refine consR ?_
  refine assocPeel fun v => ?_
  refine consR ?_
  refine peel fun v => ?_
  refine consR ?_
  refine assocPeel fun v => ?_
  refine nilR ?_
  refine assocPeel fun v => ?_
  refine peel fun v => ?_
  refine consR ?_
  refine peel fun v => ?_
  refine consR ?_
  refine assocPeel fun v => ?_
  refine nilR ?_
  refine assocPeel fun v => ?_
  refine assocPeel fun v => ?_
  refine retL ?_
  refine peel fun v => ?_
  refine consR ?_
  refine peel fun v => ?_
  refine consR ?_
  refine peel fun v => ?_
  refine consR ?_
  refine peel fun v => ?_
  refine consR ?_
  refine peel fun v => ?_
  refine consR ?_
  refine peel fun v => ?_
  refine consR ?_
  refine peel fun v => ?_
  refine consR ?_
  refine assocPeel fun v => ?_
  refine nilR ?_
  refine consR ?_
  refine peel fun v => ?_
  refine consR ?_
  refine assocPeel fun v => ?_
  refine consR ?_
  refine peel fun v => ?_
  refine consR ?_
  refine assocPeel fun v => ?_
  refine consR ?_
  refine assocPeel fun v => ?_
  refine consR ?_
  refine peel fun v => ?_
  refine consR ?_
  refine assocPeel fun v => ?_
  refine nilR ?_
  refine assocPeel fun v => ?_
  refine assocPeel fun v => ?_
  refine assocPeel fun v => ?_
  refine assocPeel fun v => ?_
  refine assocPeel fun v => ?_
  refine assocPeel fun v => ?_
  refine assocPeel fun v => ?_
  refine assocPeel fun v => ?_
  refine peel fun v => ?_
  refine consR ?_
  refine assocPeel fun v => ?_
  refine consR ?_
  refine assocPeel fun v => ?_
  refine consR ?_
  refine assocPeel fun v => ?_
  refine nilR ?_
  refine consR ?_
  refine assocPeel fun v => ?_
  refine consR ?_
  refine peel fun v => ?_
  refine consR ?_
  refine assocPeel fun v => ?_
  refine consR ?_
  refine assocPeel fun v => ?_
  refine consR ?_
  refine assocPeel fun v => ?_
  refine consR ?_
  refine peel fun v => ?_
  refine consR ?_
  refine assocPeel fun v => ?_
  refine nilR ?_
  refine consR ?_
  refine assocPeel fun v => ?_
  refine consR ?_
  refine assocPeel fun v => ?_
  refine consR ?_
  refine assocPeel fun v => ?_
  refine consR ?_
  refine peel fun v => ?_
  refine consR ?_
  refine assocPeel fun v => ?_
  refine consR ?_
  refine assocPeel fun v => ?_
  refine consR ?_
  refine assocPeel fun v => ?_
  refine consR ?_
  refine assocPeel fun v => ?_
  refine consR ?_
  refine peel fun v => ?_
  refine consR ?_
  refine peel fun v => ?_
  refine nilR ?_
  rfl

end Cert.TopK
-- ==== Proof.Hold.lean ====
module

public import proofs.«01_k».proof.Proof.Lists

@[expose] public section

noncomputable section

/-!
# Wires that comparators leave alone

A wire that none of the next comparators names holds the same value after them.
-/

namespace Cert.TopK

open Idealize.ShloMosaic Cert.KernelIdeal

variable {F : FTy → Type} [FloatOps F]

/-- None of the `k` comparators from the `m`-th on names the wire `j`. -/
def spares (ps : List (ℕ × ℕ)) (m k j : ℕ) : Bool := ((ps.drop m).take k).all fun p => !(p.1 == j) && !(p.2 == j)

/-- A list of comparators that does not name a wire leaves it. -/
theorem run_skip {α : Type} (mx mn : α → α → α) (ps : List (ℕ × ℕ)) (k j : ℕ) (Y : Wires α)
    (h : ((ps.take k).all fun p => !(p.1 == j) && !(p.2 == j)) = true) : run mx mn ps k Y j = Y j := by
  induction ps generalizing k Y with
  | nil => cases k <;> rfl
  | cons p ps ih =>
    cases k with
    | zero => rfl
    | succ k =>
      rw [List.take_succ_cons, List.all_cons, Bool.and_eq_true] at h
      have h1 := h.1
      simp only [Bool.and_eq_true, Bool.not_eq_true', beq_eq_false_iff_ne, ne_eq] at h1
      rw [run, ih k _ h.2]
      obtain ⟨a, b⟩ := p
      rw [cx_at, if_neg (fun e => h1.1 e.symm), if_neg (fun e => h1.2 e.symm)]

/-- A wire of a network that the next `k` comparators spare. -/
theorem run_hold {α : Type} (mx mn : α → α → α) (ps : List (ℕ × ℕ)) (m k j : ℕ) (Y : Wires α)
    (h : spares ps m k j = true) : run mx mn ps m Y j = run mx mn ps (m + k) Y j := by
  rw [run_add, run_skip mx mn _ k j _ h]

/-- A wire of the sort that the next `k` comparators spare. -/
theorem sort_hold (x : Vec F S64x8192 .f32) (m k j : ℕ) (h : spares sortNet m k j = true) :
    l0 x m j = l0 x (m + k) j := run_hold _ _ _ m k j _ h

/-- A wire of a merge that the next `k` comparators spare. -/
theorem merge_hold {s : Shape} (A B : Wires (FVec F s .f32)) (m k j : ℕ) (h : spares bitonicNet m k j = true) :
    merge m A B j = merge (m + k) A B j := run_hold _ _ _ m k j _ h

end Cert.TopK
-- ==== Proof.PartsA.lean ====
module

public import proofs.«01_k».proof.Proof.Hold

@[expose] public section

noncomputable section

/-!
# The first block of rows: the sort and the first folds

Each statement says which wires a stretch of the body computes: its values are written as "the wires of fold k
after n comparators". The stretches hold pure arithmetic only, so each is an equation between programs that return.
-/

namespace Cert.TopK

open Idealize.ShloMosaic Idealize.SL.Sem Cert.KernelIdeal

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- Stretch 11 of the body, from the wires it reads to the wires it hands on. -/
theorem part11 (x : Vec F S64x8192 .f32) :
    k0_part11 arg0 harg0 arg1 harg1 arg2 harg2 arg3 harg3 arg4 harg4 arg5 harg5 arg6 arg7 arg8 arg9 arg10
        v6628_r0 (l0 x 2 4) (l0 x 2 5) (l0 x 2 6) (l0 x 2 7) (l0 x 2 8) (l0 x 2 9) (l0 x 2 10) (l0 x 2 11) (l0
        x 2 12) (l0 x 2 13) (l0 x 2 14) (l0 x 2 15) (l0 x 2 0) (l0 x 2 1) (l0 x 2 2) (l0 x 2 3) (l0 x 3 0) =
      pure ⟨l0 x 32 0, l0 x 32 7, l0 x 32 1, l0 x 32 2, l0 x 32 3, l0 x 32 4, l0 x 32 5, l0 x 32 6, l0 x 32 11,
          l0 x 32 9, l0 x 32 15, l0 x 32 13, l0 x 32 8, l0 x 32 14, l0 x 32 10, l0 x 32 12, l0 x 33 9⟩ := by
  rw [show l0 x 3 = onSort 2 1 (l0 x 2) from sort_add _ 2 1,
    show l0 x 32 = onSort 2 30 (l0 x 2) from sort_add _ 2 30,
    show l0 x 33 = onSort 2 31 (l0 x 2) from sort_add _ 2 31]
  generalize l0 x 2 = Y
  simp only [onSort, sortNet, List.drop_succ_cons, List.drop_zero, run]
  simp only [cx_at, Nat.reduceEqDiff, ↓reduceIte]
  rfl

/-- Stretch 12 of the body, from the wires it reads to the wires it hands on. -/
theorem part12 (x : Vec F S64x8192 .f32) :
    k0_part12 arg0 harg0 arg1 harg1 arg2 harg2 arg3 harg3 arg4 harg4 arg5 harg5 arg6 arg7 arg8 arg9 arg10
        v6628_r0 (l0 x 32 0) (l0 x 32 7) (l0 x 32 1) (l0 x 32 2) (l0 x 32 3) (l0 x 32 4) (l0 x 32 5) (l0 x 32
        6) (l0 x 32 11) (l0 x 32 9) (l0 x 32 15) (l0 x 32 13) (l0 x 32 8) (l0 x 32 14) (l0 x 32 10) (l0 x 32
        12) (l0 x 33 9) =
      pure ⟨l0 x 62 0, l0 x 62 14, l0 x 62 15, l0 x 62 13, l0 x 62 1, l0 x 62 2, l0 x 62 3, l0 x 62 4, l0 x 62
          5, l0 x 62 6, l0 x 62 7, l0 x 62 8, l0 x 62 9, l0 x 62 10, l0 x 62 11, l0 x 62 12, l0 x 63 13⟩ := by
  rw [show l0 x 33 = onSort 32 1 (l0 x 32) from sort_add _ 32 1,
    show l0 x 62 = onSort 32 30 (l0 x 32) from sort_add _ 32 30,
    show l0 x 63 = onSort 32 31 (l0 x 32) from sort_add _ 32 31]
  generalize l0 x 32 = Y
  simp only [onSort, sortNet, List.drop_succ_cons, List.drop_zero, run]
  simp only [cx_at, Nat.reduceEqDiff, ↓reduceIte]
  rfl

/-- Stretch 13 of the body, from the wires it reads to the wires it hands on. -/
theorem part13 (x : Vec F S64x8192 .f32) :
    k0_part13 arg0 harg0 arg1 harg1 arg2 harg2 arg3 harg3 arg4 harg4 arg5 harg5 arg6 arg7 arg8 arg9 arg10
        v6628_r0 (l0 x 2 16) (l0 x 2 17) (l0 x 2 18) (l0 x 2 19) (l0 x 2 20) (l0 x 2 21) (l0 x 2 22) (l0 x 2
        23) (l0 x 2 24) (l0 x 2 25) (l0 x 2 26) (l0 x 2 27) (l0 x 2 28) (l0 x 2 29) (l0 x 2 30) (l0 x 2 31) (l0
        x 62 14) (l0 x 62 13) =
      pure ⟨l0 x 92 14, l0 x 92 16, l0 x 92 23, l0 x 92 17, l0 x 92 18, l0 x 92 19, l0 x 92 20, l0 x 92 21, l0
          x 92 22, l0 x 92 24, l0 x 92 27, l0 x 92 25, l0 x 92 26, l0 x 92 28, l0 x 92 31, l0 x 92 29, l0 x 92
          30, l0 x 93 24⟩ := by
  rw [show l0 x 2 16 = l0 x 62 16 from sort_hold x 2 60 16 (by decide),
    show l0 x 2 17 = l0 x 62 17 from sort_hold x 2 60 17 (by decide),
    show l0 x 2 18 = l0 x 62 18 from sort_hold x 2 60 18 (by decide),
    show l0 x 2 19 = l0 x 62 19 from sort_hold x 2 60 19 (by decide),
    show l0 x 2 20 = l0 x 62 20 from sort_hold x 2 60 20 (by decide),
    show l0 x 2 21 = l0 x 62 21 from sort_hold x 2 60 21 (by decide),
    show l0 x 2 22 = l0 x 62 22 from sort_hold x 2 60 22 (by decide),
    show l0 x 2 23 = l0 x 62 23 from sort_hold x 2 60 23 (by decide),
    show l0 x 2 24 = l0 x 62 24 from sort_hold x 2 60 24 (by decide),
    show l0 x 2 25 = l0 x 62 25 from sort_hold x 2 60 25 (by decide),
    show l0 x 2 26 = l0 x 62 26 from sort_hold x 2 60 26 (by decide),
    show l0 x 2 27 = l0 x 62 27 from sort_hold x 2 60 27 (by decide),
    show l0 x 2 28 = l0 x 62 28 from sort_hold x 2 60 28 (by decide),
    show l0 x 2 29 = l0 x 62 29 from sort_hold x 2 60 29 (by decide),
    show l0 x 2 30 = l0 x 62 30 from sort_hold x 2 60 30 (by decide),
    show l0 x 2 31 = l0 x 62 31 from sort_hold x 2 60 31 (by decide)]
  rw [show l0 x 92 = onSort 62 30 (l0 x 62) from sort_add _ 62 30,
    show l0 x 93 = onSort 62 31 (l0 x 62) from sort_add _ 62 31]
  generalize l0 x 62 = Y
  simp only [onSort, sortNet, List.drop_succ_cons, List.drop_zero, run]
  simp only [cx_at, Nat.reduceEqDiff, ↓reduceIte]
  rfl

/-- Stretch 14 of the body, from the wires it reads to the wires it hands on. -/
theorem part14 (x : Vec F S64x8192 .f32) :
    k0_part14 arg0 harg0 arg1 harg1 arg2 harg2 arg3 harg3 arg4 harg4 arg5 harg5 arg6 arg7 arg8 arg9 arg10
        v6628_r0 (l0 x 92 16) (l0 x 92 23) (l0 x 92 17) (l0 x 92 18) (l0 x 92 19) (l0 x 92 20) (l0 x 92 21) (l0
        x 92 22) (l0 x 92 24) (l0 x 92 27) (l0 x 92 25) (l0 x 92 26) (l0 x 92 28) (l0 x 92 31) (l0 x 92 29) (l0
        x 92 30) (l0 x 93 24) =
      pure ⟨l0 x 122 16, l0 x 122 30, l0 x 122 24, l0 x 122 26, l0 x 122 28, l0 x 122 31, l0 x 122 23, l0 x 122
          25, l0 x 122 27, l0 x 122 29, l0 x 122 17, l0 x 122 18, l0 x 122 19, l0 x 122 20, l0 x 122 21, l0 x
          122 22, l0 x 123 23⟩ := by
  rw [show l0 x 93 = onSort 92 1 (l0 x 92) from sort_add _ 92 1,
    show l0 x 122 = onSort 92 30 (l0 x 92) from sort_add _ 92 30,
    show l0 x 123 = onSort 92 31 (l0 x 92) from sort_add _ 92 31]
  generalize l0 x 92 = Y
  simp only [onSort, sortNet, List.drop_succ_cons, List.drop_zero, run]
  simp only [cx_at, Nat.reduceEqDiff, ↓reduceIte]
  rfl

/-- Stretch 15 of the body, from the wires it reads to the wires it hands on. -/
theorem part15 (x : Vec F S64x8192 .f32) :
    k0_part15 arg0 harg0 arg1 harg1 arg2 harg2 arg3 harg3 arg4 harg4 arg5 harg5 arg6 arg7 arg8 arg9 arg10
        v6628_r0 (l0 x 62 0) (l0 x 62 1) (l0 x 62 2) (l0 x 62 4) (l0 x 62 6) (l0 x 62 8) (l0 x 62 9) (l0 x 62
        10) (l0 x 62 12) (l0 x 92 14) (l0 x 122 16) (l0 x 122 30) (l0 x 122 24) (l0 x 122 26) (l0 x 122 28) (l0
        x 122 23) (l0 x 122 25) (l0 x 122 27) (l0 x 122 29) (l0 x 122 17) (l0 x 122 18) (l0 x 122 20) (l0 x 122
        22) =
      pure ⟨l0 x 152 25, l0 x 152 27, l0 x 152 29, l0 x 152 0, l0 x 152 30, l0 x 152 2, l0 x 152 4, l0 x 152 6,
          l0 x 152 8, l0 x 152 10, l0 x 152 12, l0 x 152 14, l0 x 152 16, l0 x 152 18, l0 x 152 20, l0 x 152
          22, l0 x 152 24, l0 x 152 26, l0 x 152 28, l0 x 152 1, l0 x 152 17, l0 x 153 9⟩ := by
  rw [show l0 x 62 0 = l0 x 122 0 from sort_hold x 62 60 0 (by decide),
    show l0 x 62 1 = l0 x 122 1 from sort_hold x 62 60 1 (by decide),
    show l0 x 62 10 = l0 x 122 10 from sort_hold x 62 60 10 (by decide),
    show l0 x 62 12 = l0 x 122 12 from sort_hold x 62 60 12 (by decide),
    show l0 x 62 2 = l0 x 122 2 from sort_hold x 62 60 2 (by decide),
    show l0 x 62 4 = l0 x 122 4 from sort_hold x 62 60 4 (by decide),
    show l0 x 62 6 = l0 x 122 6 from sort_hold x 62 60 6 (by decide),
    show l0 x 62 8 = l0 x 122 8 from sort_hold x 62 60 8 (by decide),
    show l0 x 62 9 = l0 x 122 9 from sort_hold x 62 60 9 (by decide),
    show l0 x 92 14 = l0 x 122 14 from sort_hold x 92 30 14 (by decide)]
  rw [show l0 x 152 = onSort 122 30 (l0 x 122) from sort_add _ 122 30,
    show l0 x 153 = onSort 122 31 (l0 x 122) from sort_add _ 122 31]
  generalize l0 x 122 = Y
  simp only [onSort, sortNet, List.drop_succ_cons, List.drop_zero, run]
  simp only [cx_at, Nat.reduceEqDiff, ↓reduceIte]
  rfl

/-- Stretch 16 of the body, from the wires it reads to the wires it hands on. -/
theorem part16 (x : Vec F S64x8192 .f32) :
    k0_part16 arg0 harg0 arg1 harg1 arg2 harg2 arg3 harg3 arg4 harg4 arg5 harg5 arg6 arg7 arg8 arg9 arg10
        v6628_r0 (l0 x 62 15) (l0 x 62 3) (l0 x 62 5) (l0 x 62 7) (l0 x 62 9) (l0 x 62 11) (l0 x 63 13) (l0 x
        122 31) (l0 x 122 19) (l0 x 122 21) (l0 x 123 23) (l0 x 152 25) (l0 x 152 27) (l0 x 152 29) (l0 x 152
        2) (l0 x 152 4) (l0 x 152 6) (l0 x 152 8) (l0 x 152 10) (l0 x 152 12) (l0 x 152 14) (l0 x 152 1) (l0 x
        152 17) (l0 x 153 9) =
      pure ⟨l0 x 182 31, l0 x 182 13, l0 x 182 15, l0 x 182 17, l0 x 182 19, l0 x 182 21, l0 x 182 23, l0 x 182
          25, l0 x 182 27, l0 x 182 29, l0 x 182 1, l0 x 182 2, l0 x 182 3, l0 x 182 4, l0 x 182 5, l0 x 182 6,
          l0 x 182 7, l0 x 182 8, l0 x 182 9, l0 x 182 10, l0 x 182 11, l0 x 182 12, l0 x 183 13⟩ := by
  rw [show l0 x 122 19 = l0 x 152 19 from sort_hold x 122 30 19 (by decide),
    show l0 x 122 21 = l0 x 152 21 from sort_hold x 122 30 21 (by decide),
    show l0 x 122 31 = l0 x 152 31 from sort_hold x 122 30 31 (by decide),
    show l0 x 123 23 = l0 x 152 23 from sort_hold x 123 29 23 (by decide),
    show l0 x 62 11 = l0 x 152 11 from sort_hold x 62 90 11 (by decide),
    show l0 x 62 15 = l0 x 152 15 from sort_hold x 62 90 15 (by decide),
    show l0 x 62 3 = l0 x 152 3 from sort_hold x 62 90 3 (by decide),
    show l0 x 62 5 = l0 x 152 5 from sort_hold x 62 90 5 (by decide),
    show l0 x 62 7 = l0 x 152 7 from sort_hold x 62 90 7 (by decide),
    show l0 x 62 9 = l0 x 152 9 from sort_hold x 62 90 9 (by decide),
    show l0 x 63 13 = l0 x 152 13 from sort_hold x 63 89 13 (by decide)]
  rw [show l0 x 153 = onSort 152 1 (l0 x 152) from sort_add _ 152 1,
    show l0 x 182 = onSort 152 30 (l0 x 152) from sort_add _ 152 30,
    show l0 x 183 = onSort 152 31 (l0 x 152) from sort_add _ 152 31]
  generalize l0 x 152 = Y
  simp only [onSort, sortNet, List.drop_succ_cons, List.drop_zero, run]
  simp only [cx_at, Nat.reduceEqDiff, ↓reduceIte]
  rfl

/-- Stretch 17 of the body, from the wires it reads to the wires it hands on. -/
theorem part17 (x : Vec F S64x8192 .f32) :
    k0_part17 arg0 harg0 arg1 harg1 arg2 harg2 arg3 harg3 arg4 harg4 arg5 harg5 arg6 arg7 arg8 arg9 arg10
        v6628_r0 (l0 x 152 0) (l0 x 152 30) (l0 x 152 14) (l0 x 152 16) (l0 x 152 18) (l0 x 152 20) (l0 x 152
        22) (l0 x 152 24) (l0 x 152 26) (l0 x 152 28) (l0 x 182 31) (l0 x 182 13) (l0 x 182 15) (l0 x 182 17)
        (l0 x 182 19) (l0 x 182 21) (l0 x 182 23) (l0 x 182 25) (l0 x 182 27) (l0 x 182 29) (l0 x 182 1) (l0 x
        182 2) (l0 x 182 3) (l0 x 182 4) (l0 x 182 5) (l0 x 182 6) (l0 x 182 7) (l0 x 182 8) (l0 x 182 9) (l0 x
        182 10) (l0 x 182 11) (l0 x 182 12) (l0 x 183 13) =
      pure ⟨l0 x 191 14, l0 x 191 15, l0 x 191 16, l0 x 191 17, l0 x 191 18, l0 x 191 19, l0 x 191 20, l0 x 191
          21, l0 x 191 22, l0 x 191 23, l0 x 191 24, l0 x 191 25, l0 x 191 26, l0 x 191 27, l0 x 191 28, l0 x
          191 29, l0 x 191 30, l1 x 0 0, l1 x 0 1, l1 x 0 2, l1 x 0 3, l1 x 0 4, l1 x 0 5, l1 x 0 6, l1 x 0 7,
          l1 x 0 8, l1 x 0 9, l1 x 0 10, l1 x 0 11, l1 x 0 12, l1 x 0 13, lo1 (l0 x 191 14)⟩ := by
  rw [show l0 x 152 0 = l0 x 182 0 from sort_hold x 152 30 0 (by decide),
    show l0 x 152 14 = l0 x 182 14 from sort_hold x 152 30 14 (by decide),
    show l0 x 152 16 = l0 x 182 16 from sort_hold x 152 30 16 (by decide),
    show l0 x 152 18 = l0 x 182 18 from sort_hold x 152 30 18 (by decide),
    show l0 x 152 20 = l0 x 182 20 from sort_hold x 152 30 20 (by decide),
    show l0 x 152 22 = l0 x 182 22 from sort_hold x 152 30 22 (by decide),
    show l0 x 152 24 = l0 x 182 24 from sort_hold x 152 30 24 (by decide),
    show l0 x 152 26 = l0 x 182 26 from sort_hold x 152 30 26 (by decide),
    show l0 x 152 28 = l0 x 182 28 from sort_hold x 152 30 28 (by decide),
    show l0 x 152 30 = l0 x 182 30 from sort_hold x 152 30 30 (by decide)]
  simp only [l1]
  rw [show l0 x 183 = onSort 182 1 (l0 x 182) from sort_add _ 182 1,
    show l0 x 191 = onSort 182 9 (l0 x 182) from sort_add _ 182 9]
  generalize l0 x 182 = Y
  simp only [bitonicNet, merge, onSort, sortNet, List.drop_succ_cons, List.drop_zero, run]
  simp only [cx_at, meet_at, each_at, Nat.reduceEqDiff, ↓reduceIte, Nat.reduceSub]
  rfl

/-- Stretch 18 of the body, from the wires it reads to the wires it hands on. -/
theorem part18 (x : Vec F S64x8192 .f32) :
    k0_part18 arg0 harg0 arg1 harg1 arg2 harg2 arg3 harg3 arg4 harg4 arg5 harg5 arg6 arg7 arg8 arg9 arg10
        v6628_r0 (l0 x 152 0) (l0 x 182 31) (l0 x 182 1) (l0 x 182 2) (l0 x 182 3) (l0 x 182 4) (l0 x 182 5)
        (l0 x 182 6) (l0 x 182 7) (l0 x 182 8) (l0 x 182 9) (l0 x 182 10) (l0 x 182 11) (l0 x 182 12) (l0 x 183
        13) (l0 x 191 14) (l0 x 191 15) (l0 x 191 16) (l0 x 191 17) (l0 x 191 18) (l0 x 191 19) (l0 x 191 20)
        (l0 x 191 21) (l0 x 191 22) (l0 x 191 23) (l0 x 191 24) (l0 x 191 25) (l0 x 191 26) (l0 x 191 27) (l0 x
        191 28) (l0 x 191 29) (l0 x 191 30) (l1 x 0 0) (l1 x 0 1) (l1 x 0 2) (l1 x 0 3) (lo1 (l0 x 191 14)) =
      pure ⟨l1 x 3 14, l1 x 3 15, l1 x 3 19, l1 x 3 20, l1 x 3 21, l1 x 3 22, l1 x 3 23, l1 x 3 24, l1 x 3 25,
          l1 x 3 26, l1 x 3 27, l1 x 3 28, l1 x 3 29, l1 x 3 30, l1 x 3 31, l1 x 3 0, l1 x 3 16, l1 x 3 1, l1 x
          3 17, l1 x 3 2, l1 x 3 18, l1 x 4 3⟩ := by
  rw [show l0 x 152 0 = l0 x 191 0 from sort_hold x 152 39 0 (by decide),
    show l0 x 182 1 = l0 x 191 1 from sort_hold x 182 9 1 (by decide),
    show l0 x 182 10 = l0 x 191 10 from sort_hold x 182 9 10 (by decide),
    show l0 x 182 11 = l0 x 191 11 from sort_hold x 182 9 11 (by decide),
    show l0 x 182 12 = l0 x 191 12 from sort_hold x 182 9 12 (by decide),
    show l0 x 182 2 = l0 x 191 2 from sort_hold x 182 9 2 (by decide),
    show l0 x 182 3 = l0 x 191 3 from sort_hold x 182 9 3 (by decide),
    show l0 x 182 31 = l0 x 191 31 from sort_hold x 182 9 31 (by decide),
    show l0 x 182 4 = l0 x 191 4 from sort_hold x 182 9 4 (by decide),
    show l0 x 182 5 = l0 x 191 5 from sort_hold x 182 9 5 (by decide),
    show l0 x 182 6 = l0 x 191 6 from sort_hold x 182 9 6 (by decide),
    show l0 x 182 7 = l0 x 191 7 from sort_hold x 182 9 7 (by decide),
    show l0 x 182 8 = l0 x 191 8 from sort_hold x 182 9 8 (by decide),
    show l0 x 182 9 = l0 x 191 9 from sort_hold x 182 9 9 (by decide),
    show l0 x 183 13 = l0 x 191 13 from sort_hold x 183 8 13 (by decide)]
  simp only [l1]
  generalize l0 x 191 = Y
  simp only [bitonicNet, merge, List.drop_succ_cons, List.drop_zero, run]
  simp only [cx_at, meet_at, each_at, Nat.reduceEqDiff, ↓reduceIte, Nat.reduceSub]
  rfl

/-- Stretch 19 of the body, from the wires it reads to the wires it hands on. -/
theorem part19 (x : Vec F S64x8192 .f32) :
    k0_part19 arg0 harg0 arg1 harg1 arg2 harg2 arg3 harg3 arg4 harg4 arg5 harg5 arg6 arg7 arg8 arg9 arg10
        v6628_r0 (l1 x 0 3) (l1 x 0 4) (l1 x 0 5) (l1 x 0 6) (l1 x 0 7) (l1 x 0 8) (l1 x 0 9) (l1 x 0 10) (l1 x
        0 11) (l1 x 0 12) (l1 x 0 13) (l1 x 3 14) (l1 x 3 15) (l1 x 3 19) (l1 x 3 20) (l1 x 3 21) (l1 x 3 22)
        (l1 x 3 23) (l1 x 3 24) (l1 x 3 25) (l1 x 3 26) (l1 x 3 27) (l1 x 3 28) (l1 x 3 29) (l1 x 3 30) (l1 x 3
        31) (l1 x 3 0) (l1 x 3 16) (l1 x 3 1) (l1 x 3 17) (l1 x 3 2) (l1 x 3 18) (l1 x 4 3) =
      pure ⟨l1 x 33 8, l1 x 33 1, l1 x 33 9, l1 x 33 2, l1 x 33 10, l1 x 33 3, l1 x 33 11, l1 x 33 12, l1 x 33
          5, l1 x 33 13, l1 x 33 6, l1 x 33 14, l1 x 33 7, l1 x 33 15, l1 x 33 16, l1 x 33 24, l1 x 33 17, l1 x
          33 25, l1 x 33 18, l1 x 33 26, l1 x 33 19, l1 x 33 27, l1 x 33 20, l1 x 33 28, l1 x 33 21, l1 x 33
          29, l1 x 33 22, l1 x 33 30, l1 x 33 23, l1 x 33 31, l1 x 33 0, l1 x 33 4, l1 x 34 1⟩ := by
  rw [show l1 x 0 10 = l1 x 3 10 from merge_hold _ _ 0 3 10 (by decide),
    show l1 x 0 11 = l1 x 3 11 from merge_hold _ _ 0 3 11 (by decide),
    show l1 x 0 12 = l1 x 3 12 from merge_hold _ _ 0 3 12 (by decide),
    show l1 x 0 13 = l1 x 3 13 from merge_hold _ _ 0 3 13 (by decide),
    show l1 x 0 3 = l1 x 3 3 from merge_hold _ _ 0 3 3 (by decide),
    show l1 x 0 4 = l1 x 3 4 from merge_hold _ _ 0 3 4 (by decide),
    show l1 x 0 5 = l1 x 3 5 from merge_hold _ _ 0 3 5 (by decide),
    show l1 x 0 6 = l1 x 3 6 from merge_hold _ _ 0 3 6 (by decide),
    show l1 x 0 7 = l1 x 3 7 from merge_hold _ _ 0 3 7 (by decide),
    show l1 x 0 8 = l1 x 3 8 from merge_hold _ _ 0 3 8 (by decide),
    show l1 x 0 9 = l1 x 3 9 from merge_hold _ _ 0 3 9 (by decide)]
  rw [show l1 x 4 = onMerge 3 1 (l1 x 3) from merge_add _ _ 3 1,
    show l1 x 33 = onMerge 3 30 (l1 x 3) from merge_add _ _ 3 30,
    show l1 x 34 = onMerge 3 31 (l1 x 3) from merge_add _ _ 3 31]
  generalize l1 x 3 = Y
  simp only [bitonicNet, onMerge, List.drop_succ_cons, List.drop_zero, run]
  simp only [cx_at, Nat.reduceEqDiff, ↓reduceIte]
  rfl

/-- Stretch 20 of the body, from the wires it reads to the wires it hands on. -/
theorem part20 (x : Vec F S64x8192 .f32) :
    k0_part20 arg0 harg0 arg1 harg1 arg2 harg2 arg3 harg3 arg4 harg4 arg5 harg5 arg6 arg7 arg8 arg9 arg10
        v6628_r0 (l1 x 33 8) (l1 x 33 1) (l1 x 33 9) (l1 x 33 2) (l1 x 33 10) (l1 x 33 3) (l1 x 33 11) (l1 x 33
        12) (l1 x 33 5) (l1 x 33 13) (l1 x 33 6) (l1 x 33 14) (l1 x 33 7) (l1 x 33 15) (l1 x 33 16) (l1 x 33
        24) (l1 x 33 17) (l1 x 33 25) (l1 x 33 18) (l1 x 33 26) (l1 x 33 19) (l1 x 33 27) (l1 x 33 20) (l1 x 33
        28) (l1 x 33 21) (l1 x 33 29) (l1 x 33 22) (l1 x 33 30) (l1 x 33 23) (l1 x 33 31) (l1 x 33 0) (l1 x 33
        4) (l1 x 34 1) =
      pure ⟨l1 x 63 29, l1 x 63 31, l1 x 63 0, l1 x 63 2, l1 x 63 1, l1 x 63 3, l1 x 63 4, l1 x 63 6, l1 x 63
          5, l1 x 63 7, l1 x 63 8, l1 x 63 10, l1 x 63 9, l1 x 63 11, l1 x 63 12, l1 x 63 14, l1 x 63 13, l1 x
          63 15, l1 x 63 16, l1 x 63 18, l1 x 63 17, l1 x 63 19, l1 x 63 20, l1 x 63 22, l1 x 63 21, l1 x 63
          23, l1 x 63 24, l1 x 63 26, l1 x 63 25, l1 x 63 27, l1 x 63 28, l1 x 63 30, l1 x 64 29⟩ := by
  rw [show l1 x 34 = onMerge 33 1 (l1 x 33) from merge_add _ _ 33 1,
    show l1 x 63 = onMerge 33 30 (l1 x 33) from merge_add _ _ 33 30,
    show l1 x 64 = onMerge 33 31 (l1 x 33) from merge_add _ _ 33 31]
  generalize l1 x 33 = Y
  simp only [bitonicNet, onMerge, List.drop_succ_cons, List.drop_zero, run]
  simp only [cx_at, Nat.reduceEqDiff, ↓reduceIte]
  rfl

/-- Stretch 21 of the body, from the wires it reads to the wires it hands on. -/
theorem part21 (x : Vec F S64x8192 .f32) :
    k0_part21 arg0 harg0 arg1 harg1 arg2 harg2 arg3 harg3 arg4 harg4 arg5 harg5 arg6 arg7 arg8 arg9 arg10
        v6628_r0 (l1 x 63 29) (l1 x 63 31) (l1 x 63 0) (l1 x 63 2) (l1 x 63 1) (l1 x 63 3) (l1 x 63 4) (l1 x 63
        6) (l1 x 63 5) (l1 x 63 7) (l1 x 63 8) (l1 x 63 10) (l1 x 63 9) (l1 x 63 11) (l1 x 63 12) (l1 x 63 14)
        (l1 x 63 13) (l1 x 63 15) (l1 x 63 16) (l1 x 63 18) (l1 x 63 17) (l1 x 63 19) (l1 x 63 20) (l1 x 63 22)
        (l1 x 63 21) (l1 x 63 23) (l1 x 63 24) (l1 x 63 26) (l1 x 63 25) (l1 x 63 27) (l1 x 63 28) (l1 x 63 30)
        (l1 x 64 29) =
      pure ⟨l1 x 80 0, l1 x 80 1, l1 x 80 2, l1 x 80 3, l1 x 80 4, l1 x 80 5, l1 x 80 6, l1 x 80 7, l1 x 80 8,
          l1 x 80 9, l1 x 80 10, l1 x 80 11, l1 x 80 12, l1 x 80 13, l1 x 80 14, l1 x 80 15, l1 x 80 16, l1 x
          80 17, l1 x 80 18, l1 x 80 19, l1 x 80 20, l1 x 80 21, l1 x 80 22, l1 x 80 23, l1 x 80 24, l1 x 80
          25, l1 x 80 26, l1 x 80 27, l1 x 80 28, l1 x 80 29, l1 x 80 30, l1 x 80 31, l2 x 0 0, l2 x 0 1, l2 x
          0 2, l2 x 0 3, l2 x 0 4, l2 x 0 5, l2 x 0 6, l2 x 0 7, l2 x 0 8⟩ := by
  simp only [l2]
  rw [show l1 x 64 = onMerge 63 1 (l1 x 63) from merge_add _ _ 63 1,
    show l1 x 80 = onMerge 63 17 (l1 x 63) from merge_add _ _ 63 17]
  generalize l1 x 63 = Y
  simp only [bitonicNet, merge, onMerge, List.drop_succ_cons, List.drop_zero, run]
  simp only [cx_at, meet_at, each_at, Nat.reduceEqDiff, ↓reduceIte, Nat.reduceSub]
  rfl

/-- Stretch 22 of the body, from the wires it reads to the wires it hands on. -/
theorem part22 (x : Vec F S64x8192 .f32) :
    k0_part22 arg0 harg0 arg1 harg1 arg2 harg2 arg3 harg3 arg4 harg4 arg5 harg5 arg6 arg7 arg8 arg9 arg10
        v6628_r0 (l1 x 80 3) (l1 x 80 4) (l1 x 80 5) (l1 x 80 6) (l1 x 80 7) (l1 x 80 8) (l1 x 80 9) (l1 x 80
        10) (l1 x 80 11) (l1 x 80 12) (l1 x 80 13) (l1 x 80 14) (l1 x 80 15) (l1 x 80 16) (l1 x 80 17) (l1 x 80
        18) (l1 x 80 19) (l1 x 80 20) (l1 x 80 21) (l1 x 80 22) (l1 x 80 23) (l1 x 80 24) (l1 x 80 25) (l1 x 80
        26) (l1 x 80 27) (l1 x 80 28) =
      pure ⟨l2 x 0 9, l2 x 0 10, l2 x 0 11, l2 x 0 12, l2 x 0 13, l2 x 0 14, l2 x 0 15, l2 x 0 16, l2 x 0 17,
          l2 x 0 18, l2 x 0 19, l2 x 0 20, l2 x 0 21, l2 x 0 22, l2 x 0 23, l2 x 0 24, l2 x 0 25, l2 x 0 26, l2
          x 0 27, l2 x 0 28⟩ := by
  simp only [l2]
  generalize l1 x 80 = Y
  simp only [bitonicNet, merge, List.drop_succ_cons, List.drop_zero, run]
  simp only [cx_at, meet_at, each_at, Nat.reduceEqDiff, ↓reduceIte, Nat.reduceSub]
  rfl

/-- Stretch 23 of the body, from the wires it reads to the wires it hands on. -/
theorem part23 (x : Vec F S64x8192 .f32) :
    k0_part23 arg0 harg0 arg1 harg1 arg2 harg2 arg3 harg3 arg4 harg4 arg5 harg5 arg6 arg7 arg8 arg9 arg10
        v6628_r0 (l1 x 80 0) (l1 x 80 1) (l1 x 80 2) (l1 x 80 29) (l1 x 80 30) (l1 x 80 31) (l2 x 0 0) (l2 x 0
        1) (l2 x 0 2) (l2 x 0 3) (l2 x 0 4) (l2 x 0 5) (l2 x 0 6) (l2 x 0 7) (l2 x 0 8) (l2 x 0 9) (l2 x 0 10)
        (l2 x 0 11) (l2 x 0 12) (l2 x 0 13) (l2 x 0 14) (l2 x 0 15) (l2 x 0 16) (l2 x 0 17) (l2 x 0 18) (l2 x 0
        19) (l2 x 0 20) (l2 x 0 21) (l2 x 0 22) (l2 x 0 23) (l2 x 0 24) (l2 x 0 25) (l2 x 0 26) (l2 x 0 27) (l2
        x 0 28) =
      pure ⟨l2 x 25 17, l2 x 25 18, l2 x 25 19, l2 x 25 20, l2 x 25 21, l2 x 25 22, l2 x 25 23, l2 x 25 25, l2
          x 25 26, l2 x 25 27, l2 x 25 28, l2 x 25 29, l2 x 25 30, l2 x 25 31, l2 x 25 0, l2 x 25 8, l2 x 25 1,
          l2 x 25 9, l2 x 25 2, l2 x 25 10, l2 x 25 3, l2 x 25 11, l2 x 25 4, l2 x 25 12, l2 x 25 5, l2 x 25
          13, l2 x 25 6, l2 x 25 14, l2 x 25 7, l2 x 25 15, l2 x 25 16, l2 x 25 24, l2 x 26 17⟩ := by
  simp only [l2]
  generalize l1 x 80 = Y
  simp only [bitonicNet, merge, List.drop_succ_cons, List.drop_zero, run]
  simp only [cx_at, meet_at, each_at, Nat.reduceEqDiff, ↓reduceIte, Nat.reduceSub]
  rfl

/-- Stretch 24 of the body, from the wires it reads to the wires it hands on. -/
theorem part24 (x : Vec F S64x8192 .f32) :
    k0_part24 arg0 harg0 arg1 harg1 arg2 harg2 arg3 harg3 arg4 harg4 arg5 harg5 arg6 arg7 arg8 arg9 arg10
        v6628_r0 (l2 x 25 17) (l2 x 25 18) (l2 x 25 19) (l2 x 25 20) (l2 x 25 21) (l2 x 25 22) (l2 x 25 23) (l2
        x 25 25) (l2 x 25 26) (l2 x 25 27) (l2 x 25 28) (l2 x 25 29) (l2 x 25 30) (l2 x 25 31) (l2 x 25 0) (l2
        x 25 8) (l2 x 25 1) (l2 x 25 9) (l2 x 25 2) (l2 x 25 10) (l2 x 25 3) (l2 x 25 11) (l2 x 25 4) (l2 x 25
        12) (l2 x 25 5) (l2 x 25 13) (l2 x 25 6) (l2 x 25 14) (l2 x 25 7) (l2 x 25 15) (l2 x 25 16) (l2 x 25
        24) (l2 x 26 17) =
      pure ⟨l2 x 55 13, l2 x 55 15, l2 x 55 16, l2 x 55 20, l2 x 55 17, l2 x 55 21, l2 x 55 18, l2 x 55 22, l2
          x 55 19, l2 x 55 23, l2 x 55 24, l2 x 55 28, l2 x 55 25, l2 x 55 29, l2 x 55 26, l2 x 55 30, l2 x 55
          27, l2 x 55 31, l2 x 55 0, l2 x 55 2, l2 x 55 1, l2 x 55 3, l2 x 55 4, l2 x 55 6, l2 x 55 5, l2 x 55
          7, l2 x 55 8, l2 x 55 10, l2 x 55 9, l2 x 55 11, l2 x 55 12, l2 x 55 14, l2 x 56 13⟩ := by
  rw [show l2 x 26 = onMerge 25 1 (l2 x 25) from merge_add _ _ 25 1,
    show l2 x 55 = onMerge 25 30 (l2 x 25) from merge_add _ _ 25 30,
    show l2 x 56 = onMerge 25 31 (l2 x 25) from merge_add _ _ 25 31]
  generalize l2 x 25 = Y
  simp only [bitonicNet, onMerge, List.drop_succ_cons, List.drop_zero, run]
  simp only [cx_at, Nat.reduceEqDiff, ↓reduceIte]
  rfl

/-- Stretch 25 of the body, from the wires it reads to the wires it hands on. -/
theorem part25 (x : Vec F S64x8192 .f32) :
    k0_part25 arg0 harg0 arg1 harg1 arg2 harg2 arg3 harg3 arg4 harg4 arg5 harg5 arg6 arg7 arg8 arg9 arg10
        v6628_r0 (l2 x 55 13) (l2 x 55 15) (l2 x 55 16) (l2 x 55 20) (l2 x 55 17) (l2 x 55 21) (l2 x 55 18) (l2
        x 55 22) (l2 x 55 19) (l2 x 55 23) (l2 x 55 24) (l2 x 55 28) (l2 x 55 25) (l2 x 55 29) (l2 x 55 26) (l2
        x 55 30) (l2 x 55 27) (l2 x 55 31) (l2 x 55 0) (l2 x 55 2) (l2 x 55 1) (l2 x 55 3) (l2 x 55 4) (l2 x 55
        6) (l2 x 55 5) (l2 x 55 7) (l2 x 55 8) (l2 x 55 10) (l2 x 55 9) (l2 x 55 11) (l2 x 55 12) (l2 x 55 14)
        (l2 x 56 13) =
      pure ⟨l2 x 80 0, l2 x 80 1, l2 x 80 2, l2 x 80 3, l2 x 80 4, l2 x 80 5, l2 x 80 6, l2 x 80 7, l2 x 80 8,
          l2 x 80 9, l2 x 80 10, l2 x 80 11, l2 x 80 12, l2 x 80 13, l2 x 80 14, l2 x 80 15, l2 x 80 16, l2 x
          80 17, l2 x 80 18, l2 x 80 19, l2 x 80 20, l2 x 80 21, l2 x 80 22, l2 x 80 23, l2 x 80 24, l2 x 80
          25, l2 x 80 26, l2 x 80 27, l2 x 80 28, l2 x 80 29, l2 x 80 30, l2 x 80 31, l3 x 0 0, l3 x 0 1, l3 x
          0 2, lo3 (l2 x 80 3), hi3 (l2 x 80 28)⟩ := by
  simp only [l3]
  rw [show l2 x 56 = onMerge 55 1 (l2 x 55) from merge_add _ _ 55 1,
    show l2 x 80 = onMerge 55 25 (l2 x 55) from merge_add _ _ 55 25]
  generalize l2 x 55 = Y
  simp only [bitonicNet, merge, onMerge, List.drop_succ_cons, List.drop_zero, run]
  simp only [cx_at, meet_at, each_at, Nat.reduceEqDiff, ↓reduceIte, Nat.reduceSub]
  rfl

end Cert.TopK
-- ==== Proof.PartsB.lean ====
module

public import proofs.«01_k».proof.Proof.Hold

@[expose] public section

noncomputable section

/-!
# The first block of rows: the remaining folds

Each statement says which wires a stretch of the body computes: its values are written as "the wires of fold k
after n comparators". The stretches hold pure arithmetic only, so each is an equation between programs that return.
-/

namespace Cert.TopK

open Idealize.ShloMosaic Idealize.SL.Sem Cert.KernelIdeal

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- Stretch 26 of the body, from the wires it reads to the wires it hands on. -/
theorem part26 (x : Vec F S64x8192 .f32) :
    k0_part26 arg0 harg0 arg1 harg1 arg2 harg2 arg3 harg3 arg4 harg4 arg5 harg5 arg6 arg7 arg8 arg9 arg10
        v6628_r0 (l2 x 80 4) (l2 x 80 5) (l2 x 80 6) (l2 x 80 7) (l2 x 80 8) (l2 x 80 9) (l2 x 80 10) (l2 x 80
        11) (l2 x 80 12) (l2 x 80 13) (l2 x 80 14) (l2 x 80 15) (l2 x 80 16) (l2 x 80 17) (l2 x 80 18) (l2 x 80
        19) (l2 x 80 20) (l2 x 80 21) (l2 x 80 22) (l2 x 80 23) (l2 x 80 24) (l2 x 80 25) (l2 x 80 26) (l2 x 80
        27) (lo3 (l2 x 80 3)) (hi3 (l2 x 80 28)) =
      pure ⟨l3 x 0 3, l3 x 0 4, l3 x 0 5, l3 x 0 6, l3 x 0 7, l3 x 0 8, l3 x 0 9, l3 x 0 10, l3 x 0 11, l3 x 0
          12, l3 x 0 13, l3 x 0 14, l3 x 0 15, l3 x 0 16, l3 x 0 17, l3 x 0 18, l3 x 0 19, l3 x 0 20, l3 x 0
          21, l3 x 0 22, lo3 (l2 x 80 23), hi3 (l2 x 80 8)⟩ := by
  simp only [l3]
  generalize l2 x 80 = Y
  simp only [bitonicNet, merge, List.drop_succ_cons, List.drop_zero, run]
  simp only [cx_at, meet_at, each_at, Nat.reduceEqDiff, ↓reduceIte, Nat.reduceSub]
  rfl

/-- Stretch 27 of the body, from the wires it reads to the wires it hands on. -/
theorem part27 (x : Vec F S64x8192 .f32) :
    k0_part27 arg0 harg0 arg1 harg1 arg2 harg2 arg3 harg3 arg4 harg4 arg5 harg5 arg6 arg7 arg8 arg9 arg10
        v6628_r0 (l2 x 80 0) (l2 x 80 1) (l2 x 80 2) (l2 x 80 3) (l2 x 80 4) (l2 x 80 5) (l2 x 80 6) (l2 x 80
        7) (l2 x 80 24) (l2 x 80 25) (l2 x 80 26) (l2 x 80 27) (l2 x 80 28) (l2 x 80 29) (l2 x 80 30) (l2 x 80
        31) (l3 x 0 0) (l3 x 0 1) (l3 x 0 2) (l3 x 0 3) (l3 x 0 4) (l3 x 0 5) (l3 x 0 6) (l3 x 0 7) (l3 x 0 8)
        (l3 x 0 9) (l3 x 0 10) (l3 x 0 11) (l3 x 0 12) (l3 x 0 13) (l3 x 0 14) (l3 x 0 15) (l3 x 0 16) (l3 x 0
        17) (l3 x 0 18) (l3 x 0 19) (l3 x 0 20) (l3 x 0 21) (l3 x 0 22) (lo3 (l2 x 80 23)) (hi3 (l2 x 80 8)) =
      pure ⟨l3 x 17 16, l3 x 17 1, l3 x 17 17, l3 x 17 2, l3 x 17 18, l3 x 17 3, l3 x 17 19, l3 x 17 4, l3 x 17
          20, l3 x 17 5, l3 x 17 21, l3 x 17 6, l3 x 17 22, l3 x 17 7, l3 x 17 23, l3 x 17 24, l3 x 17 9, l3 x
          17 25, l3 x 17 10, l3 x 17 26, l3 x 17 11, l3 x 17 27, l3 x 17 12, l3 x 17 28, l3 x 17 13, l3 x 17
          29, l3 x 17 14, l3 x 17 30, l3 x 17 15, l3 x 17 31, l3 x 17 0, l3 x 17 8, l3 x 18 1⟩ := by
  simp only [l3]
  generalize l2 x 80 = Y
  simp only [bitonicNet, merge, List.drop_succ_cons, List.drop_zero, run]
  simp only [cx_at, meet_at, each_at, Nat.reduceEqDiff, ↓reduceIte, Nat.reduceSub]
  rfl

/-- Stretch 28 of the body, from the wires it reads to the wires it hands on. -/
theorem part28 (x : Vec F S64x8192 .f32) :
    k0_part28 arg0 harg0 arg1 harg1 arg2 harg2 arg3 harg3 arg4 harg4 arg5 harg5 arg6 arg7 arg8 arg9 arg10
        v6628_r0 (l3 x 17 16) (l3 x 17 1) (l3 x 17 17) (l3 x 17 2) (l3 x 17 18) (l3 x 17 3) (l3 x 17 19) (l3 x
        17 4) (l3 x 17 20) (l3 x 17 5) (l3 x 17 21) (l3 x 17 6) (l3 x 17 22) (l3 x 17 7) (l3 x 17 23) (l3 x 17
        24) (l3 x 17 9) (l3 x 17 25) (l3 x 17 10) (l3 x 17 26) (l3 x 17 11) (l3 x 17 27) (l3 x 17 12) (l3 x 17
        28) (l3 x 17 13) (l3 x 17 29) (l3 x 17 14) (l3 x 17 30) (l3 x 17 15) (l3 x 17 31) (l3 x 17 0) (l3 x 17
        8) (l3 x 18 1) =
      pure ⟨l3 x 47 27, l3 x 47 31, l3 x 47 0, l3 x 47 4, l3 x 47 1, l3 x 47 5, l3 x 47 2, l3 x 47 6, l3 x 47
          3, l3 x 47 7, l3 x 47 8, l3 x 47 12, l3 x 47 9, l3 x 47 13, l3 x 47 10, l3 x 47 14, l3 x 47 11, l3 x
          47 15, l3 x 47 16, l3 x 47 20, l3 x 47 17, l3 x 47 21, l3 x 47 18, l3 x 47 22, l3 x 47 19, l3 x 47
          23, l3 x 47 24, l3 x 47 28, l3 x 47 25, l3 x 47 29, l3 x 47 26, l3 x 47 30, l3 x 48 27⟩ := by
  rw [show l3 x 18 = onMerge 17 1 (l3 x 17) from merge_add _ _ 17 1,
    show l3 x 47 = onMerge 17 30 (l3 x 17) from merge_add _ _ 17 30,
    show l3 x 48 = onMerge 17 31 (l3 x 17) from merge_add _ _ 17 31]
  generalize l3 x 17 = Y
  simp only [bitonicNet, onMerge, List.drop_succ_cons, List.drop_zero, run]
  simp only [cx_at, Nat.reduceEqDiff, ↓reduceIte]
  rfl

/-- Stretch 29 of the body, from the wires it reads to the wires it hands on. -/
theorem part29 (x : Vec F S64x8192 .f32) :
    k0_part29 arg0 harg0 arg1 harg1 arg2 harg2 arg3 harg3 arg4 harg4 arg5 harg5 arg6 arg7 arg8 arg9 arg10
        v6628_r0 (l3 x 47 27) (l3 x 47 31) (l3 x 47 0) (l3 x 47 4) (l3 x 47 1) (l3 x 47 5) (l3 x 47 2) (l3 x 47
        6) (l3 x 47 3) (l3 x 47 7) (l3 x 47 8) (l3 x 47 12) (l3 x 47 9) (l3 x 47 13) (l3 x 47 10) (l3 x 47 14)
        (l3 x 47 11) (l3 x 47 15) (l3 x 47 16) (l3 x 47 20) (l3 x 47 17) (l3 x 47 21) (l3 x 47 18) (l3 x 47 22)
        (l3 x 47 19) (l3 x 47 23) (l3 x 47 24) (l3 x 47 28) (l3 x 47 25) (l3 x 47 29) (l3 x 47 26) (l3 x 47 30)
        (l3 x 48 27) =
      pure ⟨l3 x 77 26, l3 x 77 27, l3 x 77 28, l3 x 77 30, l3 x 77 29, l3 x 77 31, l3 x 77 0, l3 x 77 1, l3 x
          77 2, l3 x 77 3, l3 x 77 4, l3 x 77 5, l3 x 77 6, l3 x 77 7, l3 x 77 8, l3 x 77 9, l3 x 77 10, l3 x
          77 11, l3 x 77 12, l3 x 77 13, l3 x 77 14, l3 x 77 15, l3 x 77 16, l3 x 77 17, l3 x 77 18, l3 x 77
          19, l3 x 77 20, l3 x 77 21, l3 x 77 22, l3 x 77 23, l3 x 77 24, l3 x 77 25, l3 x 78 26⟩ := by
  rw [show l3 x 48 = onMerge 47 1 (l3 x 47) from merge_add _ _ 47 1,
    show l3 x 77 = onMerge 47 30 (l3 x 47) from merge_add _ _ 47 30,
    show l3 x 78 = onMerge 47 31 (l3 x 47) from merge_add _ _ 47 31]
  generalize l3 x 47 = Y
  simp only [bitonicNet, onMerge, List.drop_succ_cons, List.drop_zero, run]
  simp only [cx_at, Nat.reduceEqDiff, ↓reduceIte]
  rfl

/-- Stretch 30 of the body, from the wires it reads to the wires it hands on. -/
theorem part30 (x : Vec F S64x8192 .f32) :
    k0_part30 arg0 harg0 arg1 harg1 arg2 harg2 arg3 harg3 arg4 harg4 arg5 harg5 arg6 arg7 arg8 arg9 arg10
        v6628_r0 (l3 x 77 26) (l3 x 77 27) (l3 x 77 28) (l3 x 77 30) (l3 x 77 29) (l3 x 77 31) (l3 x 77 0) (l3
        x 77 1) (l3 x 77 2) (l3 x 77 3) (l3 x 77 4) (l3 x 77 5) (l3 x 77 6) (l3 x 77 7) (l3 x 77 8) (l3 x 77 9)
        (l3 x 77 10) (l3 x 77 11) (l3 x 77 12) (l3 x 77 13) (l3 x 77 14) (l3 x 77 15) (l3 x 77 16) (l3 x 77 17)
        (l3 x 77 18) (l3 x 77 19) (l3 x 77 20) (l3 x 77 21) (l3 x 77 22) (l3 x 77 23) (l3 x 77 24) (l3 x 77 25)
        (l3 x 78 26) =
      pure ⟨l3 x 80 27, l3 x 80 28, l3 x 80 29, l3 x 80 30, l3 x 80 31, l4 x 0 0, l4 x 0 1, l4 x 0 2, l4 x 0 3,
          l4 x 0 4, l4 x 0 5, l4 x 0 6, l4 x 0 7, l4 x 0 8, l4 x 0 9, l4 x 0 10, l4 x 0 11, l4 x 0 12, l4 x 0
          13, l4 x 0 14, l4 x 0 15, l4 x 0 16, l4 x 0 17, lo4 (l3 x 80 18)⟩ := by
  simp only [l4]
  rw [show l3 x 78 = onMerge 77 1 (l3 x 77) from merge_add _ _ 77 1,
    show l3 x 80 = onMerge 77 3 (l3 x 77) from merge_add _ _ 77 3]
  generalize l3 x 77 = Y
  simp only [bitonicNet, merge, onMerge, List.drop_succ_cons, List.drop_zero, run]
  simp only [cx_at, meet_at, each_at, Nat.reduceEqDiff, ↓reduceIte, Nat.reduceSub]
  rfl

/-- Stretch 31 of the body, from the wires it reads to the wires it hands on. -/
theorem part31 (x : Vec F S64x8192 .f32) :
    k0_part31 arg0 harg0 arg1 harg1 arg2 harg2 arg3 harg3 arg4 harg4 arg5 harg5 arg6 arg7 arg8 arg9 arg10
        v6628_r0 (l3 x 77 0) (l3 x 77 1) (l3 x 77 2) (l3 x 77 3) (l3 x 77 4) (l3 x 77 5) (l3 x 77 6) (l3 x 77
        7) (l3 x 77 8) (l3 x 77 9) (l3 x 77 10) (l3 x 77 11) (l3 x 77 12) (l3 x 77 13) (l3 x 77 19) (l3 x 77
        20) (l3 x 77 21) (l3 x 77 22) (l3 x 77 23) (l3 x 77 24) (l3 x 77 25) (l3 x 78 26) (l3 x 80 27) (l3 x 80
        28) (l3 x 80 29) (l3 x 80 30) (l3 x 80 31) (l4 x 0 0) (l4 x 0 1) (l4 x 0 2) (l4 x 0 3) (l4 x 0 4) (l4 x
        0 5) (l4 x 0 6) (l4 x 0 7) (l4 x 0 8) (l4 x 0 9) (l4 x 0 16) (l4 x 0 17) (lo4 (l3 x 80 18)) =
      pure ⟨l4 x 9 25, l4 x 9 26, l4 x 9 27, l4 x 9 28, l4 x 9 29, l4 x 9 30, l4 x 9 31, l4 x 9 0, l4 x 9 16,
          l4 x 9 1, l4 x 9 17, l4 x 9 2, l4 x 9 18, l4 x 9 3, l4 x 9 19, l4 x 9 4, l4 x 9 20, l4 x 9 5, l4 x 9
          21, l4 x 9 6, l4 x 9 22, l4 x 9 7, l4 x 9 23, l4 x 9 8, l4 x 9 24, l4 x 10 9⟩ := by
  rw [show l3 x 77 0 = l3 x 80 0 from merge_hold _ _ 77 3 0 (by decide),
    show l3 x 77 1 = l3 x 80 1 from merge_hold _ _ 77 3 1 (by decide),
    show l3 x 77 10 = l3 x 80 10 from merge_hold _ _ 77 3 10 (by decide),
    show l3 x 77 11 = l3 x 80 11 from merge_hold _ _ 77 3 11 (by decide),
    show l3 x 77 12 = l3 x 80 12 from merge_hold _ _ 77 3 12 (by decide),
    show l3 x 77 13 = l3 x 80 13 from merge_hold _ _ 77 3 13 (by decide),
    show l3 x 77 19 = l3 x 80 19 from merge_hold _ _ 77 3 19 (by decide),
    show l3 x 77 2 = l3 x 80 2 from merge_hold _ _ 77 3 2 (by decide),
    show l3 x 77 20 = l3 x 80 20 from merge_hold _ _ 77 3 20 (by decide),
    show l3 x 77 21 = l3 x 80 21 from merge_hold _ _ 77 3 21 (by decide),
    show l3 x 77 22 = l3 x 80 22 from merge_hold _ _ 77 3 22 (by decide),
    show l3 x 77 23 = l3 x 80 23 from merge_hold _ _ 77 3 23 (by decide),
    show l3 x 77 24 = l3 x 80 24 from merge_hold _ _ 77 3 24 (by decide),
    show l3 x 77 25 = l3 x 80 25 from merge_hold _ _ 77 3 25 (by decide),
    show l3 x 77 3 = l3 x 80 3 from merge_hold _ _ 77 3 3 (by decide),
    show l3 x 77 4 = l3 x 80 4 from merge_hold _ _ 77 3 4 (by decide),
    show l3 x 77 5 = l3 x 80 5 from merge_hold _ _ 77 3 5 (by decide),
    show l3 x 77 6 = l3 x 80 6 from merge_hold _ _ 77 3 6 (by decide),
    show l3 x 77 7 = l3 x 80 7 from merge_hold _ _ 77 3 7 (by decide),
    show l3 x 77 8 = l3 x 80 8 from merge_hold _ _ 77 3 8 (by decide),
    show l3 x 77 9 = l3 x 80 9 from merge_hold _ _ 77 3 9 (by decide),
    show l3 x 78 26 = l3 x 80 26 from merge_hold _ _ 78 2 26 (by decide)]
  simp only [l4]
  generalize l3 x 80 = Y
  simp only [bitonicNet, merge, List.drop_succ_cons, List.drop_zero, run]
  simp only [cx_at, meet_at, each_at, Nat.reduceEqDiff, ↓reduceIte, Nat.reduceSub]
  rfl

/-- Stretch 32 of the body, from the wires it reads to the wires it hands on. -/
theorem part32 (x : Vec F S64x8192 .f32) :
    k0_part32 arg0 harg0 arg1 harg1 arg2 harg2 arg3 harg3 arg4 harg4 arg5 harg5 arg6 arg7 arg8 arg9 arg10
        v6628_r0 (l4 x 0 9) (l4 x 0 10) (l4 x 0 11) (l4 x 0 12) (l4 x 0 13) (l4 x 0 14) (l4 x 0 15) (l4 x 9 25)
        (l4 x 9 26) (l4 x 9 27) (l4 x 9 28) (l4 x 9 29) (l4 x 9 30) (l4 x 9 31) (l4 x 9 0) (l4 x 9 16) (l4 x 9
        1) (l4 x 9 17) (l4 x 9 2) (l4 x 9 18) (l4 x 9 3) (l4 x 9 19) (l4 x 9 4) (l4 x 9 20) (l4 x 9 5) (l4 x 9
        21) (l4 x 9 6) (l4 x 9 22) (l4 x 9 7) (l4 x 9 23) (l4 x 9 8) (l4 x 9 24) (l4 x 10 9) =
      pure ⟨l4 x 39 11, l4 x 39 15, l4 x 39 16, l4 x 39 24, l4 x 39 17, l4 x 39 25, l4 x 39 18, l4 x 39 26, l4
          x 39 19, l4 x 39 27, l4 x 39 20, l4 x 39 28, l4 x 39 21, l4 x 39 29, l4 x 39 22, l4 x 39 30, l4 x 39
          23, l4 x 39 31, l4 x 39 0, l4 x 39 4, l4 x 39 1, l4 x 39 5, l4 x 39 2, l4 x 39 6, l4 x 39 3, l4 x 39
          7, l4 x 39 8, l4 x 39 12, l4 x 39 9, l4 x 39 13, l4 x 39 10, l4 x 39 14, l4 x 40 11⟩ := by
  rw [show l4 x 0 10 = l4 x 9 10 from merge_hold _ _ 0 9 10 (by decide),
    show l4 x 0 11 = l4 x 9 11 from merge_hold _ _ 0 9 11 (by decide),
    show l4 x 0 12 = l4 x 9 12 from merge_hold _ _ 0 9 12 (by decide),
    show l4 x 0 13 = l4 x 9 13 from merge_hold _ _ 0 9 13 (by decide),
    show l4 x 0 14 = l4 x 9 14 from merge_hold _ _ 0 9 14 (by decide),
    show l4 x 0 15 = l4 x 9 15 from merge_hold _ _ 0 9 15 (by decide),
    show l4 x 0 9 = l4 x 9 9 from merge_hold _ _ 0 9 9 (by decide)]
  rw [show l4 x 10 = onMerge 9 1 (l4 x 9) from merge_add _ _ 9 1,
    show l4 x 39 = onMerge 9 30 (l4 x 9) from merge_add _ _ 9 30,
    show l4 x 40 = onMerge 9 31 (l4 x 9) from merge_add _ _ 9 31]
  generalize l4 x 9 = Y
  simp only [bitonicNet, onMerge, List.drop_succ_cons, List.drop_zero, run]
  simp only [cx_at, Nat.reduceEqDiff, ↓reduceIte]
  rfl

/-- Stretch 33 of the body, from the wires it reads to the wires it hands on. -/
theorem part33 (x : Vec F S64x8192 .f32) :
    k0_part33 arg0 harg0 arg1 harg1 arg2 harg2 arg3 harg3 arg4 harg4 arg5 harg5 arg6 arg7 arg8 arg9 arg10
        v6628_r0 (l4 x 39 11) (l4 x 39 15) (l4 x 39 16) (l4 x 39 24) (l4 x 39 17) (l4 x 39 25) (l4 x 39 18) (l4
        x 39 26) (l4 x 39 19) (l4 x 39 27) (l4 x 39 20) (l4 x 39 28) (l4 x 39 21) (l4 x 39 29) (l4 x 39 22) (l4
        x 39 30) (l4 x 39 23) (l4 x 39 31) (l4 x 39 0) (l4 x 39 4) (l4 x 39 1) (l4 x 39 5) (l4 x 39 2) (l4 x 39
        6) (l4 x 39 3) (l4 x 39 7) (l4 x 39 8) (l4 x 39 12) (l4 x 39 9) (l4 x 39 13) (l4 x 39 10) (l4 x 39 14)
        (l4 x 40 11) =
      pure ⟨l4 x 69 10, l4 x 69 11, l4 x 69 12, l4 x 69 14, l4 x 69 13, l4 x 69 15, l4 x 69 16, l4 x 69 18, l4
          x 69 17, l4 x 69 19, l4 x 69 20, l4 x 69 22, l4 x 69 21, l4 x 69 23, l4 x 69 24, l4 x 69 26, l4 x 69
          25, l4 x 69 27, l4 x 69 28, l4 x 69 30, l4 x 69 29, l4 x 69 31, l4 x 69 0, l4 x 69 1, l4 x 69 2, l4 x
          69 3, l4 x 69 4, l4 x 69 5, l4 x 69 6, l4 x 69 7, l4 x 69 8, l4 x 69 9, l4 x 70 10⟩ := by
  rw [show l4 x 40 = onMerge 39 1 (l4 x 39) from merge_add _ _ 39 1,
    show l4 x 69 = onMerge 39 30 (l4 x 39) from merge_add _ _ 39 30,
    show l4 x 70 = onMerge 39 31 (l4 x 39) from merge_add _ _ 39 31]
  generalize l4 x 39 = Y
  simp only [bitonicNet, onMerge, List.drop_succ_cons, List.drop_zero, run]
  simp only [cx_at, Nat.reduceEqDiff, ↓reduceIte]
  rfl

/-- Stretch 34 of the body, from the wires it reads to the wires it hands on. -/
theorem part34 (x : Vec F S64x8192 .f32) :
    k0_part34 arg0 harg0 arg1 harg1 arg2 harg2 arg3 harg3 arg4 harg4 arg5 harg5 arg6 arg7 arg8 arg9 arg10
        v6628_r0 (l4 x 69 10) (l4 x 69 11) (l4 x 69 12) (l4 x 69 14) (l4 x 69 13) (l4 x 69 15) (l4 x 69 16) (l4
        x 69 18) (l4 x 69 17) (l4 x 69 19) (l4 x 69 20) (l4 x 69 22) (l4 x 69 21) (l4 x 69 23) (l4 x 69 24) (l4
        x 69 26) (l4 x 69 25) (l4 x 69 27) (l4 x 69 28) (l4 x 69 30) (l4 x 69 29) (l4 x 69 31) (l4 x 69 0) (l4
        x 69 1) (l4 x 69 2) (l4 x 69 3) (l4 x 69 4) (l4 x 69 5) (l4 x 69 6) (l4 x 69 7) (l4 x 69 8) (l4 x 69 9)
        (l4 x 70 10) =
      pure ⟨rows x 0, rows x 1, rows x 2, rows x 3, rows x 4, rows x 5, rows x 6, rows x 7, rows x 8, rows x 9,
          rows x 10, rows x 11, rows x 12, rows x 13, rows x 14, rows x 15, rows x 16, rows x 17, rows x 18,
          rows x 19, rows x 20, rows x 21, rows x 22, rows x 23, rows x 24, rows x 25, rows x 26, rows x 27,
          rows x 28, rows x 29, rows x 30, rows x 31, l5 x 0 0, lo5 (rows x 1), hi5 (rows x 30)⟩ := by
  unfold k0_part34
  dsimp only
  generalize hT : transpose S512x64 [1, 0] (_ : FVec F S64x512 .f32) _ = T
  have e : T = turn x := by
    rw [← hT]
    simp only [turn, cat16, packAll]
    rw [show l4 x 70 = onMerge 69 1 (l4 x 69) from merge_add _ _ 69 1,
      show l4 x 80 = onMerge 69 11 (l4 x 69) from merge_add _ _ 69 11]
    generalize l4 x 69 = Y
    simp only [bitonicNet, onMerge, List.drop_succ_cons, List.drop_zero, run]
    simp only [cx_at, Nat.reduceEqDiff, ↓reduceIte]
    rfl
  subst e
  rfl

/-- Stretch 35 of the body, from the wires it reads to the wires it hands on. -/
theorem part35 (x : Vec F S64x8192 .f32) :
    k0_part35 arg0 harg0 arg1 harg1 arg2 harg2 arg3 harg3 arg4 harg4 arg5 harg5 arg6 arg7 arg8 arg9 arg10
        v6628_r0 (rows x 2) (rows x 3) (rows x 4) (rows x 5) (rows x 6) (rows x 7) (rows x 8) (rows x 9) (rows
        x 10) (rows x 11) (rows x 12) (rows x 13) (rows x 14) (rows x 15) (rows x 16) (rows x 17) (rows x 18)
        (rows x 19) (rows x 20) (rows x 21) (rows x 22) (rows x 23) (rows x 24) (rows x 25) (rows x 26) (rows x
        27) (rows x 28) (rows x 29) (lo5 (rows x 1)) (hi5 (rows x 30)) =
      pure ⟨l5 x 0 1, l5 x 0 2, l5 x 0 3, l5 x 0 4, l5 x 0 5, l5 x 0 6, l5 x 0 7, l5 x 0 8, l5 x 0 9, l5 x 0
          10, l5 x 0 11, l5 x 0 12, l5 x 0 13, l5 x 0 14, l5 x 0 15, l5 x 0 16, l5 x 0 17, l5 x 0 18, l5 x 0
          19, l5 x 0 20, lo5 (rows x 21), hi5 (rows x 10)⟩ := by
  simp only [l5]
  generalize rows x = Y
  simp only [bitonicNet, merge, List.drop_succ_cons, List.drop_zero, run]
  simp only [cx_at, meet_at, each_at, Nat.reduceEqDiff, ↓reduceIte, Nat.reduceSub]
  rfl

/-- Stretch 36 of the body, from the wires it reads to the wires it hands on. -/
theorem part36 (x : Vec F S64x8192 .f32) :
    k0_part36 arg0 harg0 arg1 harg1 arg2 harg2 arg3 harg3 arg4 harg4 arg5 harg5 arg6 arg7 arg8 arg9 arg10
        v6628_r0 (rows x 0) (rows x 1) (rows x 2) (rows x 3) (rows x 4) (rows x 5) (rows x 6) (rows x 7) (rows
        x 8) (rows x 9) (rows x 22) (rows x 23) (rows x 24) (rows x 25) (rows x 26) (rows x 27) (rows x 28)
        (rows x 29) (rows x 30) (rows x 31) (l5 x 0 0) (l5 x 0 1) (l5 x 0 2) (l5 x 0 3) (l5 x 0 4) (l5 x 0 5)
        (l5 x 0 6) (l5 x 0 7) (l5 x 0 8) (l5 x 0 9) (l5 x 0 10) (l5 x 0 11) (l5 x 0 12) (l5 x 0 13) (l5 x 0 14)
        (l5 x 0 16) (l5 x 0 17) (l5 x 0 18) (l5 x 0 19) (l5 x 0 20) (lo5 (rows x 21)) (hi5 (rows x 10)) =
      pure ⟨l5 x 14 30, l5 x 14 31, l5 x 14 0, l5 x 14 16, l5 x 14 1, l5 x 14 17, l5 x 14 2, l5 x 14 18, l5 x
          14 3, l5 x 14 19, l5 x 14 4, l5 x 14 20, l5 x 14 5, l5 x 14 21, l5 x 14 6, l5 x 14 22, l5 x 14 7, l5
          x 14 23, l5 x 14 8, l5 x 14 24, l5 x 14 9, l5 x 14 25, l5 x 14 10, l5 x 14 26, l5 x 14 11, l5 x 14
          27, l5 x 14 12, l5 x 14 28, l5 x 14 13, l5 x 14 29, l5 x 15 14⟩ := by
  simp only [l5]
  generalize rows x = Y
  simp only [bitonicNet, merge, List.drop_succ_cons, List.drop_zero, run]
  simp only [cx_at, meet_at, each_at, Nat.reduceEqDiff, ↓reduceIte, Nat.reduceSub]
  rfl

/-- Stretch 37 of the body, from the wires it reads to the wires it hands on. -/
theorem part37 (x : Vec F S64x8192 .f32) :
    k0_part37 arg0 harg0 arg1 harg1 arg2 harg2 arg3 harg3 arg4 harg4 arg5 harg5 arg6 arg7 arg8 arg9 arg10
        v6628_r0 (l5 x 0 14) (l5 x 0 15) (l5 x 14 30) (l5 x 14 31) (l5 x 14 0) (l5 x 14 16) (l5 x 14 1) (l5 x
        14 17) (l5 x 14 2) (l5 x 14 18) (l5 x 14 3) (l5 x 14 19) (l5 x 14 4) (l5 x 14 20) (l5 x 14 5) (l5 x 14
        21) (l5 x 14 6) (l5 x 14 22) (l5 x 14 7) (l5 x 14 23) (l5 x 14 8) (l5 x 14 24) (l5 x 14 9) (l5 x 14 25)
        (l5 x 14 10) (l5 x 14 26) (l5 x 14 11) (l5 x 14 27) (l5 x 14 12) (l5 x 14 28) (l5 x 14 13) (l5 x 14 29)
        (l5 x 15 14) =
      pure ⟨l5 x 44 24, l5 x 44 25, l5 x 44 26, l5 x 44 27, l5 x 44 28, l5 x 44 29, l5 x 44 30, l5 x 44 31, l5
          x 44 0, l5 x 44 4, l5 x 44 1, l5 x 44 5, l5 x 44 2, l5 x 44 6, l5 x 44 3, l5 x 44 7, l5 x 44 8, l5 x
          44 12, l5 x 44 9, l5 x 44 13, l5 x 44 10, l5 x 44 14, l5 x 44 11, l5 x 44 15, l5 x 44 16, l5 x 44 20,
          l5 x 44 17, l5 x 44 21, l5 x 44 18, l5 x 44 22, l5 x 44 19, l5 x 44 23, l5 x 45 24⟩ := by
  rw [show l5 x 0 14 = l5 x 14 14 from merge_hold _ _ 0 14 14 (by decide),
    show l5 x 0 15 = l5 x 14 15 from merge_hold _ _ 0 14 15 (by decide)]
  rw [show l5 x 15 = onMerge 14 1 (l5 x 14) from merge_add _ _ 14 1,
    show l5 x 44 = onMerge 14 30 (l5 x 14) from merge_add _ _ 14 30,
    show l5 x 45 = onMerge 14 31 (l5 x 14) from merge_add _ _ 14 31]
  generalize l5 x 14 = Y
  simp only [bitonicNet, onMerge, List.drop_succ_cons, List.drop_zero, run]
  simp only [cx_at, Nat.reduceEqDiff, ↓reduceIte]
  rfl

/-- Stretch 38 of the body, from the wires it reads to the wires it hands on. -/
theorem part38 (x : Vec F S64x8192 .f32) :
    k0_part38 arg0 harg0 arg1 harg1 arg2 harg2 arg3 harg3 arg4 harg4 arg5 harg5 arg6 arg7 arg8 arg9 arg10
        v6628_r0 (l5 x 44 24) (l5 x 44 25) (l5 x 44 26) (l5 x 44 27) (l5 x 44 28) (l5 x 44 29) (l5 x 44 30) (l5
        x 44 31) (l5 x 44 0) (l5 x 44 4) (l5 x 44 1) (l5 x 44 5) (l5 x 44 2) (l5 x 44 6) (l5 x 44 3) (l5 x 44
        7) (l5 x 44 8) (l5 x 44 12) (l5 x 44 9) (l5 x 44 13) (l5 x 44 10) (l5 x 44 14) (l5 x 44 11) (l5 x 44
        15) (l5 x 44 16) (l5 x 44 20) (l5 x 44 17) (l5 x 44 21) (l5 x 44 18) (l5 x 44 22) (l5 x 44 19) (l5 x 44
        23) (l5 x 45 24) =
      pure ⟨l5 x 74 20, l5 x 74 22, l5 x 74 21, l5 x 74 23, l5 x 74 24, l5 x 74 26, l5 x 74 25, l5 x 74 27, l5
          x 74 28, l5 x 74 30, l5 x 74 29, l5 x 74 31, l5 x 74 0, l5 x 74 1, l5 x 74 2, l5 x 74 3, l5 x 74 4,
          l5 x 74 5, l5 x 74 6, l5 x 74 7, l5 x 74 8, l5 x 74 9, l5 x 74 10, l5 x 74 11, l5 x 74 12, l5 x 74
          13, l5 x 74 14, l5 x 74 15, l5 x 74 16, l5 x 74 17, l5 x 74 18, l5 x 74 19, l5 x 75 20⟩ := by
  rw [show l5 x 45 = onMerge 44 1 (l5 x 44) from merge_add _ _ 44 1,
    show l5 x 74 = onMerge 44 30 (l5 x 44) from merge_add _ _ 44 30,
    show l5 x 75 = onMerge 44 31 (l5 x 44) from merge_add _ _ 44 31]
  generalize l5 x 44 = Y
  simp only [bitonicNet, onMerge, List.drop_succ_cons, List.drop_zero, run]
  simp only [cx_at, Nat.reduceEqDiff, ↓reduceIte]
  rfl

/-- Stretch 39 of the body, from the wires it reads to the wires it hands on. -/
theorem part39 (x : Vec F S64x8192 .f32) :
    k0_part39 arg0 harg0 arg1 harg1 arg2 harg2 arg3 harg3 arg4 harg4 arg5 harg5 arg6 arg7 arg8 arg9 arg10
        v6628_r0 (l5 x 74 20) (l5 x 74 22) (l5 x 74 21) (l5 x 74 23) (l5 x 74 24) (l5 x 74 26) (l5 x 74 25) (l5
        x 74 27) (l5 x 74 28) (l5 x 74 30) (l5 x 74 29) (l5 x 74 31) (l5 x 74 0) (l5 x 74 1) (l5 x 74 2) (l5 x
        74 3) (l5 x 74 4) (l5 x 74 5) (l5 x 74 6) (l5 x 74 7) (l5 x 74 8) (l5 x 74 9) (l5 x 74 10) (l5 x 74 11)
        (l5 x 74 12) (l5 x 74 13) (l5 x 74 14) (l5 x 74 15) (l5 x 74 16) (l5 x 74 17) (l5 x 74 18) (l5 x 74 19)
        (l5 x 75 20) =
      pure ⟨l5 x 80 21, l5 x 80 22, l5 x 80 23, l5 x 80 24, l5 x 80 25, l5 x 80 26, l5 x 80 27, l5 x 80 28, l5
          x 80 29, l5 x 80 30, l5 x 80 31, l6 x 0 0, l6 x 0 1, l6 x 0 2, l6 x 0 3, l6 x 0 4, l6 x 0 5, l6 x 0
          6, l6 x 0 7, l6 x 0 8, l6 x 0 9, l6 x 0 10, l6 x 0 11, l6 x 0 12, l6 x 0 13, l6 x 0 14, l6 x 0 15,
          lo6 (l5 x 80 16)⟩ := by
  simp only [l6]
  rw [show l5 x 75 = onMerge 74 1 (l5 x 74) from merge_add _ _ 74 1,
    show l5 x 80 = onMerge 74 6 (l5 x 74) from merge_add _ _ 74 6]
  generalize l5 x 74 = Y
  simp only [bitonicNet, merge, onMerge, List.drop_succ_cons, List.drop_zero, run]
  simp only [cx_at, meet_at, each_at, Nat.reduceEqDiff, ↓reduceIte, Nat.reduceSub]
  rfl

/-- Stretch 40 of the body, from the wires it reads to the wires it hands on. -/
theorem part40 (x : Vec F S64x8192 .f32) :
    k0_part40 arg0 harg0 arg1 harg1 arg2 harg2 arg3 harg3 arg4 harg4 arg5 harg5 arg6 arg7 arg8 arg9 arg10
        v6628_r0 (l5 x 74 0) (l5 x 74 1) (l5 x 74 2) (l5 x 74 3) (l5 x 74 4) (l5 x 74 5) (l5 x 74 6) (l5 x 74
        7) (l5 x 74 8) (l5 x 74 9) (l5 x 74 10) (l5 x 74 11) (l5 x 74 12) (l5 x 74 13) (l5 x 74 14) (l5 x 74
        15) (l5 x 74 17) (l5 x 74 18) (l5 x 74 19) (l5 x 75 20) (l5 x 80 21) (l5 x 80 22) (l5 x 80 23) (l5 x 80
        24) (l5 x 80 25) (l5 x 80 26) (l5 x 80 27) (l5 x 80 28) (l5 x 80 29) (l5 x 80 30) (l5 x 80 31) (l6 x 0
        0) (l6 x 0 1) (l6 x 0 2) (l6 x 0 3) (l6 x 0 4) (l6 x 0 5) (l6 x 0 6) (lo6 (l5 x 80 16)) =
      pure ⟨l6 x 6 22, l6 x 6 23, l6 x 6 24, l6 x 6 25, l6 x 6 26, l6 x 6 27, l6 x 6 28, l6 x 6 29, l6 x 6 30,
          l6 x 6 31, l6 x 6 0, l6 x 6 16, l6 x 6 1, l6 x 6 17, l6 x 6 2, l6 x 6 18, l6 x 6 3, l6 x 6 19, l6 x 6
          4, l6 x 6 20, l6 x 6 5, l6 x 6 21, l6 x 7 6⟩ := by
  rw [show l5 x 74 0 = l5 x 80 0 from merge_hold _ _ 74 6 0 (by decide),
    show l5 x 74 1 = l5 x 80 1 from merge_hold _ _ 74 6 1 (by decide),
    show l5 x 74 10 = l5 x 80 10 from merge_hold _ _ 74 6 10 (by decide),
    show l5 x 74 11 = l5 x 80 11 from merge_hold _ _ 74 6 11 (by decide),
    show l5 x 74 12 = l5 x 80 12 from merge_hold _ _ 74 6 12 (by decide),
    show l5 x 74 13 = l5 x 80 13 from merge_hold _ _ 74 6 13 (by decide),
    show l5 x 74 14 = l5 x 80 14 from merge_hold _ _ 74 6 14 (by decide),
    show l5 x 74 15 = l5 x 80 15 from merge_hold _ _ 74 6 15 (by decide),
    show l5 x 74 17 = l5 x 80 17 from merge_hold _ _ 74 6 17 (by decide),
    show l5 x 74 18 = l5 x 80 18 from merge_hold _ _ 74 6 18 (by decide),
    show l5 x 74 19 = l5 x 80 19 from merge_hold _ _ 74 6 19 (by decide),
    show l5 x 74 2 = l5 x 80 2 from merge_hold _ _ 74 6 2 (by decide),
    show l5 x 74 3 = l5 x 80 3 from merge_hold _ _ 74 6 3 (by decide),
    show l5 x 74 4 = l5 x 80 4 from merge_hold _ _ 74 6 4 (by decide),
    show l5 x 74 5 = l5 x 80 5 from merge_hold _ _ 74 6 5 (by decide),
    show l5 x 74 6 = l5 x 80 6 from merge_hold _ _ 74 6 6 (by decide),
    show l5 x 74 7 = l5 x 80 7 from merge_hold _ _ 74 6 7 (by decide),
    show l5 x 74 8 = l5 x 80 8 from merge_hold _ _ 74 6 8 (by decide),
    show l5 x 74 9 = l5 x 80 9 from merge_hold _ _ 74 6 9 (by decide),
    show l5 x 75 20 = l5 x 80 20 from merge_hold _ _ 75 5 20 (by decide)]
  simp only [l6]
  generalize l5 x 80 = Y
  simp only [bitonicNet, merge, List.drop_succ_cons, List.drop_zero, run]
  simp only [cx_at, meet_at, each_at, Nat.reduceEqDiff, ↓reduceIte, Nat.reduceSub]
  rfl

/-- Stretch 41 of the body, from the wires it reads to the wires it hands on. -/
theorem part41 (x : Vec F S64x8192 .f32) :
    k0_part41 arg0 harg0 arg1 harg1 arg2 harg2 arg3 harg3 arg4 harg4 arg5 harg5 arg6 arg7 arg8 arg9 arg10
        v6628_r0 (l6 x 0 6) (l6 x 0 7) (l6 x 0 8) (l6 x 0 9) (l6 x 0 10) (l6 x 0 11) (l6 x 0 12) (l6 x 0 13)
        (l6 x 0 14) (l6 x 0 15) (l6 x 6 22) (l6 x 6 23) (l6 x 6 24) (l6 x 6 25) (l6 x 6 26) (l6 x 6 27) (l6 x 6
        28) (l6 x 6 29) (l6 x 6 30) (l6 x 6 31) (l6 x 6 0) (l6 x 6 16) (l6 x 6 1) (l6 x 6 17) (l6 x 6 2) (l6 x
        6 18) (l6 x 6 3) (l6 x 6 19) (l6 x 6 4) (l6 x 6 20) (l6 x 6 5) (l6 x 6 21) (l6 x 7 6) =
      pure ⟨l6 x 36 8, l6 x 36 9, l6 x 36 10, l6 x 36 11, l6 x 36 12, l6 x 36 13, l6 x 36 14, l6 x 36 15, l6 x
          36 16, l6 x 36 24, l6 x 36 17, l6 x 36 25, l6 x 36 18, l6 x 36 26, l6 x 36 19, l6 x 36 27, l6 x 36
          20, l6 x 36 28, l6 x 36 21, l6 x 36 29, l6 x 36 22, l6 x 36 30, l6 x 36 23, l6 x 36 31, l6 x 36 0, l6
          x 36 4, l6 x 36 1, l6 x 36 5, l6 x 36 2, l6 x 36 6, l6 x 36 3, l6 x 36 7, l6 x 37 8⟩ := by
  rw [show l6 x 0 10 = l6 x 6 10 from merge_hold _ _ 0 6 10 (by decide),
    show l6 x 0 11 = l6 x 6 11 from merge_hold _ _ 0 6 11 (by decide),
    show l6 x 0 12 = l6 x 6 12 from merge_hold _ _ 0 6 12 (by decide),
    show l6 x 0 13 = l6 x 6 13 from merge_hold _ _ 0 6 13 (by decide),
    show l6 x 0 14 = l6 x 6 14 from merge_hold _ _ 0 6 14 (by decide),
    show l6 x 0 15 = l6 x 6 15 from merge_hold _ _ 0 6 15 (by decide),
    show l6 x 0 6 = l6 x 6 6 from merge_hold _ _ 0 6 6 (by decide),
    show l6 x 0 7 = l6 x 6 7 from merge_hold _ _ 0 6 7 (by decide),
    show l6 x 0 8 = l6 x 6 8 from merge_hold _ _ 0 6 8 (by decide),
    show l6 x 0 9 = l6 x 6 9 from merge_hold _ _ 0 6 9 (by decide)]
  rw [show l6 x 7 = onMerge 6 1 (l6 x 6) from merge_add _ _ 6 1,
    show l6 x 36 = onMerge 6 30 (l6 x 6) from merge_add _ _ 6 30,
    show l6 x 37 = onMerge 6 31 (l6 x 6) from merge_add _ _ 6 31]
  generalize l6 x 6 = Y
  simp only [bitonicNet, onMerge, List.drop_succ_cons, List.drop_zero, run]
  simp only [cx_at, Nat.reduceEqDiff, ↓reduceIte]
  rfl

/-- Stretch 42 of the body, from the wires it reads to the wires it hands on. -/
theorem part42 (x : Vec F S64x8192 .f32) :
    k0_part42 arg0 harg0 arg1 harg1 arg2 harg2 arg3 harg3 arg4 harg4 arg5 harg5 arg6 arg7 arg8 arg9 arg10
        v6628_r0 (l6 x 36 8) (l6 x 36 9) (l6 x 36 10) (l6 x 36 11) (l6 x 36 12) (l6 x 36 13) (l6 x 36 14) (l6 x
        36 15) (l6 x 36 16) (l6 x 36 24) (l6 x 36 17) (l6 x 36 25) (l6 x 36 18) (l6 x 36 26) (l6 x 36 19) (l6 x
        36 27) (l6 x 36 20) (l6 x 36 28) (l6 x 36 21) (l6 x 36 29) (l6 x 36 22) (l6 x 36 30) (l6 x 36 23) (l6 x
        36 31) (l6 x 36 0) (l6 x 36 4) (l6 x 36 1) (l6 x 36 5) (l6 x 36 2) (l6 x 36 6) (l6 x 36 3) (l6 x 36 7)
        (l6 x 37 8) =
      pure ⟨l6 x 66 4, l6 x 66 6, l6 x 66 5, l6 x 66 7, l6 x 66 8, l6 x 66 10, l6 x 66 9, l6 x 66 11, l6 x 66
          12, l6 x 66 14, l6 x 66 13, l6 x 66 15, l6 x 66 16, l6 x 66 18, l6 x 66 17, l6 x 66 19, l6 x 66 20,
          l6 x 66 22, l6 x 66 21, l6 x 66 23, l6 x 66 24, l6 x 66 26, l6 x 66 25, l6 x 66 27, l6 x 66 28, l6 x
          66 30, l6 x 66 29, l6 x 66 31, l6 x 66 0, l6 x 66 1, l6 x 66 2, l6 x 66 3, l6 x 67 4⟩ := by
  rw [show l6 x 37 = onMerge 36 1 (l6 x 36) from merge_add _ _ 36 1,
    show l6 x 66 = onMerge 36 30 (l6 x 36) from merge_add _ _ 36 30,
    show l6 x 67 = onMerge 36 31 (l6 x 36) from merge_add _ _ 36 31]
  generalize l6 x 36 = Y
  simp only [bitonicNet, onMerge, List.drop_succ_cons, List.drop_zero, run]
  simp only [cx_at, Nat.reduceEqDiff, ↓reduceIte]
  rfl

/-- Stretch 43 of the body, from the wires it reads to the wires it hands on. -/
theorem part43 (x : Vec F S64x8192 .f32) :
    k0_part43 arg0 harg0 arg1 harg1 arg2 harg2 arg3 harg3 arg4 harg4 arg5 harg5 arg6 arg7 arg8 arg9 arg10
        v6628_r0 (l6 x 66 4) (l6 x 66 6) (l6 x 66 5) (l6 x 66 7) (l6 x 66 8) (l6 x 66 10) (l6 x 66 9) (l6 x 66
        11) (l6 x 66 12) (l6 x 66 14) (l6 x 66 13) (l6 x 66 15) (l6 x 66 16) (l6 x 66 18) (l6 x 66 17) (l6 x 66
        19) (l6 x 66 20) (l6 x 66 22) (l6 x 66 21) (l6 x 66 23) (l6 x 66 24) (l6 x 66 26) (l6 x 66 25) (l6 x 66
        27) (l6 x 66 28) (l6 x 66 30) (l6 x 66 29) (l6 x 66 31) (l6 x 66 0) (l6 x 66 1) (l6 x 66 2) (l6 x 66 3)
        (l6 x 67 4) =
      pure ⟨l6 x 80 5, l6 x 80 6, l6 x 80 7, l6 x 80 8, l6 x 80 9, l6 x 80 10, l6 x 80 11, l6 x 80 12, l6 x 80
          13, l6 x 80 14, l6 x 80 15, l6 x 80 16, l6 x 80 17, l6 x 80 18, l6 x 80 19, l6 x 80 20, l6 x 80 21,
          l6 x 80 22, l6 x 80 23, l6 x 80 24, l6 x 80 25, l6 x 80 26, l6 x 80 27, l6 x 80 28, l6 x 80 29, l6 x
          80 30, l6 x 80 31, l7 x 0 0, l7 x 0 1, l7 x 0 2, l7 x 0 3, l7 x 0 4, l7 x 0 5, l7 x 0 6, l7 x 0 7, l7
          x 0 8, l7 x 0 9, l7 x 0 10⟩ := by
  simp only [l7]
  rw [show l6 x 67 = onMerge 66 1 (l6 x 66) from merge_add _ _ 66 1,
    show l6 x 80 = onMerge 66 14 (l6 x 66) from merge_add _ _ 66 14]
  generalize l6 x 66 = Y
  simp only [bitonicNet, merge, onMerge, List.drop_succ_cons, List.drop_zero, run]
  simp only [cx_at, meet_at, each_at, Nat.reduceEqDiff, ↓reduceIte, Nat.reduceSub]
  rfl

/-- Stretch 44 of the body, from the wires it reads to the wires it hands on. -/
theorem part44 (x : Vec F S64x8192 .f32) :
    k0_part44 arg0 harg0 arg1 harg1 arg2 harg2 arg3 harg3 arg4 harg4 arg5 harg5 arg6 arg7 arg8 arg9 arg10
        v6628_r0 (l6 x 66 1) (l6 x 66 2) (l6 x 66 3) (l6 x 67 4) (l6 x 80 5) (l6 x 80 6) (l6 x 80 7) (l6 x 80
        8) (l6 x 80 9) (l6 x 80 10) (l6 x 80 11) (l6 x 80 12) (l6 x 80 13) (l6 x 80 14) (l6 x 80 15) (l6 x 80
        16) (l6 x 80 17) (l6 x 80 18) (l6 x 80 19) (l6 x 80 20) (l6 x 80 21) (l6 x 80 22) (l6 x 80 23) (l6 x 80
        24) (l6 x 80 25) (l6 x 80 26) (l6 x 80 27) (l6 x 80 28) (l6 x 80 29) (l6 x 80 30) =
      pure ⟨l7 x 0 11, l7 x 0 12, l7 x 0 13, l7 x 0 14, l7 x 0 15, l7 x 0 16, l7 x 0 17, l7 x 0 18, l7 x 0 19,
          l7 x 0 20, l7 x 0 21, l7 x 0 22, l7 x 0 23, l7 x 0 24, l7 x 0 25, l7 x 0 26, l7 x 0 27, l7 x 0 28, l7
          x 0 29, l7 x 0 30⟩ := by
  rw [show l6 x 66 1 = l6 x 80 1 from merge_hold _ _ 66 14 1 (by decide),
    show l6 x 66 2 = l6 x 80 2 from merge_hold _ _ 66 14 2 (by decide),
    show l6 x 66 3 = l6 x 80 3 from merge_hold _ _ 66 14 3 (by decide),
    show l6 x 67 4 = l6 x 80 4 from merge_hold _ _ 67 13 4 (by decide)]
  simp only [l7]
  generalize l6 x 80 = Y
  simp only [bitonicNet, merge, List.drop_succ_cons, List.drop_zero, run]
  simp only [cx_at, meet_at, each_at, Nat.reduceEqDiff, ↓reduceIte, Nat.reduceSub]
  rfl

/-- Stretch 45 of the body, from the wires it reads to the wires it hands on. -/
theorem part45 (x : Vec F S64x8192 .f32) :
    k0_part45 arg0 harg0 arg1 harg1 arg2 harg2 arg3 harg3 arg4 harg4 arg5 harg5 arg6 arg7 arg8 arg9 arg10
        v6628_r0 (l6 x 66 0) (l6 x 80 31) (l7 x 0 0) (l7 x 0 1) (l7 x 0 2) (l7 x 0 3) (l7 x 0 4) (l7 x 0 5) (l7
        x 0 6) (l7 x 0 7) (l7 x 0 8) (l7 x 0 9) (l7 x 0 10) (l7 x 0 11) (l7 x 0 12) (l7 x 0 13) (l7 x 0 14) (l7
        x 0 15) (l7 x 0 16) (l7 x 0 17) (l7 x 0 18) (l7 x 0 19) (l7 x 0 20) (l7 x 0 21) (l7 x 0 22) (l7 x 0 23)
        (l7 x 0 24) (l7 x 0 25) (l7 x 0 26) (l7 x 0 27) (l7 x 0 28) (l7 x 0 29) (l7 x 0 30) =
      pure ⟨l7 x 28 20, l7 x 28 21, l7 x 28 22, l7 x 28 23, l7 x 28 28, l7 x 28 29, l7 x 28 30, l7 x 28 31, l7
          x 28 0, l7 x 28 8, l7 x 28 1, l7 x 28 9, l7 x 28 2, l7 x 28 10, l7 x 28 3, l7 x 28 11, l7 x 28 4, l7
          x 28 12, l7 x 28 5, l7 x 28 13, l7 x 28 6, l7 x 28 14, l7 x 28 7, l7 x 28 15, l7 x 28 16, l7 x 28 24,
          l7 x 28 17, l7 x 28 25, l7 x 28 18, l7 x 28 26, l7 x 28 19, l7 x 28 27, l7 x 29 20⟩ := by
  rw [show l6 x 66 0 = l6 x 80 0 from merge_hold _ _ 66 14 0 (by decide)]
  simp only [l7]
  generalize l6 x 80 = Y
  simp only [bitonicNet, merge, List.drop_succ_cons, List.drop_zero, run]
  simp only [cx_at, meet_at, each_at, Nat.reduceEqDiff, ↓reduceIte, Nat.reduceSub]
  rfl

/-- Stretch 46 of the body, from the wires it reads to the wires it hands on. -/
theorem part46 (x : Vec F S64x8192 .f32) :
    k0_part46 arg0 harg0 arg1 harg1 arg2 harg2 arg3 harg3 arg4 harg4 arg5 harg5 arg6 arg7 arg8 arg9 arg10
        v6628_r0 (l7 x 28 20) (l7 x 28 21) (l7 x 28 22) (l7 x 28 23) (l7 x 28 28) (l7 x 28 29) (l7 x 28 30) (l7
        x 28 31) (l7 x 28 0) (l7 x 28 8) (l7 x 28 1) (l7 x 28 9) (l7 x 28 2) (l7 x 28 10) (l7 x 28 3) (l7 x 28
        11) (l7 x 28 4) (l7 x 28 12) (l7 x 28 5) (l7 x 28 13) (l7 x 28 6) (l7 x 28 14) (l7 x 28 7) (l7 x 28 15)
        (l7 x 28 16) (l7 x 28 24) (l7 x 28 17) (l7 x 28 25) (l7 x 28 18) (l7 x 28 26) (l7 x 28 19) (l7 x 28 27)
        (l7 x 29 20) =
      pure ⟨l7 x 58 20, l7 x 58 21, l7 x 58 22, l7 x 58 23, l7 x 58 24, l7 x 58 28, l7 x 58 25, l7 x 58 29, l7
          x 58 26, l7 x 58 30, l7 x 58 27, l7 x 58 31, l7 x 58 0, l7 x 58 2, l7 x 58 1, l7 x 58 3, l7 x 58 4,
          l7 x 58 6, l7 x 58 5, l7 x 58 7, l7 x 58 8, l7 x 58 10, l7 x 58 9, l7 x 58 11, l7 x 58 12, l7 x 58
          14, l7 x 58 13, l7 x 58 15, l7 x 58 16, l7 x 58 18, l7 x 58 17, l7 x 58 19, l7 x 59 20⟩ := by
  rw [show l7 x 29 = onMerge 28 1 (l7 x 28) from merge_add _ _ 28 1,
    show l7 x 58 = onMerge 28 30 (l7 x 28) from merge_add _ _ 28 30,
    show l7 x 59 = onMerge 28 31 (l7 x 28) from merge_add _ _ 28 31]
  generalize l7 x 28 = Y
  simp only [bitonicNet, onMerge, List.drop_succ_cons, List.drop_zero, run]
  simp only [cx_at, Nat.reduceEqDiff, ↓reduceIte]
  rfl

/-- Stretch 47 of the body, from the wires it reads to the wires it hands on. -/
theorem part47 (x : Vec F S64x8192 .f32) :
    k0_part47 arg0 harg0 arg1 harg1 arg2 harg2 arg3 harg3 arg4 harg4 arg5 harg5 arg6 arg7 arg8 arg9 arg10
        v6628_r0 (l7 x 58 20) (l7 x 58 21) (l7 x 58 22) (l7 x 58 23) (l7 x 58 24) (l7 x 58 28) (l7 x 58 25) (l7
        x 58 29) (l7 x 58 26) (l7 x 58 30) (l7 x 58 27) (l7 x 58 31) (l7 x 58 0) (l7 x 58 2) (l7 x 58 1) (l7 x
        58 3) (l7 x 58 4) (l7 x 58 6) (l7 x 58 5) (l7 x 58 7) (l7 x 58 8) (l7 x 58 10) (l7 x 58 9) (l7 x 58 11)
        (l7 x 58 12) (l7 x 58 14) (l7 x 58 13) (l7 x 58 15) (l7 x 58 16) (l7 x 58 18) (l7 x 58 17) (l7 x 58 19)
        (l7 x 59 20) =
      pure ⟨l7 x 80 0, l7 x 80 1, l7 x 80 2, l7 x 80 3, l7 x 80 4, l7 x 80 5, l7 x 80 6, l7 x 80 7, l7 x 80 8,
          l7 x 80 9, l7 x 80 10, l7 x 80 11, l7 x 80 12, l7 x 80 13, l7 x 80 14, l7 x 80 15, l7 x 80 16, l7 x
          80 17, l7 x 80 18, l7 x 80 19, l7 x 80 20, l7 x 80 21, l7 x 80 22, l7 x 80 23, l7 x 80 24, l7 x 80
          25, l7 x 80 26, l7 x 80 27, l7 x 80 28, l7 x 80 29, l7 x 80 30, l7 x 80 31, l8 x 0 0, l8 x 0 1, l8 x
          0 2, l8 x 0 3, l8 x 0 4, lo8 (l7 x 80 5), hi8 (l7 x 80 26)⟩ := by
  simp only [l8]
  rw [show l7 x 59 = onMerge 58 1 (l7 x 58) from merge_add _ _ 58 1,
    show l7 x 80 = onMerge 58 22 (l7 x 58) from merge_add _ _ 58 22]
  generalize l7 x 58 = Y
  simp only [bitonicNet, merge, onMerge, List.drop_succ_cons, List.drop_zero, run]
  simp only [cx_at, meet_at, each_at, Nat.reduceEqDiff, ↓reduceIte, Nat.reduceSub]
  rfl

/-- Stretch 48 of the body, from the wires it reads to the wires it hands on. -/
theorem part48 (x : Vec F S64x8192 .f32) :
    k0_part48 arg0 harg0 arg1 harg1 arg2 harg2 arg3 harg3 arg4 harg4 arg5 harg5 arg6 arg7 arg8 arg9 arg10
        v6628_r0 (l7 x 80 6) (l7 x 80 7) (l7 x 80 8) (l7 x 80 9) (l7 x 80 10) (l7 x 80 11) (l7 x 80 12) (l7 x
        80 13) (l7 x 80 14) (l7 x 80 15) (l7 x 80 16) (l7 x 80 17) (l7 x 80 18) (l7 x 80 19) (l7 x 80 20) (l7 x
        80 21) (l7 x 80 22) (l7 x 80 23) (l7 x 80 24) (l7 x 80 25) (lo8 (l7 x 80 5)) (hi8 (l7 x 80 26)) =
      pure ⟨l8 x 0 5, l8 x 0 6, l8 x 0 7, l8 x 0 8, l8 x 0 9, l8 x 0 10, l8 x 0 11, l8 x 0 12, l8 x 0 13, l8 x
          0 14, l8 x 0 15, l8 x 0 16, l8 x 0 17, l8 x 0 18, l8 x 0 19, l8 x 0 20, l8 x 0 21, l8 x 0 22, l8 x 0
          23, l8 x 0 24, lo8 (l7 x 80 25), hi8 (l7 x 80 6)⟩ := by
  simp only [l8]
  generalize l7 x 80 = Y
  simp only [bitonicNet, merge, List.drop_succ_cons, List.drop_zero, run]
  simp only [cx_at, meet_at, each_at, Nat.reduceEqDiff, ↓reduceIte, Nat.reduceSub]
  rfl

/-- Stretch 49 of the body, from the wires it reads to the wires it hands on. -/
theorem part49 (x : Vec F S64x8192 .f32) :
    k0_part49 arg0 harg0 arg1 harg1 arg2 harg2 arg3 harg3 arg4 harg4 arg5 harg5 arg6 arg7 arg8 arg9 arg10
        v6628_r0 (l7 x 80 0) (l7 x 80 1) (l7 x 80 2) (l7 x 80 3) (l7 x 80 4) (l7 x 80 5) (l7 x 80 26) (l7 x 80
        27) (l7 x 80 28) (l7 x 80 29) (l7 x 80 30) (l7 x 80 31) (l8 x 0 0) (l8 x 0 1) (l8 x 0 2) (l8 x 0 3) (l8
        x 0 4) (l8 x 0 5) (l8 x 0 6) (l8 x 0 7) (l8 x 0 8) (l8 x 0 9) (l8 x 0 10) (l8 x 0 11) (l8 x 0 12) (l8 x
        0 13) (l8 x 0 14) (l8 x 0 15) (l8 x 0 16) (l8 x 0 17) (l8 x 0 18) (l8 x 0 19) (l8 x 0 20) (l8 x 0 21)
        (l8 x 0 22) (l8 x 0 23) (l8 x 0 24) (lo8 (l7 x 80 25)) (hi8 (l7 x 80 6)) =
      pure ⟨l8 x 20 16, l8 x 20 17, l8 x 20 18, l8 x 20 19, l8 x 20 4, l8 x 20 20, l8 x 20 5, l8 x 20 21, l8 x
          20 6, l8 x 20 22, l8 x 20 7, l8 x 20 23, l8 x 20 24, l8 x 20 25, l8 x 20 26, l8 x 20 27, l8 x 20 12,
          l8 x 20 28, l8 x 20 13, l8 x 20 29, l8 x 20 14, l8 x 20 30, l8 x 20 15, l8 x 20 31, l8 x 20 0, l8 x
          20 8, l8 x 20 1, l8 x 20 9, l8 x 20 2, l8 x 20 10, l8 x 20 3, l8 x 20 11, l8 x 21 4⟩ := by
  simp only [l8]
  generalize l7 x 80 = Y
  simp only [bitonicNet, merge, List.drop_succ_cons, List.drop_zero, run]
  simp only [cx_at, meet_at, each_at, Nat.reduceEqDiff, ↓reduceIte, Nat.reduceSub]
  rfl

/-- Stretch 50 of the body, from the wires it reads to the wires it hands on. -/
theorem part50 (x : Vec F S64x8192 .f32) :
    k0_part50 arg0 harg0 arg1 harg1 arg2 harg2 arg3 harg3 arg4 harg4 arg5 harg5 arg6 arg7 arg8 arg9 arg10
        v6628_r0 (l8 x 20 16) (l8 x 20 17) (l8 x 20 18) (l8 x 20 19) (l8 x 20 4) (l8 x 20 20) (l8 x 20 5) (l8 x
        20 21) (l8 x 20 6) (l8 x 20 22) (l8 x 20 7) (l8 x 20 23) (l8 x 20 24) (l8 x 20 25) (l8 x 20 26) (l8 x
        20 27) (l8 x 20 12) (l8 x 20 28) (l8 x 20 13) (l8 x 20 29) (l8 x 20 14) (l8 x 20 30) (l8 x 20 15) (l8 x
        20 31) (l8 x 20 0) (l8 x 20 8) (l8 x 20 1) (l8 x 20 9) (l8 x 20 2) (l8 x 20 10) (l8 x 20 3) (l8 x 20
        11) (l8 x 21 4) =
      pure ⟨l8 x 50 4, l8 x 50 5, l8 x 50 6, l8 x 50 7, l8 x 50 8, l8 x 50 12, l8 x 50 9, l8 x 50 13, l8 x 50
          10, l8 x 50 14, l8 x 50 11, l8 x 50 15, l8 x 50 16, l8 x 50 20, l8 x 50 17, l8 x 50 21, l8 x 50 18,
          l8 x 50 22, l8 x 50 19, l8 x 50 23, l8 x 50 24, l8 x 50 28, l8 x 50 25, l8 x 50 29, l8 x 50 26, l8 x
          50 30, l8 x 50 27, l8 x 50 31, l8 x 50 0, l8 x 50 2, l8 x 50 1, l8 x 50 3, l8 x 51 4⟩ := by
  rw [show l8 x 21 = onMerge 20 1 (l8 x 20) from merge_add _ _ 20 1,
    show l8 x 50 = onMerge 20 30 (l8 x 20) from merge_add _ _ 20 30,
    show l8 x 51 = onMerge 20 31 (l8 x 20) from merge_add _ _ 20 31]
  generalize l8 x 20 = Y
  simp only [bitonicNet, onMerge, List.drop_succ_cons, List.drop_zero, run]
  simp only [cx_at, Nat.reduceEqDiff, ↓reduceIte]
  rfl

/-- Stretch 51 of the body, from the wires it reads to the wires it hands on. -/
theorem part51 (x : Vec F S64x8192 .f32) :
    k0_part51 arg0 harg0 arg1 harg1 arg2 harg2 arg3 harg3 arg4 harg4 arg5 harg5 arg6 arg7 arg8 arg9 arg10
        v6628_r0 (l8 x 50 4) (l8 x 50 5) (l8 x 50 6) (l8 x 50 7) (l8 x 50 8) (l8 x 50 12) (l8 x 50 9) (l8 x 50
        13) (l8 x 50 10) (l8 x 50 14) (l8 x 50 11) (l8 x 50 15) (l8 x 50 16) (l8 x 50 20) (l8 x 50 17) (l8 x 50
        21) (l8 x 50 18) (l8 x 50 22) (l8 x 50 19) (l8 x 50 23) (l8 x 50 24) (l8 x 50 28) (l8 x 50 25) (l8 x 50
        29) (l8 x 50 26) (l8 x 50 30) (l8 x 50 27) (l8 x 50 31) (l8 x 50 0) (l8 x 50 2) (l8 x 50 1) (l8 x 50 3)
        (l8 x 51 4) =
      pure ⟨l8 x 80 0, l8 x 80 1, l8 x 80 2, l8 x 80 3, l8 x 80 4, l8 x 80 5, l8 x 80 6, l8 x 80 7, l8 x 80 8,
          l8 x 80 9, l8 x 80 10, l8 x 80 11, l8 x 80 12, l8 x 80 13, l8 x 80 14, l8 x 80 15, l8 x 80 16, l8 x
          80 17, l8 x 80 18, l8 x 80 19, l8 x 80 20, l8 x 80 21, l8 x 80 22, l8 x 80 23, l8 x 80 24, l8 x 80
          25, l8 x 80 26, l8 x 80 27, l8 x 80 28, l8 x 80 29, l8 x 80 30, l8 x 80 31⟩ := by
  rw [show l8 x 51 = onMerge 50 1 (l8 x 50) from merge_add _ _ 50 1,
    show l8 x 80 = onMerge 50 30 (l8 x 50) from merge_add _ _ 50 30]
  generalize l8 x 50 = Y
  simp only [bitonicNet, onMerge, List.drop_succ_cons, List.drop_zero, run]
  simp only [cx_at, Nat.reduceEqDiff, ↓reduceIte]
  rfl

end Cert.TopK
-- ==== Proof.PartsC.lean ====
module

public import proofs.«01_k».proof.Proof.Hold

@[expose] public section

noncomputable section

/-!
# The second block of rows: the sort and the first folds

Each statement says which wires a stretch of the body computes: its values are written as "the wires of fold k
after n comparators". The stretches hold pure arithmetic only, so each is an equation between programs that return.
-/

namespace Cert.TopK

open Idealize.ShloMosaic Idealize.SL.Sem Cert.KernelIdeal

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- Stretch 53 of the body, from the wires it reads to the wires it hands on. -/
theorem part53 (y : Vec F S64x8192 .f32) :
    k0_part53 arg0 harg0 arg1 harg1 arg2 harg2 arg3 harg3 arg4 harg4 arg5 harg5 arg6 arg7 arg8 arg9 arg10
        v6628_r0 (l0 y 8 8) (l0 y 8 9) (l0 y 8 10) (l0 y 8 11) (l0 y 8 12) (l0 y 8 13) (l0 y 8 14) (l0 y 8 15)
        (l0 y 8 0) (l0 y 8 3) (l0 y 8 1) (l0 y 8 2) (l0 y 8 5) (l0 y 8 7) (l0 y 8 4) (l0 y 8 6) (l0 y 9 5) =
      pure ⟨l0 y 38 0, l0 y 38 7, l0 y 38 1, l0 y 38 2, l0 y 38 3, l0 y 38 4, l0 y 38 5, l0 y 38 6, l0 y 38 8,
          l0 y 38 15, l0 y 38 9, l0 y 38 10, l0 y 38 11, l0 y 38 12, l0 y 38 13, l0 y 38 14, l0 y 39 0⟩ := by
  rw [show l0 y 9 = onSort 8 1 (l0 y 8) from sort_add _ 8 1,
    show l0 y 38 = onSort 8 30 (l0 y 8) from sort_add _ 8 30,
    show l0 y 39 = onSort 8 31 (l0 y 8) from sort_add _ 8 31]
  generalize l0 y 8 = Y
  simp only [onSort, sortNet, List.drop_succ_cons, List.drop_zero, run]
  simp only [cx_at, Nat.reduceEqDiff, ↓reduceIte]
  rfl

/-- Stretch 54 of the body, from the wires it reads to the wires it hands on. -/
theorem part54 (y : Vec F S64x8192 .f32) :
    k0_part54 arg0 harg0 arg1 harg1 arg2 harg2 arg3 harg3 arg4 harg4 arg5 harg5 arg6 arg7 arg8 arg9 arg10
        v6628_r0 (l0 y 8 16) (l0 y 8 17) (l0 y 8 18) (l0 y 8 19) (l0 y 8 20) (l0 y 8 21) (l0 y 38 0) (l0 y 38
        7) (l0 y 38 1) (l0 y 38 2) (l0 y 38 3) (l0 y 38 4) (l0 y 38 5) (l0 y 38 6) (l0 y 38 8) (l0 y 38 15) (l0
        y 38 9) (l0 y 38 10) (l0 y 38 11) (l0 y 38 12) (l0 y 38 13) (l0 y 38 14) =
      pure ⟨l0 y 68 15, l0 y 68 1, l0 y 68 2, l0 y 68 3, l0 y 68 4, l0 y 68 5, l0 y 68 6, l0 y 68 7, l0 y 68 8,
          l0 y 68 9, l0 y 68 10, l0 y 68 11, l0 y 68 12, l0 y 68 13, l0 y 68 14, l0 y 68 16, l0 y 68 19, l0 y
          68 17, l0 y 68 18, l0 y 69 20⟩ := by
  rw [show l0 y 8 16 = l0 y 38 16 from sort_hold y 8 30 16 (by decide),
    show l0 y 8 17 = l0 y 38 17 from sort_hold y 8 30 17 (by decide),
    show l0 y 8 18 = l0 y 38 18 from sort_hold y 8 30 18 (by decide),
    show l0 y 8 19 = l0 y 38 19 from sort_hold y 8 30 19 (by decide),
    show l0 y 8 20 = l0 y 38 20 from sort_hold y 8 30 20 (by decide),
    show l0 y 8 21 = l0 y 38 21 from sort_hold y 8 30 21 (by decide)]
  rw [show l0 y 68 = onSort 38 30 (l0 y 38) from sort_add _ 38 30,
    show l0 y 69 = onSort 38 31 (l0 y 38) from sort_add _ 38 31]
  generalize l0 y 38 = Y
  simp only [onSort, sortNet, List.drop_succ_cons, List.drop_zero, run]
  simp only [cx_at, Nat.reduceEqDiff, ↓reduceIte]
  rfl

/-- Stretch 55 of the body, from the wires it reads to the wires it hands on. -/
theorem part55 (y : Vec F S64x8192 .f32) :
    k0_part55 arg0 harg0 arg1 harg1 arg2 harg2 arg3 harg3 arg4 harg4 arg5 harg5 arg6 arg7 arg8 arg9 arg10
        v6628_r0 (l0 y 8 20) (l0 y 8 21) (l0 y 8 22) (l0 y 8 23) (l0 y 8 24) (l0 y 8 25) (l0 y 8 26) (l0 y 8
        27) (l0 y 8 28) (l0 y 8 29) (l0 y 8 30) (l0 y 8 31) (l0 y 68 16) (l0 y 68 19) (l0 y 68 17) (l0 y 68 18)
        (l0 y 69 20) =
      pure ⟨l0 y 98 16, l0 y 98 23, l0 y 98 17, l0 y 98 18, l0 y 98 19, l0 y 98 20, l0 y 98 21, l0 y 98 22, l0
          y 98 24, l0 y 98 30, l0 y 98 26, l0 y 98 28, l0 y 98 25, l0 y 98 31, l0 y 98 27, l0 y 98 29, l0 y 99
          25⟩ := by
  rw [show l0 y 8 20 = l0 y 68 20 from sort_hold y 8 60 20 (by decide),
    show l0 y 8 21 = l0 y 68 21 from sort_hold y 8 60 21 (by decide),
    show l0 y 8 22 = l0 y 68 22 from sort_hold y 8 60 22 (by decide),
    show l0 y 8 23 = l0 y 68 23 from sort_hold y 8 60 23 (by decide),
    show l0 y 8 24 = l0 y 68 24 from sort_hold y 8 60 24 (by decide),
    show l0 y 8 25 = l0 y 68 25 from sort_hold y 8 60 25 (by decide),
    show l0 y 8 26 = l0 y 68 26 from sort_hold y 8 60 26 (by decide),
    show l0 y 8 27 = l0 y 68 27 from sort_hold y 8 60 27 (by decide),
    show l0 y 8 28 = l0 y 68 28 from sort_hold y 8 60 28 (by decide),
    show l0 y 8 29 = l0 y 68 29 from sort_hold y 8 60 29 (by decide),
    show l0 y 8 30 = l0 y 68 30 from sort_hold y 8 60 30 (by decide),
    show l0 y 8 31 = l0 y 68 31 from sort_hold y 8 60 31 (by decide)]
  rw [show l0 y 69 = onSort 68 1 (l0 y 68) from sort_add _ 68 1,
    show l0 y 98 = onSort 68 30 (l0 y 68) from sort_add _ 68 30,
    show l0 y 99 = onSort 68 31 (l0 y 68) from sort_add _ 68 31]
  generalize l0 y 68 = Y
  simp only [onSort, sortNet, List.drop_succ_cons, List.drop_zero, run]
  simp only [cx_at, Nat.reduceEqDiff, ↓reduceIte]
  rfl

/-- Stretch 56 of the body, from the wires it reads to the wires it hands on. -/
theorem part56 (y : Vec F S64x8192 .f32) :
    k0_part56 arg0 harg0 arg1 harg1 arg2 harg2 arg3 harg3 arg4 harg4 arg5 harg5 arg6 arg7 arg8 arg9 arg10
        v6628_r0 (l0 y 39 0) (l0 y 68 8) (l0 y 98 16) (l0 y 98 23) (l0 y 98 17) (l0 y 98 18) (l0 y 98 19) (l0 y
        98 20) (l0 y 98 21) (l0 y 98 22) (l0 y 98 24) (l0 y 98 30) (l0 y 98 26) (l0 y 98 28) (l0 y 98 25) (l0 y
        98 31) (l0 y 98 27) (l0 y 98 29) (l0 y 99 25) =
      pure ⟨l0 y 128 31, l0 y 128 17, l0 y 128 18, l0 y 128 19, l0 y 128 20, l0 y 128 21, l0 y 128 22, l0 y 128
          23, l0 y 128 25, l0 y 128 26, l0 y 128 27, l0 y 128 28, l0 y 128 29, l0 y 128 30, l0 y 128 0, l0 y
          128 16, l0 y 128 8, l0 y 128 24, l0 y 129 8⟩ := by
  rw [show l0 y 39 0 = l0 y 98 0 from sort_hold y 39 59 0 (by decide),
    show l0 y 68 8 = l0 y 98 8 from sort_hold y 68 30 8 (by decide)]
  rw [show l0 y 99 = onSort 98 1 (l0 y 98) from sort_add _ 98 1,
    show l0 y 128 = onSort 98 30 (l0 y 98) from sort_add _ 98 30,
    show l0 y 129 = onSort 98 31 (l0 y 98) from sort_add _ 98 31]
  generalize l0 y 98 = Y
  simp only [onSort, sortNet, List.drop_succ_cons, List.drop_zero, run]
  simp only [cx_at, Nat.reduceEqDiff, ↓reduceIte]
  rfl

/-- Stretch 57 of the body, from the wires it reads to the wires it hands on. -/
theorem part57 (y : Vec F S64x8192 .f32) :
    k0_part57 arg0 harg0 arg1 harg1 arg2 harg2 arg3 harg3 arg4 harg4 arg5 harg5 arg6 arg7 arg8 arg9 arg10
        v6628_r0 (l0 y 68 1) (l0 y 68 2) (l0 y 68 4) (l0 y 68 5) (l0 y 68 6) (l0 y 68 9) (l0 y 68 10) (l0 y 68
        12) (l0 y 68 13) (l0 y 68 14) (l0 y 128 17) (l0 y 128 18) (l0 y 128 20) (l0 y 128 21) (l0 y 128 22) (l0
        y 128 25) (l0 y 128 26) (l0 y 128 28) (l0 y 128 29) (l0 y 128 30) (l0 y 128 16) (l0 y 128 8) (l0 y 128
        24) (l0 y 129 8) =
      pure ⟨l0 y 158 30, l0 y 158 2, l0 y 158 4, l0 y 158 6, l0 y 158 8, l0 y 158 10, l0 y 158 12, l0 y 158 14,
          l0 y 158 16, l0 y 158 18, l0 y 158 20, l0 y 158 22, l0 y 158 24, l0 y 158 26, l0 y 158 28, l0 y 158
          1, l0 y 158 25, l0 y 158 17, l0 y 158 29, l0 y 158 13, l0 y 158 21, l0 y 158 5, l0 y 158 9, l0 y 159
          13⟩ := by
  rw [show l0 y 68 1 = l0 y 128 1 from sort_hold y 68 60 1 (by decide),
    show l0 y 68 10 = l0 y 128 10 from sort_hold y 68 60 10 (by decide),
    show l0 y 68 12 = l0 y 128 12 from sort_hold y 68 60 12 (by decide),
    show l0 y 68 13 = l0 y 128 13 from sort_hold y 68 60 13 (by decide),
    show l0 y 68 14 = l0 y 128 14 from sort_hold y 68 60 14 (by decide),
    show l0 y 68 2 = l0 y 128 2 from sort_hold y 68 60 2 (by decide),
    show l0 y 68 4 = l0 y 128 4 from sort_hold y 68 60 4 (by decide),
    show l0 y 68 5 = l0 y 128 5 from sort_hold y 68 60 5 (by decide),
    show l0 y 68 6 = l0 y 128 6 from sort_hold y 68 60 6 (by decide),
    show l0 y 68 9 = l0 y 128 9 from sort_hold y 68 60 9 (by decide)]
  rw [show l0 y 129 = onSort 128 1 (l0 y 128) from sort_add _ 128 1,
    show l0 y 158 = onSort 128 30 (l0 y 128) from sort_add _ 128 30,
    show l0 y 159 = onSort 128 31 (l0 y 128) from sort_add _ 128 31]
  generalize l0 y 128 = Y
  simp only [onSort, sortNet, List.drop_succ_cons, List.drop_zero, run]
  simp only [cx_at, Nat.reduceEqDiff, ↓reduceIte]
  rfl

/-- Stretch 58 of the body, from the wires it reads to the wires it hands on. -/
theorem part58 (y : Vec F S64x8192 .f32) :
    k0_part58 arg0 harg0 arg1 harg1 arg2 harg2 arg3 harg3 arg4 harg4 arg5 harg5 arg6 arg7 arg8 arg9 arg10
        v6628_r0 (l0 y 68 15) (l0 y 68 3) (l0 y 68 7) (l0 y 68 11) (l0 y 128 31) (l0 y 128 19) (l0 y 128 23)
        (l0 y 128 27) (l0 y 158 2) (l0 y 158 4) (l0 y 158 6) (l0 y 158 8) (l0 y 158 10) (l0 y 158 12) (l0 y 158
        14) (l0 y 158 16) (l0 y 158 18) (l0 y 158 20) (l0 y 158 22) (l0 y 158 24) (l0 y 158 26) (l0 y 158 1)
        (l0 y 158 25) (l0 y 158 17) (l0 y 158 29) (l0 y 158 13) (l0 y 158 21) (l0 y 158 5) (l0 y 158 9) (l0 y
        159 13) =
      pure ⟨l0 y 188 31, l0 y 188 25, l0 y 188 27, l0 y 188 29, l0 y 188 1, l0 y 188 2, l0 y 188 3, l0 y 188 4,
          l0 y 188 5, l0 y 188 6, l0 y 188 7, l0 y 188 8, l0 y 188 9, l0 y 188 10, l0 y 188 11, l0 y 188 12, l0
          y 188 13, l0 y 188 14, l0 y 188 15, l0 y 188 16, l0 y 188 17, l0 y 188 18, l0 y 188 19, l0 y 188 20,
          l0 y 188 21, l0 y 188 22, l0 y 188 23, l0 y 188 24, l0 y 189 25⟩ := by
  rw [show l0 y 128 19 = l0 y 158 19 from sort_hold y 128 30 19 (by decide),
    show l0 y 128 23 = l0 y 158 23 from sort_hold y 128 30 23 (by decide),
    show l0 y 128 27 = l0 y 158 27 from sort_hold y 128 30 27 (by decide),
    show l0 y 128 31 = l0 y 158 31 from sort_hold y 128 30 31 (by decide),
    show l0 y 68 11 = l0 y 158 11 from sort_hold y 68 90 11 (by decide),
    show l0 y 68 15 = l0 y 158 15 from sort_hold y 68 90 15 (by decide),
    show l0 y 68 3 = l0 y 158 3 from sort_hold y 68 90 3 (by decide),
    show l0 y 68 7 = l0 y 158 7 from sort_hold y 68 90 7 (by decide)]
  rw [show l0 y 159 = onSort 158 1 (l0 y 158) from sort_add _ 158 1,
    show l0 y 188 = onSort 158 30 (l0 y 158) from sort_add _ 158 30,
    show l0 y 189 = onSort 158 31 (l0 y 158) from sort_add _ 158 31]
  generalize l0 y 158 = Y
  simp only [onSort, sortNet, List.drop_succ_cons, List.drop_zero, run]
  simp only [cx_at, Nat.reduceEqDiff, ↓reduceIte]
  rfl

/-- Stretch 59 of the body, from the wires it reads to the wires it hands on. -/
theorem part59 (y : Vec F S64x8192 .f32) :
    k0_part59 arg0 harg0 arg1 harg1 arg2 harg2 arg3 harg3 arg4 harg4 arg5 harg5 arg6 arg7 arg8 arg9 arg10
        v6628_r0 (l0 y 128 0) (l0 y 158 30) (l0 y 158 26) (l0 y 158 28) (l0 y 188 31) (l0 y 188 25) (l0 y 188
        27) (l0 y 188 29) (l0 y 188 1) (l0 y 188 2) (l0 y 188 3) (l0 y 188 4) (l0 y 188 5) (l0 y 188 6) (l0 y
        188 7) (l0 y 188 8) (l0 y 188 9) (l0 y 188 10) (l0 y 188 11) (l0 y 188 12) (l0 y 188 13) (l0 y 188 14)
        (l0 y 188 15) (l0 y 188 16) (l0 y 188 17) (l0 y 188 18) (l0 y 188 19) (l0 y 188 20) (l0 y 188 21) (l0 y
        188 22) (l0 y 188 23) (l0 y 188 24) (l0 y 189 25) =
      pure ⟨l0 y 191 26, l0 y 191 27, l0 y 191 28, l0 y 191 29, l0 y 191 30, l1 y 0 0, l1 y 0 1, l1 y 0 2, l1 y
          0 3, l1 y 0 4, l1 y 0 5, l1 y 0 6, l1 y 0 7, l1 y 0 8, l1 y 0 9, l1 y 0 10, l1 y 0 11, l1 y 0 12, l1
          y 0 13, l1 y 0 14, l1 y 0 15, l1 y 0 16, l1 y 0 17, lo1 (l0 y 191 18)⟩ := by
  rw [show l0 y 128 0 = l0 y 188 0 from sort_hold y 128 60 0 (by decide),
    show l0 y 158 26 = l0 y 188 26 from sort_hold y 158 30 26 (by decide),
    show l0 y 158 28 = l0 y 188 28 from sort_hold y 158 30 28 (by decide),
    show l0 y 158 30 = l0 y 188 30 from sort_hold y 158 30 30 (by decide)]
  simp only [l1]
  rw [show l0 y 189 = onSort 188 1 (l0 y 188) from sort_add _ 188 1,
    show l0 y 191 = onSort 188 3 (l0 y 188) from sort_add _ 188 3]
  generalize l0 y 188 = Y
  simp only [bitonicNet, merge, onSort, sortNet, List.drop_succ_cons, List.drop_zero, run]
  simp only [cx_at, meet_at, each_at, Nat.reduceEqDiff, ↓reduceIte, Nat.reduceSub]
  rfl

/-- Stretch 60 of the body, from the wires it reads to the wires it hands on. -/
theorem part60 (y : Vec F S64x8192 .f32) :
    k0_part60 arg0 harg0 arg1 harg1 arg2 harg2 arg3 harg3 arg4 harg4 arg5 harg5 arg6 arg7 arg8 arg9 arg10
        v6628_r0 (l0 y 128 0) (l0 y 188 31) (l0 y 188 1) (l0 y 188 2) (l0 y 188 3) (l0 y 188 4) (l0 y 188 5)
        (l0 y 188 6) (l0 y 188 7) (l0 y 188 8) (l0 y 188 9) (l0 y 188 10) (l0 y 188 11) (l0 y 188 12) (l0 y 188
        13) (l0 y 188 19) (l0 y 188 20) (l0 y 188 21) (l0 y 188 22) (l0 y 188 23) (l0 y 188 24) (l0 y 189 25)
        (l0 y 191 26) (l0 y 191 27) (l0 y 191 28) (l0 y 191 29) (l0 y 191 30) (l1 y 0 0) (l1 y 0 1) (l1 y 0 2)
        (l1 y 0 3) (l1 y 0 4) (l1 y 0 5) (l1 y 0 6) (l1 y 0 7) (l1 y 0 8) (l1 y 0 9) (l1 y 0 16) (l1 y 0 17)
        (lo1 (l0 y 191 18)) =
      pure ⟨l1 y 9 25, l1 y 9 26, l1 y 9 27, l1 y 9 28, l1 y 9 29, l1 y 9 30, l1 y 9 31, l1 y 9 0, l1 y 9 16,
          l1 y 9 1, l1 y 9 17, l1 y 9 2, l1 y 9 18, l1 y 9 3, l1 y 9 19, l1 y 9 4, l1 y 9 20, l1 y 9 5, l1 y 9
          21, l1 y 9 6, l1 y 9 22, l1 y 9 7, l1 y 9 23, l1 y 9 8, l1 y 9 24, l1 y 10 9⟩ := by
  rw [show l0 y 128 0 = l0 y 191 0 from sort_hold y 128 63 0 (by decide),
    show l0 y 188 1 = l0 y 191 1 from sort_hold y 188 3 1 (by decide),
    show l0 y 188 10 = l0 y 191 10 from sort_hold y 188 3 10 (by decide),
    show l0 y 188 11 = l0 y 191 11 from sort_hold y 188 3 11 (by decide),
    show l0 y 188 12 = l0 y 191 12 from sort_hold y 188 3 12 (by decide),
    show l0 y 188 13 = l0 y 191 13 from sort_hold y 188 3 13 (by decide),
    show l0 y 188 19 = l0 y 191 19 from sort_hold y 188 3 19 (by decide),
    show l0 y 188 2 = l0 y 191 2 from sort_hold y 188 3 2 (by decide),
    show l0 y 188 20 = l0 y 191 20 from sort_hold y 188 3 20 (by decide),
    show l0 y 188 21 = l0 y 191 21 from sort_hold y 188 3 21 (by decide),
    show l0 y 188 22 = l0 y 191 22 from sort_hold y 188 3 22 (by decide),
    show l0 y 188 23 = l0 y 191 23 from sort_hold y 188 3 23 (by decide),
    show l0 y 188 24 = l0 y 191 24 from sort_hold y 188 3 24 (by decide),
    show l0 y 188 3 = l0 y 191 3 from sort_hold y 188 3 3 (by decide),
    show l0 y 188 31 = l0 y 191 31 from sort_hold y 188 3 31 (by decide),
    show l0 y 188 4 = l0 y 191 4 from sort_hold y 188 3 4 (by decide),
    show l0 y 188 5 = l0 y 191 5 from sort_hold y 188 3 5 (by decide),
    show l0 y 188 6 = l0 y 191 6 from sort_hold y 188 3 6 (by decide),
    show l0 y 188 7 = l0 y 191 7 from sort_hold y 188 3 7 (by decide),
    show l0 y 188 8 = l0 y 191 8 from sort_hold y 188 3 8 (by decide),
    show l0 y 188 9 = l0 y 191 9 from sort_hold y 188 3 9 (by decide),
    show l0 y 189 25 = l0 y 191 25 from sort_hold y 189 2 25 (by decide)]
  simp only [l1]
  generalize l0 y 191 = Y
  simp only [bitonicNet, merge, List.drop_succ_cons, List.drop_zero, run]
  simp only [cx_at, meet_at, each_at, Nat.reduceEqDiff, ↓reduceIte, Nat.reduceSub]
  rfl

/-- Stretch 61 of the body, from the wires it reads to the wires it hands on. -/
theorem part61 (y : Vec F S64x8192 .f32) :
    k0_part61 arg0 harg0 arg1 harg1 arg2 harg2 arg3 harg3 arg4 harg4 arg5 harg5 arg6 arg7 arg8 arg9 arg10
        v6628_r0 (l1 y 0 9) (l1 y 0 10) (l1 y 0 11) (l1 y 0 12) (l1 y 0 13) (l1 y 0 14) (l1 y 0 15) (l1 y 9 25)
        (l1 y 9 26) (l1 y 9 27) (l1 y 9 28) (l1 y 9 29) (l1 y 9 30) (l1 y 9 31) (l1 y 9 0) (l1 y 9 16) (l1 y 9
        1) (l1 y 9 17) (l1 y 9 2) (l1 y 9 18) (l1 y 9 3) (l1 y 9 19) (l1 y 9 4) (l1 y 9 20) (l1 y 9 5) (l1 y 9
        21) (l1 y 9 6) (l1 y 9 22) (l1 y 9 7) (l1 y 9 23) (l1 y 9 8) (l1 y 9 24) (l1 y 10 9) =
      pure ⟨l1 y 39 11, l1 y 39 15, l1 y 39 16, l1 y 39 24, l1 y 39 17, l1 y 39 25, l1 y 39 18, l1 y 39 26, l1
          y 39 19, l1 y 39 27, l1 y 39 20, l1 y 39 28, l1 y 39 21, l1 y 39 29, l1 y 39 22, l1 y 39 30, l1 y 39
          23, l1 y 39 31, l1 y 39 0, l1 y 39 4, l1 y 39 1, l1 y 39 5, l1 y 39 2, l1 y 39 6, l1 y 39 3, l1 y 39
          7, l1 y 39 8, l1 y 39 12, l1 y 39 9, l1 y 39 13, l1 y 39 10, l1 y 39 14, l1 y 40 11⟩ := by
  rw [show l1 y 0 10 = l1 y 9 10 from merge_hold _ _ 0 9 10 (by decide),
    show l1 y 0 11 = l1 y 9 11 from merge_hold _ _ 0 9 11 (by decide),
    show l1 y 0 12 = l1 y 9 12 from merge_hold _ _ 0 9 12 (by decide),
    show l1 y 0 13 = l1 y 9 13 from merge_hold _ _ 0 9 13 (by decide),
    show l1 y 0 14 = l1 y 9 14 from merge_hold _ _ 0 9 14 (by decide),
    show l1 y 0 15 = l1 y 9 15 from merge_hold _ _ 0 9 15 (by decide),
    show l1 y 0 9 = l1 y 9 9 from merge_hold _ _ 0 9 9 (by decide)]
  rw [show l1 y 10 = onMerge 9 1 (l1 y 9) from merge_add _ _ 9 1,
    show l1 y 39 = onMerge 9 30 (l1 y 9) from merge_add _ _ 9 30,
    show l1 y 40 = onMerge 9 31 (l1 y 9) from merge_add _ _ 9 31]
  generalize l1 y 9 = Y
  simp only [bitonicNet, onMerge, List.drop_succ_cons, List.drop_zero, run]
  simp only [cx_at, Nat.reduceEqDiff, ↓reduceIte]
  rfl

/-- Stretch 62 of the body, from the wires it reads to the wires it hands on. -/
theorem part62 (y : Vec F S64x8192 .f32) :
    k0_part62 arg0 harg0 arg1 harg1 arg2 harg2 arg3 harg3 arg4 harg4 arg5 harg5 arg6 arg7 arg8 arg9 arg10
        v6628_r0 (l1 y 39 11) (l1 y 39 15) (l1 y 39 16) (l1 y 39 24) (l1 y 39 17) (l1 y 39 25) (l1 y 39 18) (l1
        y 39 26) (l1 y 39 19) (l1 y 39 27) (l1 y 39 20) (l1 y 39 28) (l1 y 39 21) (l1 y 39 29) (l1 y 39 22) (l1
        y 39 30) (l1 y 39 23) (l1 y 39 31) (l1 y 39 0) (l1 y 39 4) (l1 y 39 1) (l1 y 39 5) (l1 y 39 2) (l1 y 39
        6) (l1 y 39 3) (l1 y 39 7) (l1 y 39 8) (l1 y 39 12) (l1 y 39 9) (l1 y 39 13) (l1 y 39 10) (l1 y 39 14)
        (l1 y 40 11) =
      pure ⟨l1 y 69 10, l1 y 69 11, l1 y 69 12, l1 y 69 14, l1 y 69 13, l1 y 69 15, l1 y 69 16, l1 y 69 18, l1
          y 69 17, l1 y 69 19, l1 y 69 20, l1 y 69 22, l1 y 69 21, l1 y 69 23, l1 y 69 24, l1 y 69 26, l1 y 69
          25, l1 y 69 27, l1 y 69 28, l1 y 69 30, l1 y 69 29, l1 y 69 31, l1 y 69 0, l1 y 69 1, l1 y 69 2, l1 y
          69 3, l1 y 69 4, l1 y 69 5, l1 y 69 6, l1 y 69 7, l1 y 69 8, l1 y 69 9, l1 y 70 10⟩ := by
  rw [show l1 y 40 = onMerge 39 1 (l1 y 39) from merge_add _ _ 39 1,
    show l1 y 69 = onMerge 39 30 (l1 y 39) from merge_add _ _ 39 30,
    show l1 y 70 = onMerge 39 31 (l1 y 39) from merge_add _ _ 39 31]
  generalize l1 y 39 = Y
  simp only [bitonicNet, onMerge, List.drop_succ_cons, List.drop_zero, run]
  simp only [cx_at, Nat.reduceEqDiff, ↓reduceIte]
  rfl

/-- Stretch 63 of the body, from the wires it reads to the wires it hands on. -/
theorem part63 (y : Vec F S64x8192 .f32) :
    k0_part63 arg0 harg0 arg1 harg1 arg2 harg2 arg3 harg3 arg4 harg4 arg5 harg5 arg6 arg7 arg8 arg9 arg10
        v6628_r0 (l1 y 69 10) (l1 y 69 11) (l1 y 69 12) (l1 y 69 14) (l1 y 69 13) (l1 y 69 15) (l1 y 69 16) (l1
        y 69 18) (l1 y 69 17) (l1 y 69 19) (l1 y 69 20) (l1 y 69 22) (l1 y 69 21) (l1 y 69 23) (l1 y 69 24) (l1
        y 69 26) (l1 y 69 25) (l1 y 69 27) (l1 y 69 28) (l1 y 69 30) (l1 y 69 29) (l1 y 69 31) (l1 y 69 0) (l1
        y 69 1) (l1 y 69 2) (l1 y 69 3) (l1 y 69 4) (l1 y 69 5) (l1 y 69 6) (l1 y 69 7) (l1 y 69 8) (l1 y 69 9)
        (l1 y 70 10) =
      pure ⟨l1 y 80 11, l1 y 80 12, l1 y 80 13, l1 y 80 14, l1 y 80 15, l1 y 80 16, l1 y 80 17, l1 y 80 18, l1
          y 80 19, l1 y 80 20, l1 y 80 21, l1 y 80 22, l1 y 80 23, l1 y 80 24, l1 y 80 25, l1 y 80 26, l1 y 80
          27, l1 y 80 28, l1 y 80 29, l1 y 80 30, l1 y 80 31, l2 y 0 0, l2 y 0 1, l2 y 0 2, l2 y 0 3, l2 y 0 4,
          l2 y 0 5, l2 y 0 6, l2 y 0 7, l2 y 0 8, l2 y 0 9, l2 y 0 10, l2 y 0 11, l2 y 0 12⟩ := by
  simp only [l2]
  rw [show l1 y 70 = onMerge 69 1 (l1 y 69) from merge_add _ _ 69 1,
    show l1 y 80 = onMerge 69 11 (l1 y 69) from merge_add _ _ 69 11]
  generalize l1 y 69 = Y
  simp only [bitonicNet, merge, onMerge, List.drop_succ_cons, List.drop_zero, run]
  simp only [cx_at, meet_at, each_at, Nat.reduceEqDiff, ↓reduceIte, Nat.reduceSub]
  rfl

/-- Stretch 64 of the body, from the wires it reads to the wires it hands on. -/
theorem part64 (y : Vec F S64x8192 .f32) :
    k0_part64 arg0 harg0 arg1 harg1 arg2 harg2 arg3 harg3 arg4 harg4 arg5 harg5 arg6 arg7 arg8 arg9 arg10
        v6628_r0 (l1 y 69 0) (l1 y 69 1) (l1 y 69 2) (l1 y 69 3) (l1 y 69 4) (l1 y 69 5) (l1 y 69 6) (l1 y 69
        7) (l1 y 69 8) (l1 y 69 9) (l1 y 70 10) (l1 y 80 11) (l1 y 80 12) (l1 y 80 13) (l1 y 80 14) (l1 y 80
        15) (l1 y 80 16) (l1 y 80 17) (l1 y 80 18) (l1 y 80 19) (l1 y 80 20) (l1 y 80 21) (l1 y 80 22) (l1 y 80
        23) (l1 y 80 24) (l1 y 80 25) (l1 y 80 26) (l1 y 80 27) (l1 y 80 28) (l1 y 80 29) (l1 y 80 30) (l1 y 80
        31) (l2 y 0 0) (l2 y 0 1) =
      pure ⟨l2 y 1 13, l2 y 1 14, l2 y 1 15, l2 y 1 17, l2 y 1 18, l2 y 1 19, l2 y 1 20, l2 y 1 21, l2 y 1 22,
          l2 y 1 23, l2 y 1 24, l2 y 1 25, l2 y 1 26, l2 y 1 27, l2 y 1 28, l2 y 1 29, l2 y 1 30, l2 y 1 31, l2
          y 1 0, l2 y 1 16, l2 y 2 1⟩ := by
  rw [show l1 y 69 0 = l1 y 80 0 from merge_hold _ _ 69 11 0 (by decide),
    show l1 y 69 1 = l1 y 80 1 from merge_hold _ _ 69 11 1 (by decide),
    show l1 y 69 2 = l1 y 80 2 from merge_hold _ _ 69 11 2 (by decide),
    show l1 y 69 3 = l1 y 80 3 from merge_hold _ _ 69 11 3 (by decide),
    show l1 y 69 4 = l1 y 80 4 from merge_hold _ _ 69 11 4 (by decide),
    show l1 y 69 5 = l1 y 80 5 from merge_hold _ _ 69 11 5 (by decide),
    show l1 y 69 6 = l1 y 80 6 from merge_hold _ _ 69 11 6 (by decide),
    show l1 y 69 7 = l1 y 80 7 from merge_hold _ _ 69 11 7 (by decide),
    show l1 y 69 8 = l1 y 80 8 from merge_hold _ _ 69 11 8 (by decide),
    show l1 y 69 9 = l1 y 80 9 from merge_hold _ _ 69 11 9 (by decide),
    show l1 y 70 10 = l1 y 80 10 from merge_hold _ _ 70 10 10 (by decide)]
  simp only [l2]
  generalize l1 y 80 = Y
  simp only [bitonicNet, merge, List.drop_succ_cons, List.drop_zero, run]
  simp only [cx_at, meet_at, each_at, Nat.reduceEqDiff, ↓reduceIte, Nat.reduceSub]
  rfl

/-- Stretch 65 of the body, from the wires it reads to the wires it hands on. -/
theorem part65 (y : Vec F S64x8192 .f32) :
    k0_part65 arg0 harg0 arg1 harg1 arg2 harg2 arg3 harg3 arg4 harg4 arg5 harg5 arg6 arg7 arg8 arg9 arg10
        v6628_r0 (l2 y 0 1) (l2 y 0 2) (l2 y 0 3) (l2 y 0 4) (l2 y 0 5) (l2 y 0 6) (l2 y 0 7) (l2 y 0 8) (l2 y
        0 9) (l2 y 0 10) (l2 y 0 11) (l2 y 0 12) (l2 y 1 13) (l2 y 1 14) (l2 y 1 15) (l2 y 1 17) (l2 y 1 18)
        (l2 y 1 19) (l2 y 1 20) (l2 y 1 21) (l2 y 1 22) (l2 y 1 23) (l2 y 1 24) (l2 y 1 25) (l2 y 1 26) (l2 y 1
        27) (l2 y 1 28) (l2 y 1 29) (l2 y 1 30) (l2 y 1 31) (l2 y 1 0) (l2 y 1 16) (l2 y 2 1) =
      pure ⟨l2 y 31 23, l2 y 31 31, l2 y 31 0, l2 y 31 8, l2 y 31 1, l2 y 31 9, l2 y 31 2, l2 y 31 10, l2 y 31
          3, l2 y 31 11, l2 y 31 4, l2 y 31 12, l2 y 31 5, l2 y 31 13, l2 y 31 6, l2 y 31 14, l2 y 31 7, l2 y
          31 15, l2 y 31 16, l2 y 31 24, l2 y 31 17, l2 y 31 25, l2 y 31 18, l2 y 31 26, l2 y 31 19, l2 y 31
          27, l2 y 31 20, l2 y 31 28, l2 y 31 21, l2 y 31 29, l2 y 31 22, l2 y 31 30, l2 y 32 23⟩ := by
  rw [show l2 y 0 1 = l2 y 1 1 from merge_hold _ _ 0 1 1 (by decide),
    show l2 y 0 10 = l2 y 1 10 from merge_hold _ _ 0 1 10 (by decide),
    show l2 y 0 11 = l2 y 1 11 from merge_hold _ _ 0 1 11 (by decide),
    show l2 y 0 12 = l2 y 1 12 from merge_hold _ _ 0 1 12 (by decide),
    show l2 y 0 2 = l2 y 1 2 from merge_hold _ _ 0 1 2 (by decide),
    show l2 y 0 3 = l2 y 1 3 from merge_hold _ _ 0 1 3 (by decide),
    show l2 y 0 4 = l2 y 1 4 from merge_hold _ _ 0 1 4 (by decide),
    show l2 y 0 5 = l2 y 1 5 from merge_hold _ _ 0 1 5 (by decide),
    show l2 y 0 6 = l2 y 1 6 from merge_hold _ _ 0 1 6 (by decide),
    show l2 y 0 7 = l2 y 1 7 from merge_hold _ _ 0 1 7 (by decide),
    show l2 y 0 8 = l2 y 1 8 from merge_hold _ _ 0 1 8 (by decide),
    show l2 y 0 9 = l2 y 1 9 from merge_hold _ _ 0 1 9 (by decide)]
  rw [show l2 y 2 = onMerge 1 1 (l2 y 1) from merge_add _ _ 1 1,
    show l2 y 31 = onMerge 1 30 (l2 y 1) from merge_add _ _ 1 30,
    show l2 y 32 = onMerge 1 31 (l2 y 1) from merge_add _ _ 1 31]
  generalize l2 y 1 = Y
  simp only [bitonicNet, onMerge, List.drop_succ_cons, List.drop_zero, run]
  simp only [cx_at, Nat.reduceEqDiff, ↓reduceIte]
  rfl

/-- Stretch 66 of the body, from the wires it reads to the wires it hands on. -/
theorem part66 (y : Vec F S64x8192 .f32) :
    k0_part66 arg0 harg0 arg1 harg1 arg2 harg2 arg3 harg3 arg4 harg4 arg5 harg5 arg6 arg7 arg8 arg9 arg10
        v6628_r0 (l2 y 31 23) (l2 y 31 31) (l2 y 31 0) (l2 y 31 8) (l2 y 31 1) (l2 y 31 9) (l2 y 31 2) (l2 y 31
        10) (l2 y 31 3) (l2 y 31 11) (l2 y 31 4) (l2 y 31 12) (l2 y 31 5) (l2 y 31 13) (l2 y 31 6) (l2 y 31 14)
        (l2 y 31 7) (l2 y 31 15) (l2 y 31 16) (l2 y 31 24) (l2 y 31 17) (l2 y 31 25) (l2 y 31 18) (l2 y 31 26)
        (l2 y 31 19) (l2 y 31 27) (l2 y 31 20) (l2 y 31 28) (l2 y 31 21) (l2 y 31 29) (l2 y 31 22) (l2 y 31 30)
        (l2 y 32 23) =
      pure ⟨l2 y 61 28, l2 y 61 25, l2 y 61 29, l2 y 61 30, l2 y 61 27, l2 y 61 31, l2 y 61 0, l2 y 61 2, l2 y
          61 1, l2 y 61 3, l2 y 61 4, l2 y 61 6, l2 y 61 5, l2 y 61 7, l2 y 61 8, l2 y 61 10, l2 y 61 9, l2 y
          61 11, l2 y 61 12, l2 y 61 14, l2 y 61 13, l2 y 61 15, l2 y 61 16, l2 y 61 18, l2 y 61 17, l2 y 61
          19, l2 y 61 20, l2 y 61 22, l2 y 61 21, l2 y 61 23, l2 y 61 24, l2 y 61 26, l2 y 62 25⟩ := by
  rw [show l2 y 32 = onMerge 31 1 (l2 y 31) from merge_add _ _ 31 1,
    show l2 y 61 = onMerge 31 30 (l2 y 31) from merge_add _ _ 31 30,
    show l2 y 62 = onMerge 31 31 (l2 y 31) from merge_add _ _ 31 31]
  generalize l2 y 31 = Y
  simp only [bitonicNet, onMerge, List.drop_succ_cons, List.drop_zero, run]
  simp only [cx_at, Nat.reduceEqDiff, ↓reduceIte]
  rfl

/-- Stretch 67 of the body, from the wires it reads to the wires it hands on. -/
theorem part67 (y : Vec F S64x8192 .f32) :
    k0_part67 arg0 harg0 arg1 harg1 arg2 harg2 arg3 harg3 arg4 harg4 arg5 harg5 arg6 arg7 arg8 arg9 arg10
        v6628_r0 (l2 y 61 28) (l2 y 61 25) (l2 y 61 29) (l2 y 61 30) (l2 y 61 27) (l2 y 61 31) (l2 y 61 0) (l2
        y 61 2) (l2 y 61 1) (l2 y 61 3) (l2 y 61 4) (l2 y 61 6) (l2 y 61 5) (l2 y 61 7) (l2 y 61 8) (l2 y 61
        10) (l2 y 61 9) (l2 y 61 11) (l2 y 61 12) (l2 y 61 14) (l2 y 61 13) (l2 y 61 15) (l2 y 61 16) (l2 y 61
        18) (l2 y 61 17) (l2 y 61 19) (l2 y 61 20) (l2 y 61 22) (l2 y 61 21) (l2 y 61 23) (l2 y 61 24) (l2 y 61
        26) (l2 y 62 25) =
      pure ⟨l2 y 80 0, l2 y 80 1, l2 y 80 2, l2 y 80 3, l2 y 80 4, l2 y 80 5, l2 y 80 6, l2 y 80 7, l2 y 80 8,
          l2 y 80 9, l2 y 80 10, l2 y 80 11, l2 y 80 12, l2 y 80 13, l2 y 80 14, l2 y 80 15, l2 y 80 16, l2 y
          80 17, l2 y 80 18, l2 y 80 19, l2 y 80 20, l2 y 80 21, l2 y 80 22, l2 y 80 23, l2 y 80 24, l2 y 80
          25, l2 y 80 26, l2 y 80 27, l2 y 80 28, l2 y 80 29, l2 y 80 30, l2 y 80 31, l3 y 0 0, l3 y 0 1, l3 y
          0 2, l3 y 0 3, l3 y 0 4, l3 y 0 5, l3 y 0 6, lo3 (l2 y 80 7), hi3 (l2 y 80 24)⟩ := by
  simp only [l3]
  rw [show l2 y 62 = onMerge 61 1 (l2 y 61) from merge_add _ _ 61 1,
    show l2 y 80 = onMerge 61 19 (l2 y 61) from merge_add _ _ 61 19]
  generalize l2 y 61 = Y
  simp only [bitonicNet, merge, onMerge, List.drop_succ_cons, List.drop_zero, run]
  simp only [cx_at, meet_at, each_at, Nat.reduceEqDiff, ↓reduceIte, Nat.reduceSub]
  rfl

end Cert.TopK
-- ==== Proof.PartsD.lean ====
module

public import proofs.«01_k».proof.Proof.Hold

@[expose] public section

noncomputable section

/-!
# The second block of rows: the remaining folds

Each statement says which wires a stretch of the body computes: its values are written as "the wires of fold k
after n comparators". The stretches hold pure arithmetic only, so each is an equation between programs that return.
-/

namespace Cert.TopK

open Idealize.ShloMosaic Idealize.SL.Sem Cert.KernelIdeal

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- Stretch 68 of the body, from the wires it reads to the wires it hands on. -/
theorem part68 (y : Vec F S64x8192 .f32) :
    k0_part68 arg0 harg0 arg1 harg1 arg2 harg2 arg3 harg3 arg4 harg4 arg5 harg5 arg6 arg7 arg8 arg9 arg10
        v6628_r0 (l2 y 80 4) (l2 y 80 5) (l2 y 80 6) (l2 y 80 7) (l2 y 80 8) (l2 y 80 9) (l2 y 80 10) (l2 y 80
        11) (l2 y 80 12) (l2 y 80 13) (l2 y 80 14) (l2 y 80 15) (l2 y 80 16) (l2 y 80 17) (l2 y 80 18) (l2 y 80
        19) (l2 y 80 20) (l2 y 80 21) (l2 y 80 22) (l2 y 80 23) (l2 y 80 24) (l2 y 80 25) (l2 y 80 26) (l2 y 80
        27) (lo3 (l2 y 80 7)) (hi3 (l2 y 80 24)) =
      pure ⟨l3 y 0 7, l3 y 0 8, l3 y 0 9, l3 y 0 10, l3 y 0 11, l3 y 0 12, l3 y 0 13, l3 y 0 14, l3 y 0 15, l3
          y 0 16, l3 y 0 17, l3 y 0 18, l3 y 0 19, l3 y 0 20, l3 y 0 21, l3 y 0 22, l3 y 0 23, l3 y 0 24, l3 y
          0 25, l3 y 0 26, lo3 (l2 y 80 27), hi3 (l2 y 80 4)⟩ := by
  simp only [l3]
  generalize l2 y 80 = Y
  simp only [bitonicNet, merge, List.drop_succ_cons, List.drop_zero, run]
  simp only [cx_at, meet_at, each_at, Nat.reduceEqDiff, ↓reduceIte, Nat.reduceSub]
  rfl

/-- Stretch 69 of the body, from the wires it reads to the wires it hands on. -/
theorem part69 (y : Vec F S64x8192 .f32) :
    k0_part69 arg0 harg0 arg1 harg1 arg2 harg2 arg3 harg3 arg4 harg4 arg5 harg5 arg6 arg7 arg8 arg9 arg10
        v6628_r0 (l2 y 80 0) (l2 y 80 1) (l2 y 80 2) (l2 y 80 3) (l2 y 80 28) (l2 y 80 29) (l2 y 80 30) (l2 y
        80 31) (l3 y 0 0) (l3 y 0 1) (l3 y 0 2) (l3 y 0 3) (l3 y 0 4) (l3 y 0 5) (l3 y 0 6) (l3 y 0 7) (l3 y 0
        8) (l3 y 0 9) (l3 y 0 10) (l3 y 0 11) (l3 y 0 12) (l3 y 0 13) (l3 y 0 14) (l3 y 0 15) (l3 y 0 16) (l3 y
        0 17) (l3 y 0 18) (l3 y 0 19) (l3 y 0 20) (l3 y 0 21) (l3 y 0 22) (l3 y 0 23) (l3 y 0 24) (l3 y 0 25)
        (l3 y 0 26) (lo3 (l2 y 80 27)) (hi3 (l2 y 80 4)) =
      pure ⟨l3 y 23 16, l3 y 23 17, l3 y 23 18, l3 y 23 19, l3 y 23 20, l3 y 23 21, l3 y 23 22, l3 y 23 7, l3 y
          23 23, l3 y 23 24, l3 y 23 25, l3 y 23 26, l3 y 23 27, l3 y 23 28, l3 y 23 29, l3 y 23 30, l3 y 23
          15, l3 y 23 31, l3 y 23 0, l3 y 23 8, l3 y 23 1, l3 y 23 9, l3 y 23 2, l3 y 23 10, l3 y 23 3, l3 y 23
          11, l3 y 23 4, l3 y 23 12, l3 y 23 5, l3 y 23 13, l3 y 23 6, l3 y 23 14, l3 y 24 7⟩ := by
  simp only [l3]
  generalize l2 y 80 = Y
  simp only [bitonicNet, merge, List.drop_succ_cons, List.drop_zero, run]
  simp only [cx_at, meet_at, each_at, Nat.reduceEqDiff, ↓reduceIte, Nat.reduceSub]
  rfl

/-- Stretch 70 of the body, from the wires it reads to the wires it hands on. -/
theorem part70 (y : Vec F S64x8192 .f32) :
    k0_part70 arg0 harg0 arg1 harg1 arg2 harg2 arg3 harg3 arg4 harg4 arg5 harg5 arg6 arg7 arg8 arg9 arg10
        v6628_r0 (l3 y 23 16) (l3 y 23 17) (l3 y 23 18) (l3 y 23 19) (l3 y 23 20) (l3 y 23 21) (l3 y 23 22) (l3
        y 23 7) (l3 y 23 23) (l3 y 23 24) (l3 y 23 25) (l3 y 23 26) (l3 y 23 27) (l3 y 23 28) (l3 y 23 29) (l3
        y 23 30) (l3 y 23 15) (l3 y 23 31) (l3 y 23 0) (l3 y 23 8) (l3 y 23 1) (l3 y 23 9) (l3 y 23 2) (l3 y 23
        10) (l3 y 23 3) (l3 y 23 11) (l3 y 23 4) (l3 y 23 12) (l3 y 23 5) (l3 y 23 13) (l3 y 23 6) (l3 y 23 14)
        (l3 y 24 7) =
      pure ⟨l3 y 53 12, l3 y 53 9, l3 y 53 13, l3 y 53 14, l3 y 53 11, l3 y 53 15, l3 y 53 16, l3 y 53 20, l3 y
          53 17, l3 y 53 21, l3 y 53 18, l3 y 53 22, l3 y 53 19, l3 y 53 23, l3 y 53 24, l3 y 53 28, l3 y 53
          25, l3 y 53 29, l3 y 53 26, l3 y 53 30, l3 y 53 27, l3 y 53 31, l3 y 53 0, l3 y 53 2, l3 y 53 1, l3 y
          53 3, l3 y 53 4, l3 y 53 6, l3 y 53 5, l3 y 53 7, l3 y 53 8, l3 y 53 10, l3 y 54 9⟩ := by
  rw [show l3 y 24 = onMerge 23 1 (l3 y 23) from merge_add _ _ 23 1,
    show l3 y 53 = onMerge 23 30 (l3 y 23) from merge_add _ _ 23 30,
    show l3 y 54 = onMerge 23 31 (l3 y 23) from merge_add _ _ 23 31]
  generalize l3 y 23 = Y
  simp only [bitonicNet, onMerge, List.drop_succ_cons, List.drop_zero, run]
  simp only [cx_at, Nat.reduceEqDiff, ↓reduceIte]
  rfl

/-- Stretch 71 of the body, from the wires it reads to the wires it hands on. -/
theorem part71 (y : Vec F S64x8192 .f32) :
    k0_part71 arg0 harg0 arg1 harg1 arg2 harg2 arg3 harg3 arg4 harg4 arg5 harg5 arg6 arg7 arg8 arg9 arg10
        v6628_r0 (l3 y 53 12) (l3 y 53 9) (l3 y 53 13) (l3 y 53 14) (l3 y 53 11) (l3 y 53 15) (l3 y 53 16) (l3
        y 53 20) (l3 y 53 17) (l3 y 53 21) (l3 y 53 18) (l3 y 53 22) (l3 y 53 19) (l3 y 53 23) (l3 y 53 24) (l3
        y 53 28) (l3 y 53 25) (l3 y 53 29) (l3 y 53 26) (l3 y 53 30) (l3 y 53 27) (l3 y 53 31) (l3 y 53 0) (l3
        y 53 2) (l3 y 53 1) (l3 y 53 3) (l3 y 53 4) (l3 y 53 6) (l3 y 53 5) (l3 y 53 7) (l3 y 53 8) (l3 y 53
        10) (l3 y 54 9) =
      pure ⟨l3 y 80 0, l3 y 80 1, l3 y 80 2, l3 y 80 3, l3 y 80 4, l3 y 80 5, l3 y 80 6, l3 y 80 7, l3 y 80 8,
          l3 y 80 9, l3 y 80 10, l3 y 80 11, l3 y 80 12, l3 y 80 13, l3 y 80 14, l3 y 80 15, l3 y 80 16, l3 y
          80 17, l3 y 80 18, l3 y 80 19, l3 y 80 20, l3 y 80 21, l3 y 80 22, l3 y 80 23, l3 y 80 24, l3 y 80
          25, l3 y 80 26, l3 y 80 27, l3 y 80 28, l3 y 80 29, l3 y 80 30, l3 y 80 31, l4 y 0 0, l4 y 0 1, lo4
          (l3 y 80 2)⟩ := by
  simp only [l4]
  rw [show l3 y 54 = onMerge 53 1 (l3 y 53) from merge_add _ _ 53 1,
    show l3 y 80 = onMerge 53 27 (l3 y 53) from merge_add _ _ 53 27]
  generalize l3 y 53 = Y
  simp only [bitonicNet, merge, onMerge, List.drop_succ_cons, List.drop_zero, run]
  simp only [cx_at, meet_at, each_at, Nat.reduceEqDiff, ↓reduceIte, Nat.reduceSub]
  rfl

/-- Stretch 72 of the body, from the wires it reads to the wires it hands on. -/
theorem part72 (y : Vec F S64x8192 .f32) :
    k0_part72 arg0 harg0 arg1 harg1 arg2 harg2 arg3 harg3 arg4 harg4 arg5 harg5 arg6 arg7 arg8 arg9 arg10
        v6628_r0 (l3 y 80 3) (l3 y 80 4) (l3 y 80 5) (l3 y 80 6) (l3 y 80 7) (l3 y 80 8) (l3 y 80 9) (l3 y 80
        10) (l3 y 80 11) (l3 y 80 12) (l3 y 80 13) (l3 y 80 14) (l3 y 80 15) (l3 y 80 16) (l3 y 80 17) (l3 y 80
        18) (l3 y 80 19) (l3 y 80 20) (l3 y 80 21) (l3 y 80 22) (l3 y 80 23) (l3 y 80 24) (l3 y 80 25) (l3 y 80
        26) (l3 y 80 27) (l3 y 80 28) (l3 y 80 29) (lo4 (l3 y 80 2)) =
      pure ⟨l4 y 0 2, l4 y 0 3, l4 y 0 4, l4 y 0 5, l4 y 0 6, l4 y 0 7, l4 y 0 8, l4 y 0 9, l4 y 0 10, l4 y 0
          11, l4 y 0 12, l4 y 0 13, l4 y 0 14, l4 y 0 15, l4 y 0 16, l4 y 0 17, l4 y 0 18, l4 y 0 19, l4 y 0
          20, l4 y 0 21, lo4 (l3 y 80 22)⟩ := by
  simp only [l4]
  generalize l3 y 80 = Y
  simp only [bitonicNet, merge, List.drop_succ_cons, List.drop_zero, run]
  simp only [cx_at, meet_at, each_at, Nat.reduceEqDiff, ↓reduceIte, Nat.reduceSub]
  rfl

/-- Stretch 73 of the body, from the wires it reads to the wires it hands on. -/
theorem part73 (y : Vec F S64x8192 .f32) :
    k0_part73 arg0 harg0 arg1 harg1 arg2 harg2 arg3 harg3 arg4 harg4 arg5 harg5 arg6 arg7 arg8 arg9 arg10
        v6628_r0 (l3 y 80 0) (l3 y 80 1) (l3 y 80 2) (l3 y 80 3) (l3 y 80 4) (l3 y 80 5) (l3 y 80 6) (l3 y 80
        7) (l3 y 80 8) (l3 y 80 9) (l3 y 80 23) (l3 y 80 24) (l3 y 80 25) (l3 y 80 26) (l3 y 80 27) (l3 y 80
        28) (l3 y 80 29) (l3 y 80 30) (l3 y 80 31) (l4 y 0 0) (l4 y 0 1) (l4 y 0 2) (l4 y 0 3) (l4 y 0 4) (l4 y
        0 5) (l4 y 0 6) (l4 y 0 7) (l4 y 0 8) (l4 y 0 9) (l4 y 0 10) (l4 y 0 11) (l4 y 0 12) (l4 y 0 13) (l4 y
        0 14) (l4 y 0 15) (l4 y 0 16) (l4 y 0 17) (l4 y 0 18) (l4 y 0 19) (l4 y 0 20) (l4 y 0 21) (lo4 (l3 y 80
        22)) =
      pure ⟨l4 y 15 31, l4 y 15 0, l4 y 15 16, l4 y 15 1, l4 y 15 17, l4 y 15 2, l4 y 15 18, l4 y 15 3, l4 y 15
          19, l4 y 15 4, l4 y 15 20, l4 y 15 5, l4 y 15 21, l4 y 15 6, l4 y 15 22, l4 y 15 7, l4 y 15 23, l4 y
          15 8, l4 y 15 24, l4 y 15 9, l4 y 15 25, l4 y 15 10, l4 y 15 26, l4 y 15 11, l4 y 15 27, l4 y 15 12,
          l4 y 15 28, l4 y 15 13, l4 y 15 29, l4 y 15 14, l4 y 15 30, l4 y 16 15⟩ := by
  simp only [l4]
  generalize l3 y 80 = Y
  simp only [bitonicNet, merge, List.drop_succ_cons, List.drop_zero, run]
  simp only [cx_at, meet_at, each_at, Nat.reduceEqDiff, ↓reduceIte, Nat.reduceSub]
  rfl

/-- Stretch 74 of the body, from the wires it reads to the wires it hands on. -/
theorem part74 (y : Vec F S64x8192 .f32) :
    k0_part74 arg0 harg0 arg1 harg1 arg2 harg2 arg3 harg3 arg4 harg4 arg5 harg5 arg6 arg7 arg8 arg9 arg10
        v6628_r0 (l4 y 0 15) (l4 y 15 31) (l4 y 15 0) (l4 y 15 16) (l4 y 15 1) (l4 y 15 17) (l4 y 15 2) (l4 y
        15 18) (l4 y 15 3) (l4 y 15 19) (l4 y 15 4) (l4 y 15 20) (l4 y 15 5) (l4 y 15 21) (l4 y 15 6) (l4 y 15
        22) (l4 y 15 7) (l4 y 15 23) (l4 y 15 8) (l4 y 15 24) (l4 y 15 9) (l4 y 15 25) (l4 y 15 10) (l4 y 15
        26) (l4 y 15 11) (l4 y 15 27) (l4 y 15 12) (l4 y 15 28) (l4 y 15 13) (l4 y 15 29) (l4 y 15 14) (l4 y 15
        30) (l4 y 16 15) =
      pure ⟨l4 y 45 25, l4 y 45 26, l4 y 45 27, l4 y 45 29, l4 y 45 30, l4 y 45 31, l4 y 45 0, l4 y 45 4, l4 y
          45 1, l4 y 45 5, l4 y 45 2, l4 y 45 6, l4 y 45 3, l4 y 45 7, l4 y 45 8, l4 y 45 12, l4 y 45 9, l4 y
          45 13, l4 y 45 10, l4 y 45 14, l4 y 45 11, l4 y 45 15, l4 y 45 16, l4 y 45 20, l4 y 45 17, l4 y 45
          21, l4 y 45 18, l4 y 45 22, l4 y 45 19, l4 y 45 23, l4 y 45 24, l4 y 45 28, l4 y 46 25⟩ := by
  rw [show l4 y 0 15 = l4 y 15 15 from merge_hold _ _ 0 15 15 (by decide)]
  rw [show l4 y 16 = onMerge 15 1 (l4 y 15) from merge_add _ _ 15 1,
    show l4 y 45 = onMerge 15 30 (l4 y 15) from merge_add _ _ 15 30,
    show l4 y 46 = onMerge 15 31 (l4 y 15) from merge_add _ _ 15 31]
  generalize l4 y 15 = Y
  simp only [bitonicNet, onMerge, List.drop_succ_cons, List.drop_zero, run]
  simp only [cx_at, Nat.reduceEqDiff, ↓reduceIte]
  rfl

/-- Stretch 75 of the body, from the wires it reads to the wires it hands on. -/
theorem part75 (y : Vec F S64x8192 .f32) :
    k0_part75 arg0 harg0 arg1 harg1 arg2 harg2 arg3 harg3 arg4 harg4 arg5 harg5 arg6 arg7 arg8 arg9 arg10
        v6628_r0 (l4 y 45 25) (l4 y 45 26) (l4 y 45 27) (l4 y 45 29) (l4 y 45 30) (l4 y 45 31) (l4 y 45 0) (l4
        y 45 4) (l4 y 45 1) (l4 y 45 5) (l4 y 45 2) (l4 y 45 6) (l4 y 45 3) (l4 y 45 7) (l4 y 45 8) (l4 y 45
        12) (l4 y 45 9) (l4 y 45 13) (l4 y 45 10) (l4 y 45 14) (l4 y 45 11) (l4 y 45 15) (l4 y 45 16) (l4 y 45
        20) (l4 y 45 17) (l4 y 45 21) (l4 y 45 18) (l4 y 45 22) (l4 y 45 19) (l4 y 45 23) (l4 y 45 24) (l4 y 45
        28) (l4 y 46 25) =
      pure ⟨l4 y 75 22, l4 y 75 23, l4 y 75 24, l4 y 75 26, l4 y 75 25, l4 y 75 27, l4 y 75 28, l4 y 75 30, l4
          y 75 29, l4 y 75 31, l4 y 75 0, l4 y 75 1, l4 y 75 2, l4 y 75 3, l4 y 75 4, l4 y 75 5, l4 y 75 6, l4
          y 75 7, l4 y 75 8, l4 y 75 9, l4 y 75 10, l4 y 75 11, l4 y 75 12, l4 y 75 13, l4 y 75 14, l4 y 75 15,
          l4 y 75 16, l4 y 75 17, l4 y 75 18, l4 y 75 19, l4 y 75 20, l4 y 75 21, l4 y 76 22⟩ := by
  rw [show l4 y 46 = onMerge 45 1 (l4 y 45) from merge_add _ _ 45 1,
    show l4 y 75 = onMerge 45 30 (l4 y 45) from merge_add _ _ 45 30,
    show l4 y 76 = onMerge 45 31 (l4 y 45) from merge_add _ _ 45 31]
  generalize l4 y 45 = Y
  simp only [bitonicNet, onMerge, List.drop_succ_cons, List.drop_zero, run]
  simp only [cx_at, Nat.reduceEqDiff, ↓reduceIte]
  rfl

/-- Stretch 76 of the body, from the wires it reads to the wires it hands on. -/
theorem part76 (y : Vec F S64x8192 .f32) :
    k0_part76 arg0 harg0 arg1 harg1 arg2 harg2 arg3 harg3 arg4 harg4 arg5 harg5 arg6 arg7 arg8 arg9 arg10
        v6628_r0 (l4 y 75 22) (l4 y 75 23) (l4 y 75 24) (l4 y 75 26) (l4 y 75 25) (l4 y 75 27) (l4 y 75 28) (l4
        y 75 30) (l4 y 75 29) (l4 y 75 31) (l4 y 75 0) (l4 y 75 1) (l4 y 75 2) (l4 y 75 3) (l4 y 75 4) (l4 y 75
        5) (l4 y 75 6) (l4 y 75 7) (l4 y 75 8) (l4 y 75 9) (l4 y 75 10) (l4 y 75 11) (l4 y 75 12) (l4 y 75 13)
        (l4 y 75 14) (l4 y 75 15) (l4 y 75 16) (l4 y 75 17) (l4 y 75 18) (l4 y 75 19) (l4 y 75 20) (l4 y 75 21)
        (l4 y 76 22) =
      pure ⟨rows y 0, rows y 1, rows y 2, rows y 3, rows y 4, rows y 5, rows y 6, rows y 7, rows y 8, rows y 9,
          rows y 10, rows y 11, rows y 12, rows y 13, rows y 14, rows y 15, rows y 16, rows y 17, rows y 18,
          rows y 19, rows y 20, rows y 21, rows y 22, rows y 23, rows y 24, rows y 25, rows y 26, rows y 27,
          rows y 28, rows y 29, rows y 30, rows y 31, l5 y 0 0, l5 y 0 1, l5 y 0 2, l5 y 0 3, l5 y 0 4, lo5
          (rows y 5), hi5 (rows y 26)⟩ := by
  unfold k0_part76
  dsimp only
  generalize hT : transpose S512x64 [1, 0] (_ : FVec F S64x512 .f32) _ = T
  have e : T = turn y := by
    rw [← hT]
    simp only [turn, cat16, packAll]
    rw [show l4 y 76 = onMerge 75 1 (l4 y 75) from merge_add _ _ 75 1,
      show l4 y 80 = onMerge 75 5 (l4 y 75) from merge_add _ _ 75 5]
    generalize l4 y 75 = Y
    simp only [bitonicNet, onMerge, List.drop_succ_cons, List.drop_zero, run]
    simp only [cx_at, Nat.reduceEqDiff, ↓reduceIte]
    rfl
  subst e
  rfl

/-- Stretch 77 of the body, from the wires it reads to the wires it hands on. -/
theorem part77 (y : Vec F S64x8192 .f32) :
    k0_part77 arg0 harg0 arg1 harg1 arg2 harg2 arg3 harg3 arg4 harg4 arg5 harg5 arg6 arg7 arg8 arg9 arg10
        v6628_r0 (rows y 6) (rows y 7) (rows y 8) (rows y 9) (rows y 10) (rows y 11) (rows y 12) (rows y 13)
        (rows y 14) (rows y 15) (rows y 16) (rows y 17) (rows y 18) (rows y 19) (rows y 20) (rows y 21) (rows y
        22) (rows y 23) (rows y 24) (rows y 25) (lo5 (rows y 5)) (hi5 (rows y 26)) =
      pure ⟨l5 y 0 5, l5 y 0 6, l5 y 0 7, l5 y 0 8, l5 y 0 9, l5 y 0 10, l5 y 0 11, l5 y 0 12, l5 y 0 13, l5 y
          0 14, l5 y 0 15, l5 y 0 16, l5 y 0 17, l5 y 0 18, l5 y 0 19, l5 y 0 20, l5 y 0 21, l5 y 0 22, l5 y 0
          23, l5 y 0 24, lo5 (rows y 25), hi5 (rows y 6)⟩ := by
  simp only [l5]
  generalize rows y = Y
  simp only [bitonicNet, merge, List.drop_succ_cons, List.drop_zero, run]
  simp only [cx_at, meet_at, each_at, Nat.reduceEqDiff, ↓reduceIte, Nat.reduceSub]
  rfl

/-- Stretch 78 of the body, from the wires it reads to the wires it hands on. -/
theorem part78 (y : Vec F S64x8192 .f32) :
    k0_part78 arg0 harg0 arg1 harg1 arg2 harg2 arg3 harg3 arg4 harg4 arg5 harg5 arg6 arg7 arg8 arg9 arg10
        v6628_r0 (rows y 0) (rows y 1) (rows y 2) (rows y 3) (rows y 4) (rows y 5) (rows y 26) (rows y 27)
        (rows y 28) (rows y 29) (rows y 30) (rows y 31) (l5 y 0 0) (l5 y 0 1) (l5 y 0 2) (l5 y 0 3) (l5 y 0 4)
        (l5 y 0 5) (l5 y 0 6) (l5 y 0 7) (l5 y 0 8) (l5 y 0 9) (l5 y 0 10) (l5 y 0 11) (l5 y 0 12) (l5 y 0 13)
        (l5 y 0 14) (l5 y 0 15) (l5 y 0 16) (l5 y 0 17) (l5 y 0 18) (l5 y 0 19) (l5 y 0 20) (l5 y 0 21) (l5 y 0
        22) (l5 y 0 23) (l5 y 0 24) (lo5 (rows y 25)) (hi5 (rows y 6)) =
      pure ⟨l5 y 20 16, l5 y 20 17, l5 y 20 18, l5 y 20 19, l5 y 20 4, l5 y 20 20, l5 y 20 5, l5 y 20 21, l5 y
          20 6, l5 y 20 22, l5 y 20 7, l5 y 20 23, l5 y 20 24, l5 y 20 25, l5 y 20 26, l5 y 20 27, l5 y 20 12,
          l5 y 20 28, l5 y 20 13, l5 y 20 29, l5 y 20 14, l5 y 20 30, l5 y 20 15, l5 y 20 31, l5 y 20 0, l5 y
          20 8, l5 y 20 1, l5 y 20 9, l5 y 20 2, l5 y 20 10, l5 y 20 3, l5 y 20 11, l5 y 21 4⟩ := by
  simp only [l5]
  generalize rows y = Y
  simp only [bitonicNet, merge, List.drop_succ_cons, List.drop_zero, run]
  simp only [cx_at, meet_at, each_at, Nat.reduceEqDiff, ↓reduceIte, Nat.reduceSub]
  rfl

/-- Stretch 79 of the body, from the wires it reads to the wires it hands on. -/
theorem part79 (y : Vec F S64x8192 .f32) :
    k0_part79 arg0 harg0 arg1 harg1 arg2 harg2 arg3 harg3 arg4 harg4 arg5 harg5 arg6 arg7 arg8 arg9 arg10
        v6628_r0 (l5 y 20 16) (l5 y 20 17) (l5 y 20 18) (l5 y 20 19) (l5 y 20 4) (l5 y 20 20) (l5 y 20 5) (l5 y
        20 21) (l5 y 20 6) (l5 y 20 22) (l5 y 20 7) (l5 y 20 23) (l5 y 20 24) (l5 y 20 25) (l5 y 20 26) (l5 y
        20 27) (l5 y 20 12) (l5 y 20 28) (l5 y 20 13) (l5 y 20 29) (l5 y 20 14) (l5 y 20 30) (l5 y 20 15) (l5 y
        20 31) (l5 y 20 0) (l5 y 20 8) (l5 y 20 1) (l5 y 20 9) (l5 y 20 2) (l5 y 20 10) (l5 y 20 3) (l5 y 20
        11) (l5 y 21 4) =
      pure ⟨l5 y 50 4, l5 y 50 5, l5 y 50 6, l5 y 50 7, l5 y 50 8, l5 y 50 12, l5 y 50 9, l5 y 50 13, l5 y 50
          10, l5 y 50 14, l5 y 50 11, l5 y 50 15, l5 y 50 16, l5 y 50 20, l5 y 50 17, l5 y 50 21, l5 y 50 18,
          l5 y 50 22, l5 y 50 19, l5 y 50 23, l5 y 50 24, l5 y 50 28, l5 y 50 25, l5 y 50 29, l5 y 50 26, l5 y
          50 30, l5 y 50 27, l5 y 50 31, l5 y 50 0, l5 y 50 2, l5 y 50 1, l5 y 50 3, l5 y 51 4⟩ := by
  rw [show l5 y 21 = onMerge 20 1 (l5 y 20) from merge_add _ _ 20 1,
    show l5 y 50 = onMerge 20 30 (l5 y 20) from merge_add _ _ 20 30,
    show l5 y 51 = onMerge 20 31 (l5 y 20) from merge_add _ _ 20 31]
  generalize l5 y 20 = Y
  simp only [bitonicNet, onMerge, List.drop_succ_cons, List.drop_zero, run]
  simp only [cx_at, Nat.reduceEqDiff, ↓reduceIte]
  rfl

/-- Stretch 80 of the body, from the wires it reads to the wires it hands on. -/
theorem part80 (y : Vec F S64x8192 .f32) :
    k0_part80 arg0 harg0 arg1 harg1 arg2 harg2 arg3 harg3 arg4 harg4 arg5 harg5 arg6 arg7 arg8 arg9 arg10
        v6628_r0 (l5 y 50 4) (l5 y 50 5) (l5 y 50 6) (l5 y 50 7) (l5 y 50 8) (l5 y 50 12) (l5 y 50 9) (l5 y 50
        13) (l5 y 50 10) (l5 y 50 14) (l5 y 50 11) (l5 y 50 15) (l5 y 50 16) (l5 y 50 20) (l5 y 50 17) (l5 y 50
        21) (l5 y 50 18) (l5 y 50 22) (l5 y 50 19) (l5 y 50 23) (l5 y 50 24) (l5 y 50 28) (l5 y 50 25) (l5 y 50
        29) (l5 y 50 26) (l5 y 50 30) (l5 y 50 27) (l5 y 50 31) (l5 y 50 0) (l5 y 50 2) (l5 y 50 1) (l5 y 50 3)
        (l5 y 51 4) =
      pure ⟨l5 y 80 0, l5 y 80 1, l5 y 80 2, l5 y 80 3, l5 y 80 4, l5 y 80 5, l5 y 80 6, l5 y 80 7, l5 y 80 8,
          l5 y 80 9, l5 y 80 10, l5 y 80 11, l5 y 80 12, l5 y 80 13, l5 y 80 14, l5 y 80 15, l5 y 80 16, l5 y
          80 17, l5 y 80 18, l5 y 80 19, l5 y 80 20, l5 y 80 21, l5 y 80 22, l5 y 80 23, l5 y 80 24, l5 y 80
          25, l5 y 80 26, l5 y 80 27, l5 y 80 28, l5 y 80 29, l5 y 80 30, l5 y 80 31, lo6 (l5 y 80 0)⟩ := by
  rw [show l5 y 51 = onMerge 50 1 (l5 y 50) from merge_add _ _ 50 1,
    show l5 y 80 = onMerge 50 30 (l5 y 50) from merge_add _ _ 50 30]
  generalize l5 y 50 = Y
  simp only [bitonicNet, onMerge, List.drop_succ_cons, List.drop_zero, run]
  simp only [cx_at, Nat.reduceEqDiff, ↓reduceIte]
  rfl

/-- Stretch 81 of the body, from the wires it reads to the wires it hands on. -/
theorem part81 (y : Vec F S64x8192 .f32) :
    k0_part81 arg0 harg0 arg1 harg1 arg2 harg2 arg3 harg3 arg4 harg4 arg5 harg5 arg6 arg7 arg8 arg9 arg10
        v6628_r0 (l5 y 80 1) (l5 y 80 2) (l5 y 80 3) (l5 y 80 4) (l5 y 80 5) (l5 y 80 6) (l5 y 80 7) (l5 y 80
        8) (l5 y 80 9) (l5 y 80 10) (l5 y 80 11) (l5 y 80 12) (l5 y 80 13) (l5 y 80 14) (l5 y 80 15) (l5 y 80
        16) (l5 y 80 17) (l5 y 80 18) (l5 y 80 19) (l5 y 80 20) (l5 y 80 21) (l5 y 80 22) (l5 y 80 23) (l5 y 80
        24) (l5 y 80 25) (l5 y 80 26) (l5 y 80 27) (l5 y 80 28) (l5 y 80 29) (l5 y 80 30) (l5 y 80 31) (lo6 (l5
        y 80 0)) =
      pure ⟨l6 y 0 0, l6 y 0 1, l6 y 0 2, l6 y 0 3, l6 y 0 4, l6 y 0 5, l6 y 0 6, l6 y 0 7, l6 y 0 8, l6 y 0 9,
          l6 y 0 10, l6 y 0 11, l6 y 0 12, l6 y 0 13, l6 y 0 14, l6 y 0 15, l6 y 0 16, l6 y 0 17, l6 y 0 18, l6
          y 0 19, lo6 (l5 y 80 20)⟩ := by
  simp only [l6]
  generalize l5 y 80 = Y
  simp only [bitonicNet, merge, List.drop_succ_cons, List.drop_zero, run]
  simp only [cx_at, meet_at, each_at, Nat.reduceEqDiff, ↓reduceIte, Nat.reduceSub]
  rfl

/-- Stretch 82 of the body, from the wires it reads to the wires it hands on. -/
theorem part82 (y : Vec F S64x8192 .f32) :
    k0_part82 arg0 harg0 arg1 harg1 arg2 harg2 arg3 harg3 arg4 harg4 arg5 harg5 arg6 arg7 arg8 arg9 arg10
        v6628_r0 (l5 y 80 0) (l5 y 80 1) (l5 y 80 2) (l5 y 80 3) (l5 y 80 4) (l5 y 80 5) (l5 y 80 6) (l5 y 80
        7) (l5 y 80 8) (l5 y 80 9) (l5 y 80 10) (l5 y 80 11) (l5 y 80 21) (l5 y 80 22) (l5 y 80 23) (l5 y 80
        24) (l5 y 80 25) (l5 y 80 26) (l5 y 80 27) (l5 y 80 28) (l5 y 80 29) (l5 y 80 30) (l5 y 80 31) (l6 y 0
        0) (l6 y 0 1) (l6 y 0 2) (l6 y 0 3) (l6 y 0 4) (l6 y 0 5) (l6 y 0 6) (l6 y 0 7) (l6 y 0 8) (l6 y 0 9)
        (l6 y 0 10) (l6 y 0 11) (l6 y 0 12) (l6 y 0 16) (l6 y 0 17) (l6 y 0 18) (l6 y 0 19) (lo6 (l5 y 80 20)) =
      pure ⟨l6 y 12 28, l6 y 12 29, l6 y 12 30, l6 y 12 31, l6 y 12 0, l6 y 12 16, l6 y 12 1, l6 y 12 17, l6 y
          12 2, l6 y 12 18, l6 y 12 3, l6 y 12 19, l6 y 12 4, l6 y 12 20, l6 y 12 5, l6 y 12 21, l6 y 12 6, l6
          y 12 22, l6 y 12 7, l6 y 12 23, l6 y 12 8, l6 y 12 24, l6 y 12 9, l6 y 12 25, l6 y 12 10, l6 y 12 26,
          l6 y 12 11, l6 y 12 27, l6 y 13 12⟩ := by
  simp only [l6]
  generalize l5 y 80 = Y
  simp only [bitonicNet, merge, List.drop_succ_cons, List.drop_zero, run]
  simp only [cx_at, meet_at, each_at, Nat.reduceEqDiff, ↓reduceIte, Nat.reduceSub]
  rfl

/-- Stretch 83 of the body, from the wires it reads to the wires it hands on. -/
theorem part83 (y : Vec F S64x8192 .f32) :
    k0_part83 arg0 harg0 arg1 harg1 arg2 harg2 arg3 harg3 arg4 harg4 arg5 harg5 arg6 arg7 arg8 arg9 arg10
        v6628_r0 (l6 y 0 12) (l6 y 0 13) (l6 y 0 14) (l6 y 0 15) (l6 y 12 28) (l6 y 12 29) (l6 y 12 30) (l6 y
        12 31) (l6 y 12 0) (l6 y 12 16) (l6 y 12 1) (l6 y 12 17) (l6 y 12 2) (l6 y 12 18) (l6 y 12 3) (l6 y 12
        19) (l6 y 12 4) (l6 y 12 20) (l6 y 12 5) (l6 y 12 21) (l6 y 12 6) (l6 y 12 22) (l6 y 12 7) (l6 y 12 23)
        (l6 y 12 8) (l6 y 12 24) (l6 y 12 9) (l6 y 12 25) (l6 y 12 10) (l6 y 12 26) (l6 y 12 11) (l6 y 12 27)
        (l6 y 13 12) =
      pure ⟨l6 y 42 24, l6 y 42 25, l6 y 42 18, l6 y 42 26, l6 y 42 19, l6 y 42 27, l6 y 42 28, l6 y 42 29, l6
          y 42 22, l6 y 42 30, l6 y 42 23, l6 y 42 31, l6 y 42 0, l6 y 42 4, l6 y 42 1, l6 y 42 5, l6 y 42 2,
          l6 y 42 6, l6 y 42 3, l6 y 42 7, l6 y 42 8, l6 y 42 12, l6 y 42 9, l6 y 42 13, l6 y 42 10, l6 y 42
          14, l6 y 42 11, l6 y 42 15, l6 y 42 16, l6 y 42 20, l6 y 42 17, l6 y 42 21, l6 y 43 18⟩ := by
  rw [show l6 y 0 12 = l6 y 12 12 from merge_hold _ _ 0 12 12 (by decide),
    show l6 y 0 13 = l6 y 12 13 from merge_hold _ _ 0 12 13 (by decide),
    show l6 y 0 14 = l6 y 12 14 from merge_hold _ _ 0 12 14 (by decide),
    show l6 y 0 15 = l6 y 12 15 from merge_hold _ _ 0 12 15 (by decide)]
  rw [show l6 y 13 = onMerge 12 1 (l6 y 12) from merge_add _ _ 12 1,
    show l6 y 42 = onMerge 12 30 (l6 y 12) from merge_add _ _ 12 30,
    show l6 y 43 = onMerge 12 31 (l6 y 12) from merge_add _ _ 12 31]
  generalize l6 y 12 = Y
  simp only [bitonicNet, onMerge, List.drop_succ_cons, List.drop_zero, run]
  simp only [cx_at, Nat.reduceEqDiff, ↓reduceIte]
  rfl

/-- Stretch 84 of the body, from the wires it reads to the wires it hands on. -/
theorem part84 (y : Vec F S64x8192 .f32) :
    k0_part84 arg0 harg0 arg1 harg1 arg2 harg2 arg3 harg3 arg4 harg4 arg5 harg5 arg6 arg7 arg8 arg9 arg10
        v6628_r0 (l6 y 42 24) (l6 y 42 25) (l6 y 42 18) (l6 y 42 26) (l6 y 42 19) (l6 y 42 27) (l6 y 42 28) (l6
        y 42 29) (l6 y 42 22) (l6 y 42 30) (l6 y 42 23) (l6 y 42 31) (l6 y 42 0) (l6 y 42 4) (l6 y 42 1) (l6 y
        42 5) (l6 y 42 2) (l6 y 42 6) (l6 y 42 3) (l6 y 42 7) (l6 y 42 8) (l6 y 42 12) (l6 y 42 9) (l6 y 42 13)
        (l6 y 42 10) (l6 y 42 14) (l6 y 42 11) (l6 y 42 15) (l6 y 42 16) (l6 y 42 20) (l6 y 42 17) (l6 y 42 21)
        (l6 y 43 18) =
      pure ⟨l6 y 72 16, l6 y 72 18, l6 y 72 17, l6 y 72 19, l6 y 72 20, l6 y 72 22, l6 y 72 21, l6 y 72 23, l6
          y 72 24, l6 y 72 26, l6 y 72 25, l6 y 72 27, l6 y 72 28, l6 y 72 30, l6 y 72 29, l6 y 72 31, l6 y 72
          0, l6 y 72 1, l6 y 72 2, l6 y 72 3, l6 y 72 4, l6 y 72 5, l6 y 72 6, l6 y 72 7, l6 y 72 8, l6 y 72 9,
          l6 y 72 10, l6 y 72 11, l6 y 72 12, l6 y 72 13, l6 y 72 14, l6 y 72 15, l6 y 73 16⟩ := by
  rw [show l6 y 43 = onMerge 42 1 (l6 y 42) from merge_add _ _ 42 1,
    show l6 y 72 = onMerge 42 30 (l6 y 42) from merge_add _ _ 42 30,
    show l6 y 73 = onMerge 42 31 (l6 y 42) from merge_add _ _ 42 31]
  generalize l6 y 42 = Y
  simp only [bitonicNet, onMerge, List.drop_succ_cons, List.drop_zero, run]
  simp only [cx_at, Nat.reduceEqDiff, ↓reduceIte]
  rfl

/-- Stretch 85 of the body, from the wires it reads to the wires it hands on. -/
theorem part85 (y : Vec F S64x8192 .f32) :
    k0_part85 arg0 harg0 arg1 harg1 arg2 harg2 arg3 harg3 arg4 harg4 arg5 harg5 arg6 arg7 arg8 arg9 arg10
        v6628_r0 (l6 y 72 16) (l6 y 72 18) (l6 y 72 17) (l6 y 72 19) (l6 y 72 20) (l6 y 72 22) (l6 y 72 21) (l6
        y 72 23) (l6 y 72 24) (l6 y 72 26) (l6 y 72 25) (l6 y 72 27) (l6 y 72 28) (l6 y 72 30) (l6 y 72 29) (l6
        y 72 31) (l6 y 72 0) (l6 y 72 1) (l6 y 72 2) (l6 y 72 3) (l6 y 72 4) (l6 y 72 5) (l6 y 72 6) (l6 y 72
        7) (l6 y 72 8) (l6 y 72 9) (l6 y 72 10) (l6 y 72 11) (l6 y 72 12) (l6 y 72 13) (l6 y 72 14) =
      pure ⟨l6 y 80 17, l6 y 80 18, l6 y 80 19, l6 y 80 20, l6 y 80 21, l6 y 80 22, l6 y 80 23, l6 y 80 24, l6
          y 80 25, l6 y 80 26, l6 y 80 27, l6 y 80 28, l6 y 80 29, l6 y 80 30, l6 y 80 31, l7 y 0 0, l7 y 0 1,
          l7 y 0 2, l7 y 0 3, l7 y 0 4, l7 y 0 5, l7 y 0 6, l7 y 0 7, l7 y 0 8, l7 y 0 9, l7 y 0 10, l7 y 0 11,
          l7 y 0 12, l7 y 0 13, l7 y 0 14⟩ := by
  simp only [l7]
  rw [show l6 y 80 = onMerge 72 8 (l6 y 72) from merge_add _ _ 72 8]
  generalize l6 y 72 = Y
  simp only [bitonicNet, merge, onMerge, List.drop_succ_cons, List.drop_zero, run]
  simp only [cx_at, meet_at, each_at, Nat.reduceEqDiff, ↓reduceIte, Nat.reduceSub]
  rfl

/-- Stretch 86 of the body, from the wires it reads to the wires it hands on. -/
theorem part86 (y : Vec F S64x8192 .f32) :
    k0_part86 arg0 harg0 arg1 harg1 arg2 harg2 arg3 harg3 arg4 harg4 arg5 harg5 arg6 arg7 arg8 arg9 arg10
        v6628_r0 (l6 y 72 0) (l6 y 72 1) (l6 y 72 2) (l6 y 72 3) (l6 y 72 4) (l6 y 72 5) (l6 y 72 6) (l6 y 72
        7) (l6 y 72 8) (l6 y 72 9) (l6 y 72 10) (l6 y 72 11) (l6 y 72 12) (l6 y 72 13) (l6 y 72 14) (l6 y 72
        15) (l6 y 73 16) (l6 y 80 17) (l6 y 80 18) (l6 y 80 19) (l6 y 80 20) (l6 y 80 21) (l6 y 80 22) (l6 y 80
        23) (l6 y 80 24) (l6 y 80 25) (l6 y 80 26) (l6 y 80 27) (l6 y 80 28) (l6 y 80 29) (l6 y 80 30) (l6 y 80
        31) (l7 y 0 0) (l7 y 0 1) (l7 y 0 2) (l7 y 0 3) (l7 y 0 4) =
      pure ⟨l7 y 4 15, l7 y 4 20, l7 y 4 21, l7 y 4 22, l7 y 4 23, l7 y 4 24, l7 y 4 25, l7 y 4 26, l7 y 4 27,
          l7 y 4 28, l7 y 4 29, l7 y 4 30, l7 y 4 31, l7 y 4 0, l7 y 4 16, l7 y 4 1, l7 y 4 17, l7 y 4 2, l7 y
          4 18, l7 y 4 3, l7 y 4 19, l7 y 5 4⟩ := by
  rw [show l6 y 72 0 = l6 y 80 0 from merge_hold _ _ 72 8 0 (by decide),
    show l6 y 72 1 = l6 y 80 1 from merge_hold _ _ 72 8 1 (by decide),
    show l6 y 72 10 = l6 y 80 10 from merge_hold _ _ 72 8 10 (by decide),
    show l6 y 72 11 = l6 y 80 11 from merge_hold _ _ 72 8 11 (by decide),
    show l6 y 72 12 = l6 y 80 12 from merge_hold _ _ 72 8 12 (by decide),
    show l6 y 72 13 = l6 y 80 13 from merge_hold _ _ 72 8 13 (by decide),
    show l6 y 72 14 = l6 y 80 14 from merge_hold _ _ 72 8 14 (by decide),
    show l6 y 72 15 = l6 y 80 15 from merge_hold _ _ 72 8 15 (by decide),
    show l6 y 72 2 = l6 y 80 2 from merge_hold _ _ 72 8 2 (by decide),
    show l6 y 72 3 = l6 y 80 3 from merge_hold _ _ 72 8 3 (by decide),
    show l6 y 72 4 = l6 y 80 4 from merge_hold _ _ 72 8 4 (by decide),
    show l6 y 72 5 = l6 y 80 5 from merge_hold _ _ 72 8 5 (by decide),
    show l6 y 72 6 = l6 y 80 6 from merge_hold _ _ 72 8 6 (by decide),
    show l6 y 72 7 = l6 y 80 7 from merge_hold _ _ 72 8 7 (by decide),
    show l6 y 72 8 = l6 y 80 8 from merge_hold _ _ 72 8 8 (by decide),
    show l6 y 72 9 = l6 y 80 9 from merge_hold _ _ 72 8 9 (by decide),
    show l6 y 73 16 = l6 y 80 16 from merge_hold _ _ 73 7 16 (by decide)]
  simp only [l7]
  generalize l6 y 80 = Y
  simp only [bitonicNet, merge, List.drop_succ_cons, List.drop_zero, run]
  simp only [cx_at, meet_at, each_at, Nat.reduceEqDiff, ↓reduceIte, Nat.reduceSub]
  rfl

/-- Stretch 87 of the body, from the wires it reads to the wires it hands on. -/
theorem part87 (y : Vec F S64x8192 .f32) :
    k0_part87 arg0 harg0 arg1 harg1 arg2 harg2 arg3 harg3 arg4 harg4 arg5 harg5 arg6 arg7 arg8 arg9 arg10
        v6628_r0 (l7 y 0 4) (l7 y 0 5) (l7 y 0 6) (l7 y 0 7) (l7 y 0 8) (l7 y 0 9) (l7 y 0 10) (l7 y 0 11) (l7
        y 0 12) (l7 y 0 13) (l7 y 0 14) (l7 y 4 15) (l7 y 4 20) (l7 y 4 21) (l7 y 4 22) (l7 y 4 23) (l7 y 4 24)
        (l7 y 4 25) (l7 y 4 26) (l7 y 4 27) (l7 y 4 28) (l7 y 4 29) (l7 y 4 30) (l7 y 4 31) (l7 y 4 0) (l7 y 4
        16) (l7 y 4 1) (l7 y 4 17) (l7 y 4 2) (l7 y 4 18) (l7 y 4 3) (l7 y 4 19) (l7 y 5 4) =
      pure ⟨l7 y 34 8, l7 y 34 9, l7 y 34 2, l7 y 34 10, l7 y 34 3, l7 y 34 11, l7 y 34 12, l7 y 34 13, l7 y 34
          6, l7 y 34 14, l7 y 34 7, l7 y 34 15, l7 y 34 16, l7 y 34 24, l7 y 34 17, l7 y 34 25, l7 y 34 18, l7
          y 34 26, l7 y 34 19, l7 y 34 27, l7 y 34 20, l7 y 34 28, l7 y 34 21, l7 y 34 29, l7 y 34 22, l7 y 34
          30, l7 y 34 23, l7 y 34 31, l7 y 34 0, l7 y 34 4, l7 y 34 1, l7 y 34 5, l7 y 35 2⟩ := by
  rw [show l7 y 0 10 = l7 y 4 10 from merge_hold _ _ 0 4 10 (by decide),
    show l7 y 0 11 = l7 y 4 11 from merge_hold _ _ 0 4 11 (by decide),
    show l7 y 0 12 = l7 y 4 12 from merge_hold _ _ 0 4 12 (by decide),
    show l7 y 0 13 = l7 y 4 13 from merge_hold _ _ 0 4 13 (by decide),
    show l7 y 0 14 = l7 y 4 14 from merge_hold _ _ 0 4 14 (by decide),
    show l7 y 0 4 = l7 y 4 4 from merge_hold _ _ 0 4 4 (by decide),
    show l7 y 0 5 = l7 y 4 5 from merge_hold _ _ 0 4 5 (by decide),
    show l7 y 0 6 = l7 y 4 6 from merge_hold _ _ 0 4 6 (by decide),
    show l7 y 0 7 = l7 y 4 7 from merge_hold _ _ 0 4 7 (by decide),
    show l7 y 0 8 = l7 y 4 8 from merge_hold _ _ 0 4 8 (by decide),
    show l7 y 0 9 = l7 y 4 9 from merge_hold _ _ 0 4 9 (by decide)]
  rw [show l7 y 5 = onMerge 4 1 (l7 y 4) from merge_add _ _ 4 1,
    show l7 y 34 = onMerge 4 30 (l7 y 4) from merge_add _ _ 4 30,
    show l7 y 35 = onMerge 4 31 (l7 y 4) from merge_add _ _ 4 31]
  generalize l7 y 4 = Y
  simp only [bitonicNet, onMerge, List.drop_succ_cons, List.drop_zero, run]
  simp only [cx_at, Nat.reduceEqDiff, ↓reduceIte]
  rfl

/-- Stretch 88 of the body, from the wires it reads to the wires it hands on. -/
theorem part88 (y : Vec F S64x8192 .f32) :
    k0_part88 arg0 harg0 arg1 harg1 arg2 harg2 arg3 harg3 arg4 harg4 arg5 harg5 arg6 arg7 arg8 arg9 arg10
        v6628_r0 (l7 y 34 8) (l7 y 34 9) (l7 y 34 2) (l7 y 34 10) (l7 y 34 3) (l7 y 34 11) (l7 y 34 12) (l7 y
        34 13) (l7 y 34 6) (l7 y 34 14) (l7 y 34 7) (l7 y 34 15) (l7 y 34 16) (l7 y 34 24) (l7 y 34 17) (l7 y
        34 25) (l7 y 34 18) (l7 y 34 26) (l7 y 34 19) (l7 y 34 27) (l7 y 34 20) (l7 y 34 28) (l7 y 34 21) (l7 y
        34 29) (l7 y 34 22) (l7 y 34 30) (l7 y 34 23) (l7 y 34 31) (l7 y 34 0) (l7 y 34 4) (l7 y 34 1) (l7 y 34
        5) (l7 y 35 2) =
      pure ⟨l7 y 64 0, l7 y 64 2, l7 y 64 1, l7 y 64 3, l7 y 64 4, l7 y 64 6, l7 y 64 5, l7 y 64 7, l7 y 64 8,
          l7 y 64 10, l7 y 64 9, l7 y 64 11, l7 y 64 12, l7 y 64 14, l7 y 64 13, l7 y 64 15, l7 y 64 16, l7 y
          64 18, l7 y 64 17, l7 y 64 19, l7 y 64 20, l7 y 64 22, l7 y 64 21, l7 y 64 23, l7 y 64 24, l7 y 64
          26, l7 y 64 25, l7 y 64 27, l7 y 64 28, l7 y 64 30, l7 y 64 29, l7 y 64 31, l7 y 65 0⟩ := by
  rw [show l7 y 35 = onMerge 34 1 (l7 y 34) from merge_add _ _ 34 1,
    show l7 y 64 = onMerge 34 30 (l7 y 34) from merge_add _ _ 34 30,
    show l7 y 65 = onMerge 34 31 (l7 y 34) from merge_add _ _ 34 31]
  generalize l7 y 34 = Y
  simp only [bitonicNet, onMerge, List.drop_succ_cons, List.drop_zero, run]
  simp only [cx_at, Nat.reduceEqDiff, ↓reduceIte]
  rfl

/-- Stretch 89 of the body, from the wires it reads to the wires it hands on. -/
theorem part89 (y : Vec F S64x8192 .f32) :
    k0_part89 arg0 harg0 arg1 harg1 arg2 harg2 arg3 harg3 arg4 harg4 arg5 harg5 arg6 arg7 arg8 arg9 arg10
        v6628_r0 (l7 y 64 0) (l7 y 64 2) (l7 y 64 1) (l7 y 64 3) (l7 y 64 4) (l7 y 64 6) (l7 y 64 5) (l7 y 64
        7) (l7 y 64 8) (l7 y 64 10) (l7 y 64 9) (l7 y 64 11) (l7 y 64 12) (l7 y 64 14) (l7 y 64 13) (l7 y 64
        15) (l7 y 64 16) (l7 y 64 18) (l7 y 64 17) (l7 y 64 19) (l7 y 64 20) (l7 y 64 22) (l7 y 64 21) (l7 y 64
        23) (l7 y 64 24) (l7 y 64 26) (l7 y 64 25) (l7 y 64 27) (l7 y 64 28) (l7 y 64 30) (l7 y 64 29) (l7 y 64
        31) (l7 y 65 0) =
      pure ⟨l7 y 80 1, l7 y 80 2, l7 y 80 3, l7 y 80 4, l7 y 80 5, l7 y 80 6, l7 y 80 7, l7 y 80 8, l7 y 80 9,
          l7 y 80 10, l7 y 80 11, l7 y 80 12, l7 y 80 13, l7 y 80 14, l7 y 80 15, l7 y 80 16, l7 y 80 17, l7 y
          80 18, l7 y 80 19, l7 y 80 20, l7 y 80 21, l7 y 80 22, l7 y 80 23, l7 y 80 24, l7 y 80 25, l7 y 80
          26, l7 y 80 27, l7 y 80 28, l7 y 80 29, l7 y 80 30, l7 y 80 31, l8 y 0 0, l8 y 0 1, l8 y 0 2, l8 y 0
          3, l8 y 0 4, l8 y 0 5, l8 y 0 6, l8 y 0 7, l8 y 0 8, lo8 (l7 y 80 9), hi8 (l7 y 80 22)⟩ := by
  simp only [l8]
  rw [show l7 y 65 = onMerge 64 1 (l7 y 64) from merge_add _ _ 64 1,
    show l7 y 80 = onMerge 64 16 (l7 y 64) from merge_add _ _ 64 16]
  generalize l7 y 64 = Y
  simp only [bitonicNet, merge, onMerge, List.drop_succ_cons, List.drop_zero, run]
  simp only [cx_at, meet_at, each_at, Nat.reduceEqDiff, ↓reduceIte, Nat.reduceSub]
  rfl

/-- Stretch 90 of the body, from the wires it reads to the wires it hands on. -/
theorem part90 (y : Vec F S64x8192 .f32) :
    k0_part90 arg0 harg0 arg1 harg1 arg2 harg2 arg3 harg3 arg4 harg4 arg5 harg5 arg6 arg7 arg8 arg9 arg10
        v6628_r0 (l7 y 80 2) (l7 y 80 3) (l7 y 80 4) (l7 y 80 5) (l7 y 80 6) (l7 y 80 7) (l7 y 80 8) (l7 y 80
        9) (l7 y 80 10) (l7 y 80 11) (l7 y 80 12) (l7 y 80 13) (l7 y 80 14) (l7 y 80 15) (l7 y 80 16) (l7 y 80
        17) (l7 y 80 18) (l7 y 80 19) (l7 y 80 20) (l7 y 80 21) (l7 y 80 22) (l7 y 80 23) (l7 y 80 24) (l7 y 80
        25) (l7 y 80 26) (l7 y 80 27) (l7 y 80 28) (l7 y 80 29) (lo8 (l7 y 80 9)) (hi8 (l7 y 80 22)) =
      pure ⟨l8 y 0 9, l8 y 0 10, l8 y 0 11, l8 y 0 12, l8 y 0 13, l8 y 0 14, l8 y 0 15, l8 y 0 16, l8 y 0 17,
          l8 y 0 18, l8 y 0 19, l8 y 0 20, l8 y 0 21, l8 y 0 22, l8 y 0 23, l8 y 0 24, l8 y 0 25, l8 y 0 26, l8
          y 0 27, l8 y 0 28, lo8 (l7 y 80 29), hi8 (l7 y 80 2)⟩ := by
  simp only [l8]
  generalize l7 y 80 = Y
  simp only [bitonicNet, merge, List.drop_succ_cons, List.drop_zero, run]
  simp only [cx_at, meet_at, each_at, Nat.reduceEqDiff, ↓reduceIte, Nat.reduceSub]
  rfl

/-- Stretch 91 of the body, from the wires it reads to the wires it hands on. -/
theorem part91 (y : Vec F S64x8192 .f32) :
    k0_part91 arg0 harg0 arg1 harg1 arg2 harg2 arg3 harg3 arg4 harg4 arg5 harg5 arg6 arg7 arg8 arg9 arg10
        v6628_r0 (l7 y 65 0) (l7 y 80 1) (l7 y 80 30) (l7 y 80 31) (l8 y 0 0) (l8 y 0 1) (l8 y 0 2) (l8 y 0 3)
        (l8 y 0 4) (l8 y 0 5) (l8 y 0 6) (l8 y 0 7) (l8 y 0 8) (l8 y 0 9) (l8 y 0 10) (l8 y 0 11) (l8 y 0 12)
        (l8 y 0 13) (l8 y 0 14) (l8 y 0 15) (l8 y 0 16) (l8 y 0 17) (l8 y 0 18) (l8 y 0 19) (l8 y 0 20) (l8 y 0
        21) (l8 y 0 22) (l8 y 0 23) (l8 y 0 24) (l8 y 0 25) (l8 y 0 26) (l8 y 0 27) (l8 y 0 28) (lo8 (l7 y 80
        29)) (hi8 (l7 y 80 2)) =
      pure ⟨l8 y 26 18, l8 y 26 19, l8 y 26 20, l8 y 26 21, l8 y 26 22, l8 y 26 23, l8 y 26 26, l8 y 26 27, l8
          y 26 28, l8 y 26 29, l8 y 26 30, l8 y 26 31, l8 y 26 0, l8 y 26 8, l8 y 26 1, l8 y 26 9, l8 y 26 2,
          l8 y 26 10, l8 y 26 3, l8 y 26 11, l8 y 26 4, l8 y 26 12, l8 y 26 5, l8 y 26 13, l8 y 26 6, l8 y 26
          14, l8 y 26 7, l8 y 26 15, l8 y 26 16, l8 y 26 24, l8 y 26 17, l8 y 26 25, l8 y 27 18⟩ := by
  rw [show l7 y 65 0 = l7 y 80 0 from merge_hold _ _ 65 15 0 (by decide)]
  simp only [l8]
  generalize l7 y 80 = Y
  simp only [bitonicNet, merge, List.drop_succ_cons, List.drop_zero, run]
  simp only [cx_at, meet_at, each_at, Nat.reduceEqDiff, ↓reduceIte, Nat.reduceSub]
  rfl

/-- Stretch 92 of the body, from the wires it reads to the wires it hands on. -/
theorem part92 (y : Vec F S64x8192 .f32) :
    k0_part92 arg0 harg0 arg1 harg1 arg2 harg2 arg3 harg3 arg4 harg4 arg5 harg5 arg6 arg7 arg8 arg9 arg10
        v6628_r0 (l8 y 26 18) (l8 y 26 19) (l8 y 26 20) (l8 y 26 21) (l8 y 26 22) (l8 y 26 23) (l8 y 26 26) (l8
        y 26 27) (l8 y 26 28) (l8 y 26 29) (l8 y 26 30) (l8 y 26 31) (l8 y 26 0) (l8 y 26 8) (l8 y 26 1) (l8 y
        26 9) (l8 y 26 2) (l8 y 26 10) (l8 y 26 3) (l8 y 26 11) (l8 y 26 4) (l8 y 26 12) (l8 y 26 5) (l8 y 26
        13) (l8 y 26 6) (l8 y 26 14) (l8 y 26 7) (l8 y 26 15) (l8 y 26 16) (l8 y 26 24) (l8 y 26 17) (l8 y 26
        25) (l8 y 27 18) =
      pure ⟨l8 y 56 16, l8 y 56 20, l8 y 56 17, l8 y 56 21, l8 y 56 18, l8 y 56 22, l8 y 56 19, l8 y 56 23, l8
          y 56 24, l8 y 56 28, l8 y 56 25, l8 y 56 29, l8 y 56 26, l8 y 56 30, l8 y 56 27, l8 y 56 31, l8 y 56
          0, l8 y 56 2, l8 y 56 1, l8 y 56 3, l8 y 56 4, l8 y 56 6, l8 y 56 5, l8 y 56 7, l8 y 56 8, l8 y 56
          10, l8 y 56 9, l8 y 56 11, l8 y 56 12, l8 y 56 14, l8 y 56 13, l8 y 56 15, l8 y 57 16⟩ := by
  rw [show l8 y 27 = onMerge 26 1 (l8 y 26) from merge_add _ _ 26 1,
    show l8 y 56 = onMerge 26 30 (l8 y 26) from merge_add _ _ 26 30,
    show l8 y 57 = onMerge 26 31 (l8 y 26) from merge_add _ _ 26 31]
  generalize l8 y 26 = Y
  simp only [bitonicNet, onMerge, List.drop_succ_cons, List.drop_zero, run]
  simp only [cx_at, Nat.reduceEqDiff, ↓reduceIte]
  rfl

/-- Stretch 93 of the body, from the wires it reads to the wires it hands on. -/
theorem part93 (x y : Vec F S64x8192 .f32) :
    k0_part93 arg0 harg0 arg1 harg1 arg2 harg2 arg3 harg3 arg4 harg4 arg5 harg5 arg6 arg7 arg8 arg9 arg10
        v6628_r0 (l8 x 80 0) (l8 x 80 1) (l8 x 80 2) (l8 x 80 3) (l8 x 80 4) (l8 x 80 5) (l8 x 80 6) (l8 x 80
        7) (l8 x 80 8) (l8 x 80 9) (l8 x 80 10) (l8 x 80 11) (l8 x 80 12) (l8 y 56 16) (l8 y 56 20) (l8 y 56
        17) (l8 y 56 21) (l8 y 56 18) (l8 y 56 22) (l8 y 56 19) (l8 y 56 23) (l8 y 56 24) (l8 y 56 28) (l8 y 56
        25) (l8 y 56 29) (l8 y 56 26) (l8 y 56 30) (l8 y 56 27) (l8 y 56 31) (l8 y 56 0) (l8 y 56 2) (l8 y 56
        1) (l8 y 56 3) (l8 y 56 4) (l8 y 56 6) (l8 y 56 5) (l8 y 56 7) (l8 y 56 8) (l8 y 56 10) (l8 y 56 9) (l8
        y 56 11) (l8 y 56 12) (l8 y 56 14) (l8 y 56 13) (l8 y 56 15) (l8 y 57 16) =
      pure ⟨l8 y 80 13, l8 y 80 14, l8 y 80 15, l8 y 80 16, l8 y 80 17, l8 y 80 18, l8 y 80 19, l8 y 80 20, l8
          y 80 21, l8 y 80 22, l8 y 80 23, l8 y 80 24, l8 y 80 25, l8 y 80 26, l8 y 80 27, l8 y 80 28, l8 y 80
          29, l8 y 80 30, l8 y 80 31, mine x y 0, mine x y 1, mine x y 2, mine x y 3, mine x y 4, mine x y 5,
          mine x y 6, mine x y 7, mine x y 8, mine x y 9, mine x y 10, mine x y 11, mine x y 12⟩ := by
  simp only [mine_at]
  rw [show l8 y 57 = onMerge 56 1 (l8 y 56) from merge_add _ _ 56 1,
    show l8 y 80 = onMerge 56 24 (l8 y 56) from merge_add _ _ 56 24]
  generalize l8 x 80 = Y
  generalize l8 y 56 = Y
  simp only [bitonicNet, onMerge, List.drop_succ_cons, List.drop_zero, run]
  simp only [cx_at, Nat.reduceEqDiff, ↓reduceIte]
  rfl

end Cert.TopK
-- ==== Proof.PartsE.lean ====
module

public import proofs.«01_k».proof.Proof.Lists

@[expose] public section

noncomputable section

/-!
# The merges of four devices' lists

Each statement says which wires a stretch of the body computes: its values are written as "the wires of fold k
after n comparators". The stretches hold pure arithmetic only, so each is an equation between programs that return.
-/

namespace Cert.TopK

open Idealize.ShloMosaic Idealize.SL.Sem Cert.KernelIdeal

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- Stretch 97 of the body, from the wires it reads to the wires it hands on. -/
theorem part97 (x y : Vec F S64x8192 .f32) (u : Vec F S1x32x128 .f32) :
    k0_part97 arg0 harg0 arg1 harg1 arg2 harg2 arg3 harg3 arg4 harg4 arg5 harg5 arg6 arg7 arg8 arg9 arg10
        v6628_r0 (mine x y 0) (mine x y 1) (mine x y 2) (mine x y 3) (mine x y 4) (mine x y 5) (mine x y 6)
        (mine x y 7) (mine x y 8) (mine x y 9) (mine x y 10) (mine x y 11) (mine x y 12) (mine x y 13) (mine x
        y 14) (mine x y 15) (mine x y 16) (mine x y 17) (mine x y 18) (mine x y 19) (mine x y 20) (mine x y 21)
        (mine x y 22) (mine x y 23) (mine x y 24) (mine x y 25) (mine x y 26) (mine x y 27) (mine x y 28) (mine
        x y 29) (mine x y 30) (mine x y 31) (slab u) (rowl (slab u) 0) (rowl (slab u) 1) (rowl (slab u) 2)
        (rowl (slab u) 3) (rowl (slab u) 4) (rowl (slab u) 5) =
      pure ⟨m01 x y u 1 1, m01 x y u 1 2, m01 x y u 1 3, m01 x y u 1 4, m01 x y u 1 5, m01 x y u 1 6, m01 x y u
          1 7, m01 x y u 1 8, m01 x y u 1 9, m01 x y u 1 10, m01 x y u 1 11, m01 x y u 1 12, m01 x y u 1 13,
          m01 x y u 1 14, m01 x y u 1 15, m01 x y u 1 17, m01 x y u 1 18, m01 x y u 1 19, m01 x y u 1 20, m01 x
          y u 1 21, m01 x y u 1 22, m01 x y u 1 23, m01 x y u 1 24, m01 x y u 1 25, m01 x y u 1 26, m01 x y u 1
          27, m01 x y u 1 28, m01 x y u 1 29, m01 x y u 1 30, m01 x y u 1 31, m01 x y u 1 0, m01 x y u 1 16⟩ :=
          by
  simp only [m01]
  generalize mine x y = Y
  generalize slab u = Y
  simp only [bitonicNet, merge, List.drop_succ_cons, List.drop_zero, run]
  simp only [cx_at, meet_at, each_at, Nat.reduceEqDiff, ↓reduceIte, Nat.reduceSub]
  rfl

/-- Stretch 98 of the body, from the wires it reads to the wires it hands on. -/
theorem part98 (x y : Vec F S64x8192 .f32) (u : Vec F S1x32x128 .f32) :
    k0_part98 arg0 harg0 arg1 harg1 arg2 harg2 arg3 harg3 arg4 harg4 arg5 harg5 arg6 arg7 arg8 arg9 arg10
        v6628_r0 (m01 x y u 1 1) (m01 x y u 1 2) (m01 x y u 1 3) (m01 x y u 1 4) (m01 x y u 1 5) (m01 x y u 1
        6) (m01 x y u 1 7) (m01 x y u 1 8) (m01 x y u 1 9) (m01 x y u 1 10) (m01 x y u 1 11) (m01 x y u 1 12)
        (m01 x y u 1 13) (m01 x y u 1 14) (m01 x y u 1 15) (m01 x y u 1 17) (m01 x y u 1 18) (m01 x y u 1 19)
        (m01 x y u 1 20) (m01 x y u 1 21) (m01 x y u 1 22) (m01 x y u 1 23) (m01 x y u 1 24) (m01 x y u 1 25)
        (m01 x y u 1 26) (m01 x y u 1 27) (m01 x y u 1 28) (m01 x y u 1 29) (m01 x y u 1 30) (m01 x y u 1 31)
        (m01 x y u 1 0) (m01 x y u 1 16) =
      pure ⟨m01 x y u 31 23, m01 x y u 31 31, m01 x y u 31 0, m01 x y u 31 8, m01 x y u 31 1, m01 x y u 31 9,
          m01 x y u 31 2, m01 x y u 31 10, m01 x y u 31 3, m01 x y u 31 11, m01 x y u 31 4, m01 x y u 31 12,
          m01 x y u 31 5, m01 x y u 31 13, m01 x y u 31 6, m01 x y u 31 14, m01 x y u 31 7, m01 x y u 31 15,
          m01 x y u 31 16, m01 x y u 31 24, m01 x y u 31 17, m01 x y u 31 25, m01 x y u 31 18, m01 x y u 31 26,
          m01 x y u 31 19, m01 x y u 31 27, m01 x y u 31 20, m01 x y u 31 28, m01 x y u 31 21, m01 x y u 31 29,
          m01 x y u 31 22, m01 x y u 31 30⟩ := by
  rw [show m01 x y u 31 = onMerge 1 30 (m01 x y u 1) from merge_add _ _ 1 30]
  generalize m01 x y u 1 = Y
  simp only [bitonicNet, onMerge, List.drop_succ_cons, List.drop_zero, run]
  simp only [cx_at, Nat.reduceEqDiff, ↓reduceIte]
  rfl

/-- Stretch 99 of the body, from the wires it reads to the wires it hands on. -/
theorem part99 (x y : Vec F S64x8192 .f32) (u : Vec F S1x32x128 .f32) :
    k0_part99 arg0 harg0 arg1 harg1 arg2 harg2 arg3 harg3 arg4 harg4 arg5 harg5 arg6 arg7 arg8 arg9 arg10
        v6628_r0 (m01 x y u 31 23) (m01 x y u 31 31) (m01 x y u 31 0) (m01 x y u 31 8) (m01 x y u 31 1) (m01 x
        y u 31 9) (m01 x y u 31 2) (m01 x y u 31 10) (m01 x y u 31 3) (m01 x y u 31 11) (m01 x y u 31 4) (m01 x
        y u 31 12) (m01 x y u 31 5) (m01 x y u 31 13) (m01 x y u 31 6) (m01 x y u 31 14) (m01 x y u 31 7) (m01
        x y u 31 15) (m01 x y u 31 16) (m01 x y u 31 24) (m01 x y u 31 17) (m01 x y u 31 25) (m01 x y u 31 18)
        (m01 x y u 31 26) (m01 x y u 31 19) (m01 x y u 31 27) (m01 x y u 31 20) (m01 x y u 31 28) (m01 x y u 31
        21) (m01 x y u 31 29) (m01 x y u 31 22) (m01 x y u 31 30) =
      pure ⟨m01 x y u 61 28, m01 x y u 61 25, m01 x y u 61 29, m01 x y u 61 30, m01 x y u 61 27, m01 x y u 61
          31, m01 x y u 61 0, m01 x y u 61 2, m01 x y u 61 1, m01 x y u 61 3, m01 x y u 61 4, m01 x y u 61 6,
          m01 x y u 61 5, m01 x y u 61 7, m01 x y u 61 8, m01 x y u 61 10, m01 x y u 61 9, m01 x y u 61 11, m01
          x y u 61 12, m01 x y u 61 14, m01 x y u 61 13, m01 x y u 61 15, m01 x y u 61 16, m01 x y u 61 18, m01
          x y u 61 17, m01 x y u 61 19, m01 x y u 61 20, m01 x y u 61 22, m01 x y u 61 21, m01 x y u 61 23, m01
          x y u 61 24, m01 x y u 61 26⟩ := by
  rw [show m01 x y u 61 = onMerge 31 30 (m01 x y u 31) from merge_add _ _ 31 30]
  generalize m01 x y u 31 = Y
  simp only [bitonicNet, onMerge, List.drop_succ_cons, List.drop_zero, run]
  simp only [cx_at, Nat.reduceEqDiff, ↓reduceIte]
  rfl

/-- Stretch 102 of the body, from the wires it reads to the wires it hands on. -/
theorem part102 (v w : Vec F S1x32x128 .f32) :
    k0_part102 arg0 harg0 arg1 harg1 arg2 harg2 arg3 harg3 arg4 harg4 arg5 harg5 arg6 arg7 arg8 arg9 arg10
        v6628_r0 (rowl (slab v) 0) (rowl (slab v) 1) (rowl (slab v) 2) (rowl (slab v) 3) (rowl (slab v) 4)
        (rowl (slab v) 5) (rowl (slab v) 6) (rowl (slab v) 7) (rowl (slab v) 8) (rowl (slab v) 9) (rowl (slab
        v) 10) (rowl (slab v) 11) (rowl (slab v) 12) (rowl (slab v) 13) (rowl (slab v) 14) (rowl (slab v) 15)
        (rowl (slab v) 16) (rowl (slab v) 17) (rowl (slab v) 18) (rowl (slab v) 19) (rowl (slab v) 20) (rowl
        (slab v) 21) (rowl (slab v) 22) (rowl (slab v) 23) (rowl (slab v) 24) (rowl (slab v) 25) (rowl (slab v)
        26) (rowl (slab v) 27) (slab w) =
      pure ⟨rowl (slab w) 0, rowl (slab w) 1, rowl (slab w) 2, rowl (slab w) 3, m23 v w 0 0, m23 v w 0 1, m23 v
          w 0 2, m23 v w 0 3, m23 v w 0 4, m23 v w 0 5, m23 v w 0 6, m23 v w 0 7, m23 v w 0 8, m23 v w 0 9, m23
          v w 0 10, m23 v w 0 11, m23 v w 0 12, m23 v w 0 13, m23 v w 0 14, m23 v w 0 15, m23 v w 0 16, m23 v w
          0 17, m23 v w 0 18, m23 v w 0 19, m23 v w 0 20, m23 v w 0 21, m23 v w 0 22, m23 v w 0 23, m23 v w 0
          24, m23 v w 0 25, m23 v w 0 26, m23 v w 0 27⟩ := by
  simp only [m23]
  generalize slab v = Y
  generalize slab w = Y
  simp only [bitonicNet, merge, List.drop_succ_cons, List.drop_zero, run]
  simp only [cx_at, meet_at, each_at, Nat.reduceEqDiff, ↓reduceIte, Nat.reduceSub]
  rfl

/-- Stretch 103 of the body, from the wires it reads to the wires it hands on. -/
theorem part103 (v w : Vec F S1x32x128 .f32) :
    k0_part103 arg0 harg0 arg1 harg1 arg2 harg2 arg3 harg3 arg4 harg4 arg5 harg5 arg6 arg7 arg8 arg9 arg10
        v6628_r0 (rowl (slab v) 28) (rowl (slab v) 29) (rowl (slab v) 30) (rowl (slab v) 31) (rowl (slab w) 0)
        (rowl (slab w) 1) (rowl (slab w) 2) (rowl (slab w) 3) (m23 v w 0 0) (m23 v w 0 1) (m23 v w 0 2) (m23 v
        w 0 3) (m23 v w 0 4) (m23 v w 0 5) (m23 v w 0 6) (m23 v w 0 7) (m23 v w 0 8) (m23 v w 0 9) (m23 v w 0
        10) (m23 v w 0 11) (m23 v w 0 12) (m23 v w 0 13) (m23 v w 0 14) (m23 v w 0 15) (m23 v w 0 16) (m23 v w
        0 17) (m23 v w 0 18) (m23 v w 0 19) (m23 v w 0 20) (m23 v w 0 21) (m23 v w 0 22) (m23 v w 0 23) (m23 v
        w 0 24) (m23 v w 0 25) (m23 v w 0 26) (m23 v w 0 27) =
      pure ⟨m23 v w 28 20, m23 v w 28 21, m23 v w 28 22, m23 v w 28 23, m23 v w 28 28, m23 v w 28 29, m23 v w
          28 30, m23 v w 28 31, m23 v w 28 0, m23 v w 28 8, m23 v w 28 1, m23 v w 28 9, m23 v w 28 2, m23 v w
          28 10, m23 v w 28 3, m23 v w 28 11, m23 v w 28 4, m23 v w 28 12, m23 v w 28 5, m23 v w 28 13, m23 v w
          28 6, m23 v w 28 14, m23 v w 28 7, m23 v w 28 15, m23 v w 28 16, m23 v w 28 24, m23 v w 28 17, m23 v
          w 28 25, m23 v w 28 18, m23 v w 28 26, m23 v w 28 19, m23 v w 28 27⟩ := by
  simp only [m23]
  generalize slab v = Y
  generalize slab w = Y
  simp only [bitonicNet, merge, List.drop_succ_cons, List.drop_zero, run]
  simp only [cx_at, meet_at, each_at, Nat.reduceEqDiff, ↓reduceIte, Nat.reduceSub]
  rfl

/-- Stretch 104 of the body, from the wires it reads to the wires it hands on. -/
theorem part104 (v w : Vec F S1x32x128 .f32) :
    k0_part104 arg0 harg0 arg1 harg1 arg2 harg2 arg3 harg3 arg4 harg4 arg5 harg5 arg6 arg7 arg8 arg9 arg10
        v6628_r0 (m23 v w 28 20) (m23 v w 28 21) (m23 v w 28 22) (m23 v w 28 23) (m23 v w 28 28) (m23 v w 28
        29) (m23 v w 28 30) (m23 v w 28 31) (m23 v w 28 0) (m23 v w 28 8) (m23 v w 28 1) (m23 v w 28 9) (m23 v
        w 28 2) (m23 v w 28 10) (m23 v w 28 3) (m23 v w 28 11) (m23 v w 28 4) (m23 v w 28 12) (m23 v w 28 5)
        (m23 v w 28 13) (m23 v w 28 6) (m23 v w 28 14) (m23 v w 28 7) (m23 v w 28 15) (m23 v w 28 16) (m23 v w
        28 24) (m23 v w 28 17) (m23 v w 28 25) (m23 v w 28 18) (m23 v w 28 26) (m23 v w 28 19) (m23 v w 28 27) =
      pure ⟨m23 v w 58 20, m23 v w 58 21, m23 v w 58 22, m23 v w 58 23, m23 v w 58 24, m23 v w 58 28, m23 v w
          58 25, m23 v w 58 29, m23 v w 58 26, m23 v w 58 30, m23 v w 58 27, m23 v w 58 31, m23 v w 58 0, m23 v
          w 58 2, m23 v w 58 1, m23 v w 58 3, m23 v w 58 4, m23 v w 58 6, m23 v w 58 5, m23 v w 58 7, m23 v w
          58 8, m23 v w 58 10, m23 v w 58 9, m23 v w 58 11, m23 v w 58 12, m23 v w 58 14, m23 v w 58 13, m23 v
          w 58 15, m23 v w 58 16, m23 v w 58 18, m23 v w 58 17, m23 v w 58 19⟩ := by
  rw [show m23 v w 58 = onMerge 28 30 (m23 v w 28) from merge_add _ _ 28 30]
  generalize m23 v w 28 = Y
  simp only [bitonicNet, onMerge, List.drop_succ_cons, List.drop_zero, run]
  simp only [cx_at, Nat.reduceEqDiff, ↓reduceIte]
  rfl

/-- Stretch 105 of the body, from the wires it reads to the wires it hands on. -/
theorem part105 (x y : Vec F S64x8192 .f32) (u v w : Vec F S1x32x128 .f32) :
    k0_part105 arg0 harg0 arg1 harg1 arg2 harg2 arg3 harg3 arg4 harg4 arg5 harg5 arg6 arg7 arg8 arg9 arg10
        v6628_r0 (m01 x y u 80 0) (m01 x y u 80 1) (m01 x y u 80 2) (m01 x y u 80 3) (m01 x y u 80 4) (m01 x y
        u 80 5) (m01 x y u 80 6) (m01 x y u 80 7) (m01 x y u 80 8) (m01 x y u 80 9) (m01 x y u 80 10) (m01 x y
        u 80 11) (m01 x y u 80 12) (m01 x y u 80 13) (m01 x y u 80 14) (m01 x y u 80 15) (m23 v w 58 20) (m23 v
        w 58 21) (m23 v w 58 22) (m23 v w 58 23) (m23 v w 58 24) (m23 v w 58 28) (m23 v w 58 25) (m23 v w 58
        29) (m23 v w 58 26) (m23 v w 58 30) (m23 v w 58 27) (m23 v w 58 31) (m23 v w 58 0) (m23 v w 58 2) (m23
        v w 58 1) (m23 v w 58 3) (m23 v w 58 4) (m23 v w 58 6) (m23 v w 58 5) (m23 v w 58 7) (m23 v w 58 8)
        (m23 v w 58 10) (m23 v w 58 9) (m23 v w 58 11) (m23 v w 58 12) (m23 v w 58 14) (m23 v w 58 13) (m23 v w
        58 15) (m23 v w 58 16) (m23 v w 58 18) (m23 v w 58 17) (m23 v w 58 19) =
      pure ⟨m23 v w 80 0, m23 v w 80 1, m23 v w 80 2, m23 v w 80 3, m23 v w 80 4, m23 v w 80 5, m23 v w 80 6,
          m23 v w 80 7, m23 v w 80 8, m23 v w 80 9, m23 v w 80 10, m23 v w 80 11, m23 v w 80 12, m23 v w 80 13,
          m23 v w 80 14, m23 v w 80 15, mm x y u v w 0 0, mm x y u v w 0 1, mm x y u v w 0 2, mm x y u v w 0 3,
          mm x y u v w 0 4, mm x y u v w 0 5, mm x y u v w 0 6, mm x y u v w 0 7, mm x y u v w 0 8, mm x y u v
          w 0 9, mm x y u v w 0 10, mm x y u v w 0 11, mm x y u v w 0 12, mm x y u v w 0 13, mm x y u v w 0 14,
          mm x y u v w 0 15⟩ := by
  simp only [mm]
  rw [show m23 v w 80 = onMerge 58 22 (m23 v w 58) from merge_add _ _ 58 22]
  generalize m01 x y u 80 = Y
  generalize m23 v w 58 = Y
  simp only [bitonicNet, merge, onMerge, List.drop_succ_cons, List.drop_zero, run]
  simp only [cx_at, meet_at, each_at, Nat.reduceEqDiff, ↓reduceIte, Nat.reduceSub]
  rfl

/-- Stretch 106 of the body, from the wires it reads to the wires it hands on. -/
theorem part106 (x y : Vec F S64x8192 .f32) (u v w : Vec F S1x32x128 .f32) :
    k0_part106 arg0 harg0 arg1 harg1 arg2 harg2 arg3 harg3 arg4 harg4 arg5 harg5 arg6 arg7 arg8 arg9 arg10
        v6628_r0 (m01 x y u 80 16) (m01 x y u 80 17) (m01 x y u 80 18) (m01 x y u 80 19) (m01 x y u 80 20) (m01
        x y u 80 21) (m01 x y u 80 22) (m01 x y u 80 23) (m01 x y u 80 24) (m01 x y u 80 25) (m01 x y u 80 26)
        (m01 x y u 80 27) (m01 x y u 80 28) (m01 x y u 80 29) (m01 x y u 80 30) (m01 x y u 80 31) (m23 v w 80
        0) (m23 v w 80 1) (m23 v w 80 2) (m23 v w 80 3) (m23 v w 80 4) (m23 v w 80 5) (m23 v w 80 6) (m23 v w
        80 7) (m23 v w 80 8) (m23 v w 80 9) (m23 v w 80 10) (m23 v w 80 11) (m23 v w 80 12) (m23 v w 80 13)
        (m23 v w 80 14) (m23 v w 80 15) (mm x y u v w 0 0) (mm x y u v w 0 1) (mm x y u v w 0 2) (mm x y u v w
        0 3) (mm x y u v w 0 4) (mm x y u v w 0 5) (mm x y u v w 0 6) (mm x y u v w 0 7) (mm x y u v w 0 8) (mm
        x y u v w 0 9) (mm x y u v w 0 10) (mm x y u v w 0 11) (mm x y u v w 0 12) (mm x y u v w 0 13) (mm x y
        u v w 0 14) (mm x y u v w 0 15) =
      pure ⟨mm x y u v w 22 16, mm x y u v w 22 17, mm x y u v w 22 18, mm x y u v w 22 19, mm x y u v w 22 20,
          mm x y u v w 22 21, mm x y u v w 22 6, mm x y u v w 22 22, mm x y u v w 22 7, mm x y u v w 22 23, mm
          x y u v w 22 24, mm x y u v w 22 25, mm x y u v w 22 26, mm x y u v w 22 27, mm x y u v w 22 28, mm x
          y u v w 22 29, mm x y u v w 22 14, mm x y u v w 22 30, mm x y u v w 22 15, mm x y u v w 22 31, mm x y
          u v w 22 0, mm x y u v w 22 8, mm x y u v w 22 1, mm x y u v w 22 9, mm x y u v w 22 2, mm x y u v w
          22 10, mm x y u v w 22 3, mm x y u v w 22 11, mm x y u v w 22 4, mm x y u v w 22 12, mm x y u v w 22
          5, mm x y u v w 22 13⟩ := by
  simp only [mm]
  generalize m01 x y u 80 = Y
  generalize m23 v w 80 = Y
  simp only [bitonicNet, merge, List.drop_succ_cons, List.drop_zero, run]
  simp only [cx_at, meet_at, each_at, Nat.reduceEqDiff, ↓reduceIte, Nat.reduceSub]
  rfl

/-- Stretch 107 of the body, from the wires it reads to the wires it hands on. -/
theorem part107 (x y : Vec F S64x8192 .f32) (u v w : Vec F S1x32x128 .f32) :
    k0_part107 arg0 harg0 arg1 harg1 arg2 harg2 arg3 harg3 arg4 harg4 arg5 harg5 arg6 arg7 arg8 arg9 arg10
        v6628_r0 (mm x y u v w 22 16) (mm x y u v w 22 17) (mm x y u v w 22 18) (mm x y u v w 22 19) (mm x y u
        v w 22 20) (mm x y u v w 22 21) (mm x y u v w 22 6) (mm x y u v w 22 22) (mm x y u v w 22 7) (mm x y u
        v w 22 23) (mm x y u v w 22 24) (mm x y u v w 22 25) (mm x y u v w 22 26) (mm x y u v w 22 27) (mm x y
        u v w 22 28) (mm x y u v w 22 29) (mm x y u v w 22 14) (mm x y u v w 22 30) (mm x y u v w 22 15) (mm x
        y u v w 22 31) (mm x y u v w 22 0) (mm x y u v w 22 8) (mm x y u v w 22 1) (mm x y u v w 22 9) (mm x y
        u v w 22 2) (mm x y u v w 22 10) (mm x y u v w 22 3) (mm x y u v w 22 11) (mm x y u v w 22 4) (mm x y u
        v w 22 12) (mm x y u v w 22 5) (mm x y u v w 22 13) =
      pure ⟨mm x y u v w 52 8, mm x y u v w 52 12, mm x y u v w 52 9, mm x y u v w 52 13, mm x y u v w 52 10,
          mm x y u v w 52 14, mm x y u v w 52 11, mm x y u v w 52 15, mm x y u v w 52 16, mm x y u v w 52 20,
          mm x y u v w 52 17, mm x y u v w 52 21, mm x y u v w 52 18, mm x y u v w 52 22, mm x y u v w 52 19,
          mm x y u v w 52 23, mm x y u v w 52 24, mm x y u v w 52 28, mm x y u v w 52 25, mm x y u v w 52 29,
          mm x y u v w 52 26, mm x y u v w 52 30, mm x y u v w 52 27, mm x y u v w 52 31, mm x y u v w 52 0, mm
          x y u v w 52 2, mm x y u v w 52 1, mm x y u v w 52 3, mm x y u v w 52 4, mm x y u v w 52 6, mm x y u
          v w 52 5, mm x y u v w 52 7⟩ := by
  rw [show mm x y u v w 52 = onMerge 22 30 (mm x y u v w 22) from merge_add _ _ 22 30]
  generalize mm x y u v w 22 = Y
  simp only [bitonicNet, onMerge, List.drop_succ_cons, List.drop_zero, run]
  simp only [cx_at, Nat.reduceEqDiff, ↓reduceIte]
  rfl

/-- Stretch 108 of the body, from the wires it reads to the wires it hands on. -/
theorem part108 (x y : Vec F S64x8192 .f32) (u v w : Vec F S1x32x128 .f32) (v11 : BitVec 32) :
    k0_part108 arg0 harg0 arg1 harg1 arg2 harg2 arg3 harg3 arg4 harg4 arg5 harg5 arg6 arg7 arg8 arg9 arg10
        v6628_r0 v11 (mm x y u v w 52 8) (mm x y u v w 52 12) (mm x y u v w 52 9) (mm x y u v w 52 13) (mm x y
        u v w 52 10) (mm x y u v w 52 14) (mm x y u v w 52 11) (mm x y u v w 52 15) (mm x y u v w 52 16) (mm x
        y u v w 52 20) (mm x y u v w 52 17) (mm x y u v w 52 21) (mm x y u v w 52 18) (mm x y u v w 52 22) (mm
        x y u v w 52 19) (mm x y u v w 52 23) (mm x y u v w 52 24) (mm x y u v w 52 28) (mm x y u v w 52 25)
        (mm x y u v w 52 29) (mm x y u v w 52 26) (mm x y u v w 52 30) (mm x y u v w 52 27) (mm x y u v w 52
        31) (mm x y u v w 52 0) (mm x y u v w 52 2) (mm x y u v w 52 1) (mm x y u v w 52 3) (mm x y u v w 52 4)
        (mm x y u v w 52 6) (mm x y u v w 52 5) (mm x y u v w 52 7) =
      pure (merged x y u v w) := by
  simp only [mcat, merged, packAll]
  rw [show mm x y u v w 80 = onMerge 52 28 (mm x y u v w 52) from merge_add _ _ 52 28]
  generalize mm x y u v w 52 = Y
  simp only [bitonicNet, onMerge, List.drop_succ_cons, List.drop_zero, run]
  simp only [cx_at, Nat.reduceEqDiff, ↓reduceIte]
  rfl

end Cert.TopK
-- ==== Proof.BodyEq.lean ====
module

public import proofs.«01_k».proof.Proof.BodyMem
public import proofs.«01_k».proof.Proof.BodySeq
public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

/-!
# The body takes the steps

The printed body, stretch by stretch, is the program of its steps.
-/

set_option pp.maxSteps 120

namespace Cert.TopK

open Idealize.ShloMosaic Idealize.SL.Sem Cert.KernelIdeal Cert.KernelIdeal.Facts₀ Cert.KernelIdeal.Facts

variable {F : FTy → Type} [FloatOps F]
  (arg0 : Memref sig .tc .hbm S1024x8192 .f32) (harg0 : arg0.IsWhole)
  (arg1 : Memref sig .tc .vmem S1024x32 .f32) (harg1 : arg1.IsWhole)
  (arg2 : Memref sig .tc .vmem S128x8192 .f32) (harg2 : arg2.IsWhole)
  (arg3 : Memref sig .tc .vmem S32x128 .f32) (harg3 : arg3.IsWhole)
  (arg4 : Memref sig .tc .vmem S3x32x128 .f32) (harg4 : arg4.IsWhole)
  (arg5 : Memref sig .tc .vmem S8x32x128 .f32) (harg5 : arg5.IsWhole)
  (arg6 : DmaSems sig S2) (arg7 arg8 : DmaSems sig S3) (arg9 arg10 : DmaSems sig S7) (v6628_r0 : Sems sig S_)
  (d : Dev nD)

/-- A stretch that returns is passed. -/
theorem pass {α β γ : Type} {p : Bd F α} {a : α} {f : α → Bd F β} {g : β → Bd F γ} {q : Bd F γ} (h : p = pure a)
    (hk : f a >>= g = q) : p >>= f >>= g = q := by
  rw [h]; exact hk

/-- A stretch that returns something is passed, whatever it returns. -/
theorem passAny {α β γ : Type} {p : Bd F α} {f : α → Bd F β} {g : β → Bd F γ} {q : Bd F γ} (h : ∃ a, p = pure a)
    (hk : ∀ a, f a >>= g = q) : p >>= f >>= g = q := by
  obtain ⟨a, h⟩ := h; rw [h]; exact hk a

/-- A stretch takes its steps and hands on a value. -/
theorem take {V α β γ : Type} {p : Bd F α} {m : Bd F V} {e : V → α} {f : α → Bd F β} {g : β → Bd F γ} {q : V → Bd F γ}
    (h : p = m >>= fun v => pure (e v)) (hk : ∀ v, f (e v) >>= g = q v) : p >>= f >>= g = m >>= q := by
  rw [h]; simp only [Prog.bind_assoc]; exact congrArg (fun k => m >>= k) (funext fun v => hk v)

/-- A stretch takes its steps and hands on a value that holds something unnamed besides. -/
theorem takeAny {S V α β γ : Type} {p : Bd F α} {m : Bd F V} {e : S → V → α} {f : α → Bd F β} {g : β → Bd F γ}
    {q : V → Bd F γ} (h : ∃ s, p = m >>= fun v => pure (e s v)) (hk : ∀ s v, f (e s v) >>= g = q v) :
    p >>= f >>= g = m >>= q := by
  obtain ⟨s, h⟩ := h; exact take h (hk s)

/-- The last stretches, one level up. -/
theorem takeLast {S V α γ : Type} {p : Bd F α} {m : Bd F V} {e : S → V → α} {f : α → Bd F γ}
    {q : V → Bd F γ} (h : ∃ s, p = m >>= fun v => pure (e s v)) (hk : ∀ s v, f (e s v) = q v) :
    p >>= f = m >>= q := by
  obtain ⟨s, h⟩ := h; rw [h, Prog.bind_assoc]; exact congrArg (fun k => m >>= k) (funext fun v => hk s v)

/-- A stretch that hands on nothing, one level up. -/
theorem takeUnit {γ : Type} {p m : Bd F PUnit} {f : PUnit → Bd F γ} {q : PUnit → Bd F γ}
    (h : p = m >>= fun _ => pure ⟨⟩) (hk : f ⟨⟩ = q ⟨⟩) : p >>= f = m >>= q := by
  rw [h, Prog.bind_assoc]; exact congrArg (fun k => m >>= k) (funext fun _ => hk)

/-- A block ends by handing on its value. -/
theorem done {α γ : Type} {a : α} {g : α → Bd F γ} {q : Bd F γ} (hk : g a = q) : (pure a : Bd F α) >>= g = q := hk

/-- The first stretch asks for the device. -/
theorem part1 : ∃ e : Dev nD → _, k0_part1 (F := F) arg0 harg0 arg1 harg1 arg2 harg2 arg3 harg3 arg4 harg4 arg5 harg5 arg6 arg7 arg8 arg9 arg10 v6628_r0 =
    (Prog.lift .deviceId : Bd F (Dev nD)) >>= fun d => pure ⟨d, e d⟩ := ⟨fun d => _, rfl⟩

set_option maxHeartbeats 4000000 in
/-- The printed body, as the steps of its stretches. -/
theorem body_chain :
    cc0__body (F := F) arg0 harg0 arg1 harg1 arg2 harg2 arg3 harg3 arg4 harg4 arg5 harg5 arg6 arg7 arg8 arg9
        arg10 v6628_r0 =
      chained arg0 arg1 arg2 arg3 harg3 arg4 arg5 arg6 arg7 arg8 arg9 arg10 v6628_r0 loc merged outOf := by
  unfold cc0__body k0_part125
  refine takeAny (part1 ..) ?_
  rintro e d
  refine passAny ⟨_, rfl⟩ ?_
  rintro ⟨s0, s1, s2, s3, s4⟩
  refine passAny ⟨_, rfl⟩ ?_
  rintro ⟨s0, s1, s2, s3, s4, s5, s6⟩
  refine passAny ⟨_, rfl⟩ ?_
  rintro ⟨s0, s1, s2, s3, s4, s5, s6⟩
  refine passAny ⟨_, rfl⟩ ?_
  rintro ⟨s0, s1, s2, s3, s4, s5, s6⟩
  refine passAny ⟨_, rfl⟩ ?_
  rintro ⟨s0, s1, s2, s3, s4, s5⟩
  refine takeAny (part7 ..) ?_
  rintro s ⟨⟩
  refine takeAny (part8 ..) ?_
  rintro s0 ⟨⟩
  refine takeAny (part9 ..) ?_
  rintro s0 ⟨⟩
  refine take (part10 ..) ?_
  rintro x
  refine pass (part11 ..) ?_
  refine pass (part12 ..) ?_
  refine pass (part13 ..) ?_
  refine pass (part14 ..) ?_
  refine pass (part15 ..) ?_
  refine pass (part16 ..) ?_
  refine pass (part17 ..) ?_
  refine pass (part18 ..) ?_
  refine pass (part19 ..) ?_
  refine pass (part20 ..) ?_
  refine pass (part21 ..) ?_
  refine pass (part22 ..) ?_
  refine pass (part23 ..) ?_
  refine pass (part24 ..) ?_
  refine pass (part25 ..) ?_
  refine pass (part26 ..) ?_
  refine pass (part27 ..) ?_
  refine pass (part28 ..) ?_
  refine pass (part29 ..) ?_
  refine pass (part30 ..) ?_
  refine pass (part31 ..) ?_
  refine pass (part32 ..) ?_
  refine pass (part33 ..) ?_
  refine pass (part34 ..) ?_
  refine pass (part35 ..) ?_
  refine pass (part36 ..) ?_
  refine pass (part37 ..) ?_
  refine pass (part38 ..) ?_
  refine pass (part39 ..) ?_
  refine pass (part40 ..) ?_
  refine pass (part41 ..) ?_
  refine pass (part42 ..) ?_
  refine pass (part43 ..) ?_
  refine pass (part44 ..) ?_
  refine pass (part45 ..) ?_
  refine pass (part46 ..) ?_
  refine pass (part47 ..) ?_
  refine pass (part48 ..) ?_
  refine pass (part49 ..) ?_
  refine pass (part50 ..) ?_
  refine pass (part51 ..) ?_
  refine take (part52 ..) ?_
  rintro y
  refine pass (part53 ..) ?_
  refine pass (part54 ..) ?_
  refine pass (part55 ..) ?_
  refine pass (part56 ..) ?_
  refine pass (part57 ..) ?_
  refine pass (part58 ..) ?_
  refine pass (part59 ..) ?_
  refine pass (part60 ..) ?_
  refine done ?_
  unfold k0_part126
  refine pass (part61 ..) ?_
  refine pass (part62 ..) ?_
  refine pass (part63 ..) ?_
  refine pass (part64 ..) ?_
  refine pass (part65 ..) ?_
  refine pass (part66 ..) ?_
  refine pass (part67 ..) ?_
  refine pass (part68 ..) ?_
  refine pass (part69 ..) ?_
  refine pass (part70 ..) ?_
  refine pass (part71 ..) ?_
  refine pass (part72 ..) ?_
  refine pass (part73 ..) ?_
  refine pass (part74 ..) ?_
  refine pass (part75 ..) ?_
  refine pass (part76 ..) ?_
  refine pass (part77 ..) ?_
  refine pass (part78 ..) ?_
  refine pass (part79 ..) ?_
  refine pass (part80 ..) ?_
  refine pass (part81 ..) ?_
  refine pass (part82 ..) ?_
  refine pass (part83 ..) ?_
  refine pass (part84 ..) ?_
  refine pass (part85 ..) ?_
  refine pass (part86 ..) ?_
  refine pass (part87 ..) ?_
  refine pass (part88 ..) ?_
  refine pass (part89 ..) ?_
  refine pass (part90 ..) ?_
  refine pass (part91 ..) ?_
  refine pass (part92 ..) ?_
  refine pass (part93 ..) ?_
  refine takeAny (part94 ..) ?_
  rintro s ⟨⟩
  refine takeAny (part95 ..) ?_
  rintro ⟨s0, s1, s2, s3, s4⟩ ⟨⟩
  refine takeAny (part96 ..) ?_
  rintro s u
  refine pass (part97 ..) ?_
  refine pass (part98 ..) ?_
  refine pass (part99 ..) ?_
  refine take (part100 ..) ?_
  rintro ⟨⟩
  refine take (part101 ..) ?_
  rintro ⟨v, w⟩
  refine pass (part102 ..) ?_
  refine pass (part103 ..) ?_
  refine pass (part104 ..) ?_
  refine pass (part105 ..) ?_
  refine pass (part106 ..) ?_
  refine pass (part107 ..) ?_
  refine pass (part108 ..) ?_
  refine takeAny (part109 ..) ?_
  rintro ⟨s0, s1, s2, s3⟩ ⟨⟩
  refine takeAny (part110 ..) ?_
  rintro ⟨s0, s1, s2⟩ ⟨⟩
  refine takeAny (part111 ..) ?_
  rintro ⟨s0, s1, s2, s3, s4, s5, s6⟩ ⟨⟩
  refine takeAny (part112 ..) ?_
  rintro ⟨s0, s1, s2, s3⟩ ⟨⟩
  refine takeAny (part113 ..) ?_
  rintro ⟨s0, s1, s2, s3⟩ ⟨⟩
  refine passAny ⟨_, rfl⟩ ?_
  rintro ⟨s0, s1⟩
  refine takeAny (part115 ..) ?_
  rintro ⟨s0, s1, s2, s3⟩ ⟨⟩
  refine takeAny (part116 ..) ?_
  rintro ⟨s0, s1, s2⟩ ⟨⟩
  refine takeAny (part117 ..) ?_
  rintro ⟨s0, s1, s2⟩ ⟨⟩
  refine take (part118 ..) ?_
  rintro ⟨⟩
  refine take (part119 ..) ?_
  rintro ⟨⟩
  refine take (part120 ..) ?_
  rintro ⟨⟩
  refine done ?_
  refine takeUnit (part121 ..) ?_
  refine takeUnit (part122 ..) ?_
  refine takeLast (part123 ..) ?_
  rintro s ⟨⟩
  refine takeLast (part124 ..) ?_
  rintro s ⟨⟩
  rfl

/-- The printed body is the program of its steps. -/
theorem body_steps :
    cc0__body (F := F) arg0 harg0 arg1 harg1 arg2 harg2 arg3 harg3 arg4 harg4 arg5 harg5 arg6 arg7
         arg8 arg9 arg10 v6628_r0 =
      steps arg0 arg1 arg2 arg3 harg3 arg4 arg5 arg6 arg7 arg8 arg9 arg10 v6628_r0 := by
  rw [body_chain, regrouped]; rfl

end Cert.TopK
-- ==== Proof.Launch.lean ====
module

public import proofs.«01_k».proof.Proof.Fund
public import proofs.«01_k».proof.Proof.BodyEq
public import Idealize.ShloMosaic.Lib.Quiescent

@[expose] public section

noncomputable section

/-!
# The run of the program

From any memory the program ends, on all devices, with its result array at `result`, its argument as it was and every
semaphore at zero.
-/

namespace Cert.TopK

open Cert.KernelIdeal Cert.KernelIdeal.Facts₀ Cert.KernelIdeal.Facts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Before and after the body -/

/-- A device's argument array, whole, as given. -/
def argHeld : sProp 𝕄 := ((c : Thread nD τ).loc main_arg0) ↦{fullShare} m ((c : Thread nD τ).loc main_arg0)

/-- A device's four scratch buffers, whole. -/
def scratch : sProp 𝕄 := iprop(whole c cc0_scratch0 ∗ whole c cc0_scratch1 ∗ whole c cc0_scratch2 ∗ whole c cc0_scratch3)

/-- The credit a device starts with. -/
def credit : sProp 𝕄 :=
  iprop(cred (tallyAt (cell .bar c) () 10) ∗ cred (tallyAt (cell .fin c) () 10)
        ∗ allOf (fun j => cred (tallyAt (cell (.r1 j) c) () (amt (.r1 j)))) three
        ∗ allOf (fun j => cred (tallyAt (cell (.r2 j) c) () (amt (.r2 j)))) seven)

/-- What a device holds when the kernel starts, but for the scratch, -/
def start : sProp 𝕄 := iprop((∃ K, facts m K ∗ posts c ∗ paid c) ∗ credit c ∗ argHeld m c)

/-- with it, -/
def Φ₀ : sProp 𝕄 := iprop(start m c ∗ scratch c)

/-- and when the kernel is done. -/
def Φ₁ : sProp 𝕄 := iprop(argHeld m c ∗ scratch c ∗ semVal (cell .bar c) 0 ∗ allOf (fun k => semVal (cell k c) 0) scopedRoles)

/-- What the body needs is there. -/
theorem before_of : iprop((posts c ∗ paid c) ∗ credit c ∗ argHeld m c ∗ scratch c ∗ free c outM) ⊢ (iprop(before m c ∗ argRest m c) : sProp 𝕄) := by
  unfold scratch credit
  iintro ⟨⟨HP, HT⟩, ⟨Hcb, Hcf, Hc1, Hc2⟩, HA, ⟨W0, W1, W2, W3⟩, HO⟩
  ihave HP := (Entails.of_eq (show (posts c : sProp 𝕄) = _ from by unfold posts; rw [univ_roles, allOf_scoped])) $$ HP
  icases HP with ⟨⟨⟨⟨⟨⟨Pcp, Ps1⟩, Pr1⟩, Ps2⟩, Pr2⟩, ⟨Pfin, -⟩⟩, ⟨Pbar, -⟩⟩
  ihave HT := (paid_kinds (F := F) c) $$ HT
  icases HT with ⟨Tb, Tf, Tc, T1, T2⟩
  ihave HA := (Entails.of_eq (show argHeld m c = _ from arg_eq m c)) $$ HA
  icases HA with ⟨HA, HR⟩
  isplitr [HR]
  · unfold before
    ihave W3 := (slots_of (F := F) c) $$ W3
    icases W3 with ⟨Wq, W3⟩
    ihave WR := (rooms_of (F := F) c) $$ [W2 W3]
    · isplitl [W2]
      · iapply (slabs_of (F := F) c); iexact W2
      iexact W3
    isplitl [Tb WR]
    · iapply (allOf_zip (F := F) _ _ ten); isplitl [Tb] <;> iassumption
    isplitl [HA W0 Tc]
    · iapply (allOf_zip (F := F) _ _ two)
      isplitl [HA]; · iexact HA
      iapply (allOf_zip (F := F) _ _ two)
      isplitl [W0]
      · iapply (halves_of (F := F) c); iexact W0
      iexact Tc
    isplitl [W1 Wq HO]
    · isplitl [W1]
      · iapply (loc_of (F := F) c); iexact W1
      isplitl [Wq] <;> iassumption
    isplitl [Pcp]; · iexact Pcp
    isplitl [Hcb Pbar]
    · isplitl [Hcb] <;> iassumption
    isplitl [Hcf Pfin]
    · isplitl [Hcf] <;> iassumption
    isplitl [T1]; · iexact T1
    isplitl [T2]; · iexact T2
    isplitl [Hc1 Pr1]
    · iapply (allOf_zip (F := F) _ _ three); isplitl [Hc1] <;> iassumption
    isplitl [Hc2 Pr2]
    · iapply (allOf_zip (F := F) _ _ seven); isplitl [Hc2] <;> iassumption
    isplitl [Ps1]; · iexact Ps1
    isplitl [Ps2]; · iexact Ps2
    iexact Tf
  iexact HR

/-- What the body leaves is what was there, but for the result. -/
theorem after_to : iprop(after m c ∗ argRest m c) ⊢ (iprop(Φ₁ m c ∗ has c outM fullShare (result m c)) : sProp 𝕄) := by
  unfold after Φ₁ scratch
  iintro ⟨⟨HO, Zb, Zf, Hcp, Hs1, Hr1, Hs2, Hr2, H8⟩, HR⟩
  ihave Hcp := (allOf_unzip (F := F) (fun h => semVal (cell (.cp h) c) 0) (fun h => pay m c (.cp h) 0) two) $$ Hcp
  icases Hcp with ⟨Zc, Hcp⟩
  ihave Hcp := (show allOf (fun h => pay m c (.cp h) 0) two ⊢ (allOf (fun h => iprop(has c (halfM h) fullShare (xs m c h) ∗ argPart m c h)) two : sProp 𝕄) from
    allOf_mono (fun h => Entails.refl _) two) $$ Hcp
  ihave Hcp := (allOf_unzip (F := F) (fun h => has c (halfM h) fullShare (xs m c h)) (fun h => argPart m c h) two) $$ Hcp
  icases Hcp with ⟨Hh, HA⟩
  ihave Hs1 := (allOf_unzip (F := F) (fun j => semVal (cell (.s1 j) c) 0) (fun j => pay m c (.s1 j) 0) three) $$ Hs1
  icases Hs1 with ⟨Z1, Hs1⟩
  ihave Hr1 := (allOf_unzip (F := F) (fun j => semVal (cell (.r1 j) c) 0) (fun j => pay m c (.r1 j) 0) three) $$ Hr1
  icases Hr1 with ⟨Y1, Hr1⟩
  ihave Hs2 := (allOf_unzip (F := F) (fun j => semVal (cell (.s2 j) c) 0) (fun j => pay m c (.s2 j) 0) seven) $$ Hs2
  icases Hs2 with ⟨Z2, Hs2⟩
  ihave Hr2 := (allOf_unzip (F := F) (fun j => semVal (cell (.r2 j) c) 0) (fun j => pay m c (.r2 j) 0) seven) $$ Hr2
  icases Hr2 with ⟨Y2, Hr2⟩
  isplitr [HO]
  · isplitl [HA HR]
    · iapply (Entails.of_eq (show argHeld m c = _ from arg_eq m c).symm)
      isplitl [HA] <;> iassumption
    isplitl [Hh Hs1 Hr1 Hs2 Hr2 H8]
    · isplitl [Hh]
      · iapply (halves_to (F := F) c)
        iapply (allOf_mono (fun h => free_of c iprop(emp) (halfM h) (xs m c h)) two)
        iexact Hh
      isplitl [Hs1]
      · iapply (loc_back m c); iexact Hs1
      isplitl [Hr1]
      · iapply (heard_back m c); iexact Hr1
      iapply (table_back m c)
      isplitl [Hs2 H8]
      · iapply (row_back m c); isplitl [Hs2]; (iexact Hs2); iexact H8
      iexact Hr2
    isplitl [Zb]; · iexact Zb
    iapply (Entails.of_eq (allOf_scoped (fun k => (semVal (cell k c) 0 : sProp 𝕄))).symm)
    isplitl [Zc Z1 Y1 Z2 Y2]
    · isplitl [Zc Z1 Y1 Z2]
      · isplitl [Zc Z1 Y1]
        · isplitl [Zc Z1]
          · isplitl [Zc] <;> iassumption
          iexact Y1
        iexact Z2
      iexact Y2
    isplitl [Zf]; · iexact Zf
    iempintro
  iexact HO

/-! ## The body's obligation -/

/-- The launch's data: the result's contents, what is held and what is owed around the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of the result, at given contents. -/
abbrev stage (X : S1024x32.Idx → Elt F .f32) : sProp 𝕄 :=
  iprop(∃ f : Buf (Elt F) (((c : Dev nD) : Thread nD τ).loc cc0_stg0_0), ⌜f = X⌝ ∗ (((c : Thread nD τ).loc cc0_stg0_0) ↦{fullShare} f))

theorem stage_free (X : S1024x32.Idx → Elt F .f32) : stage c X ⊢ (free c outM : sProp 𝕄) := by
  unfold free stage
  rw [show outM.view.set = Finset.univ from View.set_whole _]
  iintro ⟨%f, -, H⟩
  iexists f
  iexact H

theorem has_stage (X : S1024x32.Idx → Elt F .f32) : has c outM fullShare X ⊢ (stage c X : sProp 𝕄) := by
  have h : outM.view.rep X = X := by
    have h1 := View.read_rep (Val := Elt F) outM.view X
    rwa [Memref.view_whole, View.read_whole] at h1
  unfold has stage
  rw [show outM.view.set = Finset.univ from View.set_whole _, h]
  iintro H
  iexists X
  isplitr; · ipureintro; rfl
  iexact H

theorem due_of : (dats m ρ 0 c).owesAt () Gen.t0_0.castSucc ⊢ (due c (O₀ c) : sProp 𝕄) := by
  unfold due Dat.owesAt Pipeline.owesWithin
  iintro ⟨%W, -, H⟩
  iexists W
  iexact H

theorem due_to : due c 0 ⊢ ((dats m ρ 0 c).owesAt () Gen.t0_0.succ : sProp 𝕄) := by
  unfold due Dat.owesAt Pipeline.owesWithin
  iintro ⟨%W, H⟩
  iexists W
  isplitr; · ipureintro; exact fun _ _ => Or.inl trivial
  iexact H

/-- What the library gives the body. -/
def bodyPre : sProp 𝕄 :=
  iprop(Φ₀ m c ∗ (dats m ρ 0 c).owesAt () Gen.t0_0.castSucc ∗ ∃ d, stage c ((dats m ρ 0 c).before (0 : Fin 1) Gen.t0_0 d))

/-- What it takes back. -/
def bodyPost : sProp 𝕄 :=
  iprop(Φ₁ m c ∗ (dats m ρ 0 c).owesAt () Gen.t0_0.succ ∗ stage c (result m c))

theorem body_obligation : BodyObligation (dats m ρ 0 c) (defs₀ (F := F)) 𝒱₀ () Set.univ := fun t => by
  rw [Gen.fin_N0 t]
  rw [Gen.bigSep_W0, Gen.bigSep_W0]
  simp only [owns_whole]
  show bodyPre m ρ c ⊢ wp frame (wpE (defs₀ (F := F)) 𝒱₀ c none) Set.univ
    (cc0__body argM (Memref.isWhole_whole _) outM (Memref.isWhole_whole _) rowsM (Memref.isWhole_whole _) locM (Memref.isWhole_whole _)
      slabsM (Memref.isWhole_whole _) tableM (Memref.isWhole_whole _) cc0_scratch4 cc0_scratch5 cc0_scratch6 cc0_scratch7 cc0_scratch8 cc0_scoped0)
    (fun _ => bodyPost m ρ c)
  rw [body_steps]
  unfold bodyPre Φ₀ start
  iintro ⟨⟨⟨⟨%K, #HF, HPT⟩, Hc, HA⟩, HS⟩, Ho, ⟨%d, Hout⟩⟩
  ihave Hout := (stage_free (F := F) c _) $$ Hout
  ihave HB := (before_of m c) $$ [HPT Hc HA HS Hout]
  · isplitl [HPT]; · iexact HPT
    isplitl [Hc]; · iexact Hc
    isplitl [HA]; · iexact HA
    isplitl [HS] <;> iassumption
  icases HB with ⟨HB, HR⟩
  iapply (sound m K c (fun _ => bodyPost m ρ c)) $$ [Ho HB]
  · isplitr; · iexact HF
    isplitl [Ho]
    · iapply (due_of m ρ c); iexact Ho
    iexact HB
  iintro ⟨Ho, HB⟩
  ihave HB := (after_to m c) $$ [HB HR]
  · isplitl [HB] <;> iassumption
  icases HB with ⟨HB, Hout⟩
  unfold bodyPost
  isplitl [HB]; · iexact HB
  isplitl [Ho]
  · iapply (due_to m ρ c); iexact Ho
  iapply (has_stage (F := F) c _)
  iexact Hout

/-! ## The launch's side conditions -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, show (Pipeline.unscopedRest cfg0.spec c (fun b => m ((c : Thread nD τ).loc b)) : sProp 𝕄) = argHeld m c from Gen.unscopedRest0_eq c _]
  iintro ⟨HA, #Hlev, Hcr, -, HG⟩
  ihave Hc := (creds (F := F) c) $$ Hcr
  imodintro
  unfold start G' credit
  isplitl
  · isplitl [HG]
    · icases HG with ⟨%K, HF, HPT⟩
      iexists K
      isplitl [HF]
      · unfold records facts
        icases HF with ⟨H1, H2⟩
        isplitl [H1]; · iexact H1
        isplitl [H2]; · iexact H2
        iexact Hlev
      iexact HPT
    isplitl [Hc]; · iexact Hc
    iexact HA
  · iempintro

theorem phi0_intro :
    iprop(start m c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m c from rfl, show (Pipeline.scopedRest cfg0.spec c : sProp 𝕄) = scratch c from Gen.scopedRest0_eq c]
  unfold Φ₀
  iintro ⟨Hs, -, Hr⟩
  isplitl [Hs] <;> iassumption

theorem phi1_exit :
    ((dats m ρ 0 c).Φ (Fin.last cfg0.N) : sProp 𝕄)
      ⊢ iprop((unscopedSems0 c ∗ argHeld m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = scratch c from Gen.scopedRest0_eq c,
    ownSems0_eq, unscopedSems0_eq]
  unfold Φ₁
  iintro ⟨HA, HS, Hb, Hz⟩
  isplitl [HA Hb]
  · isplitl [Hb] <;> iassumption
  isplitl [Hz] <;> iassumption

theorem arg_read (s' : Phys nD τ sig (Elt F)) : iprop(argHeld m c ∗ SI s')
    ⊢ (iprop(⌜s'.mem.mem ((c : Thread nD τ).loc main_arg0) = m ((c : Thread nD τ).loc main_arg0)⌝ ∗ SI s') : sProp 𝕄) := by
  have h := pointsTo_read_all (Ix := Unit) (Name := ℕ) (U := UU) (Lvl := ℕ) (Finset.univ : Finset (Fin 1)) (fun _ => (c : Thread nD τ).loc main_arg0)
    (fun _ => m ((c : Thread nD τ).loc main_arg0)) s'
  rw [bigSep_univ_eq_bigSepL [(0 : Fin 1)] (by decide) (by decide)] at h
  iintro H
  ihave H := h $$ [H]
  · iexact H
  icases H with ⟨%h, H⟩
  isplitr; · ipureintro; exact h 0 (Finset.mem_univ _)
  iexact H

theorem waits : (levAts L lv : sProp 𝕄) ⊢ Pipeline.cellsWaits cfgs (dats m ρ) () 0 c :=
  Pipeline.cellsWaits_intro cfgs (dats m ρ) () 0 c fun w s t =>
    mayWait c _ _ (by
      rw [show lv ((c : Thread nD τ), .dma ((cfg0.win w).sem s)) () = 0 from by
        have h : roleOf (.dma ((cfg0.win w).sem s)) = none := by revert w s; decide
        unfold lv; simp only [h, Option.elim]]
      rcases t with ⟨_ | _, ht⟩
      · exact above_hello (by omega) c ten
      · exact above_zero 0)

/-! ## The run -/

/-- The result array after the run. -/
def finalA (w : Fin cfg0.W) : Buf (Elt F) ((cfg0.win w).arr.view.loc (c : Thread nD τ)) := (dats m ρ 0 c).arrAt w cfg0.N

/-- What a run ends with. -/
def Ends : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- From any memory with all counters at zero every fair run of the program ends, in a memory where every device's
    result array holds what was computed, its argument is unchanged and all counters are at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w; exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argHeld m c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, HA⟩, -, HSI⟩
      ihave HA := (arg_read m c s') $$ [HA HSI]
      · isplitl [HA] <;> iassumption
      icases HA with ⟨%hA, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hA, hu⟩
      iexact HSI)
    (hQ := fun _ h hs => ⟨fun c => ⟨(h c).1, (h c).2.2.1⟩, sem_eq_zero hs fun c => (h c).2.2.2⟩)

end Cert.TopK

end
-- ==== Proof.Same.lean ====
module

public import proofs.«01_k».proof.Proof.Gen.Kernel
public import proofs.«01_k».proof.Proof.Gen.KernelIdeal

@[expose] public section

/-!
# The kernel as compiled and the kernel over ideal reals have the same text
-/

namespace Cert.TopK

open Idealize.ShloMosaic Idealize.SL.Sem

variable {F : FTy → Type} [FloatOps F]

/-- The two printed bodies are one program. -/
theorem body_same : @Cert.Kernel.cc0__body F _ _ = @Cert.KernelIdeal.cc0__body F _ _ := rfl

/-- The two kernels' labels name the same programs, -/
theorem labels_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- and so do the two modules' labels. -/
theorem defs_same : Cert.Kernel.defs (F := F) = Cert.KernelIdeal.defs (F := F) := by
  unfold Cert.Kernel.defs Cert.KernelIdeal.defs
  rw [labels_same]
  rfl

end Cert.TopK
-- ==== Proof.NetSort.lean ====
module

public import proofs.«01_k».proof.Proof.Net
public import Mathlib.Order.Lattice
public import Mathlib.Order.Defs.LinearOrder
public import Mathlib.Data.Nat.Bitwise
public import Mathlib.Data.Fintype.Basic
public import Mathlib.Algebra.BigOperators.Fin

@[expose] public section

/-!
# What the two networks compute

A value `t` splits the wires in those at least `t` and the others, and a comparator only moves the first ones to
the front. So a network is known from what it does to truth values: the sort puts all the true wires first, and the
merge, of two lists that have their true wires first, does so too. Of any values, `Rep Y c` says that the wires 0 to
31 of `Y` are the thirty-two largest, in descending order, of a collection of which `c t` are at least `t`.
-/

namespace Cert.TopK

/-- A map that takes one pair of operations to another takes the one network's run to the other's. -/
theorem run_hom {α β : Type} {mx mn : α → α → α} {mx' mn' : β → β → β} (h : α → β)
    (hx : ∀ a b, h (mx a b) = mx' (h a) (h b)) (hn : ∀ a b, h (mn a b) = mn' (h a) (h b)) (ps : List (ℕ × ℕ)) (n : ℕ)
    (Y : Wires α) (k : ℕ) : h (run mx mn ps n Y k) = run mx' mn' ps n (fun i => h (Y i)) k := by
  induction ps generalizing n Y with
  | nil => cases n <;> rfl
  | cons p ps ih =>
    cases n with
    | zero => rfl
    | succ n =>
      have e : (fun i => h (cx mx mn p Y i)) = cx mx' mn' p fun i => h (Y i) := funext fun i => by
        unfold cx; split <;> [exact hx _ _; split <;> [exact hn _ _; rfl]]
      exact (ih n (cx mx mn p Y)).trans (by rw [e]; rfl)

/-- The comparators of a list touch wires below `n` only. -/
def Below (n : ℕ) (ps : List (ℕ × ℕ)) : Prop := ∀ p ∈ ps, p.1 < n ∧ p.2 < n

instance (n : ℕ) (ps : List (ℕ × ℕ)) : Decidable (Below n ps) := by unfold Below; infer_instance

/-- Such a network's first `n` wires depend on the first `n` wires. -/
theorem run_congr {α : Type} {mx mn : α → α → α} {N : ℕ} (ps : List (ℕ × ℕ)) (hp : Below N ps) (n : ℕ) (Y Y' : Wires α)
    (h : ∀ k < N, Y k = Y' k) (k : ℕ) (hk : k < N) : run mx mn ps n Y k = run mx mn ps n Y' k := by
  induction ps generalizing n Y Y' with
  | nil => cases n <;> exact h k hk
  | cons p ps ih =>
    cases n with
    | zero => exact h k hk
    | succ n =>
      refine ih (fun q hq => hp q (List.mem_cons_of_mem _ hq)) n _ _ fun i hi => ?_
      have hp := hp p List.mem_cons_self
      unfold cx
      rw [h p.1 hp.1, h p.2 hp.2, h i hi]

/-! ## Truth values, many cases at once -/

/-- The number whose bits below `N` are as the function says. -/
def bits (f : ℕ → Bool) : ℕ → ℕ
  | 0 => 0
  | N + 1 => if f N then bits f N + 2 ^ N else bits f N

/-- A table of `N` truth values, packed into a number, is below `2 ^ N`. -/
theorem bits_lt (f : ℕ → Bool) : ∀ N, bits f N < 2 ^ N
  | 0 => Nat.one_pos
  | N + 1 => by
    have := bits_lt f N
    unfold bits
    rw [Nat.pow_succ]
    split <;> omega

/-- The packed number holds the table: its bit `i` is entry `i`. -/
theorem testBit_bits (f : ℕ → Bool) (i : ℕ) : ∀ N, i < N → (bits f N).testBit i = f i
  | N + 1, h => by
    have hl := bits_lt f N
    unfold bits
    rcases Nat.lt_succ_iff_lt_or_eq.mp h with h' | h'
    · split
      · rw [Nat.add_comm, Nat.testBit_two_pow_add_gt h']; exact testBit_bits f i N h'
      · exact testBit_bits f i N h'
    · subst h'
      split
      · rename_i hf
        rw [Nat.add_comm, Nat.testBit_two_pow_add_eq, Nat.testBit_lt_two_pow hl, hf]; rfl
      · rename_i hf
        rw [Nat.testBit_lt_two_pow hl]; simpa using hf

/-- What holds of the numbers holds of each of the cases that their bits are. -/
theorem run_cases (ps : List (ℕ × ℕ)) (n N M : ℕ) (f g : ℕ → ℕ → Bool)
    (h : ∀ k < M, run Nat.lor Nat.land ps n (fun k => bits (f k) N) k = bits (g k) N) (k : ℕ) (hk : k < M) (i : ℕ) (hi : i < N) :
    run or and ps n (fun k => f k i) k = g k i := by
  have h1 : (run Nat.lor Nat.land ps n (fun k => bits (f k) N) k).testBit i = (bits (g k) N).testBit i := congrArg (fun x => x.testBit i) (h k hk)
  rw [testBit_bits _ i N hi] at h1
  rw [← h1]
  refine Eq.trans ?_ (run_hom (mx' := or) (mn' := and) (fun x : ℕ => x.testBit i) (fun a b => Nat.testBit_or a b i)
    (fun a b => Nat.testBit_and a b i) ps n _ k).symm
  exact congrArg (fun Y => run or and ps n Y k) (funext fun k => (testBit_bits _ i N hi).symm)

set_option maxRecDepth 100000 in
/-- The merge, over all pairs of list lengths at once. -/
theorem merge_table : ∀ k < 32, run Nat.lor Nat.land bitonicNet 80 (fun k => bits (fun i => decide (k < i / 33) || decide (31 - k < i % 33)) 1089) k
    = bits (fun i => decide (k < i / 33 + i % 33)) 1089 := by
  decide +kernel

/-! ## The sort is built of merges -/

/-- A whole list of comparators, one after the other. -/
def cxAll {α : Type} (mx mn : α → α → α) (ps : List (ℕ × ℕ)) (Y : Wires α) : Wires α := ps.foldl (fun Y p => cx mx mn p Y) Y

/-- Running as many steps as the list has is running the whole list. -/
theorem run_eq_cxAll {α : Type} (mx mn : α → α → α) (ps : List (ℕ × ℕ)) (Y : Wires α) : run mx mn ps ps.length Y = cxAll mx mn ps Y := by
  induction ps generalizing Y with
  | nil => rfl
  | cons p ps ih => exact ih _

/-- The comparators, on the wires from `o` on. -/
def shift (o : ℕ) (ps : List (ℕ × ℕ)) : List (ℕ × ℕ) := ps.map fun p => (o + p.1, o + p.2)

/-- On the wires from `o` on they do there what they do from the first wire on, and leave all other wires. -/
theorem cxAll_shift {α : Type} (mx mn : α → α → α) (o N : ℕ) (ps : List (ℕ × ℕ)) (hp : Below N ps) (Y : Wires α) (i : ℕ) :
    cxAll mx mn (shift o ps) Y i = if o ≤ i ∧ i < o + N then cxAll mx mn ps (fun j => Y (o + j)) (i - o) else Y i := by
  induction ps generalizing Y with
  | nil =>
    show Y i = if _ then Y (o + (i - o)) else Y i
    split
    · rename_i h; rw [Nat.add_sub_cancel' h.1]
    · rfl
  | cons p ps ih =>
    have hp' := hp p List.mem_cons_self
    refine (ih (fun q hq => hp q (List.mem_cons_of_mem _ hq)) (cx mx mn (o + p.1, o + p.2) Y)).trans ?_
    have e : (fun j => cx mx mn (o + p.1, o + p.2) Y (o + j)) = cx mx mn p fun j => Y (o + j) := funext fun j => by
      unfold cx; simp only [Nat.add_left_cancel_iff]
    rw [e]
    split
    · rfl
    · rename_i h
      unfold cx
      rw [if_neg (by simp only []; omega), if_neg (by simp only []; omega)]

/-- The merge of two sorted blocks of `2 ^ k` wires, as the sort has it. -/
def mergeList : ℕ → List (ℕ × ℕ)
  | 0 => (sortNet.drop 0).take 1
  | 1 => (sortNet.drop 2).take 3
  | 2 => (sortNet.drop 10).take 9
  | 3 => (sortNet.drop 38).take 25
  | _ => (sortNet.drop 126).take 65

/-- The sort of the `2 ^ k` wires from `o` on: sort the two halves, then merge them. -/
def build (o : ℕ) : ℕ → List (ℕ × ℕ)
  | 0 => []
  | k + 1 => build o k ++ (build (o + 2 ^ k) k ++ shift o (mergeList k))

set_option maxRecDepth 100000 in
/-- The kernel's sorting network is the one built by halves, five deep. -/
theorem sortNet_build : sortNet = build 0 5 := by decide +kernel

/-- The merging lists stay within the wires they merge. -/
theorem mergeList_below : ∀ k < 5, Below (2 ^ (k + 1)) (mergeList k) := by decide +kernel

set_option maxRecDepth 100000 in
/-- Every merging list, tried on each pair of counts: two halves sorted by themselves come out as one sorted whole. -/
theorem mergeList_table : ∀ e < 5, ∀ k < 2 ^ (e + 1),
    run Nat.lor Nat.land (mergeList e) (mergeList e).length
      (fun k => bits (fun i => if k < 2 ^ e then decide (k < i / (2 ^ e + 1)) else decide (k - 2 ^ e < i % (2 ^ e + 1))) ((2 ^ e + 1) * (2 ^ e + 1))) k
    = bits (fun i => decide (k < i / (2 ^ e + 1) + i % (2 ^ e + 1))) ((2 ^ e + 1) * (2 ^ e + 1)) := by
  decide +kernel

/-- Of two numbers packed into one, the first. -/
theorem pair_div {n a b : ℕ} (hb : b ≤ n) : (a * (n + 1) + b) / (n + 1) = a := by
  rw [Nat.mul_comm, Nat.mul_add_div (by omega), Nat.div_eq_of_lt (by omega), Nat.add_zero]
/-- Of two numbers packed into one, the second. -/
theorem pair_mod {n a b : ℕ} (hb : b ≤ n) : (a * (n + 1) + b) % (n + 1) = b := by
  rw [Nat.mul_comm, Nat.mul_add_mod, Nat.mod_eq_of_lt (by omega)]
/-- Two bounded numbers packed into one stay bounded. -/
theorem pair_lt {n a b : ℕ} (ha : a ≤ n) (hb : b ≤ n) : a * (n + 1) + b < (n + 1) * (n + 1) :=
  calc a * (n + 1) + b < a * (n + 1) + (n + 1) := by omega
    _ = (a + 1) * (n + 1) := by rw [Nat.add_mul, Nat.one_mul]
    _ ≤ (n + 1) * (n + 1) := Nat.mul_le_mul_right _ (by omega)

/-- The merge of two sorted blocks with `a` and `b` true wires. -/
theorem mergeList_bool (e : ℕ) (he : e < 5) (a b : ℕ) (ha : a ≤ 2 ^ e) (hb : b ≤ 2 ^ e) (k : ℕ) (hk : k < 2 ^ (e + 1)) :
    cxAll or and (mergeList e) (fun k => if k < 2 ^ e then decide (k < a) else decide (k - 2 ^ e < b)) k = decide (k < a + b) := by
  have h := run_cases (mergeList e) _ _ _ _ _ (mergeList_table e he) k hk (a * (2 ^ e + 1) + b) (pair_lt ha hb)
  simp only [pair_div hb, pair_mod hb] at h
  rw [← run_eq_cxAll]
  exact h

/-- How many of the `n` wires from `o` on are true. -/
def trues (Y : Wires Bool) (o n : ℕ) : ℕ := ∑ i ∈ Finset.range n, (Y (o + i)).toNat

/-- There are at most as many true wires as wires. -/
theorem trues_le (Y : Wires Bool) (o n : ℕ) : trues Y o n ≤ n := by
  induction n with
  | zero => exact Nat.le_of_eq (Finset.sum_range_zero _)
  | succ n ih =>
    have h : trues Y o (n + 1) = trues Y o n + (Y (o + n)).toNat := Finset.sum_range_succ _ _
    have := Bool.toNat_le (Y (o + n))
    omega

/-- True wires of two neighbouring stretches add up. -/
theorem trues_add (Y : Wires Bool) (o n m : ℕ) : trues Y o (n + m) = trues Y o n + trues Y (o + n) m := by
  unfold trues
  rw [Finset.sum_range_add]
  simp only [Nat.add_assoc]

/-- The number of true wires depends on these wires alone. -/
theorem trues_congr {Y Y' : Wires Bool} {o n : ℕ} (h : ∀ i, o ≤ i → i < o + n → Y i = Y' i) : trues Y o n = trues Y' o n :=
  Finset.sum_congr rfl fun i hi => by rw [h (o + i) (by omega) (by have := Finset.mem_range.mp hi; omega)]

/-- The sort of a block brings its true wires to its front and leaves the other wires. -/
theorem build_bool (k : ℕ) (hk : k ≤ 5) (o : ℕ) (Y : Wires Bool) (i : ℕ) :
    cxAll or and (build o k) Y i = if o ≤ i ∧ i < o + 2 ^ k then decide (i - o < trues Y o (2 ^ k)) else Y i := by
  induction k generalizing o Y i with
  | zero =>
    show Y i = _
    split
    · rename_i h
      have : i = o := by simp only [pow_zero] at h; omega
      subst this
      cases hY : Y i <;> simp [trues, hY]
    · rfl
  | succ k ih =>
    have e2 : 2 ^ (k + 1) = 2 ^ k + 2 ^ k := by rw [pow_succ]; omega
    have hA : cxAll or and (build o (k + 1)) Y
        = cxAll or and (shift o (mergeList k)) (cxAll or and (build (o + 2 ^ k) k) (cxAll or and (build o k) Y)) := by
      show List.foldl _ _ (_ ++ (_ ++ _)) = _
      rw [List.foldl_append, List.foldl_append]; rfl
    rw [hA, cxAll_shift or and o _ _ (mergeList_below k (by omega))]
    have h1 : ∀ i, cxAll or and (build (o + 2 ^ k) k) (cxAll or and (build o k) Y) i
        = if o ≤ i ∧ i < o + 2 ^ k then decide (i - o < trues Y o (2 ^ k))
          else if o + 2 ^ k ≤ i ∧ i < o + 2 ^ k + 2 ^ k then decide (i - (o + 2 ^ k) < trues Y (o + 2 ^ k) (2 ^ k)) else Y i := by
      intro i
      rw [ih (by omega), ih (by omega)]
      have hc : trues (cxAll or and (build o k) Y) (o + 2 ^ k) (2 ^ k) = trues Y (o + 2 ^ k) (2 ^ k) :=
        trues_congr fun i h _ => by
          have h2 : ¬ (o ≤ i ∧ i < o + 2 ^ k) := by omega
          rw [ih (by omega), if_neg h2]
      rw [hc]
      split <;> split <;> first | rfl | omega
    split
    · rename_i hi
      have hio : i - o < 2 ^ (k + 1) := by omega
      rw [e2, trues_add, ← mergeList_bool k (by omega) _ _ (trues_le Y o (2 ^ k)) (trues_le Y (o + 2 ^ k) (2 ^ k)) (i - o) hio,
        ← run_eq_cxAll or and (mergeList k), ← run_eq_cxAll or and (mergeList k)]
      refine run_congr _ (mergeList_below k (by omega)) _ _ _ (fun j hj => ?_) _ hio
      rw [h1]
      by_cases hj' : j < 2 ^ k
      · rw [if_pos (by omega), if_pos hj', Nat.add_sub_cancel_left]
      · rw [if_neg (by omega), if_pos (by omega), if_neg hj', Nat.add_sub_add_left]
    · rename_i hi
      have h2 : ¬ (o ≤ i ∧ i < o + 2 ^ k) := by omega
      have h3 : ¬ (o + 2 ^ k ≤ i ∧ i < o + 2 ^ k + 2 ^ k) := by omega
      rw [h1, if_neg h2, if_neg h3]

/-! ## Lists that hold the largest values -/

section Order

variable {α : Type} [LinearOrder α]

/-- The wires 0 to 31 are the largest values, in descending order, of a collection of which `c t` are at least `t`. -/
def Rep (Y : Wires α) (c : α → ℕ) : Prop := ∀ t, ∀ j < 32, t ≤ Y j ↔ j < c t

/-- A sorted stretch, compared with a threshold: true up to the count and false after it. -/
theorem Rep.bool {Y : Wires α} {c : α → ℕ} (h : Rep Y c) (t : α) (j : ℕ) (hj : j < 32) : decide (t ≤ Y j) = decide (j < c t) :=
  decide_eq_decide.mpr (h t j hj)

/-- Comparing with a threshold turns the maximum into "or". -/
theorem le_hom_max (t a b : α) : decide (t ≤ max a b) = or (decide (t ≤ a)) (decide (t ≤ b)) := by
  rw [Bool.eq_iff_iff]; simp [le_max_iff]
/-- Comparing with a threshold turns the minimum into "and". -/
theorem le_hom_min (t a b : α) : decide (t ≤ min a b) = and (decide (t ≤ a)) (decide (t ≤ b)) := by
  rw [Bool.eq_iff_iff]; simp [le_min_iff]

/-- The merging network names only the first 32 wires. -/
theorem bitonic_below : Below 32 bitonicNet := by decide +kernel

/-- The sorting network names only the first 32 wires. -/
theorem sort_below : Below 32 sortNet := by decide +kernel

/-- The merge of two such lists. -/
theorem merge_rep {A B Y : Wires α} {a b : α → ℕ} (hA : Rep A a) (hB : Rep B b) (hY : ∀ j < 32, Y j = max (A j) (B (31 - j))) :
    Rep (run max min bitonicNet 80 Y) fun t => a t + b t := by
  intro t j hj
  have e := run_hom (mx' := or) (mn' := and) (fun y : α => decide (t ≤ y)) (le_hom_max t) (le_hom_min t) bitonicNet 80 Y j
  rw [run_congr _ bitonic_below 80 _ (fun k => decide (k < min (a t) 32) || decide (31 - k < min (b t) 32))
    (fun k hk => by
      rw [hY k hk, le_hom_max, hA.bool t k hk, hB.bool t _ (by omega)]
      congr 1 <;> exact decide_eq_decide.mpr (by omega)) j hj] at e
  have h := run_cases bitonicNet _ _ _ _ _ merge_table j hj (min (a t) 32 * (32 + 1) + min (b t) 32) (pair_lt (by omega) (by omega))
  simp only [pair_div (n := 32) (a := min (a t) 32) (b := min (b t) 32) (by omega),
    pair_mod (n := 32) (a := min (a t) 32) (b := min (b t) 32) (by omega)] at h
  rw [h] at e
  refine (decide_eq_decide.mp e).trans ?_
  show _ ↔ j < a t + b t
  omega

/-- The sort of thirty-two values. -/
theorem sort_rep (Y : Wires α) :
    Rep (run max min sortNet 191 Y) fun t => ∑ i ∈ Finset.range 32, (decide (t ≤ Y i)).toNat := by
  intro t j hj
  have e := run_hom (mx' := or) (mn' := and) (fun y : α => decide (t ≤ y)) (le_hom_max t) (le_hom_min t) sortNet 191 Y j
  rw [show (191 : ℕ) = sortNet.length from by decide +kernel, run_eq_cxAll or, sortNet_build, build_bool 5 (by omega), if_pos (by omega)] at e
  refine (decide_eq_decide.mp e).trans ?_
  simp only [trues, Nat.sub_zero, Nat.zero_add]
  rfl

/-- Two values with the same lower bounds are equal. -/
theorem eq_of_bounds {a b : α} (h : ∀ t, t ≤ a ↔ t ≤ b) : a = b := le_antisymm ((h a).mp le_rfl) ((h b).mpr le_rfl)

end Order

end Cert.TopK
-- ==== Proof.Counts.lean ====
module

public import proofs.«01_k».proof.Proof.NetSort
public import proofs.«01_k».proof.Proof.Lists
public import Idealize.ShloMosaic.PureOps.Ideal
public import Idealize.ShloMosaic.Lib.ValueLayout
public import Idealize.ShloMosaic.Lib.Pipeline.Value

@[expose] public section

noncomputable section

/-!
# What the kernel's lists hold

Over the extended reals: of each row, the thirty-two lists of a block hold the row's thirty-two largest values, in
descending order. Said by counts: the `j`-th is at least `t` exactly if more than `j` of the row's values are. Each
list operation adds counts, so the counts of the parts of a row add up to those of the row.
-/

namespace Cert.TopK

open Idealize.ShloMosaic Idealize.ShloMosaic.ValueIdx Cert.KernelIdeal

/-- The same wires with the same counts. -/
theorem Rep.congr {α : Type} [LinearOrder α] {Y Y' : Wires α} {c c' : α → ℕ} (h : Rep Y c) (hY : ∀ j < 32, Y' j = Y j) (hc : ∀ t, c' t = c t) : Rep Y' c' :=
  fun t j hj => by rw [hY j hj, hc t]; exact h t j hj

/-- A network on vectors is the network at every index. -/
theorem run_at {s : Shape} (ps : List (ℕ × ℕ)) (n : ℕ) (Y : Wires (FVec Ideal s .f32)) (i : s.Idx) (j : ℕ) :
    run maximumf minimumf ps n Y j i = run (max : EReal → EReal → EReal) min ps n (fun k => Y k i) j :=
  run_hom (fun y : FVec Ideal s .f32 => y i) (fun a b => rfl) (fun a b => rfl) ps n Y j

attribute [local irreducible] run sortNet bitonicNet

/-- The merge of vectors of lists, at one index. -/
theorem merge_at {s : Shape} {A B : Wires (FVec Ideal s .f32)} {i : s.Idx} {a b : EReal → ℕ} (hA : Rep (fun j => A j i) a) (hB : Rep (fun j => B j i) b) :
    Rep (fun j => merge 80 A B j i) fun t => a t + b t := by
  refine (merge_rep hA hB (Y := fun j => meet A B j i) fun j _ => rfl).congr (fun j _ => run_at _ _ _ _ _) fun t => rfl

/-- A matrix of lists: at row `p` and column `q` they hold what `c p q` counts. -/
def Mat {a b : ℕ} (Y : Wires (FVec Ideal ⟨2, ![a, b]⟩ .f32)) (c : ℕ → ℕ → EReal → ℕ) : Prop :=
  ∀ (p : Fin a) (q : Fin b), Rep (fun j => Y j (ix2 p q)) (c p.val q.val)

/-- A fold of the columns adds the counts of a column and the one `w` further. -/
theorem Mat.columns {a b w : ℕ} {Y : Wires (FVec Ideal ⟨2, ![a, b]⟩ .f32)} {c : ℕ → ℕ → EReal → ℕ} (h : Mat Y c)
    (h0 : (⟨2, ![a, b]⟩ : Shape).Slices ![0, 0] ⟨2, ![a, w]⟩) (h1 : (⟨2, ![a, b]⟩ : Shape).Slices ![0, w] ⟨2, ![a, w]⟩) :
    Mat (merge 80 (each (fun y => extractStridedSlice ⟨2, ![a, w]⟩ ![0, 0] y h0) Y) (each (fun y => extractStridedSlice ⟨2, ![a, w]⟩ ![0, w] y h1) Y))
      fun p q t => c p q t + c p (w + q) t := fun p q => by
  have hb : w + w ≤ b := h1.2 1
  exact merge_at ((h p ⟨q.val, by omega⟩).congr (fun j _ => slice2_axis1_apply 0 (Y j) h0 p q _ (Nat.zero_add _).symm) fun t => rfl)
    ((h p ⟨w + q.val, by omega⟩).congr (fun j _ => slice2_axis1_apply w (Y j) h1 p q _ rfl) fun t => rfl)

/-- A fold of the rows adds the counts of a row and the one `w` further. -/
theorem Mat.rows {a b w : ℕ} {Y : Wires (FVec Ideal ⟨2, ![a, b]⟩ .f32)} {c : ℕ → ℕ → EReal → ℕ} (h : Mat Y c)
    (h0 : (⟨2, ![a, b]⟩ : Shape).Slices ![0, 0] ⟨2, ![w, b]⟩) (h1 : (⟨2, ![a, b]⟩ : Shape).Slices ![w, 0] ⟨2, ![w, b]⟩) :
    Mat (merge 80 (each (fun y => extractStridedSlice ⟨2, ![w, b]⟩ ![0, 0] y h0) Y) (each (fun y => extractStridedSlice ⟨2, ![w, b]⟩ ![w, 0] y h1) Y))
      fun p q t => c p q t + c (w + p) q t := fun p q => by
  have ha : w + w ≤ a := h1.2 0
  exact merge_at ((h ⟨p.val, by omega⟩ q).congr (fun j _ => slice2_axis0_apply 0 (Y j) h0 p q _ (Nat.zero_add _).symm) fun t => rfl)
    ((h ⟨w + p.val, by omega⟩ q).congr (fun j _ => slice2_axis0_apply w (Y j) h1 p q _ rfl) fun t => rfl)

/-- Whether the entry at row `p` and column `n` is at least `t`: one or zero, and zero outside the matrix. -/
def hit {a b : ℕ} (X : FVec Ideal ⟨2, ![a, b]⟩ .f32) (p n : ℕ) (t : EReal) : ℕ :=
  if h : p < a ∧ n < b then (decide (t ≤ X (ix2 ⟨p, h.1⟩ ⟨n, h.2⟩))).toNat else 0

/-- The count of one entry that is in the array. -/
theorem hit_in {a b : ℕ} (X : FVec Ideal ⟨2, ![a, b]⟩ .f32) (p : Fin a) (n : Fin b) (t : EReal) :
    hit X p.val n.val t = (decide (t ≤ X (ix2 p n))).toNat := dif_pos ⟨p.isLt, n.isLt⟩

/-- How many of row `p`'s entries are at least `t`. -/
def hits {a b : ℕ} (X : FVec Ideal ⟨2, ![a, b]⟩ .f32) (p : ℕ) (t : EReal) : ℕ := ∑ n ∈ Finset.range b, hit X p n t

/-- Half of a sum with the other half added to it. -/
theorem sum_fold (f : ℕ → ℕ) (w : ℕ) : ∑ q ∈ Finset.range w, (f q + f (w + q)) = ∑ q ∈ Finset.range (w + w), f q := by
  rw [Finset.sum_range_add, Finset.sum_add_distrib]

/-- A sum taken in blocks of `w`. -/
theorem sum_blocks (f : ℕ → ℕ) (w k : ℕ) : ∑ j ∈ Finset.range k, ∑ q ∈ Finset.range w, f (w * j + q) = ∑ n ∈ Finset.range (w * k), f n := by
  induction k with
  | zero => simp
  | succ k ih => rw [Finset.sum_range_succ, ih, Nat.mul_succ, Finset.sum_range_add]

/-- The count of column `q` of the thirty-two lists of 256. -/
def at0 (x : FVec Ideal S64x8192 .f32) (p q : ℕ) (t : EReal) : ℕ := ∑ j ∈ Finset.range 32, hit x p (256 * j + q) t

/-- The sorted wires of the first level hold the counts of their entries. -/
theorem mat0 (x : FVec Ideal S64x8192 .f32) : Mat (l0 x 191) (at0 x) := fun p q => by
  have h := sort_rep (α := EReal) fun j => cut (F := Ideal) x j (ix2 p q)
  have h := h.congr (Y' := fun j => l0 (F := Ideal) x 191 j (ix2 p q)) (fun j _ => run_at sortNet 191 (cut (F := Ideal) x) (ix2 p q) j) fun t => rfl
  refine h.congr (fun j _ => rfl) fun t => Finset.sum_congr rfl fun j hj => ?_
  have hj : j < 32 := Finset.mem_range.mp hj
  have e : cut x j (ix2 p q) = x (ix2 p ⟨256 * j + q.val, by omega⟩) :=
    slice2_axis1_apply _ x (cut_ok j) p q ⟨256 * j + q.val, by omega⟩ (by show _ = 256 * (j % 32) + _; rw [Nat.mod_eq_of_lt hj])
  rw [e]
  exact hit_in x p ⟨256 * j + q.val, by omega⟩ t

/-- The counts with the second half added to the first. -/
def half (w : ℕ) (c : ℕ → ℕ → EReal → ℕ) : ℕ → ℕ → EReal → ℕ := fun p q t => c p q t + c p (w + q) t

/-- The counts after four halvings. -/
def at4' (x : FVec Ideal S64x8192 .f32) : ℕ → ℕ → EReal → ℕ := half 16 (half 32 (half 64 (half 128 (at0 x))))

/-- After four halvings the wires hold these counts. -/
theorem mat4 (x : FVec Ideal S64x8192 .f32) : Mat (l4 x 80) (at4' x) :=
  Mat.columns (w := 16) (Mat.columns (w := 32) (Mat.columns (w := 64) (Mat.columns (w := 128) (mat0 x) (by decide) (by decide)) (by decide) (by decide)) (by decide) (by decide)) (by decide) (by decide)

/-- Thirty-two matrices side by side: column `n` is column `n % w` of the `n / w`-th. -/
theorem packAll_columns {α : Type} {a w b : ℕ} (h) (Y : Wires ((⟨2, ![a, w]⟩ : Shape).Idx → α)) (p : Fin a) (j : Fin 32) (q : Fin w) (n : Fin b) (hn : n.val = w * j.val + q.val) :
    packAll ⟨2, ![a, w]⟩ ⟨2, ![a, b]⟩ 1 h Y (ix2 p n) = Y j.val (ix2 p q) := by
  have hw := q.isLt
  refine (concatenate_ofFn_apply (t := ⟨2, ![a, b]⟩) (s₁ := ⟨2, ![a, w]⟩) 1 (fun k : Fin 32 => Y k.val) h rfl w rfl (ix2 p n) j ?_ (ix2 p q) ?_ ?_)
  · show n.val / w = j.val
    rw [hn, Nat.mul_add_div (by omega), Nat.div_eq_of_lt hw, Nat.add_zero]
  · show q.val = n.val % w
    rw [hn, Nat.mul_add_mod, Nat.mod_eq_of_lt hw]
  · intro b hb
    match b with
    | ⟨0, _⟩ => rfl
    | ⟨1, _⟩ => exact absurd rfl hb

/-- Thirty-two matrices one above the other. -/
theorem packAll_rows {α : Type} {a w b : ℕ} (h) (Y : Wires ((⟨2, ![w, a]⟩ : Shape).Idx → α)) (p : Fin a) (j : Fin 32) (q : Fin w) (n : Fin b) (hn : n.val = w * j.val + q.val) :
    packAll ⟨2, ![w, a]⟩ ⟨2, ![b, a]⟩ 0 h Y (ix2 n p) = Y j.val (ix2 q p) := by
  have hw := q.isLt
  refine (concatenate_ofFn_apply (t := ⟨2, ![b, a]⟩) (s₁ := ⟨2, ![w, a]⟩) 0 (fun k : Fin 32 => Y k.val) h rfl w rfl (ix2 n p) j ?_ (ix2 q p) ?_ ?_)
  · show n.val / w = j.val
    rw [hn, Nat.mul_add_div (by omega), Nat.div_eq_of_lt hw, Nat.add_zero]
  · show q.val = n.val % w
    rw [hn, Nat.mul_add_mod, Nat.mod_eq_of_lt hw]
  · intro b hb
    match b with
    | ⟨0, _⟩ => exact absurd rfl hb
    | ⟨1, _⟩ => rfl

section
attribute [local irreducible] l4 l8

/-- After the turn, row `q` and column `p` of the lists. -/
theorem matRows (x : FVec Ideal S64x8192 .f32) : Mat (rows x) fun q p => at4' x p q := fun q p => by
  have h := mat4 x p q
  refine Rep.congr h (fun j hj => ?_) fun t => rfl
  refine (slice2_axis0_apply (16 * (j % 32)) (turn (F := Ideal) x) (rows_ok j) q p ⟨16 * j + q.val, by omega⟩ (by show _ = 16 * (j % 32) + _; rw [Nat.mod_eq_of_lt hj])).trans ?_
  refine (transpose_ix2_apply (cat16 (F := Ideal) x) _ _ p).trans ?_
  exact packAll_columns _ (l4 (F := Ideal) x 80) p ⟨j, hj⟩ q _ rfl

end

/-- The folds of the rows, on the turned counts. -/
def at8' (x : FVec Ideal S64x8192 .f32) : ℕ → ℕ → EReal → ℕ := half 1 (half 2 (half 4 (half 8 (at4' x))))

/-- After all eight halvings the wires hold the counts of the whole piece. -/
theorem mat8 (x : FVec Ideal S64x8192 .f32) : Mat (l8 x 80) fun q p => at8' x p q := by
  have h5 : Mat (l5 (F := Ideal) x 80) fun q p => half 8 (at4' x) p q := Mat.rows (w := 8) (matRows x) (by decide) (by decide)
  have h6 : Mat (l6 (F := Ideal) x 80) fun q p => half 4 (half 8 (at4' x)) p q := Mat.rows (w := 4) h5 (by decide) (by decide)
  have h7 : Mat (l7 (F := Ideal) x 80) fun q p => half 2 (half 4 (half 8 (at4' x))) p q := Mat.rows (w := 2) h6 (by decide) (by decide)
  exact Mat.rows (w := 1) h7 (by decide) (by decide)

/-- Halving adds the counts of two halves, so their sum stays the same. -/
theorem sum_half (w : ℕ) (c : ℕ → ℕ → EReal → ℕ) (p : ℕ) (t : EReal) :
    ∑ q ∈ Finset.range w, half w c p q t = ∑ q ∈ Finset.range (w + w), c p q t := sum_fold (fun q => c p q t) w

/-- All eight folds add up to the whole row. -/
theorem at8'_eq (x : FVec Ideal S64x8192 .f32) (p : ℕ) (t : EReal) : at8' x p 0 t = hits x p t := by
  refine (Finset.sum_range_one fun q => at8' x p q t).symm.trans ?_
  unfold at8' at4'
  rw [sum_half 1, sum_half 2, sum_half 4, sum_half 8, sum_half 16, sum_half 32, sum_half 64, sum_half 128]
  unfold at0 hits
  rw [Finset.sum_comm]
  exact sum_blocks (fun n => hit x p n t) 256 32

/-- The lists of a block hold the largest values of each row. -/
theorem l8_rep (x : FVec Ideal S64x8192 .f32) (p : Fin 64) : Rep (α := EReal) (fun j => l8 (F := Ideal) x 80 j (ix2 0 p)) (hits x p.val) :=
  (mat8 x 0 p).congr (fun _ _ => rfl) fun t => (at8'_eq x p.val t).symm

/-- Two lists side by side, read at a place of the first or of the second. -/
theorem join_at (a : Fin 2 → FVec Ideal S1x64 .f32) (r : Fin 128) (k : Fin 2) (hk : r.val / 64 = k.val) :
    join (F := Ideal) (a 0) (a 1) (ix2 0 r) = a k (ix2 0 ⟨r.val % 64, Nat.mod_lt _ (by decide)⟩) := by
  refine concatenate_ofFn_apply (t := S1x128) (s₁ := S1x64) 1 a (show Shape.Concatenates [S1x64, S1x64] S1x128 1 by decide) rfl 64 rfl (ix2 0 r) k hk _ rfl fun b hb => ?_
  match b with
  | ⟨0, _⟩ => rfl
  | ⟨1, _⟩ => exact absurd rfl hb

/-- Two blocks side by side: the first 64 rows are the one's, the others the other's. -/
theorem mine_rep (x : Fin 2 → FVec Ideal S64x8192 .f32) (r : Fin 128) (k : Fin 2) (hk : r.val / 64 = k.val) :
    Rep (α := EReal) (fun j => mine (F := Ideal) (x 0) (x 1) j (ix2 0 r)) (hits (x k) (r.val % 64)) :=
  (l8_rep (x k) ⟨r.val % 64, Nat.mod_lt _ (by decide)⟩).congr
    (fun j _ => join_at (fun k => l8 (F := Ideal) (x k) 80 j) r k hk) fun _ => rfl

/-- Row `j` of a device's own lists as it sends them. -/
theorem loc_at (x y : FVec Ideal S64x8192 .f32) (j : Fin 32) (r : Fin 128) :
    loc (F := Ideal) x y (ix2 j r) = mine (F := Ideal) x y j.val (ix2 0 r) :=
  packAll_rows (w := 1) _ (mine (F := Ideal) x y) r j 0 j (by show j.val = 1 * j.val + 0; omega)

/-- Row `j` of a list. -/
theorem rowl_at (A : FVec Ideal S32x128 .f32) (j : ℕ) (hj : j < 32) (r : Fin 128) :
    rowl (F := Ideal) A j (ix2 0 r) = A (ix2 ⟨j, hj⟩ r) :=
  slice2_axis0_apply (j % 32) A (rowl_ok j) 0 r ⟨j, hj⟩ (by show j = j % 32 + 0; omega)

/-- Row `r` of the merged lists of four devices holds what the four count. -/
theorem mcat_rep (x y : FVec Ideal S64x8192 .f32) (u v w : FVec Ideal S1x32x128 .f32) (r : Fin 128) {a b c d : EReal → ℕ}
    (ha : Rep (α := EReal) (fun j => mine (F := Ideal) x y j (ix2 0 r)) a)
    (hb : Rep (α := EReal) (fun j => rowl (F := Ideal) (slab u) j (ix2 0 r)) b)
    (hc : Rep (α := EReal) (fun j => rowl (F := Ideal) (slab v) j (ix2 0 r)) c)
    (hd : Rep (α := EReal) (fun j => rowl (F := Ideal) (slab w) j (ix2 0 r)) d) (t : EReal) (j : Fin 32) :
    t ≤ mcat (F := Ideal) x y u v w (ix2 j r) ↔ j.val < a t + b t + (c t + d t) := by
  have h : Rep (α := EReal) (fun j => mm (F := Ideal) x y u v w 80 j (ix2 0 r)) fun t => a t + b t + (c t + d t) := merge_at (merge_at ha hb) (merge_at hc hd)
  have e : mcat (F := Ideal) x y u v w (ix2 j r) = mm (F := Ideal) x y u v w 80 j.val (ix2 0 r) :=
    packAll_rows (w := 1) _ (mm (F := Ideal) x y u v w 80) r j 0 j (by show j.val = 1 * j.val + 0; omega)
  rw [e]
  exact h t j.val j.isLt

end Cert.TopK
-- ==== Proof.Values.lean ====
module

public import proofs.«01_k».proof.Proof.Protocol
public import proofs.«01_k».proof.Proof.Counts
public import Idealize.ShloMosaic.Lib.Layout
public import Idealize.ShloMosaic.Lib.Pipeline.ValueKit.Geometry

@[expose] public section

noncomputable section

/-!
# What a device's result holds

Over the extended reals, where every device holds its columns of one array `X`: the entry of any device's result at row
`R` and place `j` is at least `t` exactly if more than `j` of row `R`'s 32768 entries are.
-/

namespace Cert.TopK

open Cert.KernelIdeal Cert.KernelIdeal.Facts₀ Cert.KernelIdeal.Facts
open Idealize.ShloMosaic Idealize.ShloMosaic.ValueIdx
open Idealize.ShloMosaic.TcCoe

variable (m : (ℓ : Loc nD τ sig) → Buf (Elt Ideal) ℓ)

/-- A device's argument, as a matrix. -/
def held (c : Dev nD) : FVec Ideal ⟨2, ![1024, 8192]⟩ .f32 := m ((c : Thread nD τ).loc main_arg0)

/-- Where the rows a device fetches begin. -/
theorem rows_begin : ∀ (c : Dev nD) (h : Fin 2),
    k0_off1 c (BitVec.ofNat 32 (64 * h.val)) 0 = 128 * (ring c).val + 64 * h.val ∧ k0_off1 c (BitVec.ofNat 32 (64 * h.val)) 1 = 0 := by
  decide +kernel

/-- An entry of the rows it fetches. -/
theorem xs_at (c : Dev nD) (h : Fin 2) (p : Fin 64) (n : Fin 8192) (R : Fin 1024) (hR : R.val = 128 * (ring c).val + (64 * h.val + p.val)) :
    xs m c h (ix2 p n) = held m c (ix2 R n) := by
  refine congrArg (held m c) (funext fun a => Fin.ext ?_)
  have e := rows_begin c h
  match a with
  | ⟨0, _⟩ =>
    have e2 := ValueKit.rect_emb_unit_val (s := S1024x8192) (k0_off1 c (BitVec.ofNat 32 (64 * h.val))) S64x8192.size (k0_off1_inb c h) (ix2 p n) 0
    refine (show _ = k0_off1 c (BitVec.ofNat 32 (64 * h.val)) 0 + p.val from e2).trans ?_
    show _ = R.val
    omega
  | ⟨1, _⟩ =>
    have e2 := ValueKit.rect_emb_unit_val (s := S1024x8192) (k0_off1 c (BitVec.ofNat 32 (64 * h.val))) S64x8192.size (k0_off1_inb c h) (ix2 p n) 1
    refine (show _ = k0_off1 c (BitVec.ofNat 32 (64 * h.val)) 1 + n.val from e2).trans ?_
    show _ = n.val
    omega

/-- So it counts them as the argument's rows. -/
theorem xs_hits (c : Dev nD) (h : Fin 2) (p R : ℕ) (hp : p < 64) (hR : R = 128 * (ring c).val + (64 * h.val + p)) (t : EReal) :
    hits (xs m c h) p t = hits (held m c) R t := by
  have hc := (ring c).isLt
  have hh := h.isLt
  refine Finset.sum_congr rfl fun n hn => ?_
  have hn := Finset.mem_range.mp hn
  have e := xs_at m c h ⟨p, hp⟩ ⟨n, hn⟩ ⟨R, by omega⟩ hR
  refine (hit_in (xs m c h) ⟨p, hp⟩ ⟨n, hn⟩ t).trans (Eq.trans ?_ (hit_in (held m c) ⟨R, by omega⟩ ⟨n, hn⟩ t).symm)
  rw [e]

/-- A device's own lists hold its part of its rows. -/
theorem own_rep (c : Dev nD) (r : Fin 128) :
    Rep (α := EReal) (fun j => mine (F := Ideal) (xs m c 0) (xs m c 1) j (ix2 0 r)) (hits (held m c) (128 * (ring c).val + r.val)) := by
  have hr := r.isLt
  refine (mine_rep (xs m c) r ⟨r.val / 64, by omega⟩ rfl).congr (fun _ _ => rfl) fun t => ?_
  exact (xs_hits m c ⟨r.val / 64, by omega⟩ (r.val % 64) _ (Nat.mod_lt _ (by decide)) (by show _ = _ + (64 * (r.val / 64) + r.val % 64); omega) t).symm

/-- The list read out of a slab is the list the slab was made of. -/
theorem slab_raised (Z : Vec Ideal S32x128 .f32) : slab (raised Z) = Z :=
  funext fun i => congrArg Z (Equiv.symm_apply_apply flatEquiv i)

/-- The lists it hears hold the other devices' parts of the rows. -/
theorem heard_rep (c : Dev nD) (k : Fin 3) (r : Fin 128) :
    Rep (α := EReal) (fun j => rowl (F := Ideal) (slab (raised (heardList m c k))) j (ix2 0 r))
      (hits (held m (peer (back (k3 k)) c)) (128 * (ring (peer (back (k3 k)) c)).val + r.val)) := by
  refine (own_rep m (peer (back (k3 k)) c) r).congr (fun j hj => ?_) fun _ => rfl
  rw [slab_raised, rowl_at _ j hj r]
  unfold heardList ownList
  rw [shapeCast_self]
  exact loc_at _ _ ⟨j, hj⟩ r

/-- An entry of a device's merged list is an entry of the merge. -/
theorem row_at (c : Dev nD) (j : Fin 32) (r : Fin 128) :
    row m c (ix2 j r) = mcat (F := Ideal) (xs m c 0) (xs m c 1) (raised (heardList m c 0)) (raised (heardList m c 1)) (raised (heardList m c 2)) (ix2 j r) := by
  unfold row
  rw [shapeCast_self]
  show shapeCast S1x32x128 (mcat _ _ _ _ _) _ (flatEquiv (ix2 j r)) = _
  rw [show flatEquiv (ix2 j r) = ix3 (⟨0, Nat.one_pos⟩ : Fin 1) j r from reshapeEquiv_ix2_1ab _ j r]
  exact shapeCast_ab_1ab_apply _ _ _ _ _

/-- A device's neighbours along its column axis are in the same ring. -/
theorem line_ring : ∀ (c : Dev nD) (k : Fin 3), ring (peer (back (k3 k)) c) = ring c := by decide +kernel

/-- The places along the column axis of those neighbours. -/
theorem line_place : ∀ (c : Dev nD) (k : Fin 3), (peer (back (k3 k)) c).val % 4 = (c.val + 3 - k.val) % 4 := by decide +kernel

/-- The device named for ring `q` is in ring `q`. -/
theorem ring_at8 : ∀ (q : Fin 8) (c : Dev nD), ring (at8 q c) = q := by decide +kernel

variable (X : FVec Ideal ⟨2, ![1024, 32768]⟩ .f32)

/-- Every device holds its columns of `X`. -/
def Parted : Prop := ∀ (c : Dev nD) (R : Fin 1024) (n : Fin 8192),
  held m c (ix2 R n) = X (ix2 R ⟨8192 * (c.val % 4) + n.val, by omega⟩)

/-- The count over one device's columns. -/
def part (R : ℕ) (t : EReal) (z : ℕ) : ℕ := ∑ n ∈ Finset.range 8192, hit X R (8192 * z + n) t

variable {m X}

/-- The hits of a device's own block are the hits of its part of the row. -/
theorem held_hits (h : Parted m X) (c : Dev nD) (R : ℕ) (hR : R < 1024) (t : EReal) : hits (held m c) R t = part X R t (c.val % 4) := by
  refine Finset.sum_congr rfl fun n hn => ?_
  have hn := Finset.mem_range.mp hn
  refine (hit_in (held m c) ⟨R, hR⟩ ⟨n, hn⟩ t).trans (Eq.trans ?_ (hit_in X ⟨R, hR⟩ ⟨8192 * (c.val % 4) + n, by omega⟩ t).symm)
  rw [h c ⟨R, hR⟩ ⟨n, hn⟩]

/-- The four parts of a row are the row. -/
theorem parts_eq (R : ℕ) (t : EReal) (c : ℕ) :
    part X R t (c % 4) + part X R t ((c + 3 - 0) % 4) + (part X R t ((c + 3 - 1) % 4) + part X R t ((c + 3 - 2) % 4)) = hits X R t := by
  have e : hits X R t = part X R t 0 + part X R t 1 + part X R t 2 + part X R t 3 := by
    refine (sum_blocks (fun n => hit X R n t) 8192 4).symm.trans ?_
    rw [Finset.sum_range_succ, Finset.sum_range_succ, Finset.sum_range_succ, Finset.sum_range_one]
    rfl
  rw [e]
  have hc : c % 4 = 0 ∨ c % 4 = 1 ∨ c % 4 = 2 ∨ c % 4 = 3 := by omega
  rcases hc with h | h | h | h
  · rw [h, show (c + 3 - 0) % 4 = 3 by omega, show (c + 3 - 1) % 4 = 2 by omega, show (c + 3 - 2) % 4 = 1 by omega]; omega
  · rw [h, show (c + 3 - 0) % 4 = 0 by omega, show (c + 3 - 1) % 4 = 3 by omega, show (c + 3 - 2) % 4 = 2 by omega]; omega
  · rw [h, show (c + 3 - 0) % 4 = 1 by omega, show (c + 3 - 1) % 4 = 0 by omega, show (c + 3 - 2) % 4 = 3 by omega]; omega
  · rw [h, show (c + 3 - 0) % 4 = 2 by omega, show (c + 3 - 1) % 4 = 1 by omega, show (c + 3 - 2) % 4 = 0 by omega]; omega

/-- A device's merged list holds the largest values of its rows of `X`. -/
theorem row_le (h : Parted m X) (c : Dev nD) (j : Fin 32) (r : Fin 128) (t : EReal) :
    t ≤ row m c (ix2 j r) ↔ j.val < hits X (128 * (ring c).val + r.val) t := by
  have hR : 128 * (ring c).val + r.val < 1024 := by have := (ring c).isLt; omega
  rw [row_at]
  refine (mcat_rep _ _ _ _ _ r (own_rep m c r) (heard_rep m c 0 r) (heard_rep m c 1 r) (heard_rep m c 2 r) t j).trans ?_
  rw [line_ring, line_ring, line_ring, held_hits h _ _ hR, held_hits h _ _ hR, held_hits h _ _ hR, held_hits h _ _ hR,
    line_place, line_place, line_place]
  exact iff_of_eq (congrArg (j.val < ·) (parts_eq _ t c.val))

/-- A device's result. -/
theorem result_at (m : (ℓ : Loc nD τ sig) → Buf (Elt Ideal) ℓ) (c : Dev nD) (R : Fin 1024) (j : Fin 32) :
    result m c (ix2 R j) = row m (at8 ⟨R.val / 128, by omega⟩ c) (ix2 j ⟨R.val % 128, Nat.mod_lt _ (by decide)⟩) := by
  have e : ∀ k : Fin 8, (![raised (row m (at8 0 c)), raised (row m (at8 1 c)), raised (row m (at8 2 c)), raised (row m (at8 3 c)),
      raised (row m (at8 4 c)), raised (row m (at8 5 c)), raised (row m (at8 6 c)), raised (row m (at8 7 c))] : Fin 8 → Vec Ideal S1x32x128 .f32) k
      = raised (row m (at8 k c)) := fun k => by
    match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  unfold result
  generalize hT : (![_, _, _, _, _, _, _, _] : Fin 8 → Vec Ideal S1x32x128 .f32) = T at e ⊢
  unfold outOf
  refine (transpose_ix2_apply _ _ R j).trans ?_
  refine (concatenate_ofFn_apply (t := S32x1024) (s₁ := S32x128) 1 (fun k : Fin 8 => slab (T k)) _ rfl 128 rfl (ix2 j R) ⟨R.val / 128, by omega⟩ rfl
    (ix2 j ⟨R.val % 128, Nat.mod_lt _ (by decide)⟩) rfl fun b hb => ?_).trans ?_
  · match b with
    | ⟨0, _⟩ => rfl
    | ⟨1, _⟩ => exact absurd rfl hb
  · rw [e, slab_raised]

/-- The result holds the largest values of the rows of `X`. -/
theorem result_le (h : Parted m X) (c : Dev nD) (R : Fin 1024) (j : Fin 32) (t : EReal) :
    t ≤ result m c (ix2 R j) ↔ j.val < hits X R.val t := by
  rw [result_at]
  refine (row_le h _ _ _ t).trans ?_
  rw [ring_at8]
  have e : 128 * (R.val / 128) + R.val % 128 = R.val := by omega
  exact iff_of_eq (congrArg (fun n => j.val < hits X n t) e)

end Cert.TopK
-- ==== Proof.Plain.lean ====
module

public import proofs.«01_k».proof.Proof.Gen.ReferenceIdeal.Run
public import proofs.«01_k».proof.Proof.Counts
public import Idealize.ShloMosaic.Lib.SortFacts
public import Idealize.ShloMosaic.Lib.ReduceAll
public import Idealize.ShloMosaic.Lib.IdealHost
public import Idealize.ShloMosaic.Lib.ValueIdxCore
public import Idealize.ShloMosaic.Lib.WordCmp

@[expose] public section

noncomputable section

/-!
# What the reference computes

The reference sorts the negated rows, keeping of each value the column it came from, and takes the values at the first
thirty-two of these columns. So its entry at row `R` and place `j` is at least `t` exactly if more than `j` of row `R`'s
entries are.
-/

namespace Cert.TopK

open Cert.ReferenceIdeal Cert.ReferenceIdeal.Gen
open Idealize.ShloMosaic Idealize.ShloMosaic.ValueIdx

/-- Over the extended reals the reference's comparator compares the values. -/
theorem comparator_eq (l r : Ideal .f32 × BitVec 32) :
    comparator_f32_i32_d1 l r = BitVec.ofBool (decide ((l.1 : EReal) < r.1)) := by
  have h0 : ∀ x c : EReal, Scalar.select (Ideal.cmp .oeq x c) c x = x := by
    intro x c
    by_cases h : x = c
    · subst h; simp [Scalar.select]
    · simp [Scalar.select, Ideal.cmp, h]
  have h1 : ∀ x y z : EReal, Scalar.select (Ideal.cmp .une x x) y z = z := by
    intro x y z; simp [Scalar.select, Ideal.cmp]
  have e : comparator_f32_i32_d1 l r = Ideal.cmp .olt l.1 r.1 := by
    unfold comparator_f32_i32_d1
    have e1 := h0 l.1 (FloatOps.ofBits (F := Ideal) .f32 0x00000000#32)
    have e2 := h0 r.1 (FloatOps.ofBits (F := Ideal) .f32 0x00000000#32)
    show Ideal.cmp .olt (Scalar.select (Ideal.cmp .une l.1 l.1) _ (Scalar.select (Ideal.cmp .oeq l.1 _) _ l.1))
      (Scalar.select (Ideal.cmp .une r.1 r.1) _ (Scalar.select (Ideal.cmp .oeq r.1 _) _ r.1)) = _
    rw [h1, h1, e1, e2]
  exact e

variable (X : FVec Ideal ⟨2, ![1024, 32768]⟩ .f32)

/-- The order in which the sort of row `R` puts the columns: the larger value first. -/
def ahead (R : Fin 1024) (k k' : Fin 32768) : Bool := decide ((X (ix2 R k') : EReal) < X (ix2 R k))

/-- The column that comes to place `n` of row `R`. -/
def source (R : Fin 1024) (n : Fin 32768) : Fin 32768 := sortedFrom (ahead X R) n

/-- The columns, sorted. -/
def sorted : IVec S1024x32768 32 := (Host.sort2 S1024x32768 1 comparator_f32_i32_d1 (Host.negf (F := Ideal) X) (iotaInDim S1024x32768 32 1)).2

/-- A sort of two matrices along the rows, read in the second. -/
theorem sort2_row {α β : Type} {a b : ℕ} (cmp : α × β → α × β → BitVec 1) (x : (⟨2, ![a, b]⟩ : Shape).Idx → α) (y : (⟨2, ![a, b]⟩ : Shape).Idx → β)
    (R : Fin a) (n : Fin b) : (Host.sort2 ⟨2, ![a, b]⟩ 1 cmp x y).2 (ix2 R n)
      = y (ix2 R (sortedFrom (fun k k' : Fin b => cmp (x (ix2 R k), y (ix2 R k)) (x (ix2 R k'), y (ix2 R k')) == 1#1) n)) := by
  have ha : ∀ k : Fin b, (ix2 R n : (⟨2, ![a, b]⟩ : Shape).Idx).along 1 k = ix2 R k := fun k => by
    funext c
    match c with
    | ⟨0, _⟩ => rfl
    | ⟨1, _⟩ => rfl
  have e : (fun k k' : Fin b => cmp (x ((ix2 R n : (⟨2, ![a, b]⟩ : Shape).Idx).along 1 k), y ((ix2 R n : (⟨2, ![a, b]⟩ : Shape).Idx).along 1 k))
      (x ((ix2 R n : (⟨2, ![a, b]⟩ : Shape).Idx).along 1 k'), y ((ix2 R n : (⟨2, ![a, b]⟩ : Shape).Idx).along 1 k')) == 1#1)
      = fun k k' : Fin b => cmp (x (ix2 R k), y (ix2 R k)) (x (ix2 R k'), y (ix2 R k')) == 1#1 := by
    funext k k'
    simp only [ha]
  refine Eq.trans ?_ (congrArg (fun f => y (ix2 R (sortedFrom f n))) e)
  exact congrArg y (ha _)

/-- The sort's second result holds the columns, in the order of the sorted row. -/
theorem sorted_at (R : Fin 1024) (n : Fin 32768) : sorted X (ix2 R n) = BitVec.ofNat 32 (source X R n).val := by
  refine (sort2_row comparator_f32_i32_d1 (Host.negf (F := Ideal) X) (iotaInDim S1024x32768 32 1) R n).trans ?_
  have hb : (fun k k' : Fin 32768 => comparator_f32_i32_d1 (Host.negf (F := Ideal) X (ix2 R k), iotaInDim S1024x32768 32 1 (ix2 R k))
        (Host.negf (F := Ideal) X (ix2 R k'), iotaInDim S1024x32768 32 1 (ix2 R k')) == 1#1) = ahead X R := by
    funext k k'
    rw [comparator_eq]
    have hl : ((-(X (ix2 R k) : EReal)) < -(X (ix2 R k') : EReal)) ↔ (X (ix2 R k') : EReal) < X (ix2 R k) := EReal.neg_lt_neg_iff
    show (BitVec.ofBool (decide ((-(X (ix2 R k) : EReal)) < -(X (ix2 R k') : EReal))) == 1#1) = decide _
    by_cases h : (X (ix2 R k') : EReal) < X (ix2 R k)
    · rw [decide_eq_true (hl.mpr h), decide_eq_true h]; rfl
    · rw [decide_eq_false (fun h' => h (hl.mp h')), decide_eq_false h]; rfl
  exact congrArg (fun f => BitVec.ofNat 32 (sortedFrom f n).val) hb

/-- The columns of the thirty-two largest, a column below zero counted from the end (there is none). -/
def wrapped : IVec S1024x32 32 :=
  select (cmpi .slt (extractStridedSlice S1024x32 ![0, 0] (sorted X) slices_S1024x32768_S1024x32_0_0) (broadcastInDim S1024x32 ![] bcast_S_S1024x32 (constantI S_ 32 0#32)))
    (addi (extractStridedSlice S1024x32 ![0, 0] (sorted X) slices_S1024x32768_S1024x32_0_0) (broadcastInDim S1024x32 ![] bcast_S_S1024x32 (constantI S_ 32 32768#32)))
    (extractStridedSlice S1024x32 ![0, 0] (sorted X) slices_S1024x32768_S1024x32_0_0)

/-- The reference's result. -/
def plain : FVec Ideal S1024x32 .f32 :=
  select (Host.reduce IntOp.andi (andi (cmpi .sge (shapeCast _ (wrapped X) shapeCasts_S1024x32_S1024x32x1) (broadcastInDim S1024x32x1 ![] bcast_S_S1024x32x1 (constantI S_ 32 0#32)))
      (cmpi .sle (shapeCast _ (wrapped X) shapeCasts_S1024x32_S1024x32x1) (broadcastInDim S1024x32x1 ![0, 1, 2] bcast_S1x1x1_S1024x32x1_0_1_2 (broadcastInDim S1x1x1 ![2] bcast_S1_S1x1x1_2 (constantI S1 32 32767#32)))))
      (constantI S_ 1 1#1) reducesTo_S1024x32x1_S1024x32_d2 h_S_)
    (Host.gather gather_S1024x32768_S1024x32x1_S1024x32_n_1_0_0_1_2_11 X (shapeCast _ (wrapped X) shapeCasts_S1024x32_S1024x32x1))
    (broadcastInDim S1024x32 ![] bcast_S_S1024x32 (constant S_ .f32 0x7FC00000#32))

/-- Place `j` among the thirty-two as a place among all columns. -/
def first (j : Fin 32) : Fin 32768 := ⟨j.val, by omega⟩

/-- A column's word reads back as the column, signed or not. -/
theorem small (k : Fin 32768) : (BitVec.ofNat 32 k.val).toNat = k.val ∧ (BitVec.ofNat 32 k.val).toInt = k.val := by
  have e : (BitVec.ofNat 32 k.val).toNat = k.val := by rw [BitVec.toNat_ofNat]; omega
  refine ⟨e, ?_⟩
  rw [BitVec.toInt_eq_toNat_of_lt (by omega), e]

/-- A column's word isn't negative. -/
theorem word_nonneg (k : Fin 32768) : IntOp.cmpi .slt (BitVec.ofNat 32 k.val) 0#32 = 0#1 := by
  rw [WordCmp.cmpi_slt_eq, (small k).2]
  refine congrArg BitVec.ofBool (decide_eq_false ?_)
  rw [BitVec.toInt_zero]
  exact not_lt.mpr (Int.natCast_nonneg _)

/-- A choice, read at an index. -/
theorem select_read {s : Shape} {α : Type} (c : IVec s 1) (x y : s.Idx → α) (i : s.Idx) : select c x y i = Scalar.select (c i) (x i) (y i) := rfl

/-- The wrapping of negative columns changes nothing: the word is the column the sort names. -/
theorem wrapped_at (R : Fin 1024) (j : Fin 32) : wrapped X (ix2 R j) = BitVec.ofNat 32 (source X R (first j)).val := by
  have e : extractStridedSlice S1024x32 ![0, 0] (sorted X) slices_S1024x32768_S1024x32_0_0 (ix2 R j) = BitVec.ofNat 32 (source X R (first j)).val := by
    refine Eq.trans ?_ (sorted_at X R (first j))
    refine extractStridedSlice_apply _ _ _ _ _ fun a => ?_
    match a with
    | ⟨0, _⟩ => exact (Nat.zero_add _).symm
    | ⟨1, _⟩ => exact (Nat.zero_add _).symm
  have hs : IntOp.cmpi .slt (BitVec.ofNat 32 (source X R (first j)).val) 0#32 = 0#1 := word_nonneg _
  unfold wrapped
  generalize extractStridedSlice S1024x32 ![0, 0] (sorted X) slices_S1024x32768_S1024x32_0_0 = v at e
  refine (select_read _ _ v _).trans ?_
  rw [e, show (cmpi .slt v (broadcastInDim S1024x32 ![] bcast_S_S1024x32 (constantI S_ 32 0#32)) : IVec S1024x32 1) (ix2 R j) = 0#1 from
    (congrArg (fun w => IntOp.cmpi .slt w 0#32) e).trans hs]
  rfl

/-- With a last axis of extent one. -/
theorem cast_at (R : Fin 1024) (j : Fin 32) (u : Fin 1) :
    shapeCast S1024x32x1 (wrapped X) shapeCasts_S1024x32_S1024x32x1 (ix3 R j u) = BitVec.ofNat 32 (source X R (first j)).val := by
  refine Eq.trans (shapeCast_apply _ _ _ (ix2 R j) ?_) (wrapped_at X R j)
  rw [Shape.rowMajor_val_three, Shape.rowMajor_val_two]
  show R.val * 32 + j.val = (R.val * 32 + j.val) * 1 + u.val
  omega

/-- A column's word lies within the array's bounds. -/
theorem word_inside (k : Fin 32768) :
    IntOp.andi (IntOp.cmpi .sge (BitVec.ofNat 32 k.val) 0#32) (IntOp.cmpi .sle (BitVec.ofNat 32 k.val) 32767#32) = 1#1 := by
  have h1 : IntOp.cmpi .sge (BitVec.ofNat 32 k.val) 0#32 = 1#1 := by
    rw [WordCmp.cmpi_sge_eq, (small k).2]
    refine congrArg BitVec.ofBool (decide_eq_true ?_)
    rw [BitVec.toInt_zero]
    exact Int.natCast_nonneg _
  have h2 : IntOp.cmpi .sle (BitVec.ofNat 32 k.val) 32767#32 = 1#1 := by
    rw [WordCmp.cmpi_sle_eq, (small k).2, show (32767#32 : BitVec 32).toInt = 32767 from by decide]
    refine congrArg BitVec.ofBool (decide_eq_true ?_)
    have := k.isLt
    omega
  rw [h1, h2]
  rfl

/-- Every column is one of the array's. -/
theorem inside (i : S1024x32x1.Idx) : andi (cmpi .sge (shapeCast S1024x32x1 (wrapped X) shapeCasts_S1024x32_S1024x32x1) (broadcastInDim S1024x32x1 ![] bcast_S_S1024x32x1 (constantI S_ 32 0#32)))
      (cmpi .sle (shapeCast S1024x32x1 (wrapped X) shapeCasts_S1024x32_S1024x32x1) (broadcastInDim S1024x32x1 ![0, 1, 2] bcast_S1x1x1_S1024x32x1_0_1_2 (broadcastInDim S1x1x1 ![2] bcast_S1_S1x1x1_2 (constantI S1 32 32767#32)))) i = 1#1 := by
  obtain ⟨R, j, u, rfl⟩ : ∃ (R : Fin 1024) (j : Fin 32) (u : Fin 1), i = ix3 R j u := ⟨i 0, i 1, i 2, eq_ix3 i⟩
  have e := cast_at X R j u
  generalize shapeCast S1024x32x1 (wrapped X) shapeCasts_S1024x32_S1024x32x1 = v at e ⊢
  exact (congrArg (fun w => IntOp.andi (IntOp.cmpi .sge w 0#32) (IntOp.cmpi .sle w 32767#32)) e).trans (word_inside _)

/-- The gather, read at an index: the row's value at the column. -/
theorem gather_at (idx : IVec S1024x32x1 32) (R : Fin 1024) (j : Fin 32) (k : Fin 32768) (hk : idx (ix3 R j 0) = BitVec.ofNat 32 k.val) :
    Host.gather gather_S1024x32768_S1024x32x1_S1024x32_n_1_0_0_1_2_11 X idx (ix2 R j) = X (ix2 R k) := by
  unfold Host.gather
  refine congrArg X (funext fun a => Fin.ext ?_)
  show (gather_S1024x32768_S1024x32x1_S1024x32_n_1_0_0_1_2_11).start (ix2 R j) idx a + (gather_S1024x32768_S1024x32x1_S1024x32_n_1_0_0_1_2_11).batchCoord (ix2 R j) a
      + (gather_S1024x32768_S1024x32x1_S1024x32_n_1_0_0_1_2_11).offCoord (ix2 R j) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos (List.mem_singleton.mpr rfl)).trans ?_
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : ∀ q, (gather_S1024x32768_S1024x32x1_S1024x32_n_1_0_0_1_2_11).siIdx (ix2 R j) q = ix3 R j 0 := by
      intro q
      funext b; refine Fin.ext ?_
      match b with
      | ⟨0, _⟩ => rfl
      | ⟨1, _⟩ => rfl
      | ⟨2, _⟩ => exact Nat.lt_one_iff.mp (Fin.isLt _)
    rw [hsi, hk, (small k).2]
    have := k.isLt
    show min (Int.toNat (k.val : ℤ)) 32767 = k.val
    rw [Int.toNat_natCast]
    omega

/-- The reference's entry. -/
theorem plain_at (R : Fin 1024) (j : Fin 32) : plain X (ix2 R j) = X (ix2 R (source X R (first j))) := by
  unfold plain
  have h1 := Host.reduce_andi_one _ (constantI S_ 1 1#1) reducesTo_S1024x32x1_S1024x32_d2 h_S_ (ix2 R j) rfl (inside X)
  refine (select_read _ _ _ _).trans ?_
  rw [h1]
  exact gather_at X _ R j _ (cast_at X R j 0)

/-- Of values in descending order, more than `j` are at least `t` exactly if the `j`-th is. -/
theorem count_le {n : ℕ} (g : Fin n → EReal) (hg : ∀ k k', k < k' → g k' ≤ g k) (t : EReal) (j : Fin n) :
    t ≤ g j ↔ j.val < ∑ k : Fin n, (decide (t ≤ g k)).toNat := by
  have e : ∑ k : Fin n, (decide (t ≤ g k)).toNat = (Finset.univ.filter fun k => t ≤ g k).card := by
    rw [Finset.card_filter]
    refine Finset.sum_congr rfl fun k _ => ?_
    by_cases h : t ≤ g k <;> simp [h]
  rw [e]
  constructor
  · intro h
    have : (Finset.Iic j).card ≤ (Finset.univ.filter fun k => t ≤ g k).card := Finset.card_le_card fun k hk => by
      refine Finset.mem_filter.mpr ⟨Finset.mem_univ _, ?_⟩
      rcases lt_or_eq_of_le (Finset.mem_Iic.mp hk) with h' | h'
      · exact h.trans (hg _ _ h')
      · rw [h']; exact h
    rw [Fin.card_Iic] at this
    omega
  · intro h
    by_contra h'
    have : (Finset.univ.filter fun k => t ≤ g k).card ≤ (Finset.Iio j).card := Finset.card_le_card fun k hk => by
      refine Finset.mem_Iio.mpr ?_
      by_contra hkj
      have hk := (Finset.mem_filter.mp hk).2
      rcases lt_or_eq_of_le (not_lt.mp hkj) with h2 | h2
      · exact h' (hk.trans (hg _ _ h2))
      · rw [h2] at h'; exact h' hk
    rw [Fin.card_Iio] at this
    omega

/-- The reference's result holds the largest values of the rows. -/
theorem plain_le (R : Fin 1024) (j : Fin 32) (t : EReal) : t ≤ plain X (ix2 R j) ↔ j.val < hits X R.val t := by
  rw [plain_at]
  have hs : Function.Bijective (source X R) := ⟨sortedFrom_injective _, sortedFrom_surjective _⟩
  have hg : ∀ k k' : Fin 32768, k < k' → (X (ix2 R (source X R k')) : EReal) ≤ X (ix2 R (source X R k)) := fun k k' hk => by
    have h := sortedFrom_noInversion (ahead X R) (ahead X R)
      (fun a b h => decide_eq_false (not_lt.mpr (le_of_lt (of_decide_eq_true h)))) (fun a b h => h)
      (fun a b c h h' => decide_eq_false (not_lt.mpr ((not_lt.mp (of_decide_eq_false h)).trans (not_lt.mp (of_decide_eq_false h'))))) k k' hk
    exact not_lt.mp (of_decide_eq_false h)
  refine (count_le (fun k => X (ix2 R (source X R k))) hg t (first j)).trans (iff_of_eq (congrArg (j.val < ·) ?_))
  refine (hs.sum_comp fun n => (decide (t ≤ (X (ix2 R n) : EReal))).toNat).trans ?_
  unfold hits
  rw [Finset.sum_range]
  exact Finset.sum_congr rfl fun n _ => (hit_in X R n t).symm

end Cert.TopK
-- ==== Proof.Final.lean ====
/- What the launch leaves in the result array, and the same value from the reference. -/
module

public import proofs.«01_k».proof.Defs
public import proofs.«01_k».proof.Proof.Launch
public import proofs.«01_k».proof.Proof.Values
public import proofs.«01_k».proof.Proof.Plain
public import proofs.«01_k».proof.Proof.Gen.ReferenceIdeal.Run
public import Idealize.ShloMosaic.Lib.Layout

@[expose] public section

noncomputable section

namespace Cert.TopK

open Idealize.ShloMosaic Idealize.ShloMosaic.ValueIdx Idealize.SL.Sem
open Cert.KernelIdeal Cert.KernelIdeal.Gen

variable {F : FTy → Type} [FloatOps F]

/-- The one block of the result array starts at its first entry. -/
theorem block_start (a : Fin 2) : win0_0.index (0 : Fin 1) a * win0_0.size a = 0 := by
  revert a
  decide +kernel

/-- The result array's one block is the array: each entry sits at its own place. -/
theorem block_place (i : S1024x32.Idx) : ((win0_0.blk (0 : Fin 1)).view.emb i : S1024x32.Idx) = i := by
  funext a
  refine Fin.ext ?_
  show win0_0.index (0 : Fin 1) a * win0_0.size a + 1 * (i a).val = (i a).val
  rw [block_start]
  omega

/-- After the launch each device's result array holds what the kernel computed on that device. -/
theorem array_result (m : (ℓ : Loc nD τ sig) → Buf (Elt F) ℓ) (ρ : Dev nD → PrngReg) (c : Dev nD) :
    (finalA m ρ c (0 : Fin 1) : S1024x32.Idx → F .f32) = result m c := by
  have e : (win0_0.blk (0 : Fin 1)).view.read (Elt F) (finalA m ρ c (0 : Fin 1)) = result m c := by
    unfold finalA
    rw [show cfg0.N = ((0 : Fin 1) : Fin cfg0.N).val + 1 from rfl, (dats m ρ 0 c).arrAt_succ (0 : Fin 1) (0 : Fin 1),
      if_pos (show (cfg0.win (0 : Fin 1)).flush (0 : Fin 1) = true from by decide)]
    exact View.read_write_univ _ _
  funext i
  refine Eq.trans ?_ (congrFun e i)
  exact (congrArg (finalA m ρ c (0 : Fin 1) : S1024x32.Idx → F .f32) (block_place i)).symm

/-- A device's block coordinates: the row blocks aren't cut, the column block is the device's place along the last mesh axis. -/
theorem coordinates (c : Dev nD) : Layout.meshLin [2, 4, 4] c.val [] = 0 ∧ Layout.meshLin [2, 4, 4] c.val [2] = c.val % 4 := by
  revert c
  decide +kernel

/-- Devices that hold their block of one array hold its columns in parts. -/
theorem parted_of_blocks (m : (ℓ : Loc nD τ sig) → Buf (Elt Ideal) ℓ) (X : FVec Ideal ⟨2, ![1024, 32768]⟩ .f32)
    (h : ∀ c : Dev nD, held m c = Layout.blockN ⟨2, ![1024, 8192]⟩ ⟨2, ![1024, 32768]⟩ (Layout.meshBlock [2, 4, 4] ![[], [2]] c) X) : Parted m X := by
  intro c R n
  rw [h c, Layout.blockN_apply]
  refine congrArg X (funext fun a => Fin.ext ?_)
  rw [Layout.TilesN.idx_val]
  match a with
  | ⟨0, _⟩ =>
    show Layout.meshLin [2, 4, 4] c.val [] * 1024 + R.val = R.val
    rw [(coordinates c).1]
    omega
  | ⟨1, _⟩ =>
    show Layout.meshLin [2, 4, 4] c.val [2] * 8192 + n.val = 8192 * (c.val % 4) + n.val
    rw [(coordinates c).2]
    omega

/-- Every device's result is the reference's value of the whole array. -/
theorem result_plain (m : (ℓ : Loc nD τ sig) → Buf (Elt Ideal) ℓ) (X : FVec Ideal ⟨2, ![1024, 32768]⟩ .f32) (h : Parted m X) (c : Dev nD) :
    (result m c : S1024x32.Idx → EReal) = plain X := by
  funext i
  obtain ⟨R, j, rfl⟩ : ∃ (R : Fin 1024) (j : Fin 32), i = ix2 R j := ⟨i 0, i 1, eq_ix2 i⟩
  exact eq_of_bounds fun t => (result_le h c R j t).trans (plain_le X R j t).symm

/-- The value claim: over ideal reals every device's result array ends at the reference's result, both arguments unchanged. -/
theorem algebraic : Cert.algebraic_KernelIdeal_ReferenceIdeal := by
  intro m g m' g' _ hm
  refine ⟨plain (m' ((0 : Dev Cert.ReferenceIdeal.nD).tc.loc Cert.ReferenceIdeal.main_arg0)), ?_, ?_⟩
  · refine (θ_run defs _ _).mono (fun r h c => ⟨?_, (h.1 c).2⟩) (run_main m g)
    exact ((h.1 c).1 (0 : Fin 1)).trans ((array_result m g c).trans (result_plain m _ (parted_of_blocks m _ hm) c))
  · exact (θ_run Cert.ReferenceIdeal.defs _ _).mono (fun r h => h 0) (Cert.ReferenceIdeal.Value.run m' g')

end Cert.TopK

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Final
public import Idealize.ShloMosaic.Adequacy
public import Idealize.ShloMosaic.Init

@[expose] public section

noncomputable section

namespace Cert.Proof

open Idealize.ShloMosaic Idealize.SL.Sem

/-- Over any float values the program ends, its argument unchanged and its semaphores at zero. -/
theorem ends {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.TopK.run_main m ρ)

/-- The kernel over ideal reals. -/
theorem frame_kernelIdeal : Cert.quiescent_KernelIdeal := fun m ρ _ => ends m ρ

/-- The kernel as compiled has the same text: the run at bit patterns. -/
theorem frame_kernel : Cert.quiescent_Kernel := fun m ρ _ => by
  rw [Cert.TopK.defs_same]
  exact ends (F := Bits) m ρ

/-- The reference ends. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- All five claims. -/
theorem claim : Cert.Claim :=
  ⟨Cert.Kernel.Gen.facts, Cert.KernelIdeal.Gen.facts, Cert.ReferenceIdeal.Gen.facts, frame_kernel, frame_kernelIdeal, frame_reference, trivial, Cert.TopK.algebraic⟩

end Cert.Proof

end
